-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v6) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_v32) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v48) = v0 c
          ∧ r.2.mem ((c.tc : Thread Cert.Reference12Ideal.nD Cert.Reference12Ideal.τ).loc Cert.Reference12Ideal.main_v57) = v1 c
          ∧ r.2.mem ((c.tc : Thread Cert.Reference12Ideal.nD Cert.Reference12Ideal.τ).loc Cert.Reference12Ideal.main_v73) = v2 c
          ∧ r.2.mem ((c.tc : Thread Cert.Reference12Ideal.nD Cert.Reference12Ideal.τ).loc Cert.Reference12Ideal.main_v32) = v3 c
          ∧ r.2.mem ((c.tc : Thread Cert.Reference12Ideal.nD Cert.Reference12Ideal.τ).loc Cert.Reference12Ideal.main_v56) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg1) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg1) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg1) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v50) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v28) = v2 c
          ∧ r.2.mem ((c.tc : Thread Cert.Reference18Ideal.nD Cert.Reference18Ideal.τ).loc Cert.Reference18Ideal.main_v51) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)) (v4 : (c : Dev Cert.Kernel19Ideal.nD) → Buf (Elt Ideal) ((c.tc : Thread Cert.Kernel19Ideal.nD Cert.Kernel19Ideal.τ).loc Cert.Kernel19Ideal.main_v0_4)) (v5 : (c : Dev Cert.Kernel19Ideal.nD) → Buf (Elt Ideal) ((c.tc : Thread Cert.Kernel19Ideal.nD Cert.Kernel19Ideal.τ).loc Cert.Kernel19Ideal.main_v0_5)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_v0_4) = v4 c
          ∧ r.2.mem ((c.tc : Thread Cert.Kernel19Ideal.nD Cert.Kernel19Ideal.τ).loc Cert.Kernel19Ideal.main_v0_5) = v5 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v49) = v0 c
          ∧ r.2.mem ((c.tc : Thread Cert.Reference19Ideal.nD Cert.Reference19Ideal.τ).loc Cert.Reference19Ideal.main_v58) = v1 c
          ∧ r.2.mem ((c.tc : Thread Cert.Reference19Ideal.nD Cert.Reference19Ideal.τ).loc Cert.Reference19Ideal.main_v24) = v2 c
          ∧ r.2.mem ((c.tc : Thread Cert.Reference19Ideal.nD Cert.Reference19Ideal.τ).loc Cert.Reference19Ideal.main_v27) = v3 c
          ∧ r.2.mem ((c.tc : Thread Cert.Reference19Ideal.nD Cert.Reference19Ideal.τ).loc Cert.Reference19Ideal.main_v59) = v4 c
          ∧ r.2.mem ((c.tc : Thread Cert.Reference19Ideal.nD Cert.Reference19Ideal.τ).loc Cert.Reference19Ideal.main_v57) = v5 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S8192x1024 : Shape := ⟨2, ![8192, 1024]⟩
abbrev S8448x256 : Shape := ⟨2, ![8448, 256]⟩
abbrev S_ : Shape := ⟨0, ![]⟩

class Facts : Prop where
  bcast_S_S8192x1024 : S_.BroadcastsInDim S8192x1024 (![] : Fin 0 → Fin S8192x1024.rank)
  bcast_S_S8448x256 : S_.BroadcastsInDim S8448x256 (![] : Fin 0 → Fin S8448x256.rank)

variable [Facts]

def fn {F : FTy → Type} [FloatOps F] (main_arg0 : FVec F S8192x1024 .f32) (main_arg1 : FVec F S8448x256 .f32) (main_arg2 : FVec F S8448x256 .f32) (main_arg3 : FVec F S8192x1024 .f32) : IVec S8192x1024 1 × IVec S8448x256 1 × IVec S8448x256 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8448x256 .f32 := Host.absf main_arg1
  let main_cst_0 : FVec F S_ .f32 := constant S_ .f32 0x7F800000#32
  let main_v4 : FVec F S8448x256 .f32 := broadcastInDim S8448x256 ![] bcast_S_S8448x256 main_cst_0
  let main_v5 : IVec S8448x256 1 := cmpf .olt main_v3 main_v4
  let main_v6 : FVec F S8448x256 .f32 := Host.absf main_arg2
  let main_cst_1 : FVec F S_ .f32 := constant S_ .f32 0x7F800000#32
  let main_v7 : FVec F S8448x256 .f32 := broadcastInDim S8448x256 ![] bcast_S_S8448x256 main_cst_1
  let main_v8 : IVec S8448x256 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_finite5.lean ====
abbrev S8192x1024 : Shape := ⟨2, ![8192, 1024]⟩
abbrev S8448x256 : Shape := ⟨2, ![8448, 256]⟩
abbrev S_ : Shape := ⟨0, ![]⟩

class Facts : Prop where
  bcast_S_S8192x1024 : S_.BroadcastsInDim S8192x1024 (![] : Fin 0 → Fin S8192x1024.rank)
  bcast_S_S8448x256 : S_.BroadcastsInDim S8448x256 (![] : Fin 0 → Fin S8448x256.rank)

variable [Facts]

def fn {F : FTy → Type} [FloatOps F] (main_arg0 : FVec F S8192x1024 .f32) (main_arg1 : FVec F S8448x256 .f32) (main_arg2 : FVec F S8448x256 .f32) : IVec S8192x1024 1 × IVec S8448x256 1 × IVec S8448x256 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8448x256 .f32 := Host.absf main_arg1
  let main_cst_0 : FVec F S_ .f32 := constant S_ .f32 0x7F800000#32
  let main_v4 : FVec F S8448x256 .f32 := broadcastInDim S8448x256 ![] bcast_S_S8448x256 main_cst_0
  let main_v5 : IVec S8448x256 1 := cmpf .olt main_v3 main_v4
  let main_v6 : FVec F S8448x256 .f32 := Host.absf main_arg2
  let main_cst_1 : FVec F S_ .f32 := constant S_ .f32 0x7F800000#32
  let main_v7 : FVec F S8448x256 .f32 := broadcastInDim S8448x256 ![] bcast_S_S8448x256 main_cst_1
  let main_v8 : IVec S8448x256 1 := cmpf .olt main_v6 main_v7
  (main_v2, main_v5, main_v8)
-- ==== Kernel.lean ====
abbrev S8192x1024 : Shape := ⟨2, ![8192, 1024]⟩
abbrev S8448x256 : Shape := ⟨2, ![8448, 256]⟩
abbrev S1x8192x2x4x128 : Shape := ⟨5, ![1, 8192, 2, 4, 128]⟩
abbrev S1x8448x2x128 : Shape := ⟨4, ![1, 8448, 2, 128]⟩
abbrev S1x2x8448x8192x4 : Shape := ⟨5, ![1, 2, 8448, 8192, 4]⟩
abbrev S1x2x4x8192x8448 : Shape := ⟨5, ![1, 2, 4, 8192, 8448]⟩
abbrev S_ : Shape := ⟨0, ![]⟩
abbrev S1x2x4x8192 : Shape := ⟨4, ![1, 2, 4, 8192]⟩
abbrev S1x2x4x8192x1 : Shape := ⟨5, ![1, 2, 4, 8192, 1]⟩
abbrev S2x4x32x256 : Shape := ⟨4, ![2, 4, 32, 256]⟩
abbrev S2x32x4x256 : Shape := ⟨4, ![2, 32, 4, 256]⟩
abbrev S65536x1 : Shape := ⟨2, ![65536, 1]⟩
abbrev S1x2x128x4x8192 : Shape := ⟨5, ![1, 2, 128, 4, 8192]⟩
abbrev S256x512 : Shape := ⟨2, ![256, 512]⟩
abbrev S8448x128 : Shape := ⟨2, ![8448, 128]⟩
abbrev S1024x1 : Shape := ⟨2, ![1024, 1]⟩
abbrev S256x128 : Shape := ⟨2, ![256, 128]⟩
abbrev S1024x128 : Shape := ⟨2, ![1024, 128]⟩
abbrev S1024 : Shape := ⟨1, ![1024]⟩
abbrev S1408x128 : Shape := ⟨2, ![1408, 128]⟩
abbrev S1024x1408 : Shape := ⟨2, ![1024, 1408]⟩

abbrev nBuf : Space → Nat
  | .hbm => 41
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8448x256, .f32⟩
  | .hbm, ⟨2, _⟩ => ⟨S8448x256, .f32⟩
  | .hbm, ⟨3, _⟩ => ⟨S8192x1024, .f32⟩
  | .hbm, ⟨4, _⟩ => ⟨S1x8192x2x4x128, .f32⟩
  | .hbm, ⟨5, _⟩ => ⟨S1x8448x2x128, .f32⟩
  | .hbm, ⟨6, _⟩ => ⟨S1x2x8448x8192x4, .f32⟩
  | .hbm, ⟨7, _⟩ => ⟨S1x2x4x8192x8448, .f32⟩
  | .hbm, ⟨8, _⟩ => ⟨S_, .f32⟩
  | .hbm, ⟨9, _⟩ => ⟨S1x2x4x8192x8448, .f32⟩
  | .hbm, ⟨10, _⟩ => ⟨S1x2x4x8192x8448, .f32⟩
  | .hbm, ⟨11, _⟩ => ⟨S_, .f32⟩
  | .hbm, ⟨12, _⟩ => ⟨S1x2x4x8192, .f32⟩
  | .hbm, ⟨13, _⟩ => ⟨S1x2x4x8192x1, .f32⟩
  | .hbm, ⟨14, _⟩ => ⟨S1x2x4x8192x8448, .f32⟩
  | .hbm, ⟨15, _⟩ => ⟨S1x2x4x8192x8448, .f32⟩
  | .hbm, ⟨16, _⟩ => ⟨S1x2x4x8192x8448, .f32⟩
  | .hbm, ⟨17, _⟩ => ⟨S_, .f32⟩
  | .hbm, ⟨18, _⟩ => ⟨S1x2x4x8192, .f32⟩
  | .hbm, ⟨19, _⟩ => ⟨S1x2x4x8192x1, .f32⟩
  | .hbm, ⟨20, _⟩ => ⟨S1x2x4x8192x1, .f32⟩
  | .hbm, ⟨21, _⟩ => ⟨S1x2x4x8192x1, .f32⟩
  | .hbm, ⟨22, _⟩ => ⟨S2x4x32x256, .f32⟩
  | .hbm, ⟨23, _⟩ => ⟨S2x32x4x256, .f32⟩
  | .hbm, ⟨24, _⟩ => ⟨S65536x1, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .bf16⟩
  | .hbm, ⟨29, _⟩ => ⟨S8448x256, .bf16⟩
  | .hbm, ⟨30, _⟩ => ⟨S8448x256, .bf16⟩
  | .hbm, ⟨31, _⟩ => ⟨S8192x1024, .bf16⟩
  | .hbm, ⟨32, _⟩ => ⟨S1x2x4x8192x8448, .f32⟩
  | .hbm, ⟨33, _⟩ => ⟨S1x2x4x8192x8448, .f32⟩
  | .hbm, ⟨34, _⟩ => ⟨S1x8448x2x128, .f32⟩
  | .hbm, ⟨35, _⟩ => ⟨S1x2x128x4x8192, .f32⟩
  | .hbm, ⟨36, _⟩ => ⟨S1x8192x2x4x128, .f32⟩
  | .hbm, ⟨37, _⟩ => ⟨S8192x1024, .f32⟩
  | .hbm, ⟨38, _⟩ => ⟨S8192x1024, .f32⟩
  | .hbm, ⟨39, _⟩ => ⟨S8448x256, .f32⟩
  | .hbm, ⟨40, _⟩ => ⟨S8448x256, .f32⟩
  | .local _ .vmem, ⟨0, _⟩ => ⟨S256x512, .bf16⟩
  | .local _ .vmem, ⟨1, _⟩ => ⟨S256x512, .bf16⟩
  | .local _ .vmem, ⟨2, _⟩ => ⟨S8448x128, .bf16⟩
  | .local _ .vmem, ⟨3, _⟩ => ⟨S8448x128, .bf16⟩
  | .local _ .vmem, ⟨4, _⟩ => ⟨S8448x128, .bf16⟩
  | .local _ .vmem, ⟨5, _⟩ => ⟨S8448x128, .bf16⟩
  | .local _ .vmem, ⟨6, _⟩ => ⟨S256x512, .bf16⟩
  | .local _ .vmem, ⟨7, _⟩ => ⟨S256x512, .bf16⟩
  | .local _ .vmem, ⟨8, _⟩ => ⟨S256x512, .f32⟩
  | .local _ .vmem, ⟨9, _⟩ => ⟨S256x512, .f32⟩
  | .local _ .vmem, ⟨10, _⟩ => ⟨S1024x1, .f32⟩
  | .local _ .vmem, ⟨11, _⟩ => ⟨S1024x1, .f32⟩
  | .local _ .vmem, ⟨12, _⟩ => ⟨S256x512, .f32⟩
  | .local _ .vmem, ⟨13, _⟩ => ⟨S256x512, .f32⟩
  | .local _ .vmem, ⟨14, _⟩ => ⟨S8448x128, .f32⟩
  | .local _ .vmem, ⟨15, _⟩ => ⟨S8448x128, .f32⟩
  | .local _ .vmem, ⟨16, _⟩ => ⟨S8448x128, .f32⟩
  | .local _ .vmem, ⟨17, _⟩ => ⟨S8448x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30_0 : Ref sig .tc := ⟨.hbm, 38, rfl⟩
abbrev main_v30_1 : Ref sig .tc := ⟨.hbm, 39, rfl⟩
abbrev main_v30_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8448x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8448x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8192x1024 : Shape := ⟨2, ![8192, 1024]⟩
abbrev S8448x256 : Shape := ⟨2, ![8448, 256]⟩
abbrev S1x8192x2x4x128 : Shape := ⟨5, ![1, 8192, 2, 4, 128]⟩
abbrev S1x8448x2x128 : Shape := ⟨4, ![1, 8448, 2, 128]⟩
abbrev S1x2x8448x8192x4 : Shape := ⟨5, ![1, 2, 8448, 8192, 4]⟩
abbrev S1x2x4x8192x8448 : Shape := ⟨5, ![1, 2, 4, 8192, 8448]⟩
abbrev S_ : Shape := ⟨0, ![]⟩
abbrev S1x2x4x8192 : Shape := ⟨4, ![1, 2, 4, 8192]⟩
abbrev S1x2x4x8192x1 : Shape := ⟨5, ![1, 2, 4, 8192, 1]⟩
abbrev S1x2x128x4x8192 : Shape := ⟨5, ![1, 2, 128, 4, 8192]⟩
abbrev S1x2x128x8448 : Shape := ⟨4, ![1, 2, 128, 8448]⟩
abbrev S2x4x8192 : Shape := ⟨3, ![2, 4, 8192]⟩
abbrev S1x2x8192x4x128 : Shape := ⟨5, ![1, 2, 8192, 4, 128]⟩
abbrev S1x2x8448x128 : Shape := ⟨4, ![1, 2, 8448, 128]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8448x256, .f32⟩
  | .hbm, ⟨2, _⟩ => ⟨S8448x256, .f32⟩
  | .hbm, ⟨3, _⟩ => ⟨S8192x1024, .f32⟩
  | .hbm, ⟨4, _⟩ => ⟨S1x8192x2x4x128, .f32⟩
  | .hbm, ⟨5, _⟩ => ⟨S1x8448x2x128, .f32⟩
  | .hbm, ⟨6, _⟩ => ⟨S1x2x8448x8192x4, .f32⟩
  | .hbm, ⟨7, _⟩ => ⟨S1x2x4x8192x8448, .f32⟩
  | .hbm, ⟨8, _⟩ => ⟨S_, .f32⟩
  | .hbm, ⟨9, _⟩ => ⟨S1x2x4x8192x8448, .f32⟩
  | .hbm, ⟨10, _⟩ => ⟨S1x2x4x8192x8448, .f32⟩
  | .hbm, ⟨11, _⟩ => ⟨S_, .f32⟩
  | .hbm, ⟨12, _⟩ => ⟨S1x2x4x8192, .f32⟩
  | .hbm, ⟨13, _⟩ => ⟨S1x2x4x8192x1, .f32⟩
  | .hbm, ⟨14, _⟩ => ⟨S1x2x4x8192x8448, .f32⟩
  | .hbm, ⟨15, _⟩ => ⟨S1x2x4x8192x8448, .i1⟩
  | .hbm, ⟨16, _⟩ => ⟨S1x2x4x8192x8448, .f32⟩
  | .hbm, ⟨17, _⟩ => ⟨S_, .f32⟩
  | .hbm, ⟨18, _⟩ => ⟨S1x2x4x8192, .f32⟩
  | .hbm, ⟨19, _⟩ => ⟨S_, .f32⟩
  | .hbm, ⟨20, _⟩ => ⟨S1x2x4x8192, .f32⟩
  | .hbm, ⟨21, _⟩ => ⟨S1x2x4x8192, .f32⟩
  | .hbm, ⟨22, _⟩ => ⟨S_, .f32⟩
  | .hbm, ⟨23, _⟩ => ⟨S1x2x4x8192, .f32⟩
  | .hbm, ⟨24, _⟩ => ⟨S1x2x4x8192, .i1⟩
  | .hbm, ⟨25, _⟩ => ⟨S_, .f32⟩
  | .hbm, ⟨26, _⟩ => ⟨S1x2x4x8192, .f32⟩
  | .hbm, ⟨27, _⟩ => ⟨S1x2x4x8192, .i1⟩
  | .hbm, ⟨28, _⟩ => ⟨S_, .f32⟩
  | .hbm, ⟨29, _⟩ => ⟨S1x2x4x8192, .f32⟩
  | .hbm, ⟨30, _⟩ => ⟨S_, .f32⟩
  | .hbm, ⟨31, _⟩ => ⟨S1x2x4x8192, .f32⟩
  | .hbm, ⟨32, _⟩ => ⟨S_, .f32⟩
  | .hbm, ⟨33, _⟩ => ⟨S1x2x4x8192, .f32⟩
  | .hbm, ⟨34, _⟩ => ⟨S1x2x4x8192, .f32⟩
  | .hbm, ⟨35, _⟩ => ⟨S1x2x4x8192, .f32⟩
  | .hbm, ⟨36, _⟩ => ⟨S1x2x4x8192x1, .f32⟩
  | .hbm, ⟨37, _⟩ => ⟨S1x2x4x8192x8448, .f32⟩
  | .hbm, ⟨38, _⟩ => ⟨S1x2x4x8192x8448, .f32⟩
  | .hbm, ⟨39, _⟩ => ⟨S1x2x4x8192x8448, .f32⟩
  | .hbm, ⟨40, _⟩ => ⟨S_, .f32⟩
  | .hbm, ⟨41, _⟩ => ⟨S1x2x4x8192, .f32⟩
  | .hbm, ⟨42, _⟩ => ⟨S1x2x4x8192x1, .f32⟩
  | .hbm, ⟨43, _⟩ => ⟨S1x2x4x8192x8448, .f32⟩
  | .hbm, ⟨44, _⟩ => ⟨S1x2x4x8192x8448, .f32⟩
  | .hbm, ⟨45, _⟩ => ⟨S1x2x4x8192x1, .f32⟩
  | .hbm, ⟨46, _⟩ => ⟨S_, .f32⟩
  | .hbm, ⟨47, _⟩ => ⟨S1x2x4x8192x1, .f32⟩
  | .hbm, ⟨48, _⟩ => ⟨S1x2x4x8192x1, .f32⟩
  | .hbm, ⟨49, _⟩ => ⟨S1x8448x2x128, .f32⟩
  | .hbm, ⟨50, _⟩ => ⟨S1x2x128x4x8192, .f32⟩
  | .hbm, ⟨51, _⟩ => ⟨S1x8192x2x4x128, .f32⟩
  | .hbm, ⟨52, _⟩ => ⟨S8192x1024, .f32⟩
  | .hbm, ⟨53, _⟩ => ⟨S1x8192x2x4x128, .f32⟩
  | .hbm, ⟨54, _⟩ => ⟨S1x2x128x4x8192, .f32⟩
  | .hbm, ⟨55, _⟩ => ⟨S1x2x4x8192x8448, .f32⟩
  | .hbm, ⟨56, _⟩ => ⟨S1x2x128x8448, .f32⟩
  | .hbm, ⟨57, _⟩ => ⟨S1x8448x2x128, .f32⟩
  | .hbm, ⟨58, _⟩ => ⟨S8448x256, .f32⟩
  | .hbm, ⟨59, _⟩ => ⟨S1x2x4x8192x8448, .f32⟩
  | .hbm, ⟨60, _⟩ => ⟨S1x2x4x8192x8448, .f32⟩
  | .hbm, ⟨61, _⟩ => ⟨S1x2x4x8192x8448, .f32⟩
  | .hbm, ⟨62, _⟩ => ⟨S_, .f32⟩
  | .hbm, ⟨63, _⟩ => ⟨S1x2x4x8192, .f32⟩
  | .hbm, ⟨64, _⟩ => ⟨S1x2x4x8192x1, .f32⟩
  | .hbm, ⟨65, _⟩ => ⟨S1x2x4x8192x1, .f32⟩
  | .hbm, ⟨66, _⟩ => ⟨S1x2x4x8192x8448, .f32⟩
  | .hbm, ⟨67, _⟩ => ⟨S1x2x4x8192x8448, .f32⟩
  | .hbm, ⟨68, _⟩ => ⟨S_, .f32⟩
  | .hbm, ⟨69, _⟩ => ⟨S2x4x8192, .f32⟩
  | .hbm, ⟨70, _⟩ => ⟨S1x2x4x8192, .f32⟩
  | .hbm, ⟨71, _⟩ => ⟨S1x2x4x8192x8448, .f32⟩
  | .hbm, ⟨72, _⟩ => ⟨S1x2x4x8192x8448, .f32⟩
  | .hbm, ⟨73, _⟩ => ⟨S1x2x4x8192x8448, .f32⟩
  | .hbm, ⟨74, _⟩ => ⟨S_, .f32⟩
  | .hbm, ⟨75, _⟩ => ⟨S1x2x4x8192x8448, .f32⟩
  | .hbm, ⟨76, _⟩ => ⟨S1x2x4x8192x8448, .f32⟩
  | .hbm, ⟨77, _⟩ => ⟨S1x2x8448x8192x4, .f32⟩
  | .hbm, ⟨78, _⟩ => ⟨S1x2x8192x4x128, .f32⟩
  | .hbm, ⟨79, _⟩ => ⟨S1x8192x2x4x128, .f32⟩
  | .hbm, ⟨80, _⟩ => ⟨S1x2x8448x128, .f32⟩
  | .hbm, ⟨81, _⟩ => ⟨S1x8448x2x128, .f32⟩
  | .hbm, ⟨82, _⟩ => ⟨S8448x256, .f32⟩
  | .hbm, ⟨83, _⟩ => ⟨S8192x1024, .f32⟩
  | .hbm, ⟨84, _⟩ => ⟨S_, .f32⟩
  | .hbm, ⟨85, _⟩ => ⟨S8192x1024, .f32⟩
  | .hbm, ⟨86, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_12 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_13 : Ref sig .tc := ⟨.hbm, 84, rfl⟩
abbrev main_v66 : Ref sig .tc := ⟨.hbm, 85, rfl⟩
abbrev main_v67 : Ref sig .tc := ⟨.hbm, 86, rfl⟩

abbrev nD : Nat := 1
abbrev τ : Topo := Topo.v7x

variable {F : FTy → Type} [FloatOps F]
-- ==== Kernel2.lean ====
abbrev S8192x2048 : Shape := ⟨2, ![8192, 2048]⟩
abbrev S2048x2048 : Shape := ⟨2, ![2048, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .bf16⟩
  | .hbm, ⟨3, _⟩ => ⟨S2048x2048, .bf16⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .bf16⟩
  | .hbm, ⟨5, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference3Ideal.lean ====
abbrev S8192x2048 : Shape := ⟨2, ![8192, 2048]⟩
abbrev S2048x2048 : Shape := ⟨2, ![2048, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .bf16⟩
  | .hbm, ⟨8, _⟩ => ⟨S8192x2048, .f32⟩
  | .hbm, ⟨9, _⟩ => ⟨S8192x2048, .f32⟩
  | .hbm, ⟨10, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel4.lean ====
abbrev S8192x2048 : Shape := ⟨2, ![8192, 2048]⟩
abbrev S2048x6144 : Shape := ⟨2, ![2048, 6144]⟩
abbrev S8192x6144 : Shape := ⟨2, ![8192, 6144]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S2048x6144 : Shape := ⟨2, ![2048, 6144]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x2048, .f32⟩
  | .hbm, ⟨3, _⟩ => ⟨S2048x6144, .f32⟩
  | .hbm, ⟨4, _⟩ => ⟨S8192x6144, .f32⟩
  | .hbm, ⟨5, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8192x1024 : Shape := ⟨2, ![8192, 1024]⟩
abbrev S8448x256 : Shape := ⟨2, ![8448, 256]⟩
abbrev S_ : Shape := ⟨0, ![]⟩
abbrev S65536x1 : Shape := ⟨2, ![65536, 1]⟩
abbrev S256x512 : Shape := ⟨2, ![256, 512]⟩
abbrev S8448x128 : Shape := ⟨2, ![8448, 128]⟩
abbrev S1024x1 : Shape := ⟨2, ![1024, 1]⟩
abbrev S256x128 : Shape := ⟨2, ![256, 128]⟩
abbrev S1024x128 : Shape := ⟨2, ![1024, 128]⟩
abbrev S1408x128 : Shape := ⟨2, ![1408, 128]⟩
abbrev S1024x1408 : Shape := ⟨2, ![1024, 1408]⟩
abbrev S1024 : Shape := ⟨1, ![1024]⟩

abbrev nBuf : Space → Nat
  | .hbm => 11
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8448x256, .f32⟩
  | .hbm, ⟨2, _⟩ => ⟨S8448x256, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8448x256, .bf16⟩
  | .hbm, ⟨8, _⟩ => ⟨S8448x256, .bf16⟩
  | .hbm, ⟨9, _⟩ => ⟨S8192x1024, .f32⟩
  | .hbm, ⟨10, _⟩ => ⟨S65536x1, .f32⟩
  | .local _ .vmem, ⟨0, _⟩ => ⟨S256x512, .bf16⟩
  | .local _ .vmem, ⟨1, _⟩ => ⟨S256x512, .bf16⟩
  | .local _ .vmem, ⟨2, _⟩ => ⟨S8448x128, .bf16⟩
  | .local _ .vmem, ⟨3, _⟩ => ⟨S8448x128, .bf16⟩
  | .local _ .vmem, ⟨4, _⟩ => ⟨S8448x128, .bf16⟩
  | .local _ .vmem, ⟨5, _⟩ => ⟨S8448x128, .bf16⟩
  | .local _ .vmem, ⟨6, _⟩ => ⟨S256x512, .f32⟩
  | .local _ .vmem, ⟨7, _⟩ => ⟨S256x512, .f32⟩
  | .local _ .vmem, ⟨8, _⟩ => ⟨S1024x1, .f32⟩
  | .local _ .vmem, ⟨9, _⟩ => ⟨S1024x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8192x1024 : Shape := ⟨2, ![8192, 1024]⟩
abbrev S8448x256 : Shape := ⟨2, ![8448, 256]⟩
abbrev S1x8192x2x4x128 : Shape := ⟨5, ![1, 8192, 2, 4, 128]⟩
abbrev S1x8448x2x128 : Shape := ⟨4, ![1, 8448, 2, 128]⟩
abbrev S1x2x8448x8192x4 : Shape := ⟨5, ![1, 2, 8448, 8192, 4]⟩
abbrev S1x2x4x8192x8448 : Shape := ⟨5, ![1, 2, 4, 8192, 8448]⟩
abbrev S_ : Shape := ⟨0, ![]⟩
abbrev S1x2x4x8192 : Shape := ⟨4, ![1, 2, 4, 8192]⟩
abbrev S1x2x4x8192x1 : Shape := ⟨5, ![1, 2, 4, 8192, 1]⟩
abbrev S1x2x128x4x8192 : Shape := ⟨5, ![1, 2, 128, 4, 8192]⟩
abbrev S2x4x32x256 : Shape := ⟨4, ![2, 4, 32, 256]⟩
abbrev S2x32x4x256 : Shape := ⟨4, ![2, 32, 4, 256]⟩
abbrev S65536x1 : Shape := ⟨2, ![65536, 1]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8448x256, .f32⟩
  | .hbm, ⟨2, _⟩ => ⟨S8448x256, .f32⟩
  | .hbm, ⟨3, _⟩ => ⟨S1x8192x2x4x128, .f32⟩
  | .hbm, ⟨4, _⟩ => ⟨S1x8448x2x128, .f32⟩
  | .hbm, ⟨5, _⟩ => ⟨S1x2x8448x8192x4, .f32⟩
  | .hbm, ⟨6, _⟩ => ⟨S1x2x4x8192x8448, .f32⟩
  | .hbm, ⟨7, _⟩ => ⟨S_, .f32⟩
  | .hbm, ⟨8, _⟩ => ⟨S1x2x4x8192x8448, .f32⟩
  | .hbm, ⟨9, _⟩ => ⟨S1x2x4x8192x8448, .f32⟩
  | .hbm, ⟨10, _⟩ => ⟨S1x2x4x8192x8448, .f32⟩
  | .hbm, ⟨11, _⟩ => ⟨S_, .f32⟩
  | .hbm, ⟨12, _⟩ => ⟨S1x2x4x8192, .f32⟩
  | .hbm, ⟨13, _⟩ => ⟨S1x2x4x8192, .f32⟩
  | .hbm, ⟨14, _⟩ => ⟨S1x8192x2x4x128, .f32⟩
  | .hbm, ⟨15, _⟩ => ⟨S1x8448x2x128, .f32⟩
  | .hbm, ⟨16, _⟩ => ⟨S1x2x8448x8192x4, .f32⟩
  | .hbm, ⟨17, _⟩ => ⟨S1x2x4x8192x8448, .f32⟩
  | .hbm, ⟨18, _⟩ => ⟨S_, .f32⟩
  | .hbm, ⟨19, _⟩ => ⟨S1x2x4x8192x8448, .f32⟩
  | .hbm, ⟨20, _⟩ => ⟨S1x2x4x8192x8448, .f32⟩
  | .hbm, ⟨21, _⟩ => ⟨S_, .f32⟩
  | .hbm, ⟨22, _⟩ => ⟨S1x2x4x8192, .f32⟩
  | .hbm, ⟨23, _⟩ => ⟨S_, .f32⟩
  | .hbm, ⟨24, _⟩ => ⟨S1x2x4x8192, .f32⟩
  | .hbm, ⟨25, _⟩ => ⟨S1x2x4x8192, .f32⟩
  | .hbm, ⟨26, _⟩ => ⟨S1x2x4x8192x1, .f32⟩
  | .hbm, ⟨27, _⟩ => ⟨S1x2x4x8192x8448, .f32⟩
  | .hbm, ⟨28, _⟩ => ⟨S1x2x4x8192x8448, .f32⟩
  | .hbm, ⟨29, _⟩ => ⟨S1x2x4x8192x8448, .f32⟩
  | .hbm, ⟨30, _⟩ => ⟨S_, .f32⟩
  | .hbm, ⟨31, _⟩ => ⟨S1x2x4x8192, .f32⟩
  | .hbm, ⟨32, _⟩ => ⟨S1x2x4x8192x1, .f32⟩
  | .hbm, ⟨33, _⟩ => ⟨S1x2x4x8192x8448, .f32⟩
  | .hbm, ⟨34, _⟩ => ⟨S1x2x4x8192x8448, .f32⟩
  | .hbm, ⟨35, _⟩ => ⟨S1x8448x2x128, .f32⟩
  | .hbm, ⟨36, _⟩ => ⟨S1x2x128x4x8192, .f32⟩
  | .hbm, ⟨37, _⟩ => ⟨S1x8192x2x4x128, .f32⟩
  | .hbm, ⟨38, _⟩ => ⟨S8192x1024, .f32⟩
  | .hbm, ⟨39, _⟩ => ⟨S2x4x32x256, .f32⟩
  | .hbm, ⟨40, _⟩ => ⟨S2x32x4x256, .f32⟩
  | .hbm, ⟨41, _⟩ => ⟨S65536x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Kernel6.lean ====
abbrev S8192x2048 : Shape := ⟨2, ![8192, 2048]⟩
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .bf16⟩
  | .hbm, ⟨3, _⟩ => ⟨S8192x2048, .bf16⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x2048 : Shape := ⟨2, ![8192, 2048]⟩
abbrev S8192x6144 : Shape := ⟨2, ![8192, 6144]⟩
abbrev S2048x6144 : Shape := ⟨2, ![2048, 6144]⟩
abbrev S1024x2048 : Shape := ⟨2, ![1024, 2048]⟩
abbrev S1024x1536 : Shape := ⟨2, ![1024, 1536]⟩
abbrev S2048x1536 : Shape := ⟨2, ![2048, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S2048x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1536, .bf16⟩
  | .local _ .vmem, ⟨3, _⟩ => ⟨S1024x1536, .bf16⟩
  | .local _ .vmem, ⟨4, _⟩ => ⟨S2048x1536, .bf16⟩
  | .local _ .vmem, ⟨5, _⟩ => ⟨S2048x1536, .bf16⟩
  | .local _ .vmem, ⟨6, _⟩ => ⟨S2048x1536, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S8192x6144 : Shape := ⟨2, ![8192, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S_, .bf16⟩
  | .hbm, ⟨3, _⟩ => ⟨S2048x6144, .bf16⟩
  | .hbm, ⟨4, _⟩ => ⟨S8192x2048, .f32⟩
  | .hbm, ⟨5, _⟩ => ⟨S2048x6144, .f32⟩
  | .hbm, ⟨6, _⟩ => ⟨S8192x6144, .f32⟩
  | .hbm, ⟨7, _⟩ => ⟨S8192x6144, .f32⟩
  | .hbm, ⟨8, _⟩ => ⟨S6144x2048, .f32⟩
  | .hbm, ⟨9, _⟩ => ⟨S2048x6144, .f32⟩
  | .hbm, ⟨10, _⟩ => ⟨S2048x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S8192x6144 : Shape := ⟨2, ![8192, 6144]⟩
abbrev S2048x6144 : Shape := ⟨2, ![2048, 6144]⟩
abbrev S8192x2048 : Shape := ⟨2, ![8192, 2048]⟩
abbrev S1024x2048 : Shape := ⟨2, ![1024, 2048]⟩
abbrev S2048x2048 : Shape := ⟨2, ![2048, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S2048x6144, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x6144 : Shape := ⟨2, ![8192, 6144]⟩
abbrev S2048x6144 : Shape := ⟨2, ![2048, 6144]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S2048x6144, .bf16⟩
  | .hbm, ⟨2, _⟩ => ⟨S_, .bf16⟩
  | .hbm, ⟨3, _⟩ => ⟨S8192x2048, .bf16⟩
  | .hbm, ⟨4, _⟩ => ⟨S8192x2048, .f32⟩
  | .hbm, ⟨5, _⟩ => ⟨S2048x6144, .f32⟩
  | .hbm, ⟨6, _⟩ => ⟨S8192x6144, .f32⟩
  | .hbm, ⟨7, _⟩ => ⟨S8192x6144, .f32⟩
  | .hbm, ⟨8, _⟩ => ⟨S8192x2048, .f32⟩
  | .hbm, ⟨9, _⟩ => ⟨S8192x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8448x2048 : Shape := ⟨2, ![8448, 2048]⟩
abbrev S2048x5632 : Shape := ⟨2, ![2048, 5632]⟩
abbrev S8448x5632 : Shape := ⟨2, ![8448, 5632]⟩
abbrev S1408x2048 : Shape := ⟨2, ![1408, 2048]⟩
abbrev S2048x1408 : Shape := ⟨2, ![2048, 1408]⟩
abbrev S1408x1408 : Shape := ⟨2, ![1408, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x5632, .bf16⟩
  | .hbm, ⟨2, _⟩ => ⟨S8448x5632, .bf16⟩
  | .local _ .vmem, ⟨0, _⟩ => ⟨S1408x2048, .bf16⟩
  | .local _ .vmem, ⟨1, _⟩ => ⟨S1408x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1408x1408, .bf16⟩
  | .local _ .vmem, ⟨5, _⟩ => ⟨S1408x1408, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8448x2048 : Shape := ⟨2, ![8448, 2048]⟩
abbrev S2048x5632 : Shape := ⟨2, ![2048, 5632]⟩
abbrev S8448x5632 : Shape := ⟨2, ![8448, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x5632, .bf16⟩
  | .hbm, ⟨2, _⟩ => ⟨S8448x2048, .f32⟩
  | .hbm, ⟨3, _⟩ => ⟨S2048x5632, .f32⟩
  | .hbm, ⟨4, _⟩ => ⟨S8448x5632, .f32⟩
  | .hbm, ⟨5, _⟩ => ⟨S8448x5632, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S8448x2048 : Shape := ⟨2, ![8448, 2048]⟩
abbrev S8448x5632 : Shape := ⟨2, ![8448, 5632]⟩
abbrev S2048x5632 : Shape := ⟨2, ![2048, 5632]⟩
abbrev S768x2048 : Shape := ⟨2, ![768, 2048]⟩
abbrev S768x1408 : Shape := ⟨2, ![768, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x5632, .bf16⟩
  | .hbm, ⟨2, _⟩ => ⟨S2048x5632, .bf16⟩
  | .local _ .vmem, ⟨0, _⟩ => ⟨S768x2048, .bf16⟩
  | .local _ .vmem, ⟨1, _⟩ => ⟨S768x2048, .bf16⟩
  | .local _ .vmem, ⟨2, _⟩ => ⟨S768x1408, .bf16⟩
  | .local _ .vmem, ⟨3, _⟩ => ⟨S768x1408, .bf16⟩
  | .local _ .vmem, ⟨4, _⟩ => ⟨S2048x1408, .bf16⟩
  | .local _ .vmem, ⟨5, _⟩ => ⟨S2048x1408, .bf16⟩
  | .local _ .vmem, ⟨6, _⟩ => ⟨S2048x1408, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8448x2048 : Shape := ⟨2, ![8448, 2048]⟩
abbrev S8448x5632 : Shape := ⟨2, ![8448, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x5632, .bf16⟩
  | .hbm, ⟨2, _⟩ => ⟨S_, .bf16⟩
  | .hbm, ⟨3, _⟩ => ⟨S2048x5632, .bf16⟩
  | .hbm, ⟨4, _⟩ => ⟨S8448x2048, .f32⟩
  | .hbm, ⟨5, _⟩ => ⟨S2048x5632, .f32⟩
  | .hbm, ⟨6, _⟩ => ⟨S8448x5632, .f32⟩
  | .hbm, ⟨7, _⟩ => ⟨S8448x5632, .f32⟩
  | .hbm, ⟨8, _⟩ => ⟨S5632x2048, .f32⟩
  | .hbm, ⟨9, _⟩ => ⟨S2048x5632, .f32⟩
  | .hbm, ⟨10, _⟩ => ⟨S2048x5632, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S8448x5632 : Shape := ⟨2, ![8448, 5632]⟩
abbrev S2048x5632 : Shape := ⟨2, ![2048, 5632]⟩
abbrev S8448x2048 : Shape := ⟨2, ![8448, 2048]⟩
abbrev S1408x1408 : Shape := ⟨2, ![1408, 1408]⟩
abbrev S2048x1408 : Shape := ⟨2, ![2048, 1408]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S2048x5632, .bf16⟩
  | .hbm, ⟨2, _⟩ => ⟨S8448x2048, .bf16⟩
  | .local _ .vmem, ⟨0, _⟩ => ⟨S1408x1408, .bf16⟩
  | .local _ .vmem, ⟨1, _⟩ => ⟨S1408x1408, .bf16⟩
  | .local _ .vmem, ⟨2, _⟩ => ⟨S2048x1408, .bf16⟩
  | .local _ .vmem, ⟨3, _⟩ => ⟨S2048x1408, .bf16⟩
  | .local _ .vmem, ⟨4, _⟩ => ⟨S1408x2048, .bf16⟩
  | .local _ .vmem, ⟨5, _⟩ => ⟨S1408x2048, .bf16⟩
  | .local _ .vmem, ⟨6, _⟩ => ⟨S1408x2048, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8448x5632 : Shape := ⟨2, ![8448, 5632]⟩
abbrev S2048x5632 : Shape := ⟨2, ![2048, 5632]⟩
abbrev S_ : Shape := ⟨0, ![]⟩
abbrev S8448x2048 : Shape := ⟨2, ![8448, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S2048x5632, .bf16⟩
  | .hbm, ⟨2, _⟩ => ⟨S_, .bf16⟩
  | .hbm, ⟨3, _⟩ => ⟨S8448x2048, .bf16⟩
  | .hbm, ⟨4, _⟩ => ⟨S8448x2048, .f32⟩
  | .hbm, ⟨5, _⟩ => ⟨S2048x5632, .f32⟩
  | .hbm, ⟨6, _⟩ => ⟨S8448x5632, .f32⟩
  | .hbm, ⟨7, _⟩ => ⟨S8448x5632, .f32⟩
  | .hbm, ⟨8, _⟩ => ⟨S8448x2048, .f32⟩
  | .hbm, ⟨9, _⟩ => ⟨S8448x2048, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .bf16⟩
  | .hbm, ⟨4, _⟩ => ⟨S1x2048, .f32⟩
  | .hbm, ⟨5, _⟩ => ⟨S8192x2048, .f32⟩
  | .hbm, ⟨6, _⟩ => ⟨S8192x2048, .bf16⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference12Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 100
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .bf16⟩
  | .hbm, ⟨4, _⟩ => ⟨S1x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x2048, .f32⟩
  | .hbm, ⟨58, _⟩ => ⟨S8192x2048, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S8192x2048, .bf16⟩
  | .hbm, ⟨80, _⟩ => ⟨S8192x2048, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S8192x1, .f32⟩
  | .hbm, ⟨91, _⟩ => ⟨S8192x2048, .f32⟩
  | .hbm, ⟨92, _⟩ => ⟨S8192x2048, .f32⟩
  | .hbm, ⟨93, _⟩ => ⟨S8192x2048, .f32⟩
  | .hbm, ⟨94, _⟩ => ⟨S8192x2048, .f32⟩
  | .hbm, ⟨95, _⟩ => ⟨S8192x2048, .f32⟩
  | .hbm, ⟨96, _⟩ => ⟨S8192x2048, .f32⟩
  | .hbm, ⟨97, _⟩ => ⟨S_, .f32⟩
  | .hbm, ⟨98, _⟩ => ⟨S2048, .f32⟩
  | .hbm, ⟨99, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_cst_8 : Ref sig .tc := ⟨.hbm, 38, rfl⟩
abbrev main_cst_9 : Ref sig .tc := ⟨.hbm, 39, rfl⟩
abbrev main_v24 : Ref sig .tc := ⟨.hbm, 40, rfl⟩
abbrev main_v25 : Ref sig .tc := ⟨.hbm, 41, rfl⟩
abbrev main_cst_10 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_11 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_v62 : Ref sig .tc := ⟨.hbm, 86, rfl⟩
abbrev main_cst_18 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_19 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== Kernel13.lean ====
abbrev S4096x1536 : Shape := ⟨2, ![4096, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S4096x1536 : Shape := ⟨2, ![4096, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S_, .f32⟩
  | .hbm, ⟨5, _⟩ => ⟨S4096x1536, .f32⟩
  | .hbm, ⟨6, _⟩ => ⟨S4096x1536, .f32⟩
  | .hbm, ⟨7, _⟩ => ⟨S_, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S_, .f32⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S_, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S_, .f32⟩
  | .hbm, ⟨20, _⟩ => ⟨S4096x1536, .f32⟩
  | .hbm, ⟨21, _⟩ => ⟨S4096x1536, .f32⟩
  | .hbm, ⟨22, _⟩ => ⟨S_, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S_, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S_, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S_, .f32⟩
  | .hbm, ⟨35, _⟩ => ⟨S4096x1536, .f32⟩
  | .hbm, ⟨36, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S2048x1408 : Shape := ⟨2, ![2048, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S2048x1536 : Shape := ⟨2, ![2048, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S512x2048 : Shape := ⟨2, ![512, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S1344x128 : Shape := ⟨2, ![1344, 128]⟩
abbrev S64x128 : Shape := ⟨2, ![64, 128]⟩

abbrev nBuf : Space → Nat
  | .hbm => 7
  | .vmem => 14
  | .smem => 0
  | _ => 0

abbrev bufTy : (tb : Table) → Fin (tcTables nBuf tb) → BufTy
  | .hbm, ⟨0, _⟩ => ⟨S1344x128, .f32⟩
  | .hbm, ⟨1, _⟩ => ⟨S1344x128, .f32⟩
  | .hbm, ⟨2, _⟩ => ⟨S1344x128, .f32⟩
  | .hbm, ⟨3, _⟩ => ⟨S1344x128, .f32⟩
  | .hbm, ⟨4, _⟩ => ⟨S1344x128, .f32⟩
  | .hbm, ⟨5, _⟩ => ⟨S1344x128, .f32⟩
  | .hbm, ⟨6, _⟩ => ⟨S1344x128, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S64x128, .f32⟩
  | .local _ .vmem, ⟨13, _⟩ => ⟨S64x128, .f32⟩
  | _, _ => ⟨S1344x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![21], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S1344x128 : Shape := ⟨2, ![1344, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1344x128, .f32⟩
  | .hbm, ⟨1, _⟩ => ⟨S1344x128, .f32⟩
  | .hbm, ⟨2, _⟩ => ⟨S1344x128, .f32⟩
  | .hbm, ⟨3, _⟩ => ⟨S1344x128, .f32⟩
  | .hbm, ⟨4, _⟩ => ⟨S_, .f32⟩
  | .hbm, ⟨5, _⟩ => ⟨S1344x128, .f32⟩
  | .hbm, ⟨6, _⟩ => ⟨S1344x128, .f32⟩
  | .hbm, ⟨7, _⟩ => ⟨S_, .f32⟩
  | .hbm, ⟨8, _⟩ => ⟨S1344x128, .f32⟩
  | .hbm, ⟨9, _⟩ => ⟨S1344x128, .f32⟩
  | .hbm, ⟨10, _⟩ => ⟨S1344x128, .f32⟩
  | .hbm, ⟨11, _⟩ => ⟨S_, .f32⟩
  | .hbm, ⟨12, _⟩ => ⟨S1344x128, .f32⟩
  | .hbm, ⟨13, _⟩ => ⟨S1344x128, .f32⟩
  | .hbm, ⟨14, _⟩ => ⟨S1344x128, .f32⟩
  | .hbm, ⟨15, _⟩ => ⟨S_, .f32⟩
  | .hbm, ⟨16, _⟩ => ⟨S1344x128, .f32⟩
  | .hbm, ⟨17, _⟩ => ⟨S1344x128, .f32⟩
  | .hbm, ⟨18, _⟩ => ⟨S1344x128, .f32⟩
  | .hbm, ⟨19, _⟩ => ⟨S_, .f32⟩
  | .hbm, ⟨20, _⟩ => ⟨S1344x128, .f32⟩
  | .hbm, ⟨21, _⟩ => ⟨S1344x128, .f32⟩
  | .hbm, ⟨22, _⟩ => ⟨S_, .f32⟩
  | .hbm, ⟨23, _⟩ => ⟨S1344x128, .f32⟩
  | .hbm, ⟨24, _⟩ => ⟨S1344x128, .f32⟩
  | .hbm, ⟨25, _⟩ => ⟨S1344x128, .f32⟩
  | .hbm, ⟨26, _⟩ => ⟨S_, .f32⟩
  | .hbm, ⟨27, _⟩ => ⟨S1344x128, .f32⟩
  | .hbm, ⟨28, _⟩ => ⟨S1344x128, .f32⟩
  | .hbm, ⟨29, _⟩ => ⟨S1344x128, .f32⟩
  | .hbm, ⟨30, _⟩ => ⟨S_, .f32⟩
  | .hbm, ⟨31, _⟩ => ⟨S1344x128, .f32⟩
  | .hbm, ⟨32, _⟩ => ⟨S1344x128, .f32⟩
  | .hbm, ⟨33, _⟩ => ⟨S1344x128, .f32⟩
  | .hbm, ⟨34, _⟩ => ⟨S_, .f32⟩
  | .hbm, ⟨35, _⟩ => ⟨S1344x128, .f32⟩
  | .hbm, ⟨36, _⟩ => ⟨S1344x128, .f32⟩
  | _, _ => ⟨S1344x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S8192x2048 : Shape := ⟨2, ![8192, 2048]⟩
abbrev S8448x2048 : Shape := ⟨2, ![8448, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8448x2048, .bf16⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference18Ideal.lean ====
abbrev S8192x2048 : Shape := ⟨2, ![8192, 2048]⟩
abbrev S8448x2048 : Shape := ⟨2, ![8448, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 70
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8448x2048, .bf16⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S_, .f32⟩
  | .hbm, ⟨7, _⟩ => ⟨S1x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .bf16⟩
  | .hbm, ⟨35, _⟩ => ⟨S8192x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S8192x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel19.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 14
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .hbm, ⟨7, _⟩ => ⟨S1x2048, .f32⟩
  | .hbm, ⟨8, _⟩ => ⟨S8192x2048, .f32⟩
  | .hbm, ⟨9, _⟩ => ⟨S8192x2048, .bf16⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference19Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 81
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S1x2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x2048, .f32⟩
  | .hbm, ⟨57, _⟩ => ⟨S8192x2048, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S8192x2048, .bf16⟩
  | .hbm, ⟨80, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Proof.Steps.lean ====
/- What one visit of the attention backward's grid computes, slab by slab: the kernel's unrolled key slabs, the stored
   gradient rows and the stacked query heads in one vocabulary, and each of them read at an entry over the reals. -/
module

public import proofs.«01_k».proof.Proof.Gen.KernelIdeal.Skeleton
public import Idealize.ShloMosaic.Lib.Pointwise

@[expose] public section

noncomputable section

open Idealize.ShloMosaic

namespace Cert.KernelIdeal.Val
open Cert.KernelIdeal Cert.KernelIdeal.Gen

section Slab
variable {F : FTy → Type} [FloatOps F]

/-- The softmax weights of a block's stacked rows over one slab of keys: the scores less each row's log of the sum, exponentiated. -/
def weights (qs : FVec F S1024x128 .bf16) (lse : FVec F S1024x1 .f32) (k : FVec F S1408x128 .bf16) : FVec F S1024x1408 .f32 :=
  exp (subf (matmul dot_S1024x128_S1408x128_S1024x1408_1_1_0_0_n_n none qs k (constant S1024x1408 .f32 0x00000000#32))
    (broadcastTo S1024x1408 lse broadcasts_S1024x1_S1024x1408))

/-- The gradient of the scores over one slab of keys. -/
def gradScores (dos : FVec F S1024x128 .bf16) (delta : FVec F S1024x1 .f32) (v : FVec F S1408x128 .bf16) (p : FVec F S1024x1408 .f32) :
    FVec F S1024x1408 .bf16 :=
  truncf .bf16 (mulf p (subf (matmul dot_S1024x128_S1408x128_S1024x1408_1_1_0_0_n_n none dos v (constant S1024x1408 .f32 0x00000000#32))
    (broadcastTo S1024x1408 delta broadcasts_S1024x1_S1024x1408))) bitsLt_bf16_f32

/-- A slab of a key-side gradient with the block's rows added: `old + xᵀ y`. -/
def addRows (x : FVec F S1024x1408 .bf16) (y : FVec F S1024x128 .bf16) (old : FVec F S1408x128 .f32) : FVec F S1408x128 .f32 :=
  addf old (matmul dot_S1024x1408_S1024x128_S1408x128_0_0_1_1_n_n none x y (constant S1408x128 .f32 0x00000000#32))

/-- The query rows' gradient with one slab of keys added: `old + x k`. -/
def addKeys (x : FVec F S1024x1408 .bf16) (k : FVec F S1408x128 .bf16) (old : FVec F S1024x128 .f32) : FVec F S1024x128 .f32 :=
  addf old (matmul dot_S1024x1408_S1408x128_S1024x128_1_0_0_1_n_n none x k (constant S1024x128 .f32 0x00000000#32))

variable (qs dos : FVec F S1024x128 .bf16) (lse delta : FVec F S1024x1 .f32) (k v : FVec F S1408x128 .bf16) (p : FVec F S1024x1408 .f32)
  (x : FVec F S1024x1408 .bf16) (old : FVec F S1408x128 .f32) (dq b : FVec F S1024x128 .f32)

theorem k0_pay12_eq : k0_pay12 lse = lse := by
  simp only [k0_pay12, shapeCast_self]
theorem k0_pay14_eq : k0_pay14 k = k := by
  simp only [k0_pay14, shapeCast_self]
theorem k0_pay15_eq : k0_pay15 v = v := by
  simp only [k0_pay15, shapeCast_self]
theorem k0_pay21_eq : k0_pay21 k = k := by
  simp only [k0_pay21, shapeCast_self]
theorem k0_pay27_eq : k0_pay27 k = k := by
  simp only [k0_pay27, shapeCast_self]
theorem k0_pay33_eq : k0_pay33 k = k := by
  simp only [k0_pay33, shapeCast_self]
theorem k0_pay39_eq : k0_pay39 k = k := by
  simp only [k0_pay39, shapeCast_self]
theorem k0_pay40_eq : k0_pay40 v = v := by
  simp only [k0_pay40, shapeCast_self]
theorem k0_pay46_eq : k0_pay46 k = k := by
  simp only [k0_pay46, shapeCast_self]
theorem k0_pay22_eq : k0_pay22 qs lse k = weights qs lse k := by
  simp only [k0_pay22, shapeCast_self, k0_pay21_eq]
  rfl
theorem k0_pay28_eq : k0_pay28 qs lse k = weights qs lse k := by
  simp only [k0_pay28, shapeCast_self, k0_pay27_eq]
  rfl
theorem k0_pay34_eq : k0_pay34 qs lse k = weights qs lse k := by
  simp only [k0_pay34, shapeCast_self, k0_pay33_eq]
  rfl
theorem k0_pay41_eq : k0_pay41 qs lse k = weights qs lse k := by
  simp only [k0_pay41, shapeCast_self, k0_pay39_eq]
  rfl
theorem k0_pay47_eq : k0_pay47 qs lse k = weights qs lse k := by
  simp only [k0_pay47, shapeCast_self, k0_pay46_eq]
  rfl
theorem k0_pay16_eq (q : FVec F S256x512 .bf16) : k0_pay16 q lse k = weights (k0_pay10 q) lse k := by
  simp only [k0_pay16, shapeCast_self, k0_pay12_eq, k0_pay14_eq]
  rfl
theorem k0_pay17_eq : k0_pay17 dos delta v p (constant S1024x1408 .f32 0x00000000#32) = gradScores dos delta v p := by
  simp only [k0_pay17, shapeCast_self]
  rfl
theorem k0_pay23_eq : k0_pay23 dos qs delta lse k v = gradScores dos delta v (weights qs lse k) := by
  simp only [k0_pay23, shapeCast_self, k0_pay22_eq, k0_pay21_eq]
  rfl
theorem k0_pay29_eq : k0_pay29 dos qs delta lse k v = gradScores dos delta v (weights qs lse k) := by
  simp only [k0_pay29, shapeCast_self, k0_pay28_eq, k0_pay27_eq]
  rfl
theorem k0_pay35_eq : k0_pay35 dos qs delta lse k v = gradScores dos delta v (weights qs lse k) := by
  simp only [k0_pay35, shapeCast_self, k0_pay34_eq, k0_pay33_eq]
  rfl
theorem k0_pay42_eq : k0_pay42 dos delta v p (constant S1024x1408 .f32 0x00000000#32) = gradScores dos delta v p := by
  simp only [k0_pay42, shapeCast_self]
  rfl
theorem k0_pay48_eq : k0_pay48 dos qs delta lse k v = gradScores dos delta v (weights qs lse k) := by
  simp only [k0_pay48, shapeCast_self, k0_pay47_eq, k0_pay46_eq]
  rfl
theorem k0_pay18_eq : k0_pay18 dos p old = addRows (truncf .bf16 p bitsLt_bf16_f32) dos old := by
  simp only [k0_pay18, shapeCast_self]
  rfl
theorem k0_pay24_eq : k0_pay24 dos qs lse k old = addRows (truncf .bf16 (weights qs lse k) bitsLt_bf16_f32) dos old := by
  simp only [k0_pay24, shapeCast_self, k0_pay22_eq, k0_pay21_eq]
  rfl
theorem k0_pay30_eq : k0_pay30 dos qs lse k old = addRows (truncf .bf16 (weights qs lse k) bitsLt_bf16_f32) dos old := by
  simp only [k0_pay30, shapeCast_self, k0_pay28_eq, k0_pay27_eq]
  rfl
theorem k0_pay36_eq : k0_pay36 dos qs lse k old = addRows (truncf .bf16 (weights qs lse k) bitsLt_bf16_f32) dos old := by
  simp only [k0_pay36, shapeCast_self, k0_pay34_eq, k0_pay33_eq]
  rfl
theorem k0_pay49_eq : k0_pay49 dos qs lse k old = addRows (truncf .bf16 (weights qs lse k) bitsLt_bf16_f32) dos old := by
  simp only [k0_pay49, shapeCast_self, k0_pay47_eq, k0_pay46_eq]
  rfl
theorem k0_pay43_eq : k0_pay43 dos p old = addRows (truncf .bf16 p bitsLt_bf16_f32) dos old := by
  simp only [k0_pay43, shapeCast_self]
  rfl
theorem k0_pay19_eq : k0_pay19 dos qs delta v p (constant S1024x1408 .f32 0x00000000#32) old = addRows (gradScores dos delta v p) qs old := by
  simp only [k0_pay19, shapeCast_self, k0_pay17_eq]
  rfl
theorem k0_pay44_eq : k0_pay44 dos qs delta v p (constant S1024x1408 .f32 0x00000000#32) old = addRows (gradScores dos delta v p) qs old := by
  simp only [k0_pay44, shapeCast_self, k0_pay42_eq]
  rfl
theorem k0_pay25_eq : k0_pay25 qs x old = addRows x qs old := by
  simp only [k0_pay25, shapeCast_self]
  rfl
theorem k0_pay1_eq : k0_pay1 qs x old = addRows x qs old := by
  simp only [k0_pay1, shapeCast_self]
  rfl
theorem k0_pay31_eq : k0_pay31 dos qs delta lse k v old = addRows (gradScores dos delta v (weights qs lse k)) qs old := by
  simp only [k0_pay31, shapeCast_self, k0_pay29_eq, k0_pay28_eq, k0_pay27_eq]
  rfl
theorem k0_pay37_eq : k0_pay37 dos qs delta lse k v old = addRows (gradScores dos delta v (weights qs lse k)) qs old := by
  simp only [k0_pay37, shapeCast_self, k0_pay35_eq, k0_pay34_eq, k0_pay33_eq]
  rfl
theorem k0_pay20_eq : k0_pay20 dos delta dq k v p (constant S1024x1408 .f32 0x00000000#32) = addKeys (gradScores dos delta v p) k dq := by
  simp only [k0_pay20, shapeCast_self, k0_pay17_eq]
  rfl
theorem k0_pay26_eq : k0_pay26 dq k x = addKeys x k dq := by
  simp only [k0_pay26, shapeCast_self]
  rfl
theorem k0_pay2_eq : k0_pay2 dq k x = addKeys x k dq := by
  simp only [k0_pay2, shapeCast_self]
  rfl
theorem k0_pay38_eq (k' v' : FVec F S1408x128 .bf16) : k0_pay38 dos qs delta lse dq (k0_pay32 dos qs delta lse k v) k' v' = addKeys (gradScores dos delta v' (weights qs lse k')) k' (addKeys (gradScores dos delta v (weights qs lse k)) k dq) := by
  simp only [k0_pay38, shapeCast_self, k0_pay35_eq, k0_pay34_eq, k0_pay33_eq, k0_pay32, k0_pay29_eq, k0_pay27_eq, k0_pay33_eq]
  rfl
theorem k0_pay45_eq : k0_pay45 dos delta dq k v p (constant S1024x1408 .f32 0x00000000#32) = addKeys (gradScores dos delta v p) k dq := by
  simp only [k0_pay45, shapeCast_self, k0_pay42_eq]
  rfl

end Slab

section Entries

/-- The column of a 256 × 512 block that row `ρ` of the stacked heads reads at lane `d`. -/
def stackCol (ρ : Fin 1024) (d : Fin 128) : Fin 512 := ⟨ρ.val / 256 * 128 + d.val, by omega⟩
/-- The row of a 256 × 512 block that row `ρ` of the stacked heads reads. -/
def stackRow (ρ : Fin 1024) : Fin 256 := ⟨ρ.val % 256, by omega⟩

theorem k0_pay10_apply (q : Vec Ideal S256x512 .bf16) (ρ : Fin 1024) (d : Fin 128) :
    k0_pay10 q (ix2 ρ d) = q (ix2 (stackRow ρ) (stackCol ρ d)) := by
  pointwise [k0_pay10]
  split_ifs <;> exact congrArg₂ (fun a b => q (ix2 a b)) (Fin.ext (by simp only [stackRow]; omega)) (Fin.ext (by simp only [stackCol]; omega))

theorem k0_pay9_apply (q : Vec Ideal S256x512 .bf16) (ρ : Fin 1024) (d : Fin 128) :
    k0_pay9 q (ix2 ρ d) = q (ix2 (stackRow ρ) (stackCol ρ d)) := by
  pointwise [k0_pay9]
  split_ifs <;> exact congrArg₂ (fun a b => q (ix2 a b)) (Fin.ext (by simp only [stackRow]; omega)) (Fin.ext (by simp only [stackCol]; omega))

theorem weights_apply (qs : FVec Ideal S1024x128 .bf16) (lse : FVec Ideal S1024x1 .f32) (k : FVec Ideal S1408x128 .bf16) (ρ : Fin 1024) (κ : Fin 1408) :
    weights qs lse k (ix2 ρ κ) = Ideal.exp ((∑ d : Fin 128, qs (ix2 ρ d) * k (ix2 κ d)) - lse (ix2 ρ 0)) := by
  pointwise [weights]

theorem gradScores_apply (dos : FVec Ideal S1024x128 .bf16) (delta : FVec Ideal S1024x1 .f32) (v : FVec Ideal S1408x128 .bf16) (p : FVec Ideal S1024x1408 .f32)
    (ρ : Fin 1024) (κ : Fin 1408) :
    gradScores dos delta v p (ix2 ρ κ) = p (ix2 ρ κ) * ((∑ d : Fin 128, dos (ix2 ρ d) * v (ix2 κ d)) - delta (ix2 ρ 0)) := by
  pointwise [gradScores]

theorem addRows_apply (x : FVec Ideal S1024x1408 .bf16) (y : FVec Ideal S1024x128 .bf16) (old : FVec Ideal S1408x128 .f32) (κ : Fin 1408) (d : Fin 128) :
    addRows x y old (ix2 κ d) = old (ix2 κ d) + ∑ ρ : Fin 1024, x (ix2 ρ κ) * y (ix2 ρ d) := by
  pointwise [addRows]

theorem addKeys_apply (x : FVec Ideal S1024x1408 .bf16) (k : FVec Ideal S1408x128 .bf16) (old : FVec Ideal S1024x128 .f32) (ρ : Fin 1024) (d : Fin 128) :
    addKeys x k old (ix2 ρ d) = old (ix2 ρ d) + ∑ κ : Fin 1408, x (ix2 ρ κ) * k (ix2 κ d) := by
  pointwise [addKeys]

theorem k0_pay11_apply (dO : Vec Ideal S256x512 .bf16) (o : Vec Ideal S256x512 .f32) (ρ : Fin 1024) :
    k0_pay11 dO o (ix2 ρ (0 : Fin 1)) = ∑ d : Fin 128, dO (ix2 (stackRow ρ) (stackCol ρ d)) * o (ix2 (stackRow ρ) (stackCol ρ d)) := by
  pointwise [k0_pay11]
  refine Finset.sum_congr rfl fun x _ => congrArg₂ (· * ·) (k0_pay9_apply dO ρ x) ?_
  split_ifs <;> exact congrArg₂ (fun a b => o (ix2 a b)) (Fin.ext (by simp only [stackRow]; omega)) (Fin.ext (by simp only [stackCol]; omega))

end Entries

end Cert.KernelIdeal.Val

end
-- ==== Proof.Block.lean ====
/- What one visit of the attention backward's grid leaves in its three output blocks, at an entry, over the reals. -/
module

public import proofs.«01_k».proof.Proof.Gen.KernelIdeal.Frame
public import proofs.«01_k».proof.Proof.Steps
public import Idealize.ShloMosaic.Lib.Pipeline.Value
public import Idealize.ShloMosaic.Lib.Pipeline.ReadBack
public import Idealize.ShloMosaic.Lib.Pipeline.ValueKit.Tiles
public import Idealize.ShloMosaic.Lib.Tactic

@[expose] public section

noncomputable section

open Idealize.ShloMosaic Idealize.ShloMosaic.TcCoe Idealize.SL.Sem

namespace Cert.KernelIdeal.Val
open Cert.KernelIdeal Cert.KernelIdeal.Gen

section Entry
variable (x0 : Vec Ideal S256x512 .bf16) (x1 x2 : Vec Ideal S8448x128 .bf16) (x3 : Vec Ideal S256x512 .bf16) (x4 : Vec Ideal S256x512 .f32)
  (x5 : Vec Ideal S1024x1 .f32)

/-- The softmax weight of the block's stacked row `ρ` at key `κ`. -/
def blockP (ρ : Fin 1024) (κ : Fin 8448) : EReal :=
  Ideal.exp ((∑ d : Fin 128, x0 (ix2 (stackRow ρ) (stackCol ρ d)) * x1 (ix2 κ d)) - x5 (ix2 ρ 0))

/-- The gradient of the block's score at stacked row `ρ` and key `κ`. -/
def blockD (ρ : Fin 1024) (κ : Fin 8448) : EReal :=
  blockP x0 x1 x5 ρ κ * ((∑ d : Fin 128, x3 (ix2 (stackRow ρ) (stackCol ρ d)) * x2 (ix2 κ d))
    - ∑ d : Fin 128, x3 (ix2 (stackRow ρ) (stackCol ρ d)) * x4 (ix2 (stackRow ρ) (stackCol ρ d)))

/-- The keys' gradient after the visit, from what it was before. -/
def step7 (old : Vec Ideal S8448x128 .f32) : Vec Ideal S8448x128 .f32 := fun y =>
  old y + ∑ ρ : Fin 1024, blockD x0 x1 x2 x3 x4 x5 ρ (y 0) * x0 (ix2 (stackRow ρ) (stackCol ρ (y 1)))

/-- The values' gradient after the visit, from what it was before. -/
def step8 (old : Vec Ideal S8448x128 .f32) : Vec Ideal S8448x128 .f32 := fun y =>
  old y + ∑ ρ : Fin 1024, blockP x0 x1 x5 ρ (y 0) * x3 (ix2 (stackRow ρ) (stackCol ρ (y 1)))

/-- The stacked row that column `c` of a 256 × 512 block belongs to, at row `r`. -/
def unstackRow (r : Fin 256) (c : Fin 512) : Fin 1024 := ⟨c.val / 128 * 256 + r.val, by omega⟩
/-- The lane of a head that column `c` of a 256 × 512 block is. -/
def unstackLane (c : Fin 512) : Fin 128 := ⟨c.val % 128, by omega⟩

/-- The queries' gradient the visit leaves. -/
def step6 : Vec Ideal S256x512 .f32 := fun y =>
  ∑ κ : Fin 8448, blockD x0 x1 x2 x3 x4 x5 (unstackRow (y 0) (y 1)) κ * x1 (ix2 κ (unstackLane (y 1)))

/-- Key `κ` of the slab that starts at `off`. -/
def slabKey (off : Nat) (h : off + 1408 ≤ 8448) (κ : Fin 1408) : Fin 8448 := ⟨off + κ.val, by omega⟩

theorem ld_slab (e : EltTy) (X : Vec Ideal S8448x128 e) (off : Nat) (inb) (h : off + 1408 ≤ 8448) (κ : Fin 1408) (d : Fin 128) :
    View.ld X (Rect.unit ![off, 0] ![1408, 128] inb) (ix2 κ d) = X (ix2 (slabKey off h κ) d) := by
  refine View.ld_unit_apply_of X _ _ _ _ _ fun a => ?_
  fin_cases a
  · rfl
  · exact (Nat.zero_add _).symm

theorem weights_slab (off : Nat) (inb) (h : off + 1408 ≤ 8448) (ρ : Fin 1024) (κ : Fin 1408) :
    weights (k0_pay10 x0) x5 (View.ld x1 (Rect.unit ![off, 0] ![1408, 128] inb)) (ix2 ρ κ) = blockP x0 x1 x5 ρ (slabKey off h κ) := by
  rw [weights_apply]
  simp only [k0_pay10_apply, ld_slab _ x1 off inb h]
  rfl

theorem gradScores_slab (off : Nat) (inb) (h : off + 1408 ≤ 8448) (ρ : Fin 1024) (κ : Fin 1408) :
    gradScores (k0_pay9 x3) (k0_pay11 x3 x4) (View.ld x2 (Rect.unit ![off, 0] ![1408, 128] inb))
      (weights (k0_pay10 x0) x5 (View.ld x1 (Rect.unit ![off, 0] ![1408, 128] inb))) (ix2 ρ κ) = blockD x0 x1 x2 x3 x4 x5 ρ (slabKey off h κ) := by
  rw [gradScores_apply, weights_slab x0 x1 x5 off inb h, k0_pay11_apply]
  simp only [k0_pay9_apply, ld_slab _ x2 off inb h]
  rfl

theorem emb_slab (off : Nat) (inb) (h : off + 1408 ≤ 8448) (κ : Fin 1408) (d : Fin 128) :
    (Rect.unit (s := S8448x128) ![off, 0] ![1408, 128] inb).emb (ix2 κ d) = ix2 (slabKey off h κ) d := by
  funext a
  fin_cases a
  · exact Fin.ext (by rw [Rect.emb_apply]; show off + 1 * κ.val = off + κ.val; omega)
  · exact Fin.ext (by rw [Rect.emb_apply]; show 0 + 1 * d.val = d.val; omega)

theorem slab7 (off : Nat) (inb) (h : off + 1408 ≤ 8448) (old : Vec Ideal S8448x128 .f32) (z : (⟨2, ![1408, 128]⟩ : Shape).Idx) :
    addRows (gradScores (k0_pay9 x3) (k0_pay11 x3 x4) (View.ld x2 (Rect.unit ![off, 0] ![1408, 128] inb))
      (weights (k0_pay10 x0) x5 (View.ld x1 (Rect.unit ![off, 0] ![1408, 128] inb)))) (k0_pay10 x0)
      (View.ld old (Rect.unit ![off, 0] ![1408, 128] inb)) z
    = step7 x0 x1 x2 x3 x4 x5 old ((Rect.unit (s := S8448x128) ![off, 0] ![1408, 128] inb).emb z) := by
  idx_vars z
  rw [addRows_apply, emb_slab off inb h, ld_slab _ old off inb h]
  simp only [gradScores_slab x0 x1 x2 x3 x4 x5 off inb h, k0_pay10_apply]
  rfl

theorem slab8 (off : Nat) (inb) (h : off + 1408 ≤ 8448) (old : Vec Ideal S8448x128 .f32) (z : (⟨2, ![1408, 128]⟩ : Shape).Idx) :
    addRows (truncf .bf16 (weights (k0_pay10 x0) x5 (View.ld x1 (Rect.unit ![off, 0] ![1408, 128] inb))) bitsLt_bf16_f32) (k0_pay9 x3)
      (View.ld old (Rect.unit ![off, 0] ![1408, 128] inb)) z
    = step8 x0 x1 x3 x5 old ((Rect.unit (s := S8448x128) ![off, 0] ![1408, 128] inb).emb z) := by
  idx_vars z
  rw [addRows_apply, emb_slab off inb h, ld_slab _ old off inb h]
  simp only [k0_pay9_apply]
  have hw : ∀ ρ κ, truncf .bf16 (weights (k0_pay10 x0) x5 (View.ld x1 (Rect.unit ![off, 0] ![1408, 128] inb))) bitsLt_bf16_f32 (ix2 ρ κ)
      = blockP x0 x1 x5 ρ (slabKey off h κ) := fun ρ κ => weights_slab x0 x1 x5 off inb h ρ κ
  simp only [hw]
  rfl

end Entry

theorem hz : (![0, 0] : Fin 2 → Nat) = fun _ => 0 := by funext i; fin_cases i <;> rfl

set_option maxHeartbeats 4000000 in
/-- Output 7's block after a visit of case A. -/
theorem out0_A_7_eq (c : Dev nD) (i : grid0.Coords) (arg2 : Memref sig .tc .vmem S256x512 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S256x512 .bf16) (harg5 : arg5.IsWhole) (arg6 : Memref sig .tc .vmem S256x512 .f32) (harg6 : arg6.IsWhole) (arg7 : Memref sig .tc .vmem S1024x1 .f32) (harg7 : arg7.IsWhole) (arg8 : Memref sig .tc .vmem S256x512 .f32) (harg8 : arg8.IsWhole) (arg9 : Memref sig .tc .vmem S8448x128 .f32) (harg9 : arg9.IsWhole) (arg10 : Memref sig .tc .vmem S8448x128 .f32) (harg10 : arg10.IsWhole) (hc0 : cond0_0 i)
    (x0 : Vec Ideal S256x512 .bf16) (x1 : Vec Ideal S8448x128 .bf16) (x2 : Vec Ideal S8448x128 .bf16) (x3 : Vec Ideal S256x512 .bf16) (x4 : Vec Ideal S256x512 .f32) (x5 : Vec Ideal S1024x1 .f32) :
    out0_A_7 c i arg2 harg2 arg3 harg3 arg4 harg4 arg5 harg5 arg6 harg6 arg7 harg7 arg8 harg8 arg9 harg9 arg10 harg10 hc0 x0 x1 x2 x3 x4 x5 = step7 x0 x1 x2 x3 x4 x5 (k0_pay7 (F := Ideal)) := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp (disch := first | decide | (intro a; fin_cases a <;> rfl)) only [↓View.readCov_skip, ↓View.readCov_fill, View.readAt_eq_ld, harg2.read_unread, harg3.read_unread, harg4.read_unread, harg5.read_unread,
    harg6.read_unread, harg7.read_unread, harg9.read_unread, harg10.read_unread, View.ld_unit_zero (S := S256x512) hz,
    View.ld_unit_zero (S := S1024x1) hz, k0_pay1_eq, k0_pay2_eq, k0_pay12_eq, k0_pay14_eq, k0_pay15_eq, k0_pay16_eq, k0_pay17_eq, k0_pay18_eq, k0_pay19_eq, k0_pay20_eq, k0_pay21_eq, k0_pay22_eq, k0_pay23_eq, k0_pay24_eq, k0_pay25_eq, k0_pay26_eq, k0_pay27_eq, k0_pay28_eq, k0_pay29_eq, k0_pay30_eq, k0_pay31_eq, k0_pay33_eq, k0_pay34_eq, k0_pay35_eq, k0_pay36_eq, k0_pay37_eq, k0_pay38_eq, k0_pay39_eq, k0_pay40_eq, k0_pay41_eq, k0_pay42_eq, k0_pay43_eq, k0_pay44_eq, k0_pay45_eq, k0_pay46_eq, k0_pay47_eq, k0_pay48_eq, k0_pay49_eq]
  funext y
  refine View.canon_append_of_piecesOf (step7 x0 x1 x2 x3 x4 x5 (k0_pay7 (F := Ideal))) [_] [_, _, _, _, _, _] ⟨slab7 x0 x1 x2 x3 x4 x5 7040 _ (by omega) _, slab7 x0 x1 x2 x3 x4 x5 5632 _ (by omega) _, slab7 x0 x1 x2 x3 x4 x5 4224 _ (by omega) _, slab7 x0 x1 x2 x3 x4 x5 2816 _ (by omega) _, slab7 x0 x1 x2 x3 x4 x5 1408 _ (by omega) _, slab7 x0 x1 x2 x3 x4 x5 0 _ (by omega) _, trivial⟩ y ?_
  exact View.cover_of_tiledL (s := S8448x128) _ ![1408, 128] (by sl_kernel_rfl) y

set_option maxHeartbeats 4000000 in
/-- Output 8's block after a visit of case A. -/
theorem out0_A_8_eq (c : Dev nD) (i : grid0.Coords) (arg2 : Memref sig .tc .vmem S256x512 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S256x512 .bf16) (harg5 : arg5.IsWhole) (arg6 : Memref sig .tc .vmem S256x512 .f32) (harg6 : arg6.IsWhole) (arg7 : Memref sig .tc .vmem S1024x1 .f32) (harg7 : arg7.IsWhole) (arg8 : Memref sig .tc .vmem S256x512 .f32) (harg8 : arg8.IsWhole) (arg9 : Memref sig .tc .vmem S8448x128 .f32) (harg9 : arg9.IsWhole) (arg10 : Memref sig .tc .vmem S8448x128 .f32) (harg10 : arg10.IsWhole) (hc0 : cond0_0 i)
    (x0 : Vec Ideal S256x512 .bf16) (x1 : Vec Ideal S8448x128 .bf16) (x2 : Vec Ideal S8448x128 .bf16) (x3 : Vec Ideal S256x512 .bf16) (x4 : Vec Ideal S256x512 .f32) (x5 : Vec Ideal S1024x1 .f32) :
    out0_A_8 c i arg2 harg2 arg3 harg3 arg4 harg4 arg5 harg5 arg6 harg6 arg7 harg7 arg8 harg8 arg9 harg9 arg10 harg10 hc0 x0 x1 x2 x3 x4 x5 = step8 x0 x1 x3 x5 (k0_pay8 (F := Ideal)) := by
  unfold out0_A_8
  rw [View.read_writes_eq_canon _ _ _ (cover0_A_8 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp (disch := first | decide | (intro a; fin_cases a <;> rfl)) only [↓View.readCov_skip, ↓View.readCov_fill, View.readAt_eq_ld, harg2.read_unread, harg3.read_unread, harg4.read_unread, harg5.read_unread,
    harg6.read_unread, harg7.read_unread, harg9.read_unread, harg10.read_unread, View.ld_unit_zero (S := S256x512) hz,
    View.ld_unit_zero (S := S1024x1) hz, k0_pay1_eq, k0_pay2_eq, k0_pay12_eq, k0_pay14_eq, k0_pay15_eq, k0_pay16_eq, k0_pay17_eq, k0_pay18_eq, k0_pay19_eq, k0_pay20_eq, k0_pay21_eq, k0_pay22_eq, k0_pay23_eq, k0_pay24_eq, k0_pay25_eq, k0_pay26_eq, k0_pay27_eq, k0_pay28_eq, k0_pay29_eq, k0_pay30_eq, k0_pay31_eq, k0_pay33_eq, k0_pay34_eq, k0_pay35_eq, k0_pay36_eq, k0_pay37_eq, k0_pay38_eq, k0_pay39_eq, k0_pay40_eq, k0_pay41_eq, k0_pay42_eq, k0_pay43_eq, k0_pay44_eq, k0_pay45_eq, k0_pay46_eq, k0_pay47_eq, k0_pay48_eq, k0_pay49_eq]
  funext y
  refine View.canon_append_of_piecesOf (step8 x0 x1 x3 x5 (k0_pay8 (F := Ideal))) [_] [_, _, _, _, _, _] ⟨slab8 x0 x1 x3 x5 7040 _ (by omega) _, slab8 x0 x1 x3 x5 5632 _ (by omega) _, slab8 x0 x1 x3 x5 4224 _ (by omega) _, slab8 x0 x1 x3 x5 2816 _ (by omega) _, slab8 x0 x1 x3 x5 1408 _ (by omega) _, slab8 x0 x1 x3 x5 0 _ (by omega) _, trivial⟩ y ?_
  exact View.cover_of_tiledL (s := S8448x128) _ ![1408, 128] (by sl_kernel_rfl) y

set_option maxHeartbeats 4000000 in
/-- Output 7's block after a visit of case B. -/
theorem out0_B_7_eq (c : Dev nD) (i : grid0.Coords) (arg2 : Memref sig .tc .vmem S256x512 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S256x512 .bf16) (harg5 : arg5.IsWhole) (arg6 : Memref sig .tc .vmem S256x512 .f32) (harg6 : arg6.IsWhole) (arg7 : Memref sig .tc .vmem S1024x1 .f32) (harg7 : arg7.IsWhole) (arg8 : Memref sig .tc .vmem S256x512 .f32) (harg8 : arg8.IsWhole) (arg9 : Memref sig .tc .vmem S8448x128 .f32) (harg9 : arg9.IsWhole) (arg10 : Memref sig .tc .vmem S8448x128 .f32) (harg10 : arg10.IsWhole) (hc0 : ¬cond0_0 i)
    (x0 : Vec Ideal S256x512 .bf16) (x1 : Vec Ideal S8448x128 .bf16) (x2 : Vec Ideal S8448x128 .bf16) (x3 : Vec Ideal S256x512 .bf16) (x4 : Vec Ideal S256x512 .f32) (x5 : Vec Ideal S1024x1 .f32) (xo7 : Vec Ideal S8448x128 .f32) (xo8 : Vec Ideal S8448x128 .f32) :
    out0_B_7 c i arg2 harg2 arg3 harg3 arg4 harg4 arg5 harg5 arg6 harg6 arg7 harg7 arg8 harg8 arg9 harg9 arg10 harg10 hc0 x0 x1 x2 x3 x4 x5 xo7 xo8 = step7 x0 x1 x2 x3 x4 x5 xo7 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 xo7 xo8)]
  unfold kernelRun0_B
  dsimp only
  sl_unfold_words
  simp (disch := first | decide | (intro a; fin_cases a <;> rfl)) only [↓View.readCov_skip, ↓View.readCov_fill, View.readAt_eq_ld, harg2.read_unread, harg3.read_unread, harg4.read_unread, harg5.read_unread,
    harg6.read_unread, harg7.read_unread, harg9.read_unread, harg10.read_unread, View.ld_unit_zero (S := S256x512) hz,
    View.ld_unit_zero (S := S1024x1) hz, k0_pay1_eq, k0_pay2_eq, k0_pay12_eq, k0_pay14_eq, k0_pay15_eq, k0_pay16_eq, k0_pay17_eq, k0_pay18_eq, k0_pay19_eq, k0_pay20_eq, k0_pay21_eq, k0_pay22_eq, k0_pay23_eq, k0_pay24_eq, k0_pay25_eq, k0_pay26_eq, k0_pay27_eq, k0_pay28_eq, k0_pay29_eq, k0_pay30_eq, k0_pay31_eq, k0_pay33_eq, k0_pay34_eq, k0_pay35_eq, k0_pay36_eq, k0_pay37_eq, k0_pay38_eq, k0_pay39_eq, k0_pay40_eq, k0_pay41_eq, k0_pay42_eq, k0_pay43_eq, k0_pay44_eq, k0_pay45_eq, k0_pay46_eq, k0_pay47_eq, k0_pay48_eq, k0_pay49_eq]
  funext y
  refine View.canon_append_of_piecesOf (step7 x0 x1 x2 x3 x4 x5 xo7) [] [_, _, _, _, _, _] ⟨slab7 x0 x1 x2 x3 x4 x5 7040 _ (by omega) _, slab7 x0 x1 x2 x3 x4 x5 5632 _ (by omega) _, slab7 x0 x1 x2 x3 x4 x5 4224 _ (by omega) _, slab7 x0 x1 x2 x3 x4 x5 2816 _ (by omega) _, slab7 x0 x1 x2 x3 x4 x5 1408 _ (by omega) _, slab7 x0 x1 x2 x3 x4 x5 0 _ (by omega) _, trivial⟩ y ?_
  exact View.cover_of_tiledL (s := S8448x128) _ ![1408, 128] (by sl_kernel_rfl) y

set_option maxHeartbeats 4000000 in
/-- Output 8's block after a visit of case B. -/
theorem out0_B_8_eq (c : Dev nD) (i : grid0.Coords) (arg2 : Memref sig .tc .vmem S256x512 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S256x512 .bf16) (harg5 : arg5.IsWhole) (arg6 : Memref sig .tc .vmem S256x512 .f32) (harg6 : arg6.IsWhole) (arg7 : Memref sig .tc .vmem S1024x1 .f32) (harg7 : arg7.IsWhole) (arg8 : Memref sig .tc .vmem S256x512 .f32) (harg8 : arg8.IsWhole) (arg9 : Memref sig .tc .vmem S8448x128 .f32) (harg9 : arg9.IsWhole) (arg10 : Memref sig .tc .vmem S8448x128 .f32) (harg10 : arg10.IsWhole) (hc0 : ¬cond0_0 i)
    (x0 : Vec Ideal S256x512 .bf16) (x1 : Vec Ideal S8448x128 .bf16) (x2 : Vec Ideal S8448x128 .bf16) (x3 : Vec Ideal S256x512 .bf16) (x4 : Vec Ideal S256x512 .f32) (x5 : Vec Ideal S1024x1 .f32) (xo7 : Vec Ideal S8448x128 .f32) (xo8 : Vec Ideal S8448x128 .f32) :
    out0_B_8 c i arg2 harg2 arg3 harg3 arg4 harg4 arg5 harg5 arg6 harg6 arg7 harg7 arg8 harg8 arg9 harg9 arg10 harg10 hc0 x0 x1 x2 x3 x4 x5 xo7 xo8 = step8 x0 x1 x3 x5 xo8 := by
  unfold out0_B_8
  rw [View.read_writes_eq_canon _ _ _ (cover0_B_8 c i arg2 harg2 arg3 harg3 arg4 harg4 arg5 harg5 arg6 harg6 arg7 harg7 arg8 harg8 arg9 harg9 arg10 harg10 hc0 x0 x1 x2 x3 x4 x5 xo7 xo8)]
  unfold kernelRun0_B
  dsimp only
  sl_unfold_words
  simp (disch := first | decide | (intro a; fin_cases a <;> rfl)) only [↓View.readCov_skip, ↓View.readCov_fill, View.readAt_eq_ld, harg2.read_unread, harg3.read_unread, harg4.read_unread, harg5.read_unread,
    harg6.read_unread, harg7.read_unread, harg9.read_unread, harg10.read_unread, View.ld_unit_zero (S := S256x512) hz,
    View.ld_unit_zero (S := S1024x1) hz, k0_pay1_eq, k0_pay2_eq, k0_pay12_eq, k0_pay14_eq, k0_pay15_eq, k0_pay16_eq, k0_pay17_eq, k0_pay18_eq, k0_pay19_eq, k0_pay20_eq, k0_pay21_eq, k0_pay22_eq, k0_pay23_eq, k0_pay24_eq, k0_pay25_eq, k0_pay26_eq, k0_pay27_eq, k0_pay28_eq, k0_pay29_eq, k0_pay30_eq, k0_pay31_eq, k0_pay33_eq, k0_pay34_eq, k0_pay35_eq, k0_pay36_eq, k0_pay37_eq, k0_pay38_eq, k0_pay39_eq, k0_pay40_eq, k0_pay41_eq, k0_pay42_eq, k0_pay43_eq, k0_pay44_eq, k0_pay45_eq, k0_pay46_eq, k0_pay47_eq, k0_pay48_eq, k0_pay49_eq]
  funext y
  refine View.canon_append_of_piecesOf (step8 x0 x1 x3 x5 xo8) [] [_, _, _, _, _, _] ⟨slab8 x0 x1 x3 x5 7040 _ (by omega) _, slab8 x0 x1 x3 x5 5632 _ (by omega) _, slab8 x0 x1 x3 x5 4224 _ (by omega) _, slab8 x0 x1 x3 x5 2816 _ (by omega) _, slab8 x0 x1 x3 x5 1408 _ (by omega) _, slab8 x0 x1 x3 x5 0 _ (by omega) _, trivial⟩ y ?_
  exact View.cover_of_tiledL (s := S8448x128) _ ![1408, 128] (by sl_kernel_rfl) y

end Cert.KernelIdeal.Val

end
-- ==== Proof.BlockRows.lean ====
/- The queries' gradient that one visit of the attention backward's grid leaves: the six key slabs as one sum over the keys. -/
module

public import proofs.«01_k».proof.Proof.Block

@[expose] public section

noncomputable section

open Idealize.ShloMosaic Idealize.ShloMosaic.TcCoe Idealize.SL.Sem

namespace Cert.KernelIdeal.Val
open Cert.KernelIdeal Cert.KernelIdeal.Gen

/-- A sum over the keys is the six slabs' sums, in the kernel's order. -/
theorem sum_slabs (f : Fin 8448 → EReal) :
    (((((0 + ∑ κ, f (slabKey 0 (by omega) κ)) + ∑ κ, f (slabKey 1408 (by omega) κ)) + ∑ κ, f (slabKey 2816 (by omega) κ))
      + ∑ κ, f (slabKey 4224 (by omega) κ)) + ∑ κ, f (slabKey 5632 (by omega) κ)) + ∑ κ, f (slabKey 7040 (by omega) κ) = ∑ κ, f κ := by
  obtain ⟨g, hg⟩ : ∃ g : ℕ → EReal, ∀ i (h : i < 8448), g i = f ⟨i, h⟩ := ⟨fun i => if h : i < 8448 then f ⟨i, h⟩ else 0, fun i h => dif_pos h⟩
  have s : ∀ off (h : off + 1408 ≤ 8448), ∑ κ, f (slabKey off h κ) = ∑ i ∈ Finset.range 1408, g (off + i) := fun off h => by
    rw [← Fin.sum_univ_eq_sum_range (fun i => g (off + i))]
    exact Finset.sum_congr rfl fun κ _ => (hg _ (slabKey off h κ).isLt).symm
  have t : ∑ κ, f κ = ∑ i ∈ Finset.range (0 + 1408 + 1408 + 1408 + 1408 + 1408 + 1408), g i := by
    rw [← Fin.sum_univ_eq_sum_range g]
    exact Finset.sum_congr rfl fun κ _ => (hg _ κ.isLt).symm
  rw [t]
  simp only [s, Finset.sum_range_add, Finset.range_zero, Finset.sum_empty]

theorem slice_rows0 (T : FVec Ideal S1024x128 .f32) (r : Fin 256) (d : Fin 128) :
    extractStridedSlice S256x128 ![0, 0] T slices_S1024x128_o0_0_S256x128 (ix2 r d) = T (ix2 ⟨0 + r.val, by omega⟩ d) := by
  refine congrArg T (funext fun a => ?_)
  fin_cases a
  · exact Fin.ext rfl
  · exact Fin.ext (Nat.zero_add _)

theorem slice_rows1 (T : FVec Ideal S1024x128 .f32) (r : Fin 256) (d : Fin 128) :
    extractStridedSlice S256x128 ![256, 0] T slices_S1024x128_o256_0_S256x128 (ix2 r d) = T (ix2 ⟨256 + r.val, by omega⟩ d) := by
  refine congrArg T (funext fun a => ?_)
  fin_cases a
  · exact Fin.ext rfl
  · exact Fin.ext (Nat.zero_add _)

theorem slice_rows2 (T : FVec Ideal S1024x128 .f32) (r : Fin 256) (d : Fin 128) :
    extractStridedSlice S256x128 ![512, 0] T slices_S1024x128_o512_0_S256x128 (ix2 r d) = T (ix2 ⟨512 + r.val, by omega⟩ d) := by
  refine congrArg T (funext fun a => ?_)
  fin_cases a
  · exact Fin.ext rfl
  · exact Fin.ext (Nat.zero_add _)

theorem slice_rows3 (T : FVec Ideal S1024x128 .f32) (r : Fin 256) (d : Fin 128) :
    extractStridedSlice S256x128 ![768, 0] T slices_S1024x128_o768_0_S256x128 (ix2 r d) = T (ix2 ⟨768 + r.val, by omega⟩ d) := by
  refine congrArg T (funext fun a => ?_)
  fin_cases a
  · exact Fin.ext rfl
  · exact Fin.ext (Nat.zero_add _)

section Rows
variable (x0 : Vec Ideal S256x512 .bf16) (x1 x2 : Vec Ideal S8448x128 .bf16) (x3 : Vec Ideal S256x512 .bf16) (x4 : Vec Ideal S256x512 .f32)
  (x5 : Vec Ideal S1024x1 .f32)

/-- One slab's score gradients, as the kernel forms them. -/
def slabD (off : Nat) (inb : ∀ a, (![off, 0] : Fin 2 → Nat) a + (![1408, 128] : Fin 2 → Nat) a ≤ S8448x128.size a) : FVec Ideal S1024x1408 .bf16 :=
  gradScores (k0_pay9 x3) (k0_pay11 x3 x4) (View.ld x2 (Rect.unit (s := S8448x128) ![off, 0] ![1408, 128] inb))
    (weights (k0_pay10 x0) x5 (View.ld x1 (Rect.unit (s := S8448x128) ![off, 0] ![1408, 128] inb)))

theorem addKeys_slab (off : Nat) (inb) (h : off + 1408 ≤ 8448) (dq : FVec Ideal S1024x128 .f32) (ρ : Fin 1024) (d : Fin 128) :
    addKeys (slabD x0 x1 x2 x3 x4 x5 off inb) (View.ld x1 (Rect.unit (s := S8448x128) ![off, 0] ![1408, 128] inb)) dq (ix2 ρ d)
      = dq (ix2 ρ d) + ∑ κ : Fin 1408, (fun κ => blockD x0 x1 x2 x3 x4 x5 ρ κ * x1 (ix2 κ d)) (slabKey off h κ) := by
  rw [addKeys_apply]
  simp only [slabD, gradScores_slab x0 x1 x2 x3 x4 x5 off inb h, ld_slab _ x1 off inb h]

/-- The running sum over the first five slabs. -/
def rows5 : FVec Ideal S1024x128 .f32 :=
  addKeys (slabD x0 x1 x2 x3 x4 x5 5632 inb_S8448x128_S1408x128_5632_0) (View.ld x1 (Rect.unit (s := S8448x128) ![5632, 0] ![1408, 128] inb_S8448x128_S1408x128_5632_0))
  (addKeys (slabD x0 x1 x2 x3 x4 x5 4224 inb_S8448x128_S1408x128_4224_0) (View.ld x1 (Rect.unit (s := S8448x128) ![4224, 0] ![1408, 128] inb_S8448x128_S1408x128_4224_0))
  (addKeys (slabD x0 x1 x2 x3 x4 x5 2816 inb_S8448x128_S1408x128_2816_0) (View.ld x1 (Rect.unit (s := S8448x128) ![2816, 0] ![1408, 128] inb_S8448x128_S1408x128_2816_0))
  (addKeys (slabD x0 x1 x2 x3 x4 x5 1408 inb_S8448x128_S1408x128_1408_0) (View.ld x1 (Rect.unit (s := S8448x128) ![1408, 0] ![1408, 128] inb_S8448x128_S1408x128_1408_0))
  (addKeys (slabD x0 x1 x2 x3 x4 x5 0 inb_S8448x128_S1408x128_0_0) (View.ld x1 (Rect.unit (s := S8448x128) ![0, 0] ![1408, 128] inb_S8448x128_S1408x128_0_0))
  (k0_pay13)))))

theorem rows6_apply (ρ : Fin 1024) (d : Fin 128) :
    addKeys (slabD x0 x1 x2 x3 x4 x5 7040 inb_S8448x128_S1408x128_7040_0) (View.ld x1 (Rect.unit (s := S8448x128) ![7040, 0] ![1408, 128] inb_S8448x128_S1408x128_7040_0)) (rows5 x0 x1 x2 x3 x4 x5) (ix2 ρ d)
      = ∑ κ : Fin 8448, blockD x0 x1 x2 x3 x4 x5 ρ κ * x1 (ix2 κ d) := by
  rw [rows5, addKeys_slab x0 x1 x2 x3 x4 x5 7040 _ (by omega), addKeys_slab x0 x1 x2 x3 x4 x5 5632 _ (by omega),
    addKeys_slab x0 x1 x2 x3 x4 x5 4224 _ (by omega), addKeys_slab x0 x1 x2 x3 x4 x5 2816 _ (by omega),
    addKeys_slab x0 x1 x2 x3 x4 x5 1408 _ (by omega), addKeys_slab x0 x1 x2 x3 x4 x5 0 _ (by omega),
    show k0_pay13 (F := Ideal) (ix2 ρ d) = 0 by pointwise [k0_pay13]]
  exact sum_slabs fun κ => blockD x0 x1 x2 x3 x4 x5 ρ κ * x1 (ix2 κ d)

theorem piece6_0 (inb) (z : (⟨2, ![256, 128]⟩ : Shape).Idx) :
    k0_pay3 (rows5 x0 x1 x2 x3 x4 x5) (View.ld x1 (Rect.unit (s := S8448x128) ![7040, 0] ![1408, 128] inb_S8448x128_S1408x128_7040_0)) (slabD x0 x1 x2 x3 x4 x5 7040 inb_S8448x128_S1408x128_7040_0) z
      = step6 x0 x1 x2 x3 x4 x5 ((Rect.unit (s := S256x512) ![0, 0] ![256, 128] inb).emb z) := by
  idx_vars z
  rw [k0_pay3, k0_pay2_eq, slice_rows0, rows6_apply]
  have he : (Rect.unit (s := S256x512) ![0, 0] ![256, 128] inb).emb (ix2 z0 z1) = ix2 z0 ⟨0 + z1.val, by omega⟩ := by
    funext a
    fin_cases a
    · exact Fin.ext (by rw [Rect.emb_apply]; show 0 + 1 * z0.val = z0.val; omega)
    · exact Fin.ext (by rw [Rect.emb_apply]; show 0 + 1 * z1.val = 0 + z1.val; omega)
  rw [he]
  have h0 : unstackRow z0 ⟨0 + z1.val, by omega⟩ = ⟨0 + z0.val, by omega⟩ := Fin.ext (by simp only [unstackRow]; omega)
  have h1 : unstackLane ⟨0 + z1.val, by omega⟩ = z1 := Fin.ext (by simp only [unstackLane]; omega)
  show _ = ∑ κ : Fin 8448, blockD x0 x1 x2 x3 x4 x5 (unstackRow z0 ⟨0 + z1.val, by omega⟩) κ * x1 (ix2 κ (unstackLane ⟨0 + z1.val, by omega⟩))
  rw [h0, h1]

theorem piece6_1 (inb) (z : (⟨2, ![256, 128]⟩ : Shape).Idx) :
    k0_pay4 (rows5 x0 x1 x2 x3 x4 x5) (View.ld x1 (Rect.unit (s := S8448x128) ![7040, 0] ![1408, 128] inb_S8448x128_S1408x128_7040_0)) (slabD x0 x1 x2 x3 x4 x5 7040 inb_S8448x128_S1408x128_7040_0) z
      = step6 x0 x1 x2 x3 x4 x5 ((Rect.unit (s := S256x512) ![0, 128] ![256, 128] inb).emb z) := by
  idx_vars z
  rw [k0_pay4, k0_pay2_eq, slice_rows1, rows6_apply]
  have he : (Rect.unit (s := S256x512) ![0, 128] ![256, 128] inb).emb (ix2 z0 z1) = ix2 z0 ⟨128 + z1.val, by omega⟩ := by
    funext a
    fin_cases a
    · exact Fin.ext (by rw [Rect.emb_apply]; show 0 + 1 * z0.val = z0.val; omega)
    · exact Fin.ext (by rw [Rect.emb_apply]; show 128 + 1 * z1.val = 128 + z1.val; omega)
  rw [he]
  have h0 : unstackRow z0 ⟨128 + z1.val, by omega⟩ = ⟨256 + z0.val, by omega⟩ := Fin.ext (by simp only [unstackRow]; omega)
  have h1 : unstackLane ⟨128 + z1.val, by omega⟩ = z1 := Fin.ext (by simp only [unstackLane]; omega)
  show _ = ∑ κ : Fin 8448, blockD x0 x1 x2 x3 x4 x5 (unstackRow z0 ⟨128 + z1.val, by omega⟩) κ * x1 (ix2 κ (unstackLane ⟨128 + z1.val, by omega⟩))
  rw [h0, h1]

theorem piece6_2 (inb) (z : (⟨2, ![256, 128]⟩ : Shape).Idx) :
    k0_pay5 (rows5 x0 x1 x2 x3 x4 x5) (View.ld x1 (Rect.unit (s := S8448x128) ![7040, 0] ![1408, 128] inb_S8448x128_S1408x128_7040_0)) (slabD x0 x1 x2 x3 x4 x5 7040 inb_S8448x128_S1408x128_7040_0) z
      = step6 x0 x1 x2 x3 x4 x5 ((Rect.unit (s := S256x512) ![0, 256] ![256, 128] inb).emb z) := by
  idx_vars z
  rw [k0_pay5, k0_pay2_eq, slice_rows2, rows6_apply]
  have he : (Rect.unit (s := S256x512) ![0, 256] ![256, 128] inb).emb (ix2 z0 z1) = ix2 z0 ⟨256 + z1.val, by omega⟩ := by
    funext a
    fin_cases a
    · exact Fin.ext (by rw [Rect.emb_apply]; show 0 + 1 * z0.val = z0.val; omega)
    · exact Fin.ext (by rw [Rect.emb_apply]; show 256 + 1 * z1.val = 256 + z1.val; omega)
  rw [he]
  have h0 : unstackRow z0 ⟨256 + z1.val, by omega⟩ = ⟨512 + z0.val, by omega⟩ := Fin.ext (by simp only [unstackRow]; omega)
  have h1 : unstackLane ⟨256 + z1.val, by omega⟩ = z1 := Fin.ext (by simp only [unstackLane]; omega)
  show _ = ∑ κ : Fin 8448, blockD x0 x1 x2 x3 x4 x5 (unstackRow z0 ⟨256 + z1.val, by omega⟩) κ * x1 (ix2 κ (unstackLane ⟨256 + z1.val, by omega⟩))
  rw [h0, h1]

theorem piece6_3 (inb) (z : (⟨2, ![256, 128]⟩ : Shape).Idx) :
    k0_pay6 (rows5 x0 x1 x2 x3 x4 x5) (View.ld x1 (Rect.unit (s := S8448x128) ![7040, 0] ![1408, 128] inb_S8448x128_S1408x128_7040_0)) (slabD x0 x1 x2 x3 x4 x5 7040 inb_S8448x128_S1408x128_7040_0) z
      = step6 x0 x1 x2 x3 x4 x5 ((Rect.unit (s := S256x512) ![0, 384] ![256, 128] inb).emb z) := by
  idx_vars z
  rw [k0_pay6, k0_pay2_eq, slice_rows3, rows6_apply]
  have he : (Rect.unit (s := S256x512) ![0, 384] ![256, 128] inb).emb (ix2 z0 z1) = ix2 z0 ⟨384 + z1.val, by omega⟩ := by
    funext a
    fin_cases a
    · exact Fin.ext (by rw [Rect.emb_apply]; show 0 + 1 * z0.val = z0.val; omega)
    · exact Fin.ext (by rw [Rect.emb_apply]; show 384 + 1 * z1.val = 384 + z1.val; omega)
  rw [he]
  have h0 : unstackRow z0 ⟨384 + z1.val, by omega⟩ = ⟨768 + z0.val, by omega⟩ := Fin.ext (by simp only [unstackRow]; omega)
  have h1 : unstackLane ⟨384 + z1.val, by omega⟩ = z1 := Fin.ext (by simp only [unstackLane]; omega)
  show _ = ∑ κ : Fin 8448, blockD x0 x1 x2 x3 x4 x5 (unstackRow z0 ⟨384 + z1.val, by omega⟩) κ * x1 (ix2 κ (unstackLane ⟨384 + z1.val, by omega⟩))
  rw [h0, h1]

end Rows

set_option maxHeartbeats 4000000 in
/-- Output 6's block after a visit of case A. -/
theorem out0_A_6_eq (c : Dev nD) (i : grid0.Coords) (arg2 : Memref sig .tc .vmem S256x512 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S256x512 .bf16) (harg5 : arg5.IsWhole) (arg6 : Memref sig .tc .vmem S256x512 .f32) (harg6 : arg6.IsWhole) (arg7 : Memref sig .tc .vmem S1024x1 .f32) (harg7 : arg7.IsWhole) (arg8 : Memref sig .tc .vmem S256x512 .f32) (harg8 : arg8.IsWhole) (arg9 : Memref sig .tc .vmem S8448x128 .f32) (harg9 : arg9.IsWhole) (arg10 : Memref sig .tc .vmem S8448x128 .f32) (harg10 : arg10.IsWhole) (hc0 : cond0_0 i)
    (x0 : Vec Ideal S256x512 .bf16) (x1 : Vec Ideal S8448x128 .bf16) (x2 : Vec Ideal S8448x128 .bf16) (x3 : Vec Ideal S256x512 .bf16) (x4 : Vec Ideal S256x512 .f32) (x5 : Vec Ideal S1024x1 .f32) :
    out0_A_6 c i arg2 harg2 arg3 harg3 arg4 harg4 arg5 harg5 arg6 harg6 arg7 harg7 arg8 harg8 arg9 harg9 arg10 harg10 hc0 x0 x1 x2 x3 x4 x5 = step6 x0 x1 x2 x3 x4 x5 := by
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readAt_eq_ld, harg2.read_unread, harg3.read_unread, harg4.read_unread, harg5.read_unread,
    harg6.read_unread, harg7.read_unread, View.ld_unit_zero (S := S256x512) hz,
    View.ld_unit_zero (S := S1024x1) hz, k0_pay2_eq, k0_pay12_eq, k0_pay14_eq, k0_pay15_eq, k0_pay16_eq, k0_pay17_eq, k0_pay20_eq, k0_pay21_eq, k0_pay22_eq, k0_pay23_eq, k0_pay26_eq, k0_pay27_eq, k0_pay28_eq, k0_pay29_eq, k0_pay33_eq, k0_pay34_eq, k0_pay35_eq, k0_pay38_eq, k0_pay39_eq, k0_pay40_eq, k0_pay41_eq, k0_pay42_eq, k0_pay45_eq, k0_pay46_eq, k0_pay47_eq, k0_pay48_eq]
  funext y
  refine View.canon_append_of_piecesOf (step6 x0 x1 x2 x3 x4 x5) [] [_, _, _, _] ⟨piece6_3 x0 x1 x2 x3 x4 x5 inb_S256x512_S256x128_0_384, piece6_2 x0 x1 x2 x3 x4 x5 inb_S256x512_S256x128_0_256, piece6_1 x0 x1 x2 x3 x4 x5 inb_S256x512_S256x128_0_128, piece6_0 x0 x1 x2 x3 x4 x5 inb_S256x512_S256x128_0_0, trivial⟩ y ?_
  exact View.cover_of_tiledL (s := S256x512) _ ![256, 128] (by sl_kernel_rfl) y

set_option maxHeartbeats 4000000 in
/-- Output 6's block after a visit of case B. -/
theorem out0_B_6_eq (c : Dev nD) (i : grid0.Coords) (arg2 : Memref sig .tc .vmem S256x512 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S256x512 .bf16) (harg5 : arg5.IsWhole) (arg6 : Memref sig .tc .vmem S256x512 .f32) (harg6 : arg6.IsWhole) (arg7 : Memref sig .tc .vmem S1024x1 .f32) (harg7 : arg7.IsWhole) (arg8 : Memref sig .tc .vmem S256x512 .f32) (harg8 : arg8.IsWhole) (arg9 : Memref sig .tc .vmem S8448x128 .f32) (harg9 : arg9.IsWhole) (arg10 : Memref sig .tc .vmem S8448x128 .f32) (harg10 : arg10.IsWhole) (hc0 : ¬cond0_0 i)
    (x0 : Vec Ideal S256x512 .bf16) (x1 : Vec Ideal S8448x128 .bf16) (x2 : Vec Ideal S8448x128 .bf16) (x3 : Vec Ideal S256x512 .bf16) (x4 : Vec Ideal S256x512 .f32) (x5 : Vec Ideal S1024x1 .f32) (xo7 : Vec Ideal S8448x128 .f32) (xo8 : Vec Ideal S8448x128 .f32) :
    out0_B_6 c i arg2 harg2 arg3 harg3 arg4 harg4 arg5 harg5 arg6 harg6 arg7 harg7 arg8 harg8 arg9 harg9 arg10 harg10 hc0 x0 x1 x2 x3 x4 x5 xo7 xo8 = step6 x0 x1 x2 x3 x4 x5 := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 x3 x4 x5 xo7 xo8)]
  unfold kernelRun0_B
  dsimp only
  sl_unfold_words
  simp only [View.readAt_eq_ld, harg2.read_unread, harg3.read_unread, harg4.read_unread, harg5.read_unread,
    harg6.read_unread, harg7.read_unread, View.ld_unit_zero (S := S256x512) hz,
    View.ld_unit_zero (S := S1024x1) hz, k0_pay2_eq, k0_pay12_eq, k0_pay14_eq, k0_pay15_eq, k0_pay16_eq, k0_pay17_eq, k0_pay20_eq, k0_pay21_eq, k0_pay22_eq, k0_pay23_eq, k0_pay26_eq, k0_pay27_eq, k0_pay28_eq, k0_pay29_eq, k0_pay33_eq, k0_pay34_eq, k0_pay35_eq, k0_pay38_eq, k0_pay39_eq, k0_pay40_eq, k0_pay41_eq, k0_pay42_eq, k0_pay45_eq, k0_pay46_eq, k0_pay47_eq, k0_pay48_eq]
  funext y
  refine View.canon_append_of_piecesOf (step6 x0 x1 x2 x3 x4 x5) [] [_, _, _, _] ⟨piece6_3 x0 x1 x2 x3 x4 x5 inb_S256x512_S256x128_0_384, piece6_2 x0 x1 x2 x3 x4 x5 inb_S256x512_S256x128_0_256, piece6_1 x0 x1 x2 x3 x4 x5 inb_S256x512_S256x128_0_128, piece6_0 x0 x1 x2 x3 x4 x5 inb_S256x512_S256x128_0_0, trivial⟩ y ?_
  exact View.cover_of_tiledL (s := S256x512) _ ![256, 128] (by sl_kernel_rfl) y

end Cert.KernelIdeal.Val

end
-- ==== Proof.Blocks.lean ====
/- The blocks the attention backward's grid points read, as entries of the arrays the host prepared, and the accumulation of the
   key-side gradients over a head's points. -/
module

public import proofs.«01_k».proof.Proof.BlockRows
public import proofs.«01_k».proof.Proof.Gen.KernelIdeal.Value

@[expose] public section

noncomputable section

open Idealize.ShloMosaic Idealize.ShloMosaic.TcCoe Idealize.SL.Sem
open Idealize.ShloMosaic.Pipeline (Dat)

namespace Cert.KernelIdeal.Val
open Cert.KernelIdeal Cert.KernelIdeal.Gen

variable (m : (ℓ : Loc nD τ sig) → Buf (Elt Ideal) ℓ) (c : Dev nD)

/-- The scaled queries the kernel reads. -/
def arrQ : Vec Ideal S8192x1024 .bf16 := V m c main_v20
/-- The keys the kernel reads. -/
def arrK : Vec Ideal S8448x256 .bf16 := V m c main_v21
/-- The values the kernel reads. -/
def arrV : Vec Ideal S8448x256 .bf16 := V m c main_v22
/-- The output's gradient the kernel reads. -/
def arrDo : Vec Ideal S8192x1024 .bf16 := V m c main_v23
/-- The attention's output the kernel reads. -/
def arrO : Vec Ideal S8192x1024 .f32 := V m c main_v29
/-- The logarithms of the softmax sums the kernel reads, in its order of rows. -/
def arrLse : Vec Ideal S65536x1 .f32 := V m c main_v17

theorem idx0 : ∀ t : Fin cfg0.N, win0_0.index t 0 = t.val % 32 ∧ win0_0.index t 1 = t.val / 32 :=
  (by decide +kernel : ∀ t : Fin grid0.N, win0_0.index t 0 = t.val % 32 ∧ win0_0.index t 1 = t.val / 32)
theorem idx1 : ∀ t : Fin cfg0.N, win0_1.index t 0 = 0 ∧ win0_1.index t 1 = t.val / 32 :=
  (by decide +kernel : ∀ t : Fin grid0.N, win0_1.index t 0 = 0 ∧ win0_1.index t 1 = t.val / 32)
theorem idx2 : ∀ t : Fin cfg0.N, win0_2.index t 0 = 0 ∧ win0_2.index t 1 = t.val / 32 :=
  (by decide +kernel : ∀ t : Fin grid0.N, win0_2.index t 0 = 0 ∧ win0_2.index t 1 = t.val / 32)
theorem idx3 : ∀ t : Fin cfg0.N, win0_3.index t 0 = t.val % 32 ∧ win0_3.index t 1 = t.val / 32 :=
  (by decide +kernel : ∀ t : Fin grid0.N, win0_3.index t 0 = t.val % 32 ∧ win0_3.index t 1 = t.val / 32)
theorem idx4 : ∀ t : Fin cfg0.N, win0_4.index t 0 = t.val % 32 ∧ win0_4.index t 1 = t.val / 32 :=
  (by decide +kernel : ∀ t : Fin grid0.N, win0_4.index t 0 = t.val % 32 ∧ win0_4.index t 1 = t.val / 32)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val % 32 ∧ win0_6.index t 1 = t.val / 32 :=
  (by decide +kernel : ∀ t : Fin grid0.N, win0_6.index t 0 = t.val % 32 ∧ win0_6.index t 1 = t.val / 32)
theorem idx7 : ∀ t : Fin cfg0.N, win0_7.index t 0 = 0 ∧ win0_7.index t 1 = t.val / 32 :=
  (by decide +kernel : ∀ t : Fin grid0.N, win0_7.index t 0 = 0 ∧ win0_7.index t 1 = t.val / 32)
theorem idx8 : ∀ t : Fin cfg0.N, win0_8.index t 0 = 0 ∧ win0_8.index t 1 = t.val / 32 :=
  (by decide +kernel : ∀ t : Fin grid0.N, win0_8.index t 0 = 0 ∧ win0_8.index t 1 = t.val / 32)

theorem lt64 (t : Fin cfg0.N) : t.val < 64 := t.isLt

/-- The array row of row `r` of point `t`'s query-side blocks. -/
def rowOf (t : Fin cfg0.N) (r : Fin 256) : Fin 8192 := ⟨t.val % 32 * 256 + r.val, by omega⟩
/-- The array column of column `j` of point `t`'s query-side blocks. -/
def colOf (t : Fin cfg0.N) (j : Fin 512) : Fin 1024 := ⟨t.val / 32 * 512 + j.val, by have := lt64 t; omega⟩
/-- The array column of lane `d` of point `t`'s key-side blocks. -/
def laneOf (t : Fin cfg0.N) (d : Fin 128) : Fin 256 := ⟨t.val / 32 * 128 + d.val, by have := lt64 t; omega⟩
/-- The row of the softmax logarithms that stacked row `ρ` of point `t` reads. -/
def lseOf (t : Fin cfg0.N) (ρ : Fin 1024) : Fin 65536 := ⟨t.val * 1024 + ρ.val, by have := lt64 t; omega⟩

theorem read0_apply (W : (b : Ref sig .tc) → Buf (Elt Ideal) ((c : Thread nD τ).loc b)) (t : Fin cfg0.N) (r : Fin 256) (j : Fin 512) :
    (((cfg0.win 0).blk t).view.read (Elt Ideal) (W (Pipeline.arrRef spec0 0)) : Vec Ideal S256x512 .bf16) (ix2 r j)
      = (W main_v20 : Vec Ideal S8192x1024 .bf16) (ix2 (rowOf t r) (colOf t j)) := by
  rw [View.read_apply]
  show W main_v20 _ = W main_v20 _
  refine congrArg (W main_v20) (funext fun a => Fin.ext ?_)
  match a with
  | ⟨0, _⟩ => show win0_0.index t 0 * 256 + 1 * r.val = t.val % 32 * 256 + r.val; rw [(idx0 t).1]; omega
  | ⟨1, _⟩ => show win0_0.index t 1 * 512 + 1 * j.val = t.val / 32 * 512 + j.val; rw [(idx0 t).2]; omega

theorem iblk0_apply (t : Fin cfg0.N) (r : Fin 256) (j : Fin 512) :
    (iblk m c 0 t : Vec Ideal S256x512 .bf16) (ix2 r j) = arrQ m c (ix2 (rowOf t r) (colOf t j)) :=
  read0_apply c (V m c) t r j

theorem read3_apply (W : (b : Ref sig .tc) → Buf (Elt Ideal) ((c : Thread nD τ).loc b)) (t : Fin cfg0.N) (r : Fin 256) (j : Fin 512) :
    (((cfg0.win 3).blk t).view.read (Elt Ideal) (W (Pipeline.arrRef spec0 3)) : Vec Ideal S256x512 .bf16) (ix2 r j)
      = (W main_v23 : Vec Ideal S8192x1024 .bf16) (ix2 (rowOf t r) (colOf t j)) := by
  rw [View.read_apply]
  show W main_v23 _ = W main_v23 _
  refine congrArg (W main_v23) (funext fun a => Fin.ext ?_)
  match a with
  | ⟨0, _⟩ => show win0_3.index t 0 * 256 + 1 * r.val = t.val % 32 * 256 + r.val; rw [(idx3 t).1]; omega
  | ⟨1, _⟩ => show win0_3.index t 1 * 512 + 1 * j.val = t.val / 32 * 512 + j.val; rw [(idx3 t).2]; omega

theorem iblk3_apply (t : Fin cfg0.N) (r : Fin 256) (j : Fin 512) :
    (iblk m c 3 t : Vec Ideal S256x512 .bf16) (ix2 r j) = arrDo m c (ix2 (rowOf t r) (colOf t j)) :=
  read3_apply c (V m c) t r j

theorem read4_apply (W : (b : Ref sig .tc) → Buf (Elt Ideal) ((c : Thread nD τ).loc b)) (t : Fin cfg0.N) (r : Fin 256) (j : Fin 512) :
    (((cfg0.win 4).blk t).view.read (Elt Ideal) (W (Pipeline.arrRef spec0 4)) : Vec Ideal S256x512 .f32) (ix2 r j)
      = (W main_v29 : Vec Ideal S8192x1024 .f32) (ix2 (rowOf t r) (colOf t j)) := by
  rw [View.read_apply]
  show W main_v29 _ = W main_v29 _
  refine congrArg (W main_v29) (funext fun a => Fin.ext ?_)
  match a with
  | ⟨0, _⟩ => show win0_4.index t 0 * 256 + 1 * r.val = t.val % 32 * 256 + r.val; rw [(idx4 t).1]; omega
  | ⟨1, _⟩ => show win0_4.index t 1 * 512 + 1 * j.val = t.val / 32 * 512 + j.val; rw [(idx4 t).2]; omega

theorem iblk4_apply (t : Fin cfg0.N) (r : Fin 256) (j : Fin 512) :
    (iblk m c 4 t : Vec Ideal S256x512 .f32) (ix2 r j) = arrO m c (ix2 (rowOf t r) (colOf t j)) :=
  read4_apply c (V m c) t r j

theorem read1_apply (W : (b : Ref sig .tc) → Buf (Elt Ideal) ((c : Thread nD τ).loc b)) (t : Fin cfg0.N) (r : Fin 8448) (j : Fin 128) :
    (((cfg0.win 1).blk t).view.read (Elt Ideal) (W (Pipeline.arrRef spec0 1)) : Vec Ideal S8448x128 .bf16) (ix2 r j)
      = (W main_v21 : Vec Ideal S8448x256 .bf16) (ix2 (r) (laneOf t j)) := by
  rw [View.read_apply]
  show W main_v21 _ = W main_v21 _
  refine congrArg (W main_v21) (funext fun a => Fin.ext ?_)
  match a with
  | ⟨0, _⟩ => show win0_1.index t 0 * 8448 + 1 * r.val = r.val; rw [(idx1 t).1]; omega
  | ⟨1, _⟩ => show win0_1.index t 1 * 128 + 1 * j.val = t.val / 32 * 128 + j.val; rw [(idx1 t).2]; omega

theorem iblk1_apply (t : Fin cfg0.N) (r : Fin 8448) (j : Fin 128) :
    (iblk m c 1 t : Vec Ideal S8448x128 .bf16) (ix2 r j) = arrK m c (ix2 (r) (laneOf t j)) :=
  read1_apply c (V m c) t r j

theorem read2_apply (W : (b : Ref sig .tc) → Buf (Elt Ideal) ((c : Thread nD τ).loc b)) (t : Fin cfg0.N) (r : Fin 8448) (j : Fin 128) :
    (((cfg0.win 2).blk t).view.read (Elt Ideal) (W (Pipeline.arrRef spec0 2)) : Vec Ideal S8448x128 .bf16) (ix2 r j)
      = (W main_v22 : Vec Ideal S8448x256 .bf16) (ix2 (r) (laneOf t j)) := by
  rw [View.read_apply]
  show W main_v22 _ = W main_v22 _
  refine congrArg (W main_v22) (funext fun a => Fin.ext ?_)
  match a with
  | ⟨0, _⟩ => show win0_2.index t 0 * 8448 + 1 * r.val = r.val; rw [(idx2 t).1]; omega
  | ⟨1, _⟩ => show win0_2.index t 1 * 128 + 1 * j.val = t.val / 32 * 128 + j.val; rw [(idx2 t).2]; omega

theorem iblk2_apply (t : Fin cfg0.N) (r : Fin 8448) (j : Fin 128) :
    (iblk m c 2 t : Vec Ideal S8448x128 .bf16) (ix2 r j) = arrV m c (ix2 (r) (laneOf t j)) :=
  read2_apply c (V m c) t r j

theorem read5_apply (W : (b : Ref sig .tc) → Buf (Elt Ideal) ((c : Thread nD τ).loc b)) (t : Fin cfg0.N) (r : Fin 1024) (j : Fin 1) :
    (((cfg0.win 5).blk t).view.read (Elt Ideal) (W (Pipeline.arrRef spec0 5)) : Vec Ideal S1024x1 .f32) (ix2 r j)
      = (W main_v17 : Vec Ideal S65536x1 .f32) (ix2 (lseOf t r) (j)) := by
  rw [View.read_apply]
  show W main_v17 _ = W main_v17 _
  refine congrArg (W main_v17) (funext fun a => Fin.ext ?_)
  match a with
  | ⟨0, _⟩ => show win0_5.index t 0 * 1024 + 1 * r.val = t.val * 1024 + r.val; rw [(idx5 t).1]; omega
  | ⟨1, _⟩ => show win0_5.index t 1 * 1 + 1 * j.val = j.val; rw [(idx5 t).2]; omega

theorem iblk5_apply (t : Fin cfg0.N) (r : Fin 1024) (j : Fin 1) :
    (iblk m c 5 t : Vec Ideal S1024x1 .f32) (ix2 r j) = arrLse m c (ix2 (lseOf t r) (j)) :=
  read5_apply c (V m c) t r j

/-- Point `t`'s softmax weights over its blocks. -/
def pointP (t : Fin cfg0.N) (ρ : Fin 1024) (κ : Fin 8448) : EReal :=
  blockP (iblk m c 0 t : Vec Ideal S256x512 .bf16) (iblk m c 1 t : Vec Ideal S8448x128 .bf16) (iblk m c 5 t : Vec Ideal S1024x1 .f32) ρ κ

/-- Point `t`'s gradients of the scores over its blocks. -/
def pointD (t : Fin cfg0.N) (ρ : Fin 1024) (κ : Fin 8448) : EReal :=
  blockD (iblk m c 0 t : Vec Ideal S256x512 .bf16) (iblk m c 1 t : Vec Ideal S8448x128 .bf16) (iblk m c 2 t : Vec Ideal S8448x128 .bf16)
    (iblk m c 3 t : Vec Ideal S256x512 .bf16) (iblk m c 4 t : Vec Ideal S256x512 .f32) (iblk m c 5 t : Vec Ideal S1024x1 .f32) ρ κ

/-- What point `t` adds to the keys' gradient, at key `κ` and lane `d`. -/
def add7 (t : Fin cfg0.N) (κ : Fin 8448) (d : Fin 128) : EReal :=
  ∑ ρ : Fin 1024, pointD m c t ρ κ * arrQ m c (ix2 (rowOf t (stackRow ρ)) (colOf t (stackCol ρ d)))

/-- What point `t` adds to the values' gradient. -/
def add8 (t : Fin cfg0.N) (κ : Fin 8448) (d : Fin 128) : EReal :=
  ∑ ρ : Fin 1024, pointP m c t ρ κ * arrDo m c (ix2 (rowOf t (stackRow ρ)) (colOf t (stackCol ρ d)))

/-- A point by its head and its place within the head's points. -/
def pt (h : Fin 2) (i : Fin 32) : Fin cfg0.N := ⟨h.val * 32 + i.val, by show _ < 64; omega⟩

/-- The sum over the first `n + 1` points of head `h`. -/
def upTo (f : Fin cfg0.N → EReal) (h : Fin 2) (n : ℕ) : EReal := ∑ i ∈ Finset.range (n + 1), if hi : i < 32 then f (pt h ⟨i, hi⟩) else 0

theorem step7_apply (t : Fin cfg0.N) (old : Vec Ideal S8448x128 .f32) (κ : Fin 8448) (d : Fin 128) :
    step7 (iblk m c 0 t : Vec Ideal S256x512 .bf16) (iblk m c 1 t : Vec Ideal S8448x128 .bf16) (iblk m c 2 t : Vec Ideal S8448x128 .bf16)
      (iblk m c 3 t : Vec Ideal S256x512 .bf16) (iblk m c 4 t : Vec Ideal S256x512 .f32) (iblk m c 5 t : Vec Ideal S1024x1 .f32) old (ix2 κ d)
      = old (ix2 κ d) + add7 m c t κ d := by
  refine congrArg (old (ix2 κ d) + ·) (Finset.sum_congr rfl fun ρ _ => ?_)
  exact congrArg (pointD m c t ρ κ * ·) (iblk0_apply m c t _ _)

theorem step8_apply (t : Fin cfg0.N) (old : Vec Ideal S8448x128 .f32) (κ : Fin 8448) (d : Fin 128) :
    step8 (iblk m c 0 t : Vec Ideal S256x512 .bf16) (iblk m c 1 t : Vec Ideal S8448x128 .bf16)
      (iblk m c 3 t : Vec Ideal S256x512 .bf16) (iblk m c 5 t : Vec Ideal S1024x1 .f32) old (ix2 κ d)
      = old (ix2 κ d) + add8 m c t κ d := by
  refine congrArg (old (ix2 κ d) + ·) (Finset.sum_congr rfl fun ρ _ => ?_)
  exact congrArg (pointP m c t ρ κ * ·) (iblk3_apply m c t _ _)

theorem zero7 (y : S8448x128.Idx) : k0_pay7 (F := Ideal) y = 0 := by pointwise [k0_pay7]
theorem zero8 (y : S8448x128.Idx) : k0_pay8 (F := Ideal) y = 0 := by pointwise [k0_pay8]

theorem upTo_zero (f : Fin cfg0.N → EReal) (t : Fin cfg0.N) (h : Fin 2) (ht : t.val = h.val * 32) : upTo f h 0 = f t := by
  rw [upTo, Finset.sum_range_one, dif_pos (by omega)]
  exact congrArg f (Fin.ext (by simp only [pt]; omega))

theorem upTo_succ (f : Fin cfg0.N → EReal) (t : Fin cfg0.N) (h : Fin 2) (n : ℕ) (ht : t.val = h.val * 32 + (n + 1)) (hn : n + 1 < 32) :
    upTo f h (n + 1) = upTo f h n + f t := by
  rw [upTo, Finset.sum_range_succ, dif_pos hn]
  exact congrArg (upTo f h n + ·) (congrArg f (Fin.ext (by simp only [pt]; omega)))

/-- After the `n`-th point of head `h`, the key-side buffers hold the head's sums so far. -/
theorem outsAt_eq (h : Fin 2) (κ : Fin 8448) (d : Fin 128) : ∀ (n : ℕ) (hn : n < 32) (t : Fin cfg0.N) (_ : t.val = h.val * 32 + n),
    (outsAt0 m c t.val t.isLt).2.1 (ix2 κ d) = upTo (fun t => add7 m c t κ d) h n
    ∧ (outsAt0 m c t.val t.isLt).2.2 (ix2 κ d) = upTo (fun t => add8 m c t κ d) h n
  | 0, _, t, ht => by
    rw [outsAt0_A m c t (by omega)]
    dsimp only
    rw [out0_A_7_eq, out0_A_8_eq, upTo_zero _ t h ht, upTo_zero _ t h ht]
    constructor
    · exact (step7_apply m c t _ κ d).trans (by rw [zero7, zero_add])
    · exact (step8_apply m c t _ κ d).trans (by rw [zero8, zero_add])
  | n + 1, hn, t, ht => by
    have ih := outsAt_eq h κ d n (by omega) ⟨t.val - 1, Nat.lt_of_le_of_lt (Nat.sub_le _ _) t.isLt⟩ (by simp only; omega)
    rw [outsAt0_B m c t (by omega)]
    dsimp only at ih ⊢
    rw [out0_B_7_eq, out0_B_8_eq, upTo_succ _ t h n ht hn, upTo_succ _ t h n ht hn, ← ih.1, ← ih.2]
    exact ⟨step7_apply m c t _ κ d, step8_apply m c t _ κ d⟩

/-- The queries' gradient block after point `t`. -/
theorem outsAt6_eq (t : Fin cfg0.N) (r : Fin 256) (j : Fin 512) :
    (outsAt0 m c t.val t.isLt).1 (ix2 r j)
      = ∑ κ : Fin 8448, pointD m c t (unstackRow r j) κ * arrK m c (ix2 κ (laneOf t (unstackLane j))) := by
  have e : ∀ X : Vec Ideal S256x512 .f32, X = step6 (iblk m c 0 t : Vec Ideal S256x512 .bf16) (iblk m c 1 t : Vec Ideal S8448x128 .bf16) (iblk m c 2 t : Vec Ideal S8448x128 .bf16)
      (iblk m c 3 t : Vec Ideal S256x512 .bf16) (iblk m c 4 t : Vec Ideal S256x512 .f32) (iblk m c 5 t : Vec Ideal S1024x1 .f32) →
      X (ix2 r j) = ∑ κ : Fin 8448, pointD m c t (unstackRow r j) κ * arrK m c (ix2 κ (laneOf t (unstackLane j))) := fun X hX => by
    rw [hX]
    exact Finset.sum_congr rfl fun κ _ => congrArg (pointD m c t (unstackRow r j) κ * ·) (iblk1_apply m c t _ _)
  by_cases h0 : t.val % 32 = 0
  · refine e _ ?_
    rw [outsAt0_A m c t h0]
    dsimp only
    rw [out0_A_6_eq]
  · refine e _ ?_
    rw [outsAt0_B m c t h0]
    dsimp only
    rw [out0_B_6_eq]

end Cert.KernelIdeal.Val

end
-- ==== Proof.Arrays.lean ====
/- What the attention backward's three result arrays hold, in terms of the whole arrays the kernel is given. -/
module

public import proofs.«01_k».proof.Proof.Blocks
public import Idealize.ShloMosaic.Lib.Pipeline.ValueKit.Geometry
public import Idealize.ShloMosaic.Lib.Pipeline.ValueKit.Acc

@[expose] public section

noncomputable section

open Idealize.ShloMosaic Idealize.ShloMosaic.TcCoe Idealize.SL.Sem
open Idealize.ShloMosaic.Pipeline (Dat)

namespace Cert.KernelIdeal.Val
open Cert.KernelIdeal Cert.KernelIdeal.Gen

/-- The query-side column of lane `d` of head `g` of key head `h`'s group. -/
def qcol (h : Fin 2) (g : Fin 4) (d : Fin 128) : Fin 1024 := ⟨h.val * 512 + g.val * 128 + d.val, by omega⟩
/-- The key-side column of lane `d` of key head `h`. -/
def kcol (h : Fin 2) (d : Fin 128) : Fin 256 := ⟨h.val * 128 + d.val, by omega⟩
/-- The row of the logarithms' array that belongs to query `n` of head `g` of group `h`. -/
def lrow (h : Fin 2) (g : Fin 4) (n : Fin 8192) : Fin 65536 := ⟨(h.val * 32 + n.val / 256) * 1024 + g.val * 256 + n.val % 256, by omega⟩

section
variable (q : Vec Ideal S8192x1024 .bf16) (k v : Vec Ideal S8448x256 .bf16) (dO : Vec Ideal S8192x1024 .bf16)
  (o : Vec Ideal S8192x1024 .f32) (l : Vec Ideal S65536x1 .f32)

/-- The softmax weight of query `n` of head `g` of group `h` and key `κ`. -/
def softP (h : Fin 2) (g : Fin 4) (n : Fin 8192) (κ : Fin 8448) : EReal :=
  Ideal.exp ((∑ d : Fin 128, q (ix2 n (qcol h g d)) * k (ix2 κ (kcol h d))) - l (ix2 (lrow h g n) 0))

/-- The gradient of the score of query `n` of head `g` of group `h` and key `κ`. -/
def softD (h : Fin 2) (g : Fin 4) (n : Fin 8192) (κ : Fin 8448) : EReal :=
  softP q k l h g n κ * ((∑ d : Fin 128, dO (ix2 n (qcol h g d)) * v (ix2 κ (kcol h d)))
    - ∑ d : Fin 128, dO (ix2 n (qcol h g d)) * o (ix2 n (qcol h g d)))

/-- The gradient of the scaled queries. -/
def gradQ : Vec Ideal S8192x1024 .f32 := fun x =>
  ∑ κ : Fin 8448, softD q k v dO o l ⟨(x 1).val / 512, by have := (x 1).isLt; simp at this; omega⟩ ⟨(x 1).val / 128 % 4, by omega⟩ (x 0) κ
    * k (ix2 κ (kcol ⟨(x 1).val / 512, by have := (x 1).isLt; simp at this; omega⟩ ⟨(x 1).val % 128, by omega⟩))

/-- The gradient of the keys. -/
def gradK : Vec Ideal S8448x256 .f32 := fun x =>
  ∑ g : Fin 4, ∑ n : Fin 8192, softD q k v dO o l ⟨(x 1).val / 128, by have := (x 1).isLt; simp at this; omega⟩ g n (x 0)
    * q (ix2 n (qcol ⟨(x 1).val / 128, by have := (x 1).isLt; simp at this; omega⟩ g ⟨(x 1).val % 128, by omega⟩))

/-- The gradient of the values. -/
def gradV : Vec Ideal S8448x256 .f32 := fun x =>
  ∑ g : Fin 4, ∑ n : Fin 8192, softP q k l ⟨(x 1).val / 128, by have := (x 1).isLt; simp at this; omega⟩ g n (x 0)
    * dO (ix2 n (qcol ⟨(x 1).val / 128, by have := (x 1).isLt; simp at this; omega⟩ g ⟨(x 1).val % 128, by omega⟩))
end

/-- Points of a head and stacked rows of a point are the heads of the group and the queries. -/
theorem sum_stacked (F : Fin 4 → Fin 8192 → EReal) :
    ∑ i : Fin 32, ∑ ρ : Fin 1024, F ⟨ρ.val / 256, by omega⟩ ⟨i.val * 256 + ρ.val % 256, by omega⟩ = ∑ g : Fin 4, ∑ n : Fin 8192, F g n := by
  have e1 : ∀ i : Fin 32, ∑ ρ : Fin 1024, F ⟨ρ.val / 256, by omega⟩ ⟨i.val * 256 + ρ.val % 256, by omega⟩
      = ∑ g : Fin 4, ∑ r : Fin 256, F g ⟨i.val * 256 + r.val, by omega⟩ := fun i => by
    rw [← Fintype.sum_prod_type']
    refine (Fintype.sum_equiv (finProdFinEquiv : Fin 4 × Fin 256 ≃ Fin (4 * 256)) _ _ fun p => ?_).symm
    obtain ⟨g, r⟩ := p
    refine congrArg₂ F (Fin.ext ?_) (Fin.ext ?_)
    · show g.val = (r.val + 256 * g.val) / 256
      omega
    · show i.val * 256 + r.val = i.val * 256 + (r.val + 256 * g.val) % 256
      omega
  rw [Finset.sum_congr rfl fun i _ => e1 i, Finset.sum_comm]
  refine Finset.sum_congr rfl fun g _ => ?_
  rw [← Fintype.sum_prod_type']
  refine Fintype.sum_equiv (finProdFinEquiv : Fin 32 × Fin 256 ≃ Fin (32 * 256)) _ _ fun p => ?_
  obtain ⟨i, r⟩ := p
  refine congrArg (F g) (Fin.ext ?_)
  show i.val * 256 + r.val = r.val + 256 * i.val
  omega

theorem upTo_all (f : Fin cfg0.N → EReal) (h : Fin 2) : upTo f h 31 = ∑ i : Fin 32, f (pt h i) := by
  rw [upTo, Finset.sum_range]
  exact Finset.sum_congr rfl fun i _ => dif_pos i.isLt

variable (m : (ℓ : Loc nD τ sig) → Buf (Elt Ideal) ℓ) (c : Dev nD)

theorem pointP_eq (h : Fin 2) (i : Fin 32) (ρ : Fin 1024) (κ : Fin 8448) :
    pointP m c (pt h i) ρ κ = softP (arrQ m c) (arrK m c) (arrLse m c) h ⟨ρ.val / 256, by omega⟩ ⟨i.val * 256 + ρ.val % 256, by omega⟩ κ := by
  have hp : (pt h i).val = h.val * 32 + i.val := rfl
  unfold pointP blockP softP
  simp only [iblk0_apply, iblk1_apply, iblk5_apply]
  refine congrArg Ideal.exp (congrArg₂ (· - ·) (Finset.sum_congr rfl fun d _ => congrArg₂ (· * ·)
    (congrArg₂ (fun a b => arrQ m c (ix2 a b)) (Fin.ext ?_) (Fin.ext ?_)) (congrArg (fun b => arrK m c (ix2 κ b)) (Fin.ext ?_)))
    (congrArg (fun a => arrLse m c (ix2 a 0)) (Fin.ext ?_)))
  all_goals simp only [rowOf, colOf, laneOf, lseOf, stackRow, stackCol, qcol, kcol, lrow, hp]; omega

theorem pointD_eq (h : Fin 2) (i : Fin 32) (ρ : Fin 1024) (κ : Fin 8448) :
    pointD m c (pt h i) ρ κ = softD (arrQ m c) (arrK m c) (arrV m c) (arrDo m c) (arrO m c) (arrLse m c) h ⟨ρ.val / 256, by omega⟩
      ⟨i.val * 256 + ρ.val % 256, by omega⟩ κ := by
  have hp : (pt h i).val = h.val * 32 + i.val := rfl
  unfold pointD blockD softD
  refine congrArg₂ (· * ·) (pointP_eq m c h i ρ κ) ?_
  simp only [iblk2_apply, iblk3_apply, iblk4_apply]
  refine congrArg₂ (· - ·) (Finset.sum_congr rfl fun d _ => congrArg₂ (· * ·)
    (congrArg₂ (fun a b => arrDo m c (ix2 a b)) (Fin.ext ?_) (Fin.ext ?_)) (congrArg (fun b => arrV m c (ix2 κ b)) (Fin.ext ?_)))
    (Finset.sum_congr rfl fun d _ => congrArg₂ (· * ·) (congrArg₂ (fun a b => arrDo m c (ix2 a b)) (Fin.ext ?_) (Fin.ext ?_))
    (congrArg₂ (fun a b => arrO m c (ix2 a b)) (Fin.ext ?_) (Fin.ext ?_)))
  all_goals simp only [rowOf, colOf, laneOf, lseOf, stackRow, stackCol, qcol, kcol, lrow, hp]; omega

/-- The head and place of a point. -/
theorem pt_of (t : Fin cfg0.N) : t = pt ⟨t.val / 32, by have := lt64 t; omega⟩ ⟨t.val % 32, by omega⟩ := Fin.ext (by simp only [pt]; omega)

theorem emb6 (t : Fin cfg0.N) (y : S256x512.Idx) :
    ((((cfg0.win 6).blk t).view.emb y : S8192x1024.Idx) 0).val = t.val % 32 * 256 + (y 0).val
    ∧ ((((cfg0.win 6).blk t).view.emb y : S8192x1024.Idx) 1).val = t.val / 32 * 512 + (y 1).val := by
  constructor
  · show win0_6.index t 0 * 256 + 1 * (y 0).val = _; rw [(idx6 t).1]; omega
  · show win0_6.index t 1 * 512 + 1 * (y 1).val = _; rw [(idx6 t).2]; omega

theorem emb7 (t : Fin cfg0.N) (y : S8448x128.Idx) :
    ((((cfg0.win 7).blk t).view.emb y : S8448x256.Idx) 0).val = (y 0).val
    ∧ ((((cfg0.win 7).blk t).view.emb y : S8448x256.Idx) 1).val = t.val / 32 * 128 + (y 1).val := by
  constructor
  · show win0_7.index t 0 * 8448 + 1 * (y 0).val = _; rw [(idx7 t).1]; omega
  · show win0_7.index t 1 * 128 + 1 * (y 1).val = _; rw [(idx7 t).2]; omega

theorem emb8 (t : Fin cfg0.N) (y : S8448x128.Idx) :
    ((((cfg0.win 8).blk t).view.emb y : S8448x256.Idx) 0).val = (y 0).val
    ∧ ((((cfg0.win 8).blk t).view.emb y : S8448x256.Idx) 1).val = t.val / 32 * 128 + (y 1).val := by
  constructor
  · show win0_8.index t 0 * 8448 + 1 * (y 0).val = _; rw [(idx8 t).1]; omega
  · show win0_8.index t 1 * 128 + 1 * (y 1).val = _; rw [(idx8 t).2]; omega

/-- A point's block of the queries' gradient is that block of the whole gradient. -/
theorem outs6 (t : Fin cfg0.N) (y : S256x512.Idx) (x : S8192x1024.Idx) (h0 : (x 0).val = t.val % 32 * 256 + (y 0).val)
    (h1 : (x 1).val = t.val / 32 * 512 + (y 1).val) :
    (outsAt0 m c t.val t.isLt).1 y = gradQ (arrQ m c) (arrK m c) (arrV m c) (arrDo m c) (arrO m c) (arrLse m c) x := by
  have hy : y = ix2 (n0 := 256) (n1 := 512) (y 0) (y 1) := funext fun a => by match a with | ⟨0, _⟩ => rfl | ⟨1, _⟩ => rfl
  have b0 : (y 0).val < 256 := (y 0).isLt
  have b1 : (y 1).val < 512 := (y 1).isLt
  have bt := lt64 t
  rw [hy]
  refine (outsAt6_eq m c t (y 0) (y 1)).trans ?_
  unfold gradQ
  refine Finset.sum_congr rfl fun κ _ => congrArg₂ (· * ·) ?_ (congrArg (fun b => arrK m c (ix2 κ b)) (Fin.ext ?_))
  · rw [congrArg (fun s => pointD m c s (unstackRow (y 0) (y 1)) κ) (pt_of t), pointD_eq]
    refine congrArg (· κ) (congr (congrArg₂ (softD _ _ _ _ _ _) (Fin.ext ?_) (Fin.ext ?_)) (Fin.ext ?_))
    all_goals simp only [unstackRow]; omega
  · simp only [laneOf, unstackLane, kcol]; omega

/-- After the last point of a head, the buffer holds that head's part of the whole gradient of the keys. -/
theorem outs7 (t : Fin cfg0.N) (ht : t.val % 32 = 31) (y : S8448x128.Idx) (x : S8448x256.Idx) (h0 : (x 0).val = (y 0).val)
    (h1 : (x 1).val = t.val / 32 * 128 + (y 1).val) :
    (outsAt0 m c t.val t.isLt).2.1 y = gradK (arrQ m c) (arrK m c) (arrV m c) (arrDo m c) (arrO m c) (arrLse m c) x := by
  have hy : y = ix2 (n0 := 8448) (n1 := 128) (y 0) (y 1) := funext fun a => by match a with | ⟨0, _⟩ => rfl | ⟨1, _⟩ => rfl
  have b1 : (y 1).val < 128 := (y 1).isLt
  have bt := lt64 t
  have hx0 : x 0 = y 0 := Fin.ext h0
  have hh : (⟨(x 1).val / 128, by omega⟩ : Fin 2) = ⟨t.val / 32, by omega⟩ := Fin.ext (by simp only; omega)
  have hd : (⟨(x 1).val % 128, by omega⟩ : Fin 128) = y 1 := Fin.ext (by simp only; omega)
  rw [hy, ((outsAt_eq m c ⟨t.val / 32, by omega⟩ (y 0) (y 1) 31 (by omega) t (by simp only; omega)).1), upTo_all]
  unfold gradK
  rw [hx0, hh, hd, ← sum_stacked]
  refine Finset.sum_congr rfl fun i _ => Finset.sum_congr rfl fun ρ _ => congrArg₂ (· * ·) (pointD_eq m c _ i ρ _)
    (congrArg₂ (fun a b => arrQ m c (ix2 a b)) (Fin.ext ?_) (Fin.ext ?_))
  all_goals simp only [rowOf, colOf, stackRow, stackCol, qcol, pt]; omega

/-- After the last point of a head, the buffer holds that head's part of the whole gradient of the values. -/
theorem outs8 (t : Fin cfg0.N) (ht : t.val % 32 = 31) (y : S8448x128.Idx) (x : S8448x256.Idx) (h0 : (x 0).val = (y 0).val)
    (h1 : (x 1).val = t.val / 32 * 128 + (y 1).val) :
    (outsAt0 m c t.val t.isLt).2.2 y = gradV (arrQ m c) (arrK m c) (arrDo m c) (arrLse m c) x := by
  have hy : y = ix2 (n0 := 8448) (n1 := 128) (y 0) (y 1) := funext fun a => by match a with | ⟨0, _⟩ => rfl | ⟨1, _⟩ => rfl
  have b1 : (y 1).val < 128 := (y 1).isLt
  have bt := lt64 t
  have hx0 : x 0 = y 0 := Fin.ext h0
  have hh : (⟨(x 1).val / 128, by omega⟩ : Fin 2) = ⟨t.val / 32, by omega⟩ := Fin.ext (by simp only; omega)
  have hd : (⟨(x 1).val % 128, by omega⟩ : Fin 128) = y 1 := Fin.ext (by simp only; omega)
  rw [hy, ((outsAt_eq m c ⟨t.val / 32, by omega⟩ (y 0) (y 1) 31 (by omega) t (by simp only; omega)).2), upTo_all]
  unfold gradV
  rw [hx0, hh, hd, ← sum_stacked]
  refine Finset.sum_congr rfl fun i _ => Finset.sum_congr rfl fun ρ _ => congrArg₂ (· * ·) (pointP_eq m c _ i ρ _)
    (congrArg₂ (fun a b => arrDo m c (ix2 a b)) (Fin.ext ?_) (Fin.ext ?_))
  all_goals simp only [rowOf, colOf, stackRow, stackCol, qcol, pt]; omega

theorem final6 : (dats m 0 c).arrAt 6 cfg0.N = gradQ (arrQ m c) (arrK m c) (arrV m c) (arrDo m c) (arrO m c) (arrLse m c) := by
  refine (dats m 0 c).arrAt_eq_of_covers 6 _ (by decide +kernel) fun t hf y => ?_
  rw [after0_6]
  exact outs6 m c t y _ (emb6 t y).1 (emb6 t y).2

theorem final7 : (dats m 0 c).arrAt 7 cfg0.N = gradK (arrQ m c) (arrK m c) (arrV m c) (arrDo m c) (arrO m c) (arrLse m c) := by
  refine (dats m 0 c).arrAt_eq_of_covers 7 _ (by decide +kernel) fun t hf y => ?_
  rw [after0_7]
  exact outs7 m c t ((flush0_7 t).mp hf) y _ (emb7 t y).1 (emb7 t y).2

theorem final8 : (dats m 0 c).arrAt 8 cfg0.N = gradV (arrQ m c) (arrK m c) (arrDo m c) (arrLse m c) := by
  refine (dats m 0 c).arrAt_eq_of_covers 8 _ (by decide +kernel) fun t hf y => ?_
  rw [after0_8]
  exact outs8 m c t ((flush0_8 t).mp hf) y _ (emb8 t y).1 (emb8 t y).2

end Cert.KernelIdeal.Val

end
-- ==== Proof.Host.lean ====
/- What the host prepares for the attention backward: the scaled queries, the softmax's logarithms and the attention's output. -/
module

public import proofs.«01_k».proof.Proof.Arrays
public import Idealize.ShloMosaic.Lib.Tactic.CleanTypes

@[expose] public section

noncomputable section

open Idealize.ShloMosaic Idealize.ShloMosaic.TcCoe Idealize.SL.Sem

namespace Cert.KernelIdeal.Val
open Cert.KernelIdeal Cert.KernelIdeal.Gen

/-- The scaled scores. -/
def stS (q : FVec Ideal S8192x1024 .f32) (k : FVec Ideal S8448x256 .f32) : FVec Ideal S1x2x4x8192x8448 .f32 :=
  mulf (transpose S1x2x4x8192x8448 [0, 1, 4, 3, 2] (Host.dotGeneral dot_S1x8448x2x128_S1x8192x2x4x128_S1x2x8448x8192x4_3_4_1_13_02_02 none
    (shapeCast _ k shapeCasts_S8448x256_S1x8448x2x128 : FVec Ideal S1x8448x2x128 .f32) (shapeCast _ q shapeCasts_S8192x1024_S1x8192x2x4x128 : FVec Ideal S1x8192x2x4x128 .f32))
    transposes_S1x2x8448x8192x4_S1x2x4x8192x8448_0_1_4_3_2)
    (broadcastInDim S1x2x4x8192x8448 ![] bcast_S_S1x2x4x8192x8448 (constant S_ .f32 0x3DB504F3#32))
/-- The scores' largest, per query and head. -/
def stM (s : FVec Ideal S1x2x4x8192x8448 .f32) : FVec Ideal S1x2x4x8192x1 .f32 :=
  broadcastInDim S1x2x4x8192x1 ![0, 1, 2, 3] bcast_S1x2x4x8192_S1x2x4x8192x1_0_1_2_3
    (Host.reduce FloatOps.maximumf s (constant S_ .f32 0xFF800000#32) reducesTo_S1x2x4x8192x8448_S1x2x4x8192_d4 h_S_)
/-- The exponentials of the scores less their largest. -/
def stE (s : FVec Ideal S1x2x4x8192x8448 .f32) (mx : FVec Ideal S1x2x4x8192x1 .f32) : FVec Ideal S1x2x4x8192x8448 .f32 :=
  Host.exp (subf s (broadcastInDim S1x2x4x8192x8448 ![0, 1, 2, 3, 4] bcast_S1x2x4x8192x1_S1x2x4x8192x8448_0_1_2_3_4 mx))
/-- Their sums. -/
def stZ (e : FVec Ideal S1x2x4x8192x8448 .f32) : FVec Ideal S1x2x4x8192x1 .f32 :=
  broadcastInDim S1x2x4x8192x1 ![0, 1, 2, 3] bcast_S1x2x4x8192_S1x2x4x8192x1_0_1_2_3
    (Host.reduceAdd e (constant S_ .f32 0x00000000#32) reducesTo_S1x2x4x8192x8448_S1x2x4x8192_d4 h_S_)
/-- The logarithms of the softmax sums, in the kernel's order of rows. -/
def stL (mx z : FVec Ideal S1x2x4x8192x1 .f32) : FVec Ideal S65536x1 .f32 :=
  shapeCast _ (transpose S2x32x4x256 [0, 2, 1, 3] (shapeCast _ (addf mx (Host.log z)) shapeCasts_S1x2x4x8192x1_S2x4x32x256 : FVec Ideal S2x4x32x256 .f32)
    transposes_S2x4x32x256_S2x32x4x256_0_2_1_3) shapeCasts_S2x32x4x256_S65536x1
/-- The attention's output. -/
def stO (v : FVec Ideal S8448x256 .f32) (e : FVec Ideal S1x2x4x8192x8448 .f32) (z : FVec Ideal S1x2x4x8192x1 .f32) : FVec Ideal S8192x1024 .f32 :=
  shapeCast _ (transpose S1x8192x2x4x128 [0, 4, 1, 3, 2] (Host.dotGeneral dot_S1x8448x2x128_S1x2x4x8192x8448_S1x2x128x4x8192_1_4_3_23_02_01 none
    (shapeCast _ v shapeCasts_S8448x256_S1x8448x2x128 : FVec Ideal S1x8448x2x128 .f32)
    (Host.divf e (broadcastInDim S1x2x4x8192x8448 ![0, 1, 2, 3, 4] bcast_S1x2x4x8192x1_S1x2x4x8192x8448_0_1_2_3_4 z)))
    transposes_S1x2x128x4x8192_S1x8192x2x4x128_0_4_1_3_2) shapeCasts_S1x8192x2x4x128_S8192x1024

section
variable (q : FVec Ideal S8192x1024 .f32) (k v : FVec Ideal S8448x256 .f32) (s e : FVec Ideal S1x2x4x8192x8448 .f32)
  (mx z : FVec Ideal S1x2x4x8192x1 .f32) (h : Fin 2) (g : Fin 4) (n : Fin 8192) (κ : Fin 8448) (d : Fin 128)

theorem stS_apply : stS q k (ix5 0 h g n κ) = (∑ d : Fin 128, k (ix2 κ (kcol h d)) * q (ix2 n (qcol h g d))) * Ideal.ofBits .f32 0x3DB504F3#32 := by
  pointwise [stS]
  refine congrArg (· * _) (Finset.sum_congr rfl fun d _ => congrArg₂ (· * ·)
    (congrArg₂ (fun a b => k (ix2 a b)) (Fin.ext ?_) (Fin.ext ?_)) (congrArg₂ (fun a b => q (ix2 a b)) (Fin.ext ?_) (Fin.ext ?_)))
  all_goals (try simp only [qcol, kcol]); try omega
theorem stM_apply : stM s (ix5 0 h g n 0) = Finset.univ.fold max (Ideal.ofBits .f32 0xFF800000#32) fun κ : Fin 8448 => s (ix5 0 h g n κ) := by
  unfold stM; clean_types; pointwise []
theorem stE_apply : stE s mx (ix5 0 h g n κ) = Ideal.exp (s (ix5 0 h g n κ) - mx (ix5 0 h g n 0)) := by
  pointwise [stE]
theorem stZ_apply : stZ e (ix5 0 h g n 0) = ∑ κ : Fin 8448, e (ix5 0 h g n κ) := by
  pointwise [stZ]
theorem stL_apply : stL mx z (ix2 (lrow h g n) 0) = mx (ix5 0 h g n 0) + Ideal.log (z (ix5 0 h g n 0)) := by
  pointwise [stL]
  have e0 : ∀ a b (x : Fin 2) (y : Fin 4) (w : Fin 8192), x = h → y = g → w = n →
      mx (ix5 a x y w b) + Ideal.log (z (ix5 a x y w b)) = mx (ix5 0 h g n 0) + Ideal.log (z (ix5 0 h g n 0)) := fun a b x y w hx hy hw => by
    rw [hx, hy, hw, Subsingleton.elim a 0, Subsingleton.elim b 0]
  refine e0 _ _ _ _ _ (Fin.ext ?_) (Fin.ext ?_) (Fin.ext ?_)
  all_goals (try simp only [lrow]); try omega
theorem stO_apply : stO v e z (ix2 n (qcol h g d)) = ∑ κ : Fin 8448, v (ix2 κ (kcol h d)) * Ideal.div (e (ix5 0 h g n κ)) (z (ix5 0 h g n 0)) := by
  pointwise [stO]
  have e0 : ∀ (x : Fin 2) (y : Fin 4) (w : Fin 8192) (κ : Fin 8448) (a : Fin 256) b, x = h → y = g → w = n → a = kcol h d →
      v (ix2 κ a) * Ideal.div (e (ix5 0 x y w κ)) (z (ix5 0 x y w b)) = v (ix2 κ (kcol h d)) * Ideal.div (e (ix5 0 h g n κ)) (z (ix5 0 h g n 0)) := fun x y w κ a b hx hy hw ha => by
    rw [hx, hy, hw, ha, Subsingleton.elim b 0]
  refine Finset.sum_congr rfl fun κ _ => e0 _ _ _ _ _ _ (Fin.ext ?_) (Fin.ext ?_) (Fin.ext ?_) (Fin.ext ?_)
  all_goals (try simp only [qcol, kcol]); try omega
end

variable (m : (ℓ : Loc nD τ sig) → Buf (Elt Ideal) ℓ) (c : Dev nD)

/-- The queries given. -/
def inQ : FVec Ideal S8192x1024 .f32 := m ((c.tc : Thread nD τ).loc main_arg0)
/-- The keys given. -/
def inK : FVec Ideal S8448x256 .f32 := m ((c.tc : Thread nD τ).loc main_arg1)
/-- The values given. -/
def inV : FVec Ideal S8448x256 .f32 := m ((c.tc : Thread nD τ).loc main_arg2)
/-- The output's gradient given. -/
def inDo : FVec Ideal S8192x1024 .f32 := m ((c.tc : Thread nD τ).loc main_arg3)

theorem arrK_eq : arrK m c = truncf .bf16 (inK m c) bitsLt_bf16_f32 := by
  unfold arrK V; after_results; rfl
theorem arrV_eq : arrV m c = truncf .bf16 (inV m c) bitsLt_bf16_f32 := by
  unfold arrV V; after_results; rfl
theorem arrDo_eq : arrDo m c = truncf .bf16 (inDo m c) bitsLt_bf16_f32 := by
  unfold arrDo V; after_results; rfl
theorem arrQ_eq : arrQ m c = truncf .bf16 (mulf (inQ m c) (broadcastInDim S8192x1024 ![] bcast_S_S8192x1024 (constant S_ .f32 0x3DB504F3#32))) bitsLt_bf16_f32 := by
  unfold arrQ V; after_results; rfl
set_option maxRecDepth 16384 in
theorem arrLse_eq : arrLse m c = stL (stM (stS (inQ m c) (inK m c))) (stZ (stE (stS (inQ m c) (inK m c)) (stM (stS (inQ m c) (inK m c))))) := by
  unfold arrLse V; after_results; rfl
set_option maxRecDepth 16384 in
theorem arrO_eq : arrO m c = stO (inV m c) (stE (stS (inQ m c) (inK m c)) (stM (stS (inQ m c) (inK m c)))) (stZ (stE (stS (inQ m c) (inK m c)) (stM (stS (inQ m c) (inK m c))))) := by
  unfold arrO V; after_results; rfl

end Cert.KernelIdeal.Val

end
-- ==== Proof.Reals.lean ====
/- The attention's gradients over the reals, and the steps from extended reals to them. -/
module

public import proofs.«01_k».proof.Proof.Arrays

@[expose] public section

noncomputable section

open Idealize.ShloMosaic Idealize.ShloMosaic.TcCoe Idealize.SL.Sem

namespace Cert.Attn
open Cert.KernelIdeal.Val (qcol kcol)

/-! ## Extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of some real numbers, of which there is one at least, is a real number. -/
theorem fold_max_coe {ι : Type} (s : Finset ι) (f : ι → ℝ) (hs : s.Nonempty) : ∃ M : ℝ, s.fold max (⊥ : EReal) (fun i => (f i : EReal)) = (M : EReal) := by
  classical
  induction hs using Finset.Nonempty.cons_induction with
  | singleton a => exact ⟨f a, by rw [Finset.fold_singleton]; exact max_eq_left bot_le⟩
  | cons a s ha hs ih =>
    obtain ⟨M, hM⟩ := ih
    exact ⟨max (f a) M, by rw [Finset.fold_cons, hM]; exact (EReal.coe_strictMono.monotone.map_max).symm⟩

theorem div_coe_coe (x y : ℝ) (hy : y ≠ 0) : Ideal.div (x : EReal) (y : EReal) = ((x / y : ℝ) : EReal) := by
  rw [Ideal.div_coe hy, ← EReal.coe_mul, mul_one_div]

theorem log_coe_pos (x : ℝ) (hx : 0 < x) : Ideal.log (x : EReal) = ((Real.log x : ℝ) : EReal) := by
  rw [Ideal.log_coe, if_neg (not_le.mpr hx)]

/-- The scale as a real number: the value of its float word. -/
def sc : ℝ := (Ideal.ofBits .f32 0x3DB504F3#32).toReal

theorem bits_neg_inf : Ideal.ofBits .f32 0xFF800000#32 = ⊥ := by
  simp [Ideal.ofBits, Ideal.ieee, -EReal.coe_mul]

theorem bits_inf : Ideal.ofBits .f32 0x7F800000#32 = ⊤ := by
  simp [Ideal.ofBits, Ideal.ieee, -EReal.coe_mul]

theorem bits_one : Ideal.ofBits .f32 0x3F800000#32 = ((1 : ℝ) : EReal) := by
  rw [Ideal.ofBits_one_f32]; rfl

theorem sc_bits : Ideal.ofBits .f32 0x3DB504F3#32 = ((11863283 / 134217728 : ℝ) : EReal) := by
  simp [Ideal.ofBits, Ideal.ieee, -EReal.coe_mul]
  norm_num

theorem sc_exists : ∃ r : ℝ, r ≠ 0 ∧ Ideal.ofBits .f32 0x3DB504F3#32 = (r : EReal) := ⟨_, by norm_num, sc_bits⟩

theorem sc_coe : Ideal.ofBits .f32 0x3DB504F3#32 = (sc : EReal) := by
  obtain ⟨r, _, hr⟩ := sc_exists
  unfold sc; rw [hr, EReal.toReal_coe]

theorem sc_ne : sc ≠ 0 := by
  obtain ⟨r, h, hr⟩ := sc_exists
  unfold sc; rw [hr, EReal.toReal_coe]; exact h

/-! ## Real attention -/

section
variable {N : ℕ} (S : Fin N → ℝ) (M : ℝ)

theorem sum_exp_pos (κ : Fin N) : 0 < ∑ κ' : Fin N, Real.exp (S κ' - M) :=
  Finset.sum_pos (fun _ _ => Real.exp_pos _) ⟨κ, Finset.mem_univ κ⟩

theorem sum_exp_shift : ∑ κ' : Fin N, Real.exp (S κ' - M) = (∑ κ' : Fin N, Real.exp (S κ')) / Real.exp M := by
  rw [Finset.sum_div]; exact Finset.sum_congr rfl fun κ _ => Real.exp_sub _ _

/-- A softmax weight does not depend on the shift. -/
theorem soft_shift (κ : Fin N) : Real.exp (S κ - M) / (∑ κ' : Fin N, Real.exp (S κ' - M)) = Real.exp (S κ) / ∑ κ' : Fin N, Real.exp (S κ') := by
  rw [sum_exp_shift, Real.exp_sub, div_div_div_cancel_right₀ (Real.exp_pos M).ne']

/-- Nor does it matter that the sum is subtracted as a logarithm. -/
theorem soft_log (κ : Fin N) : Real.exp (S κ - (M + Real.log (∑ κ' : Fin N, Real.exp (S κ' - M)))) = Real.exp (S κ) / ∑ κ' : Fin N, Real.exp (S κ') := by
  rw [← soft_shift S M κ, ← sub_sub, Real.exp_sub, Real.exp_log (sum_exp_pos S M κ)]
end

variable (Q : Fin 8192 → Fin 1024 → ℝ) (K V : Fin 8448 → Fin 256 → ℝ) (G : Fin 8192 → Fin 1024 → ℝ) (h : Fin 2) (g : Fin 4) (n : Fin 8192)

/-- The scaled score. -/
def score (κ : Fin 8448) : ℝ := (∑ d : Fin 128, K κ (kcol h d) * Q n (qcol h g d)) * sc
/-- The softmax weight. -/
def weight (κ : Fin 8448) : ℝ := Real.exp (score Q K h g n κ) / ∑ κ' : Fin 8448, Real.exp (score Q K h g n κ')
/-- The weight's gradient. -/
def gradW (κ : Fin 8448) : ℝ := ∑ d : Fin 128, G n (qcol h g d) * V κ (kcol h d)
/-- The score's gradient. -/
def gradS (κ : Fin 8448) : ℝ := weight Q K h g n κ * (gradW V G h g n κ - ∑ κ' : Fin 8448, weight Q K h g n κ' * gradW V G h g n κ')

/-- The output's own product with its gradient is the weighted sum of the weights' gradients. -/
theorem delta_eq : ∑ d : Fin 128, G n (qcol h g d) * ∑ κ : Fin 8448, V κ (kcol h d) * weight Q K h g n κ
    = ∑ κ : Fin 8448, weight Q K h g n κ * gradW V G h g n κ := by
  simp only [gradW, Finset.mul_sum]
  rw [Finset.sum_comm]
  refine Finset.sum_congr rfl fun κ _ => Finset.sum_congr rfl fun d _ => ?_
  ring

/-- The score's gradient as differentiating the quotient gives it. -/
theorem gradS_quotient (M : ℝ) (κ : Fin 8448) :
    (gradW V G h g n κ / (∑ κ' : Fin 8448, Real.exp (score Q K h g n κ' - M))
      + -∑ κ' : Fin 8448, gradW V G h g n κ' * (1 / ((∑ κ' : Fin 8448, Real.exp (score Q K h g n κ' - M)) * ∑ κ' : Fin 8448, Real.exp (score Q K h g n κ' - M))) * Real.exp (score Q K h g n κ' - M))
      * Real.exp (score Q K h g n κ - M) = gradS Q K V G h g n κ := by
  have hw : ∀ κ, weight Q K h g n κ = Real.exp (score Q K h g n κ - M) / ∑ κ' : Fin 8448, Real.exp (score Q K h g n κ' - M) :=
    fun κ => (soft_shift (score Q K h g n) M κ).symm
  have hz : (∑ κ' : Fin 8448, Real.exp (score Q K h g n κ' - M)) ≠ 0 := (sum_exp_pos (score Q K h g n) M κ).ne'
  unfold gradS
  simp only [hw]
  generalize (∑ κ' : Fin 8448, Real.exp (score Q K h g n κ' - M)) = z at hz ⊢
  have e : ∑ κ' : Fin 8448, gradW V G h g n κ' * (1 / (z * z)) * Real.exp (score Q K h g n κ' - M)
      = (∑ κ' : Fin 8448, Real.exp (score Q K h g n κ' - M) / z * gradW V G h g n κ') / z := by
    rw [Finset.sum_div]
    refine Finset.sum_congr rfl fun κ' _ => ?_
    field_simp
  rw [e]
  field_simp
  ring

end Cert.Attn

end
-- ==== Proof.KernelReal.lean ====
/- On finite inputs the attention backward's result arrays hold the real gradients. -/
module

public import proofs.«01_k».proof.Proof.Host
public import proofs.«01_k».proof.Proof.Reals

@[expose] public section

noncomputable section

open Idealize.ShloMosaic Idealize.ShloMosaic.TcCoe Idealize.SL.Sem

namespace Cert.KernelIdeal.Val
open Cert.KernelIdeal Cert.KernelIdeal.Gen Cert.Attn

section
variable {q : FVec Ideal S8192x1024 .f32} {k v : FVec Ideal S8448x256 .f32}
  {Q : Fin 8192 → Fin 1024 → ℝ} {K V : Fin 8448 → Fin 256 → ℝ}
  (hq : ∀ n j, q (ix2 n j) = (Q n j : EReal)) (hk : ∀ κ j, k (ix2 κ j) = (K κ j : EReal)) (hv : ∀ κ j, v (ix2 κ j) = (V κ j : EReal))
  (h : Fin 2) (g : Fin 4) (n : Fin 8192) (κ : Fin 8448) (d : Fin 128)
include hq hk

theorem stS_real : stS q k (ix5 0 h g n κ) = (score Q K h g n κ : EReal) := by
  rw [stS_apply, sc_coe]
  simp only [hq, hk, ← EReal.coe_mul, ← coe_sum]
  rfl

theorem stM_real : ∃ M : ℝ, stM (stS q k) (ix5 0 h g n 0) = (M : EReal) := by
  rw [stM_apply, bits_neg_inf]
  simp only [stS_real hq hk]
  exact fold_max_coe _ _ ⟨0, Finset.mem_univ _⟩

theorem stE_real {M : ℝ} (hM : stM (stS q k) (ix5 0 h g n 0) = (M : EReal)) :
    stE (stS q k) (stM (stS q k)) (ix5 0 h g n κ) = (Real.exp (score Q K h g n κ - M) : EReal) := by
  rw [stE_apply, hM, stS_real hq hk, ← EReal.coe_sub, Ideal.exp_coe]

theorem stZ_real {M : ℝ} (hM : stM (stS q k) (ix5 0 h g n 0) = (M : EReal)) :
    stZ (stE (stS q k) (stM (stS q k))) (ix5 0 h g n 0) = ((∑ κ : Fin 8448, Real.exp (score Q K h g n κ - M) : ℝ) : EReal) := by
  rw [stZ_apply, coe_sum]
  exact Finset.sum_congr rfl fun κ _ => stE_real hq hk h g n κ hM

theorem stL_real {M : ℝ} (hM : stM (stS q k) (ix5 0 h g n 0) = (M : EReal)) :
    stL (stM (stS q k)) (stZ (stE (stS q k) (stM (stS q k)))) (ix2 (lrow h g n) 0)
      = ((M + Real.log (∑ κ : Fin 8448, Real.exp (score Q K h g n κ - M)) : ℝ) : EReal) := by
  rw [stL_apply, hM, stZ_real hq hk h g n hM, log_coe_pos _ (sum_exp_pos (score Q K h g n) M 0), ← EReal.coe_add]

include hv in
theorem stO_real : stO v (stE (stS q k) (stM (stS q k))) (stZ (stE (stS q k) (stM (stS q k)))) (ix2 n (qcol h g d))
      = ((∑ κ : Fin 8448, V κ (kcol h d) * weight Q K h g n κ : ℝ) : EReal) := by
  obtain ⟨M, hM⟩ := stM_real hq hk h g n
  rw [stO_apply, coe_sum]
  refine Finset.sum_congr rfl fun κ _ => ?_
  rw [stE_real hq hk h g n κ hM, stZ_real hq hk h g n hM, div_coe_coe _ _ (sum_exp_pos (score Q K h g n) M 0).ne', hv, ← EReal.coe_mul,
    soft_shift (score Q K h g n) M κ]
  rfl
end

variable (m : (ℓ : Loc nD τ sig) → Buf (Elt Ideal) ℓ) (c : Dev nD)

theorem arrQ_apply (n : Fin 8192) (j : Fin 1024) : arrQ m c (ix2 n j) = inQ m c (ix2 n j) * Ideal.ofBits .f32 0x3DB504F3#32 := by
  rw [arrQ_eq]; generalize inQ m c = q; clean_types; pointwise []
theorem arrK_apply (κ : Fin 8448) (j : Fin 256) : arrK m c (ix2 κ j) = inK m c (ix2 κ j) := by
  rw [arrK_eq]; generalize inK m c = q; clean_types; pointwise []
theorem arrV_apply (κ : Fin 8448) (j : Fin 256) : arrV m c (ix2 κ j) = inV m c (ix2 κ j) := by
  rw [arrV_eq]; generalize inV m c = q; clean_types; pointwise []
theorem arrDo_apply (n : Fin 8192) (j : Fin 1024) : arrDo m c (ix2 n j) = inDo m c (ix2 n j) := by
  rw [arrDo_eq]; generalize inDo m c = q; clean_types; pointwise []

section
variable {Q : Fin 8192 → Fin 1024 → ℝ} {K V : Fin 8448 → Fin 256 → ℝ} {G : Fin 8192 → Fin 1024 → ℝ}
  (hq : ∀ n j, inQ m c (ix2 n j) = (Q n j : EReal)) (hk : ∀ κ j, inK m c (ix2 κ j) = (K κ j : EReal))
  (hv : ∀ κ j, inV m c (ix2 κ j) = (V κ j : EReal)) (hd : ∀ n j, inDo m c (ix2 n j) = (G n j : EReal))
  (h : Fin 2) (g : Fin 4) (n : Fin 8192) (κ : Fin 8448) (d : Fin 128)
include hq hk

theorem softP_real : softP (arrQ m c) (arrK m c) (arrLse m c) h g n κ = (weight Q K h g n κ : EReal) := by
  obtain ⟨M, hM⟩ := stM_real hq hk h g n
  have e : (∑ d : Fin 128, arrQ m c (ix2 n (qcol h g d)) * arrK m c (ix2 κ (kcol h d))) = (score Q K h g n κ : EReal) := by
    simp only [arrQ_apply, arrK_apply, hq, hk, sc_coe, ← EReal.coe_mul, ← coe_sum]
    refine congrArg _ ?_
    unfold score
    rw [Finset.sum_mul]
    exact Finset.sum_congr rfl fun d _ => by ring
  unfold softP
  rw [e, arrLse_eq, stL_real hq hk h g n hM, ← EReal.coe_sub, Ideal.exp_coe, soft_log (score Q K h g n) M κ]
  rfl

include hv hd

theorem softD_real : softD (arrQ m c) (arrK m c) (arrV m c) (arrDo m c) (arrO m c) (arrLse m c) h g n κ = (gradS Q K V G h g n κ : EReal) := by
  unfold softD
  rw [softP_real m c hq hk]
  have e : ∀ d : Fin 128, arrO m c (ix2 n (qcol h g d)) = ((∑ κ : Fin 8448, V κ (kcol h d) * weight Q K h g n κ : ℝ) : EReal) := fun d => by
    rw [arrO_eq]; exact stO_real hq hk hv h g n d
  simp only [e, arrDo_apply, arrV_apply, hv, hd, ← EReal.coe_mul, ← coe_sum, ← EReal.coe_sub]
  rw [delta_eq]
  rfl

theorem gradQ_real : gradQ (arrQ m c) (arrK m c) (arrV m c) (arrDo m c) (arrO m c) (arrLse m c) (ix2 n (qcol h g d))
    = ((∑ κ : Fin 8448, gradS Q K V G h g n κ * K κ (kcol h d) : ℝ) : EReal) := by
  rw [coe_sum]
  refine Finset.sum_congr rfl fun κ _ => ?_
  have e1 : (⟨(qcol h g d).val / 512, by simp only [qcol]; omega⟩ : Fin 2) = h := Fin.ext (by simp only [qcol]; omega)
  have e2 : (⟨(qcol h g d).val / 128 % 4, by omega⟩ : Fin 4) = g := Fin.ext (by simp only [qcol]; omega)
  have e3 : (⟨(qcol h g d).val % 128, by omega⟩ : Fin 128) = d := Fin.ext (by simp only [qcol]; omega)
  show softD _ _ _ _ _ _ ⟨(qcol h g d).val / 512, _⟩ ⟨(qcol h g d).val / 128 % 4, _⟩ n κ * arrK m c (ix2 κ (kcol ⟨(qcol h g d).val / 512, _⟩ ⟨(qcol h g d).val % 128, _⟩)) = _
  rw [e1, e2, e3, softD_real m c hq hk hv hd, arrK_apply, hk, ← EReal.coe_mul]

theorem gradK_real : gradK (arrQ m c) (arrK m c) (arrV m c) (arrDo m c) (arrO m c) (arrLse m c) (ix2 κ (kcol h d))
    = ((∑ g : Fin 4, ∑ n : Fin 8192, gradS Q K V G h g n κ * (Q n (qcol h g d) * sc) : ℝ) : EReal) := by
  simp only [coe_sum]
  refine Finset.sum_congr rfl fun g _ => Finset.sum_congr rfl fun n _ => ?_
  have e1 : (⟨(kcol h d).val / 128, by simp only [kcol]; omega⟩ : Fin 2) = h := Fin.ext (by simp only [kcol]; omega)
  have e3 : (⟨(kcol h d).val % 128, by omega⟩ : Fin 128) = d := Fin.ext (by simp only [kcol]; omega)
  show softD _ _ _ _ _ _ ⟨(kcol h d).val / 128, _⟩ g n κ * arrQ m c (ix2 n (qcol ⟨(kcol h d).val / 128, _⟩ g ⟨(kcol h d).val % 128, _⟩)) = _
  rw [e1, e3, softD_real m c hq hk hv hd, arrQ_apply, hq, sc_coe, ← EReal.coe_mul, ← EReal.coe_mul]

omit hv in
theorem gradV_real : gradV (arrQ m c) (arrK m c) (arrDo m c) (arrLse m c) (ix2 κ (kcol h d))
    = ((∑ g : Fin 4, ∑ n : Fin 8192, weight Q K h g n κ * G n (qcol h g d) : ℝ) : EReal) := by
  simp only [coe_sum]
  refine Finset.sum_congr rfl fun g _ => Finset.sum_congr rfl fun n _ => ?_
  have e1 : (⟨(kcol h d).val / 128, by simp only [kcol]; omega⟩ : Fin 2) = h := Fin.ext (by simp only [kcol]; omega)
  have e3 : (⟨(kcol h d).val % 128, by omega⟩ : Fin 128) = d := Fin.ext (by simp only [kcol]; omega)
  show softP _ _ _ ⟨(kcol h d).val / 128, _⟩ g n κ * arrDo m c (ix2 n (qcol ⟨(kcol h d).val / 128, _⟩ g ⟨(kcol h d).val % 128, _⟩)) = _
  rw [e1, e3, softP_real m c hq hk, arrDo_apply, hd, ← EReal.coe_mul]
end

end Cert.KernelIdeal.Val

end
-- ==== Proof.Ref.lean ====
/- The reference's gradients, entry by entry. -/
module

public import proofs.«01_k».proof.Proof.Arrays
public import proofs.«01_k».proof.Proof.Gen.ReferenceIdeal.Read
public import Idealize.ShloMosaic.Lib.Tactic.CleanTypes
public import Idealize.ShloMosaic.Lib.Pointwise

@[expose] public section

noncomputable section

open Idealize.ShloMosaic Idealize.ShloMosaic.TcCoe Idealize.SL.Sem

namespace Cert.ReferenceIdeal.Val
open Cert.ReferenceIdeal Cert.ReferenceIdeal.Gen Cert.ReferenceIdeal.Read
open Cert.KernelIdeal.Val (qcol kcol)

variable (q : FVec Ideal S8192x1024 .f32) (k v : FVec Ideal S8448x256 .f32) (dO : FVec Ideal S8192x1024 .f32)
  (h : Fin 2) (g : Fin 4) (n : Fin 8192) (κ : Fin 8448) (d : Fin 128)

theorem v5_apply : val_main_v5 (F := Ideal) q k (ix5 0 h g n κ) = (∑ d : Fin 128, k (ix2 κ (kcol h d)) * q (ix2 n (qcol h g d))) * Ideal.ofBits .f32 0x3DB504F3#32 := by
  unfold val_main_v5 val_main_v4 val_main_v3 val_main_v2 val_main_v1 val_main_v0 val_main_cst
  clean_types
  pointwise []
  refine congrArg (· * _) (Finset.sum_congr rfl fun d _ => congrArg₂ (· * ·)
    (congrArg₂ (fun a b => k (ix2 a b)) (Fin.ext ?_) (Fin.ext ?_)) (congrArg₂ (fun a b => q (ix2 a b)) (Fin.ext ?_) (Fin.ext ?_)))
  all_goals (try simp only [qcol, kcol]); try omega

theorem v6_apply : val_main_v6 (F := Ideal) q k (ix4 0 h g n)
    = Finset.univ.fold max (Ideal.ofBits .f32 0xFF800000#32) fun κ : Fin 8448 => val_main_v5 (F := Ideal) q k (ix5 0 h g n κ) := by
  unfold val_main_v6 val_main_cst_0
  generalize val_main_v5 (F := Ideal) q k = s
  clean_types
  pointwise []

theorem v24_apply : val_main_v24 (F := Ideal) q k (ix5 0 h g n κ)
    = max (Ideal.ofBits .f32 0xFF800000#32) (val_main_v6 (F := Ideal) q k (ix4 0 h g n)) := by
  rw [val_main_v24_apply, val_main_v23_apply, val_main_v13_apply, val_main_v12_apply]
  refine congrArg₂ max rfl (congrArg (val_main_v6 (F := Ideal) q k) (funext fun a => ?_))
  match a with
  | ⟨0, _⟩ => rfl
  | ⟨1, _⟩ => rfl
  | ⟨2, _⟩ => rfl
  | ⟨3, _⟩ => rfl

theorem v26_apply : val_main_v26 (F := Ideal) q k (ix5 0 h g n κ) = Ideal.exp (val_main_v5 (F := Ideal) q k (ix5 0 h g n κ) - val_main_v24 (F := Ideal) q k (ix5 0 h g n κ)) := by
  unfold val_main_v26 val_main_v25
  generalize val_main_v5 (F := Ideal) q k = s
  generalize val_main_v24 (F := Ideal) q k = x
  clean_types
  pointwise []

theorem v28_apply : val_main_v28 (F := Ideal) q k (ix5 0 h g n 0) = ∑ κ : Fin 8448, val_main_v26 (F := Ideal) q k (ix5 0 h g n κ) := by
  unfold val_main_v28 val_main_v27 val_main_cst_8
  generalize val_main_v26 (F := Ideal) q k = s
  clean_types
  pointwise []

theorem v30_apply : val_main_v30 (F := Ideal) q k (ix5 0 h g n κ) = Ideal.div (val_main_v26 (F := Ideal) q k (ix5 0 h g n κ)) (val_main_v28 (F := Ideal) q k (ix5 0 h g n 0)) := by
  unfold val_main_v30 val_main_v29
  generalize val_main_v26 (F := Ideal) q k = s
  generalize val_main_v28 (F := Ideal) q k = z
  clean_types
  pointwise []

theorem v40_apply : val_main_v40 (F := Ideal) v dO (ix5 0 h g n κ) = ∑ d : Fin 128, dO (ix2 n (qcol h g d)) * v (ix2 κ (kcol h d)) := by
  unfold val_main_v40 val_main_v39 val_main_v38 val_main_v34
  clean_types
  pointwise []
  refine Finset.sum_congr rfl fun d _ => congrArg₂ (· * ·)
    (congrArg₂ (fun a b => dO (ix2 a b)) (Fin.ext ?_) (Fin.ext ?_)) (congrArg₂ (fun a b => v (ix2 a b)) (Fin.ext ?_) (Fin.ext ?_))
  all_goals (try simp only [qcol, kcol]); try omega

theorem v43_apply : val_main_v43 (F := Ideal) q k dO (ix2 κ (kcol h d)) = ∑ g : Fin 4, ∑ n : Fin 8192, dO (ix2 n (qcol h g d)) * val_main_v30 (F := Ideal) q k (ix5 0 h g n κ) := by
  unfold val_main_v43 val_main_v42 val_main_v41 val_main_v39 val_main_v38
  generalize val_main_v30 (F := Ideal) q k = p
  clean_types
  pointwise []
  have e0 : ∀ (a : Fin 1024) (a' : Fin 8192) (x : Fin 2) (y : Fin 4) (w : Fin 8192) (κ' : Fin 8448) (b : Fin 1) (g : Fin 4) (n : Fin 8192), x = h → y = g → w = n → κ' = κ →
      a = qcol h g d → a' = n → dO (ix2 a' a) * p (ix5 b x y w κ') = dO (ix2 n (qcol h g d)) * p (ix5 0 h g n κ) := fun a a' x y w κ' b g n hx hy hw hk ha ha' => by
    rw [hx, hy, hw, hk, ha, ha', Subsingleton.elim b 0]
  refine Finset.sum_congr rfl fun g _ => Finset.sum_congr rfl fun n _ => e0 _ _ _ _ _ _ _ g n (Fin.ext ?_) (Fin.ext ?_) (Fin.ext ?_) (Fin.ext ?_) (Fin.ext ?_) (Fin.ext ?_)
  all_goals (try simp only [qcol, kcol]); try omega

/-- The sum over two axes of one element each is the element. -/
theorem reduce_unit_axes (x : FVec Ideal S1x2x4x8192x1 .f32) (init : EReal) :
    Ideal.hostReduceAdd reducesTo_S1x2x4x8192x1_S2x4x8192_d0_4 x init (ix3 h g n) = init + x (ix5 0 h g n 0) := by
  unfold Ideal.hostReduceAdd
  refine congrArg (init + ·) ?_
  refine Finset.sum_eq_single (ix5 0 h g n 0) (fun b hb hne => absurd ?_ hne) (fun hne => absurd ?_ hne)
  · have e := (Finset.mem_filter.mp hb).2
    funext a
    match a with
    | ⟨0, _⟩ => exact Subsingleton.elim (α := Fin 1) _ _
    | ⟨1, _⟩ => exact Fin.ext (congrArg Fin.val (congrFun e 0))
    | ⟨2, _⟩ => exact Fin.ext (congrArg Fin.val (congrFun e 1))
    | ⟨3, _⟩ => exact Fin.ext (congrArg Fin.val (congrFun e 2))
    | ⟨4, _⟩ => exact Subsingleton.elim (α := Fin 1) _ _
  · refine Finset.mem_filter.mpr ⟨Finset.mem_univ _, funext fun a => Fin.ext ?_⟩
    match a with
    | ⟨0, _⟩ => rfl
    | ⟨1, _⟩ => rfl
    | ⟨2, _⟩ => rfl

theorem v33_apply : val_main_v33 (F := Ideal) q k (ix5 0 h g n 0)
    = Ideal.div (Ideal.ofBits .f32 0x3F800000#32) (val_main_v28 (F := Ideal) q k (ix5 0 h g n 0) * val_main_v28 (F := Ideal) q k (ix5 0 h g n 0)) := by
  unfold val_main_v33 val_main_v32 val_main_v31 val_main_cst_9
  generalize val_main_v28 (F := Ideal) q k = z
  clean_types
  pointwise []

theorem v49_apply : val_main_v49 (F := Ideal) q k v dO (ix5 0 h g n 0)
    = -∑ κ : Fin 8448, val_main_v40 (F := Ideal) v dO (ix5 0 h g n κ) * val_main_v33 (F := Ideal) q k (ix5 0 h g n 0) * val_main_v26 (F := Ideal) q k (ix5 0 h g n κ) := by
  unfold val_main_v49 val_main_v48 val_main_v47 val_main_v46 val_main_v45 val_main_v44 val_main_cst_10
  generalize val_main_v26 (F := Ideal) q k = e
  generalize val_main_v33 (F := Ideal) q k = z
  generalize val_main_v40 (F := Ideal) v dO = p
  clean_types
  pointwise []

theorem v54_apply : val_main_v54 (F := Ideal) q k v dO (ix5 0 h g n κ) = val_main_v49 (F := Ideal) q k v dO (ix5 0 h g n 0) := by
  unfold val_main_v54 val_main_v53 val_main_v52 val_main_cst_11
  generalize val_main_v49 (F := Ideal) q k v dO = w
  clean_types
  pointwise []
  exact (reduce_unit_axes h g n w 0).trans (zero_add _)

theorem v58_apply : val_main_v58 (F := Ideal) q k v dO (ix5 0 h g n κ)
    = (Ideal.div (val_main_v40 (F := Ideal) v dO (ix5 0 h g n κ)) (val_main_v28 (F := Ideal) q k (ix5 0 h g n 0)) + val_main_v54 (F := Ideal) q k v dO (ix5 0 h g n κ))
        * val_main_v26 (F := Ideal) q k (ix5 0 h g n κ) * Ideal.ofBits .f32 0x3DB504F3#32 := by
  unfold val_main_v58 val_main_v57 val_main_v56 val_main_v55 val_main_v51 val_main_v50 val_main_cst_12
  generalize val_main_v26 (F := Ideal) q k = e
  generalize val_main_v28 (F := Ideal) q k = z
  generalize val_main_v40 (F := Ideal) v dO = p
  generalize val_main_v54 (F := Ideal) q k v dO = w
  clean_types
  pointwise []

theorem v67_apply : val_main_v67 (F := Ideal) q k v dO (ix2 n (qcol h g d))
    = Ideal.div (∑ κ : Fin 8448, val_main_v58 (F := Ideal) q k v dO (ix5 0 h g n κ) * k (ix2 κ (kcol h d))) (Ideal.ofBits .f32 0x3DB504F3#32) := by
  unfold val_main_v67 val_main_v66 val_main_v65 val_main_v61 val_main_v60 val_main_v59 val_main_v1 val_main_cst_13
  generalize val_main_v58 (F := Ideal) q k v dO = w
  clean_types
  pointwise []
  have e0 : ∀ (a : Fin 256) (x : Fin 2) (y : Fin 4) (w' : Fin 8192) (κ : Fin 8448) (b : Fin 1), x = h → y = g → w' = n →
      a = kcol h d → w (ix5 b x y w' κ) * k (ix2 κ a) = w (ix5 0 h g n κ) * k (ix2 κ (kcol h d)) := fun a x y w' κ b hx hy hw ha => by
    rw [hx, hy, hw, ha, Subsingleton.elim b 0]
  refine congrArg₂ Ideal.div (Finset.sum_congr rfl fun κ _ => ?_) rfl
  refine e0 _ _ _ _ κ _ (Fin.ext ?_) (Fin.ext ?_) rfl (Fin.ext ?_)
  all_goals (try simp only [qcol, kcol]); try omega

theorem v64_apply : val_main_v64 (F := Ideal) q k v dO (ix2 κ (kcol h d))
    = ∑ g : Fin 4, ∑ n : Fin 8192, val_main_v58 (F := Ideal) q k v dO (ix5 0 h g n κ) * q (ix2 n (qcol h g d)) := by
  unfold val_main_v64 val_main_v63 val_main_v62 val_main_v59 val_main_v0
  generalize val_main_v58 (F := Ideal) q k v dO = w
  clean_types
  pointwise []
  have e0 : ∀ (a : Fin 1024) (a' : Fin 8192) (x : Fin 2) (y : Fin 4) (w' : Fin 8192) (κ' : Fin 8448) (b : Fin 1) (g : Fin 4) (n : Fin 8192), x = h → y = g → w' = n → κ' = κ →
      a = qcol h g d → a' = n → w (ix5 b x y w' κ') * q (ix2 a' a) = w (ix5 0 h g n κ) * q (ix2 n (qcol h g d)) := fun a a' x y w' κ' b g n hx hy hw hk ha ha' => by
    rw [hx, hy, hw, hk, ha, ha', Subsingleton.elim b 0]
  rw [Finset.sum_comm]
  refine Finset.sum_congr rfl fun g _ => Finset.sum_congr rfl fun n _ => e0 _ _ _ _ _ _ _ g n (Fin.ext ?_) (Fin.ext ?_) (Fin.ext ?_) (Fin.ext ?_) (Fin.ext ?_) (Fin.ext ?_)
  all_goals (try simp only [qcol, kcol]); try omega

end Cert.ReferenceIdeal.Val

end
-- ==== Proof.RefReal.lean ====
/- On finite inputs the reference's results hold the real gradients. -/
module

public import proofs.«01_k».proof.Proof.Ref
public import proofs.«01_k».proof.Proof.Reals

@[expose] public section

noncomputable section

open Idealize.ShloMosaic Idealize.ShloMosaic.TcCoe Idealize.SL.Sem

namespace Cert.ReferenceIdeal.Val
open Cert.ReferenceIdeal Cert.ReferenceIdeal.Gen Cert.ReferenceIdeal.Read Cert.Attn
open Cert.KernelIdeal.Val (qcol kcol)

variable {q : FVec Ideal S8192x1024 .f32} {k v : FVec Ideal S8448x256 .f32} {dO : FVec Ideal S8192x1024 .f32}
  {Q : Fin 8192 → Fin 1024 → ℝ} {K V : Fin 8448 → Fin 256 → ℝ} {G : Fin 8192 → Fin 1024 → ℝ}
  (hq : ∀ n j, q (ix2 n j) = (Q n j : EReal)) (hk : ∀ κ j, k (ix2 κ j) = (K κ j : EReal))
  (hv : ∀ κ j, v (ix2 κ j) = (V κ j : EReal)) (hd : ∀ n j, dO (ix2 n j) = (G n j : EReal))
  (h : Fin 2) (g : Fin 4) (n : Fin 8192) (κ : Fin 8448) (d : Fin 128)

section
include hq hk

theorem v5_real : val_main_v5 (F := Ideal) q k (ix5 0 h g n κ) = (score Q K h g n κ : EReal) := by
  rw [v5_apply, sc_coe]
  simp only [hq, hk, ← EReal.coe_mul, ← coe_sum]
  rfl

theorem v24_real : ∃ M : ℝ, ∀ κ, val_main_v24 (F := Ideal) q k (ix5 0 h g n κ) = (M : EReal) := by
  obtain ⟨M, hM⟩ := fold_max_coe (Finset.univ : Finset (Fin 8448)) (score Q K h g n) ⟨0, Finset.mem_univ _⟩
  refine ⟨M, fun κ => ?_⟩
  rw [v24_apply, v6_apply, bits_neg_inf]
  simp only [v5_real hq hk]
  rw [hM]
  exact max_eq_right bot_le

theorem v26_real {M : ℝ} (hM : ∀ κ, val_main_v24 (F := Ideal) q k (ix5 0 h g n κ) = (M : EReal)) :
    val_main_v26 (F := Ideal) q k (ix5 0 h g n κ) = (Real.exp (score Q K h g n κ - M) : EReal) := by
  rw [v26_apply, hM, v5_real hq hk, ← EReal.coe_sub, Ideal.exp_coe]

theorem v28_real {M : ℝ} (hM : ∀ κ, val_main_v24 (F := Ideal) q k (ix5 0 h g n κ) = (M : EReal)) :
    val_main_v28 (F := Ideal) q k (ix5 0 h g n 0) = ((∑ κ : Fin 8448, Real.exp (score Q K h g n κ - M) : ℝ) : EReal) := by
  rw [v28_apply, coe_sum]
  exact Finset.sum_congr rfl fun κ _ => v26_real hq hk h g n κ hM

theorem v30_real : val_main_v30 (F := Ideal) q k (ix5 0 h g n κ) = (weight Q K h g n κ : EReal) := by
  obtain ⟨M, hM⟩ := v24_real hq hk h g n
  rw [v30_apply, v26_real hq hk h g n κ hM, v28_real hq hk h g n hM, div_coe_coe _ _ (sum_exp_pos (score Q K h g n) M 0).ne',
    soft_shift (score Q K h g n) M κ]
  rfl
end

include hv hd in
theorem v40_real : val_main_v40 (F := Ideal) v dO (ix5 0 h g n κ) = (gradW V G h g n κ : EReal) := by
  rw [v40_apply]
  simp only [hv, hd, ← EReal.coe_mul, ← coe_sum]
  rfl

include hq hk hv hd in
theorem v58_real : val_main_v58 (F := Ideal) q k v dO (ix5 0 h g n κ) = ((gradS Q K V G h g n κ * sc : ℝ) : EReal) := by
  obtain ⟨M, hM⟩ := v24_real hq hk h g n
  have hz : (∑ κ : Fin 8448, Real.exp (score Q K h g n κ - M)) ≠ 0 := (sum_exp_pos (score Q K h g n) M 0).ne'
  rw [v58_apply, v54_apply, v49_apply, v33_apply]
  simp only [v26_real hq hk h g n _ hM, v28_real hq hk h g n hM, v40_real hv hd]
  rw [bits_one, ← EReal.coe_mul, div_coe_coe _ _ (mul_ne_zero hz hz), div_coe_coe _ _ hz, sc_coe]
  simp only [← EReal.coe_mul, ← coe_sum, ← EReal.coe_neg, ← EReal.coe_add]
  rw [gradS_quotient]

include hq hk hd in
theorem v43_real : val_main_v43 (F := Ideal) q k dO (ix2 κ (kcol h d))
    = ((∑ g : Fin 4, ∑ n : Fin 8192, weight Q K h g n κ * G n (qcol h g d) : ℝ) : EReal) := by
  rw [v43_apply]
  simp only [v30_real hq hk, hd, ← EReal.coe_mul, ← coe_sum]
  exact congrArg _ (Finset.sum_congr rfl fun g _ => Finset.sum_congr rfl fun n _ => mul_comm _ _)

include hq hk hv hd in
theorem v64_real : val_main_v64 (F := Ideal) q k v dO (ix2 κ (kcol h d))
    = ((∑ g : Fin 4, ∑ n : Fin 8192, gradS Q K V G h g n κ * (Q n (qcol h g d) * sc) : ℝ) : EReal) := by
  rw [v64_apply]
  simp only [v58_real hq hk hv hd, hq, ← EReal.coe_mul, ← coe_sum]
  exact congrArg _ (Finset.sum_congr rfl fun g _ => Finset.sum_congr rfl fun n _ => by ring)

include hq hk hv hd in
theorem v67_real : val_main_v67 (F := Ideal) q k v dO (ix2 n (qcol h g d))
    = ((∑ κ : Fin 8448, gradS Q K V G h g n κ * K κ (kcol h d) : ℝ) : EReal) := by
  rw [v67_apply, sc_coe]
  simp only [v58_real hq hk hv hd, hk, ← EReal.coe_mul, ← coe_sum]
  rw [div_coe_coe _ _ sc_ne, Finset.sum_div]
  refine congrArg _ (Finset.sum_congr rfl fun κ _ => ?_)
  rw [mul_right_comm, mul_div_assoc, div_self sc_ne, mul_one]

end Cert.ReferenceIdeal.Val

end
-- ==== Proof.Finite.lean ====
/- An array whose every element passes the test `|x| < ∞` holds real numbers. -/
module

public import proofs.«01_k».proof.Proof.Host
public import proofs.«01_k».proof.Proof.Reals
public import proofs.«01_k».proof.Defs

@[expose] public section

noncomputable section

open Idealize.ShloMosaic Idealize.ShloMosaic.TcCoe Idealize.SL.Sem

namespace Cert.Pre_finite.Val
open Cert.Attn

theorem facts : Cert.Pre_finite.Facts := ⟨by decide, by decide⟩

/-- The test `|x| < ∞` at one element. -/
theorem real_of_test {x : EReal} (h : Ideal.cmp .olt (max x (-x)) (Ideal.ofBits .f32 0x7F800000#32) = 1#1) :
    x = ((EReal.toReal x : ℝ) : EReal) := by
  rw [bits_inf] at h
  have hx : max x (-x) < (⊤ : EReal) := by
    by_contra hn
    simp [Ideal.cmp, hn] at h
  have h1 : x ≠ ⊤ := (lt_of_le_of_lt (le_max_left _ _) hx).ne
  have h2 : x ≠ ⊥ := fun e => by
    rw [e] at hx
    simp at hx
  exact (EReal.coe_toReal h1 h2).symm

theorem real_of_array {S : Shape} {x : FVec Ideal S .f32} (b : Cert.Pre_finite.S_.BroadcastsInDim S (![] : Fin 0 → Fin S.rank))
    (h : cmpf .olt (Host.absf x) (broadcastInDim S ![] b (constant Cert.Pre_finite.S_ .f32 0x7F800000#32)) = (fun _ => 1#1)) (i : S.Idx) :
    x i = ((EReal.toReal (x i) : ℝ) : EReal) := real_of_test (congrFun h i)

end Cert.Pre_finite.Val

end
-- ==== Proof.InProject.lean ====
/- The inner projection's product: what the call's grid of tiles leaves is the whole product, and so is the reference's. -/
module

public import proofs.«01_k».proof.Proof.Gen.Kernel4Ideal.Value
public import proofs.«01_k».proof.Proof.Gen.Reference4Ideal.Read
public import Idealize.ShloMosaic.Lib.Pointwise
public import Idealize.ShloMosaic.Lib.Pipeline.ValueKit.Geometry
public import Idealize.ShloMosaic.Lib.Pipeline.ValueKit.Acc

@[expose] public section

noncomputable section

open Idealize.ShloMosaic Idealize.ShloMosaic.TcCoe Idealize.SL.Sem
open Idealize.ShloMosaic.Pipeline (Dat)

namespace Cert.Kernel4Ideal.Val
open Cert.Kernel4Ideal Cert.Kernel4Ideal.Gen

variable (m : (ℓ : Loc nD τ sig) → Buf (Elt Ideal) ℓ) (c : Dev nD)

/-- The activations the call is given. -/
def inA : Vec Ideal S8192x2048 .bf16 := m ((c : Thread nD τ).loc main_arg0)
/-- The weights the call is given. -/
def inW : Vec Ideal S2048x6144 .bf16 := m ((c : Thread nD τ).loc main_arg1)

/-- The whole product. -/
def prod (a : Vec Ideal S8192x2048 .bf16) (w : Vec Ideal S2048x6144 .bf16) : Vec Ideal S8192x6144 .bf16 := fun x =>
  (∑ k : Fin 2048, a (ix2 (n0 := 8192) (n1 := 2048) (x 0) k) * w (ix2 (n0 := 2048) (n1 := 6144) k (x 1)) : EReal)

/-- Every product the tile's payload forms is a row of one block times a column of the other. -/
theorem pay_apply (a : FVec Ideal S1024x2048 .bf16) (w : FVec Ideal S2048x1536 .bf16) (r : Fin 1024) (j : Fin 1536) :
    k0_pay1 (F := Ideal) a w (ix2 r j) = ∑ k : Fin 2048, a (ix2 r k) * w (ix2 k j) := by
  pointwise [k0_pay1]

theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx1 : ∀ t : Fin cfg0.N, win0_1.index t 0 = 0 ∧ win0_1.index t 1 = t.val % 4 :=
  (by decide +kernel : ∀ t : Fin grid0.N, win0_1.index t 0 = 0 ∧ win0_1.index t 1 = t.val % 4)
theorem idx2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

theorem lt32 (t : Fin cfg0.N) : t.val < 32 := lt_of_lt_of_eq t.isLt N_0

/-- The array row of row `r` of point `t`'s tile. -/
def rowOf (t : Fin cfg0.N) (r : Fin 1024) : Fin 8192 := ⟨t.val / 4 * 1024 + r.val, by have := lt32 t; omega⟩
/-- The array column of column `j` of point `t`'s tile. -/
def colOf (t : Fin cfg0.N) (j : Fin 1536) : Fin 6144 := ⟨t.val % 4 * 1536 + j.val, by omega⟩

theorem read0_apply (W : (b : Ref sig .tc) → Buf (Elt Ideal) ((c : Thread nD τ).loc b)) (t : Fin cfg0.N) (r : Fin 1024) (k : Fin 2048) :
    (((cfg0.win 0).blk t).view.read (Elt Ideal) (W (Pipeline.arrRef spec0 0)) : Vec Ideal S1024x2048 .bf16) (ix2 r k)
      = (W main_arg0 : Vec Ideal S8192x2048 .bf16) (ix2 (rowOf t r) k) := by
  rw [View.read_apply]
  show W main_arg0 _ = W main_arg0 _
  refine congrArg (W main_arg0) (funext fun a => Fin.ext ?_)
  match a with
  | ⟨0, _⟩ => show win0_0.index t 0 * 1024 + 1 * r.val = t.val / 4 * 1024 + r.val; rw [(idx0 t).1]; omega
  | ⟨1, _⟩ => show win0_0.index t 1 * 2048 + 1 * k.val = k.val; rw [(idx0 t).2]; omega

theorem read1_apply (W : (b : Ref sig .tc) → Buf (Elt Ideal) ((c : Thread nD τ).loc b)) (t : Fin cfg0.N) (k : Fin 2048) (j : Fin 1536) :
    (((cfg0.win 1).blk t).view.read (Elt Ideal) (W (Pipeline.arrRef spec0 1)) : Vec Ideal S2048x1536 .bf16) (ix2 k j)
      = (W main_arg1 : Vec Ideal S2048x6144 .bf16) (ix2 k (colOf t j)) := by
  rw [View.read_apply]
  show W main_arg1 _ = W main_arg1 _
  refine congrArg (W main_arg1) (funext fun a => Fin.ext ?_)
  match a with
  | ⟨0, _⟩ => show win0_1.index t 0 * 2048 + 1 * k.val = k.val; rw [(idx1 t).1]; omega
  | ⟨1, _⟩ => show win0_1.index t 1 * 1536 + 1 * j.val = t.val % 4 * 1536 + j.val; rw [(idx1 t).2]; omega

theorem iblk0_apply (t : Fin cfg0.N) (r : Fin 1024) (k : Fin 2048) :
    (iblk m c 0 t : Vec Ideal S1024x2048 .bf16) (ix2 r k) = inA m c (ix2 (rowOf t r) k) := read0_apply c (V m c) t r k
theorem iblk1_apply (t : Fin cfg0.N) (k : Fin 2048) (j : Fin 1536) :
    (iblk m c 1 t : Vec Ideal S2048x1536 .bf16) (ix2 k j) = inW m c (ix2 k (colOf t j)) := read1_apply c (V m c) t k j

theorem out_eq (x0 : Vec Ideal S1024x2048 .bf16) (x1 : Vec Ideal S2048x1536 .bf16) : out0_2 x0 x1 = k0_pay1 x0 x1 := by
  frame_out

theorem emb2 (t : Fin cfg0.N) (y : S1024x1536.Idx) :
    ((((cfg0.win 2).blk t).view.emb y : S8192x6144.Idx) 0).val = t.val / 4 * 1024 + (y 0).val
    ∧ ((((cfg0.win 2).blk t).view.emb y : S8192x6144.Idx) 1).val = t.val % 4 * 1536 + (y 1).val := by
  constructor
  · show win0_2.index t 0 * 1024 + 1 * (y 0).val = _; rw [(idx2 t).1]; omega
  · show win0_2.index t 1 * 1536 + 1 * (y 1).val = _; rw [(idx2 t).2]; omega

/-- A point's tile is that tile of the whole product. -/
theorem tile (t : Fin cfg0.N) (y : S1024x1536.Idx) (x : S8192x6144.Idx) (h0 : (x 0).val = t.val / 4 * 1024 + (y 0).val)
    (h1 : (x 1).val = t.val % 4 * 1536 + (y 1).val) :
    ((dats m 0 c).after 2 t : Vec Ideal S1024x1536 .bf16) y = prod (inA m c) (inW m c) x := by
  have hy : y = ix2 (n0 := 1024) (n1 := 1536) (y 0) (y 1) := funext fun a => by match a with | ⟨0, _⟩ => rfl | ⟨1, _⟩ => rfl
  rw [after0_2, out_eq, hy]
  refine (pay_apply _ _ (y 0) (y 1)).trans ?_
  unfold prod
  refine Finset.sum_congr rfl fun k _ => congrArg₂ (· * ·) ((iblk0_apply m c t (y 0) k).trans ?_) ((iblk1_apply m c t k (y 1)).trans ?_)
  · exact congrArg (fun a => inA m c (ix2 a k)) (Fin.ext h0.symm)
  · exact congrArg (fun b => inW m c (ix2 k b)) (Fin.ext h1.symm)

/-- The result array is the whole product. -/
theorem final : (dats m 0 c).arrAt 2 cfg0.N = prod (inA m c) (inW m c) := by
  refine (dats m 0 c).arrAt_eq_of_covers 2 _ (by decide +kernel) fun t hf y => ?_
  exact tile m c t y _ (emb2 t y).1 (emb2 t y).2

/-- The reference's result is the whole product. -/
theorem ref_eq (a : FVec Ideal S8192x2048 .bf16) (w : FVec Ideal S2048x6144 .bf16) :
    Cert.Reference4Ideal.Read.val_main_v3 (F := Ideal) a w = prod a w := funext fun x => by
  rw [Cert.Reference4Ideal.Read.val_main_v3_apply, Cert.Reference4Ideal.Read.val_main_v2_apply]
  unfold prod
  refine Finset.sum_congr rfl fun k _ => congrArg₂ (· * ·) (congrArg a (funext fun b => ?_)) (congrArg w (funext fun b => ?_))
  all_goals match b with | ⟨0, _⟩ => rfl | ⟨1, _⟩ => rfl

end Cert.Kernel4Ideal.Val

end
-- ==== Proof.OutProject.lean ====
/- The output projections' product with the residual and the gate: both results of the call, as whole arrays, and the reference's. -/
module

public import proofs.«01_k».proof.Proof.Gen.Kernel3Ideal.Value
public import proofs.«01_k».proof.Proof.Gen.Reference3Ideal.Read
public import Idealize.ShloMosaic.Lib.Pointwise
public import Idealize.ShloMosaic.Lib.Pipeline.ValueKit.Geometry
public import Idealize.ShloMosaic.Lib.Pipeline.ValueKit.Acc

@[expose] public section

noncomputable section

open Idealize.ShloMosaic Idealize.ShloMosaic.TcCoe Idealize.SL.Sem
open Idealize.ShloMosaic.Pipeline (Dat)

namespace Cert.Kernel3Ideal.Val
open Cert.Kernel3Ideal Cert.Kernel3Ideal.Gen

variable (m : (ℓ : Loc nD τ sig) → Buf (Elt Ideal) ℓ) (c : Dev nD)

/-- The activations the call is given. -/
def inA : Vec Ideal S8192x2048 .bf16 := m ((c : Thread nD τ).loc main_arg0)
/-- The weights the call is given. -/
def inW : Vec Ideal S2048x2048 .bf16 := m ((c : Thread nD τ).loc main_arg1)
/-- The residual stream the call is given. -/
def inR : Vec Ideal S8192x2048 .f32 := m ((c : Thread nD τ).loc main_arg2)
/-- The gate the call is given. -/
def inG : Vec Ideal S1x2048 .f32 := m ((c : Thread nD τ).loc main_arg3)

/-- The whole product. -/
def prod (a : Vec Ideal S8192x2048 .bf16) (w : Vec Ideal S2048x2048 .bf16) : Vec Ideal S8192x2048 .bf16 := fun x =>
  (∑ k : Fin 2048, a (ix2 (n0 := 8192) (n1 := 2048) (x 0) k) * w (ix2 (n0 := 2048) (n1 := 2048) k (x 1)) : EReal)

/-- The residual plus the gated product. -/
def gated (a : Vec Ideal S8192x2048 .bf16) (w : Vec Ideal S2048x2048 .bf16) (res : Vec Ideal S8192x2048 .f32) (g : Vec Ideal S1x2048 .f32) :
    Vec Ideal S8192x2048 .f32 := fun x =>
  (res (ix2 (n0 := 8192) (n1 := 2048) (x 0) (x 1)) + g (ix2 (n0 := 1) (n1 := 2048) 0 (x 1))
    * ∑ k : Fin 2048, a (ix2 (n0 := 8192) (n1 := 2048) (x 0) k) * w (ix2 (n0 := 2048) (n1 := 2048) k (x 1)) : EReal)

theorem pay2_apply (a : FVec Ideal S512x2048 .bf16) (w : FVec Ideal S2048x2048 .bf16) (r : Fin 512) (j : Fin 2048) :
    k0_pay2 (F := Ideal) a w (ix2 r j) = ∑ k : Fin 2048, a (ix2 r k) * w (ix2 k j) := by
  pointwise [k0_pay2, k0_pay1]

theorem pay3_apply (a : FVec Ideal S512x2048 .bf16) (w : FVec Ideal S2048x2048 .bf16) (res : FVec Ideal S512x2048 .f32)
    (g : FVec Ideal S1x2048 .f32) (r : Fin 512) (j : Fin 2048) :
    k0_pay3 (F := Ideal) a w res g (ix2 r j) = res (ix2 r j) + g (ix2 0 j) * ∑ k : Fin 2048, a (ix2 r k) * w (ix2 k j) := by
  pointwise [k0_pay3, k0_pay1]

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)

theorem lt16 (t : Fin cfg0.N) : t.val < 16 := lt_of_lt_of_eq t.isLt N_0

/-- The array row of row `r` of point `t`'s tile. -/
def rowOf (t : Fin cfg0.N) (r : Fin 512) : Fin 8192 := ⟨t.val * 512 + r.val, by have := lt16 t; omega⟩

theorem read0_apply (W : (b : Ref sig .tc) → Buf (Elt Ideal) ((c : Thread nD τ).loc b)) (t : Fin cfg0.N) (r : Fin 512) (k : Fin 2048) :
    (((cfg0.win 0).blk t).view.read (Elt Ideal) (W (Pipeline.arrRef spec0 0)) : Vec Ideal S512x2048 .bf16) (ix2 r k)
      = (W main_arg0 : Vec Ideal S8192x2048 .bf16) (ix2 (rowOf t r) k) := by
  rw [View.read_apply]
  show W main_arg0 _ = W main_arg0 _
  refine congrArg (W main_arg0) (funext fun a => Fin.ext ?_)
  match a with
  | ⟨0, _⟩ => show win0_0.index t 0 * 512 + 1 * r.val = t.val * 512 + r.val; rw [(idx0 t).1]; omega
  | ⟨1, _⟩ => show win0_0.index t 1 * 2048 + 1 * k.val = k.val; rw [(idx0 t).2]; omega

theorem read1_apply (W : (b : Ref sig .tc) → Buf (Elt Ideal) ((c : Thread nD τ).loc b)) (t : Fin cfg0.N) (k : Fin 2048) (j : Fin 2048) :
    (((cfg0.win 1).blk t).view.read (Elt Ideal) (W (Pipeline.arrRef spec0 1)) : Vec Ideal S2048x2048 .bf16) (ix2 k j)
      = (W main_arg1 : Vec Ideal S2048x2048 .bf16) (ix2 k j) := by
  rw [View.read_apply]
  show W main_arg1 _ = W main_arg1 _
  refine congrArg (W main_arg1) (funext fun a => Fin.ext ?_)
  match a with
  | ⟨0, _⟩ => show win0_1.index t 0 * 2048 + 1 * k.val = k.val; rw [(idx1 t).1]; omega
  | ⟨1, _⟩ => show win0_1.index t 1 * 2048 + 1 * j.val = j.val; rw [(idx1 t).2]; omega

theorem read2_apply (W : (b : Ref sig .tc) → Buf (Elt Ideal) ((c : Thread nD τ).loc b)) (t : Fin cfg0.N) (r : Fin 512) (j : Fin 2048) :
    (((cfg0.win 2).blk t).view.read (Elt Ideal) (W (Pipeline.arrRef spec0 2)) : Vec Ideal S512x2048 .f32) (ix2 r j)
      = (W main_arg2 : Vec Ideal S8192x2048 .f32) (ix2 (rowOf t r) j) := by
  rw [View.read_apply]
  show W main_arg2 _ = W main_arg2 _
  refine congrArg (W main_arg2) (funext fun a => Fin.ext ?_)
  match a with
  | ⟨0, _⟩ => show win0_2.index t 0 * 512 + 1 * r.val = t.val * 512 + r.val; rw [(idx2 t).1]; omega
  | ⟨1, _⟩ => show win0_2.index t 1 * 2048 + 1 * j.val = j.val; rw [(idx2 t).2]; omega

theorem read3_apply (W : (b : Ref sig .tc) → Buf (Elt Ideal) ((c : Thread nD τ).loc b)) (t : Fin cfg0.N) (r : Fin 1) (j : Fin 2048) :
    (((cfg0.win 3).blk t).view.read (Elt Ideal) (W (Pipeline.arrRef spec0 3)) : Vec Ideal S1x2048 .f32) (ix2 r j)
      = (W main_arg3 : Vec Ideal S1x2048 .f32) (ix2 r j) := by
  rw [View.read_apply]
  show W main_arg3 _ = W main_arg3 _
  refine congrArg (W main_arg3) (funext fun a => Fin.ext ?_)
  match a with
  | ⟨0, _⟩ => show win0_3.index t 0 * 1 + 1 * r.val = r.val; rw [(idx3 t).1]; omega
  | ⟨1, _⟩ => show win0_3.index t 1 * 2048 + 1 * j.val = j.val; rw [(idx3 t).2]; omega

theorem iblk0_apply (t : Fin cfg0.N) (r : Fin 512) (k : Fin 2048) :
    (iblk m c 0 t : Vec Ideal S512x2048 .bf16) (ix2 r k) = inA m c (ix2 (rowOf t r) k) := read0_apply c (V m c) t r k
theorem iblk1_apply (t : Fin cfg0.N) (k : Fin 2048) (j : Fin 2048) :
    (iblk m c 1 t : Vec Ideal S2048x2048 .bf16) (ix2 k j) = inW m c (ix2 k j) := read1_apply c (V m c) t k j
theorem iblk2_apply (t : Fin cfg0.N) (r : Fin 512) (j : Fin 2048) :
    (iblk m c 2 t : Vec Ideal S512x2048 .f32) (ix2 r j) = inR m c (ix2 (rowOf t r) j) := read2_apply c (V m c) t r j
theorem iblk3_apply (t : Fin cfg0.N) (r : Fin 1) (j : Fin 2048) :
    (iblk m c 3 t : Vec Ideal S1x2048 .f32) (ix2 r j) = inG m c (ix2 r j) := read3_apply c (V m c) t r j

theorem out4_eq (x0 : Vec Ideal S512x2048 .bf16) (x1 : Vec Ideal S2048x2048 .bf16) (x2 : Vec Ideal S512x2048 .f32) (x3 : Vec Ideal S1x2048 .f32) :
    out0_4 x0 x1 x2 x3 = k0_pay2 x0 x1 := by
  frame_out

theorem out5_eq (x0 : Vec Ideal S512x2048 .bf16) (x1 : Vec Ideal S2048x2048 .bf16) (x2 : Vec Ideal S512x2048 .f32) (x3 : Vec Ideal S1x2048 .f32) :
    out0_5 x0 x1 x2 x3 = k0_pay3 x0 x1 x2 x3 := by
  frame_out

theorem emb4 (t : Fin cfg0.N) (y : S512x2048.Idx) :
    ((((cfg0.win 4).blk t).view.emb y : S8192x2048.Idx) 0).val = t.val * 512 + (y 0).val
    ∧ ((((cfg0.win 4).blk t).view.emb y : S8192x2048.Idx) 1).val = (y 1).val := by
  constructor
  · show win0_4.index t 0 * 512 + 1 * (y 0).val = _; rw [(idx4 t).1]; omega
  · show win0_4.index t 1 * 2048 + 1 * (y 1).val = _; rw [(idx4 t).2]; omega

theorem emb5 (t : Fin cfg0.N) (y : S512x2048.Idx) :
    ((((cfg0.win 5).blk t).view.emb y : S8192x2048.Idx) 0).val = t.val * 512 + (y 0).val
    ∧ ((((cfg0.win 5).blk t).view.emb y : S8192x2048.Idx) 1).val = (y 1).val := by
  constructor
  · show win0_5.index t 0 * 512 + 1 * (y 0).val = _; rw [(idx5 t).1]; omega
  · show win0_5.index t 1 * 2048 + 1 * (y 1).val = _; rw [(idx5 t).2]; omega

/-- Point `t`'s block of the activations. -/
def blkA (t : Fin cfg0.N) : FVec Ideal S512x2048 .bf16 := iblk m c 0 t
/-- Point `t`'s block of the weights. -/
def blkW (t : Fin cfg0.N) : FVec Ideal S2048x2048 .bf16 := iblk m c 1 t

/-- The products of a point's tile are those of the whole arrays. -/
theorem tile_sum (t : Fin cfg0.N) (r : Fin 512) (j : Fin 2048) (x0 : Fin 8192) (x1 : Fin 2048) (h0 : x0.val = t.val * 512 + r.val) (h1 : x1.val = j.val) :
    ∑ k : Fin 2048, blkA m c t (ix2 r k) * blkW m c t (ix2 k j) = ∑ k : Fin 2048, (inA m c (ix2 x0 k) * inW m c (ix2 k x1) : EReal) := by
  refine Finset.sum_congr rfl fun k _ => congrArg₂ (· * ·) ((iblk0_apply m c t r k).trans ?_) ((iblk1_apply m c t k j).trans ?_)
  · exact congrArg (fun a => inA m c (ix2 a k)) (Fin.ext h0.symm)
  · exact congrArg (fun b => inW m c (ix2 k b)) (Fin.ext h1.symm)

theorem tile4 (t : Fin cfg0.N) (y : S512x2048.Idx) (x : S8192x2048.Idx) (h0 : (x 0).val = t.val * 512 + (y 0).val) (h1 : (x 1).val = (y 1).val) :
    ((dats m 0 c).after 4 t : Vec Ideal S512x2048 .bf16) y = prod (inA m c) (inW m c) x := by
  have hy : y = ix2 (n0 := 512) (n1 := 2048) (y 0) (y 1) := funext fun a => by match a with | ⟨0, _⟩ => rfl | ⟨1, _⟩ => rfl
  rw [after0_4, out4_eq, hy]
  exact (pay2_apply (blkA m c t) (blkW m c t) (y 0) (y 1)).trans (tile_sum m c t (y 0) (y 1) (x 0) (x 1) h0 h1)

theorem tile5 (t : Fin cfg0.N) (y : S512x2048.Idx) (x : S8192x2048.Idx) (h0 : (x 0).val = t.val * 512 + (y 0).val) (h1 : (x 1).val = (y 1).val) :
    ((dats m 0 c).after 5 t : Vec Ideal S512x2048 .f32) y
      = gated (inA m c) (inW m c) (inR m c) (inG m c) x := by
  have hy : y = ix2 (n0 := 512) (n1 := 2048) (y 0) (y 1) := funext fun a => by match a with | ⟨0, _⟩ => rfl | ⟨1, _⟩ => rfl
  rw [after0_5, out5_eq, hy]
  refine (pay3_apply (blkA m c t) (blkW m c t) _ _ (y 0) (y 1)).trans ?_
  refine congrArg₂ (· + ·) ((iblk2_apply m c t (y 0) (y 1)).trans ?_) (congrArg₂ (· * ·) ((iblk3_apply m c t 0 (y 1)).trans ?_)
    (tile_sum m c t (y 0) (y 1) (x 0) (x 1) h0 h1))
  · exact congrArg₂ (fun a b => inR m c (ix2 a b)) (Fin.ext h0.symm) (Fin.ext h1.symm)
  · exact congrArg (fun b => inG m c (ix2 0 b)) (Fin.ext h1.symm)

/-- The first result array is the whole product. -/
theorem final4 : (dats m 0 c).arrAt 4 cfg0.N = prod (inA m c) (inW m c) := by
  refine (dats m 0 c).arrAt_eq_of_covers 4 _ (by decide +kernel) fun t hf y => ?_
  exact tile4 m c t y _ (emb4 t y).1 (emb4 t y).2

/-- The second result array is the residual plus the gated product. -/
theorem final5 : (dats m 0 c).arrAt 5 cfg0.N = gated (inA m c) (inW m c) (inR m c) (inG m c) := by
  refine (dats m 0 c).arrAt_eq_of_covers 5 _ (by decide +kernel) fun t hf y => ?_
  exact tile5 m c t y _ (emb5 t y).1 (emb5 t y).2

open Cert.Reference3Ideal.Read in
theorem ref_sum (a : FVec Ideal S8192x2048 .bf16) (w : FVec Ideal S2048x2048 .bf16) (x : S8192x2048.Idx) :
    val_main_v2 (F := Ideal) a w x = prod a w x := by
  rw [val_main_v2_apply]
  unfold prod
  refine Finset.sum_congr rfl fun k _ => congrArg₂ (· * ·) (congrArg a (funext fun b => ?_)) (congrArg w (funext fun b => ?_))
  all_goals match b with | ⟨0, _⟩ => rfl | ⟨1, _⟩ => rfl

open Cert.Reference3Ideal.Read in
/-- The reference's first result is the whole product. -/
theorem ref4_eq (a : FVec Ideal S8192x2048 .bf16) (w : FVec Ideal S2048x2048 .bf16) : val_main_v3 (F := Ideal) a w = prod a w := funext fun x => by
  rw [val_main_v3_apply]
  exact ref_sum a w x

open Cert.Reference3Ideal.Read in
/-- The reference's second result is the residual plus the gated product. -/
theorem ref5_eq (a : FVec Ideal S8192x2048 .bf16) (w : FVec Ideal S2048x2048 .bf16) (res : FVec Ideal S8192x2048 .f32) (g : FVec Ideal S1x2048 .f32) :
    val_main_v6 (F := Ideal) a w res g = gated a w res g := funext fun x => by
  rw [val_main_v6_apply, val_main_v5_apply, val_main_v4_apply]
  refine congrArg₂ (· + ·) (congrArg res (funext fun b => ?_)) (congrArg₂ (· * ·) (congrArg g (funext fun b => ?_)) (ref_sum a w x))
  all_goals match b with | ⟨0, _⟩ => rfl | ⟨1, _⟩ => rfl

end Cert.Kernel3Ideal.Val

end
-- ==== Proof.OutWeights.lean ====
/- The weights' gradient of the output projections: the accumulator over the four slabs of rows, the whole result array, and the reference's. -/
module

public import proofs.«01_k».proof.Proof.Gen.Kernel2Ideal.Value
public import proofs.«01_k».proof.Proof.Gen.Reference2Ideal.Read
public import Idealize.ShloMosaic.Lib.Pointwise
public import Idealize.ShloMosaic.Lib.Pipeline.ValueKit.Geometry
public import Idealize.ShloMosaic.Lib.Pipeline.ValueKit.Acc

@[expose] public section

noncomputable section

open Idealize.ShloMosaic Idealize.ShloMosaic.TcCoe Idealize.SL.Sem
open Idealize.ShloMosaic.Pipeline (Dat)

namespace Cert.Kernel2Ideal.Val
open Cert.Kernel2Ideal Cert.Kernel2Ideal.Gen

variable (m : (ℓ : Loc nD τ sig) → Buf (Elt Ideal) ℓ) (c : Dev nD)

/-- The activations the call is given. -/
def inA : Vec Ideal S8192x2048 .bf16 := m ((c : Thread nD τ).loc main_arg0)
/-- The result's gradient the call is given. -/
def inCt : Vec Ideal S8192x2048 .bf16 := m ((c : Thread nD τ).loc main_arg1)

/-- The whole gradient of the weights. -/
def gradW (a : Vec Ideal S8192x2048 .bf16) (ct : Vec Ideal S8192x2048 .bf16) : Vec Ideal S2048x2048 .bf16 := fun x =>
  (∑ n : Fin 8192, a (ix2 (n0 := 8192) (n1 := 2048) n (x 0)) * ct (ix2 (n0 := 8192) (n1 := 2048) n (x 1)) : EReal)

theorem pay1_apply (i j) : k0_pay1 (F := Ideal) (ix2 i j) = 0 := by
  pointwise [k0_pay1]

theorem pay2_apply (s : FVec Ideal S2048x1024 .f32) (a : FVec Ideal S2048x2048 .bf16) (ct : FVec Ideal S2048x1024 .bf16) (i : Fin 2048) (j : Fin 1024) :
    k0_pay2 (F := Ideal) s a ct (ix2 i j) = s (ix2 i j) + ∑ n : Fin 2048, a (ix2 n i) * ct (ix2 n j) := by
  pointwise [k0_pay2]

theorem idx0 : ∀ t : Fin cfg0.N, win0_0.index t 0 = t.val % 4 ∧ win0_0.index t 1 = 0 :=
  (by decide +kernel : ∀ t : Fin grid0.N, win0_0.index t 0 = t.val % 4 ∧ win0_0.index t 1 = 0)
theorem idx1 : ∀ t : Fin cfg0.N, win0_1.index t 0 = t.val % 4 ∧ win0_1.index t 1 = t.val / 4 :=
  (by decide +kernel : ∀ t : Fin grid0.N, win0_1.index t 0 = t.val % 4 ∧ win0_1.index t 1 = t.val / 4)
theorem idx2 : ∀ t : Fin cfg0.N, win0_2.index t 0 = 0 ∧ win0_2.index t 1 = t.val / 4 :=
  (by decide +kernel : ∀ t : Fin grid0.N, win0_2.index t 0 = 0 ∧ win0_2.index t 1 = t.val / 4)

theorem lt8 (t : Fin cfg0.N) : t.val < 8 := lt_of_lt_of_eq t.isLt N_0

/-- The array row of row `n` of point `t`'s blocks. -/
def rowOf (t : Fin cfg0.N) (n : Fin 2048) : Fin 8192 := ⟨t.val % 4 * 2048 + n.val, by omega⟩
/-- The array column of column `j` of point `t`'s block of the result's gradient. -/
def colOf (t : Fin cfg0.N) (j : Fin 1024) : Fin 2048 := ⟨t.val / 4 * 1024 + j.val, by have := lt8 t; omega⟩

theorem read0_apply (W : (b : Ref sig .tc) → Buf (Elt Ideal) ((c : Thread nD τ).loc b)) (t : Fin cfg0.N) (n : Fin 2048) (i : Fin 2048) :
    (((cfg0.win 0).blk t).view.read (Elt Ideal) (W (Pipeline.arrRef spec0 0)) : Vec Ideal S2048x2048 .bf16) (ix2 n i)
      = (W main_arg0 : Vec Ideal S8192x2048 .bf16) (ix2 (rowOf t n) i) := by
  rw [View.read_apply]
  show W main_arg0 _ = W main_arg0 _
  refine congrArg (W main_arg0) (funext fun a => Fin.ext ?_)
  match a with
  | ⟨0, _⟩ => show win0_0.index t 0 * 2048 + 1 * n.val = t.val % 4 * 2048 + n.val; rw [(idx0 t).1]; omega
  | ⟨1, _⟩ => show win0_0.index t 1 * 2048 + 1 * i.val = i.val; rw [(idx0 t).2]; omega

theorem read1_apply (W : (b : Ref sig .tc) → Buf (Elt Ideal) ((c : Thread nD τ).loc b)) (t : Fin cfg0.N) (n : Fin 2048) (j : Fin 1024) :
    (((cfg0.win 1).blk t).view.read (Elt Ideal) (W (Pipeline.arrRef spec0 1)) : Vec Ideal S2048x1024 .bf16) (ix2 n j)
      = (W main_arg1 : Vec Ideal S8192x2048 .bf16) (ix2 (rowOf t n) (colOf t j)) := by
  rw [View.read_apply]
  show W main_arg1 _ = W main_arg1 _
  refine congrArg (W main_arg1) (funext fun a => Fin.ext ?_)
  match a with
  | ⟨0, _⟩ => show win0_1.index t 0 * 2048 + 1 * n.val = t.val % 4 * 2048 + n.val; rw [(idx1 t).1]; omega
  | ⟨1, _⟩ => show win0_1.index t 1 * 1024 + 1 * j.val = t.val / 4 * 1024 + j.val; rw [(idx1 t).2]; omega

theorem iblk0_apply (t : Fin cfg0.N) (n : Fin 2048) (i : Fin 2048) :
    (iblk m c 0 t : Vec Ideal S2048x2048 .bf16) (ix2 n i) = inA m c (ix2 (rowOf t n) i) := read0_apply c (V m c) t n i
theorem iblk1_apply (t : Fin cfg0.N) (n : Fin 2048) (j : Fin 1024) :
    (iblk m c 1 t : Vec Ideal S2048x1024 .bf16) (ix2 n j) = inCt m c (ix2 (rowOf t n) (colOf t j)) := read1_apply c (V m c) t n j

/-- Point `t`'s block of the activations. -/
def blkA (t : Fin cfg0.N) : FVec Ideal S2048x2048 .bf16 := iblk m c 0 t
/-- Point `t`'s block of the result's gradient. -/
def blkCt (t : Fin cfg0.N) : FVec Ideal S2048x1024 .bf16 := iblk m c 1 t

/-- What point number `n` adds to the accumulator. -/
def slab (i : Fin 2048) (j : Fin 1024) (n : ℕ) : EReal :=
  if h : n < cfg0.N then ∑ k : Fin 2048, (inA m c (ix2 (rowOf ⟨n, h⟩ k) i) * inCt m c (ix2 (rowOf ⟨n, h⟩ k) (colOf ⟨n, h⟩ j)) : EReal) else 0

theorem slab_at (t : Fin cfg0.N) (i : Fin 2048) (j : Fin 1024) :
    ∑ k : Fin 2048, blkA m c t (ix2 k i) * blkCt m c t (ix2 k j) = slab m c i j t.val := by
  rw [slab, dif_pos t.isLt]
  exact Finset.sum_congr rfl fun k _ => congrArg₂ (· * ·) (iblk0_apply m c t k i) (iblk1_apply m c t k j)

/-- The accumulator after a point that resets it. -/
theorem acc_reset (t : Fin cfg0.N) (h0 : t.val % 4 = 0) : (outsAt0 m c t.val t.isLt).2 = k0_pay2 (F := Ideal) (k0_pay1 (F := Ideal)) (iblk m c 0 t) (iblk m c 1 t) := by
  rw [outsAt0_A m c t h0 (by omega)]
  dsimp only
  frame_out

/-- The accumulator after any other point. -/
theorem acc_step (t : Fin cfg0.N) (h0 : ¬t.val % 4 = 0) : (outsAt0 m c t.val t.isLt).2
    = k0_pay2 (F := Ideal) (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    frame_out
    exact congrArg (fun s => k0_pay2 (F := Ideal) s (iblk m c 0 t) (iblk m c 1 t)) (Memref.IsWhole.read_unread (Memref.isWhole_whole _) _)
  · rw [outsAt0_B m c t h0 h1]
    dsimp only
    frame_out
    exact congrArg (fun s => k0_pay2 (F := Ideal) s (iblk m c 0 t) (iblk m c 1 t)) (Memref.IsWhole.read_unread (Memref.isWhole_whole _) _)

/-- What a point at the end of its run leaves in the result's block: the accumulator, rounded. -/
theorem out_last (t : Fin cfg0.N) (h1 : t.val % 4 = 3) : (outsAt0 m c t.val t.isLt).1
    = k0_pay3 (F := Ideal) (k0_pay2 (outsAt0 m c (t.val - 1) (Nat.lt_of_le_of_lt (Nat.sub_le _ _) t.isLt)).2 (iblk m c 0 t) (iblk m c 1 t)) := by
  rw [outsAt0_C m c t (by omega) h1]
  dsimp only
  frame_out
  exact congrArg (fun s => k0_pay3 (F := Ideal) (k0_pay2 s (iblk m c 0 t) (iblk m c 1 t))) (Memref.IsWhole.read_unread (Memref.isWhole_whole _) _)

/-- The accumulator is the sum of the slabs met so far. -/
theorem acc_eq (t : Fin cfg0.N) (i : Fin 2048) (j : Fin 1024) :
    ((outsAt0 m c t.val t.isLt).2 : FVec Ideal S2048x1024 .f32) (ix2 i j) = 0 + ∑ l ∈ Finset.range (t.val % 4 + 1), slab m c i j (4 * (t.val / 4) + l) :=
  Pipeline.eq_sum_of_reset_step (fun n h => ((outsAt0 m c n h).2 : FVec Ideal S2048x1024 .f32) (ix2 i j)) 4 (0 : EReal) (slab m c i j)
    (fun t h0 => by
      simp only [acc_reset m c t h0]
      exact (pay2_apply _ (blkA m c t) (blkCt m c t) i j).trans (congrArg₂ (· + ·) (pay1_apply i j) (slab_at m c t i j)))
    (fun t h0 => by
      simp only [acc_step m c t h0]
      exact (pay2_apply _ (blkA m c t) (blkCt m c t) i j).trans (congrArg₂ (· + ·) rfl (slab_at m c t i j))) t

theorem emb2 (t : Fin cfg0.N) (y : S2048x1024.Idx) :
    ((((cfg0.win 2).blk t).view.emb y : S2048x2048.Idx) 0).val = (y 0).val
    ∧ ((((cfg0.win 2).blk t).view.emb y : S2048x2048.Idx) 1).val = t.val / 4 * 1024 + (y 1).val := by
  constructor
  · show win0_2.index t 0 * 2048 + 1 * (y 0).val = _; rw [(idx2 t).1]; omega
  · show win0_2.index t 1 * 1024 + 1 * (y 1).val = _; rw [(idx2 t).2]; omega

/-- A sum over the rows is the sum over the four slabs. -/
theorem sum_rows (f : Fin 8192 → EReal) :
    ∑ l : Fin 4, ∑ k : Fin 2048, f ⟨l.val * 2048 + k.val, by omega⟩ = ∑ n, f n := by
  rw [← Fintype.sum_prod_type']
  refine Fintype.sum_equiv (finProdFinEquiv : Fin 4 × Fin 2048 ≃ Fin (4 * 2048)) _ _ fun p => ?_
  obtain ⟨l, k⟩ := p
  refine congrArg f (Fin.ext ?_)
  show l.val * 2048 + k.val = k.val + 2048 * l.val
  omega

/-- The block a run leaves is that block of the whole gradient. -/
theorem block (t : Fin cfg0.N) (h3 : t.val % 4 = 3) (y : S2048x1024.Idx) (x : S2048x2048.Idx) (h0 : (x 0).val = (y 0).val)
    (h1 : (x 1).val = t.val / 4 * 1024 + (y 1).val) :
    ((outsAt0 m c t.val t.isLt).1 : FVec Ideal S2048x1024 .bf16) y = gradW (inA m c) (inCt m c) x := by
  have hy : y = ix2 (n0 := 2048) (n1 := 1024) (y 0) (y 1) := funext fun a => by match a with | ⟨0, _⟩ => rfl | ⟨1, _⟩ => rfl
  have e : ((outsAt0 m c t.val t.isLt).1 : FVec Ideal S2048x1024 .bf16) y = ((outsAt0 m c t.val t.isLt).2 : FVec Ideal S2048x1024 .f32) y := by
    rw [out_last m c t h3, acc_step m c t (by omega)]; rfl
  have bt := lt8 t
  rw [e, hy]
  refine (acc_eq m c t (y 0) (y 1)).trans ?_
  rw [zero_add, h3, Finset.sum_range]
  unfold gradW
  rw [← sum_rows]
  refine Finset.sum_congr rfl fun l _ => ?_
  have hl : 4 * (t.val / 4) + l.val < cfg0.N := lt_of_lt_of_eq (by omega : _ < 8) N_0.symm
  refine (dif_pos hl).trans ?_
  refine Finset.sum_congr rfl fun k _ => congrArg₂ (· * ·) (congrArg₂ (fun a b => inA m c (ix2 a b)) (Fin.ext ?_) (Fin.ext h0.symm))
    (congrArg₂ (fun a b => inCt m c (ix2 a b)) (Fin.ext ?_) (Fin.ext ?_))
  all_goals simp only [rowOf, colOf]; omega

/-- The result array is the whole gradient of the weights. -/
theorem final : (dats m 0 c).arrAt 2 cfg0.N = gradW (inA m c) (inCt m c) := by
  refine (dats m 0 c).arrAt_eq_of_covers 2 _ (by decide +kernel) fun t hf y => ?_
  rw [after0_2]
  exact block m c t ((flush0_2 t).mp hf) y _ (emb2 t y).1 (emb2 t y).2

/-- The reference's result is the whole gradient of the weights. -/
theorem ref_eq (a ct : FVec Ideal S8192x2048 .bf16) :
    Cert.Reference2Ideal.Read.val_main_v7 (F := Ideal) a ct = gradW a ct := funext fun x => by
  rw [Cert.Reference2Ideal.Read.val_main_v7_apply, Cert.Reference2Ideal.Read.val_main_v6_apply]
  refine (Cert.Reference2Ideal.Read.val_main_v5_apply a ct _).trans ?_
  unfold gradW
  refine Finset.sum_congr rfl fun n _ => (mul_comm _ _).trans (congrArg₂ (· * ·) (congrArg a (funext fun b => ?_)) (congrArg ct (funext fun b => ?_)))
  all_goals match b with | ⟨0, _⟩ => rfl | ⟨1, _⟩ => rfl

end Cert.Kernel2Ideal.Val

end
-- ==== Proof.AttnStep.lean ====
/- What one visit of the attention forward's grid computes, key tile by key tile: the running largest score, sum and weighted
   values of every stacked row in one vocabulary, and each of them read at an entry over the reals. -/
module

public import proofs.«01_k».proof.Proof.Gen.Kernel5Ideal.Frame
public import Idealize.ShloMosaic.Lib.Pointwise

@[expose] public section

noncomputable section

open Idealize.ShloMosaic

namespace Cert.Kernel5Ideal.Val
open Cert.Kernel5Ideal Cert.Kernel5Ideal.Gen

section Words
variable {F : FTy → Type} [FloatOps F]

/-- The scores of the stacked rows against one tile of keys. -/
def tileS (qs : FVec F S1024x128 .bf16) (k : FVec F S1408x128 .bf16) : FVec F S1024x1408 .f32 :=
  matmul dot_S1024x128_S1408x128_S1024x1408_1_1_0_0_n_n none qs k (constant S1024x1408 .f32 0x00000000#32)

/-- The largest score of every row in a tile. -/
def tileM (s : FVec F S1024x1408 .f32) : FVec F S1024x1 .f32 :=
  shapeCast S1024x1 (multiReduction .maximumf [1] S1024 s 0xFF800000#32 reduces_S1024x1408_S1024 (.inl rfl) rfl) shapeCasts_S1024_S1024x1

/-- The factor that takes a sum shifted by `m` to one shifted by `m'`. -/
def decay (m m' : FVec F S1024x1 .f32) : FVec F S1024x1 .f32 := exp (subf m m')

/-- The exponentials of a tile's scores less each row's shift. -/
def tileP (s : FVec F S1024x1408 .f32) (m' : FVec F S1024x1 .f32) : FVec F S1024x1408 .f32 :=
  exp (subf s (broadcastTo S1024x1408 m' broadcasts_S1024x1_S1024x1408))

/-- The running sums with a tile added. -/
def addL (m m' l : FVec F S1024x1 .f32) (s : FVec F S1024x1408 .f32) : FVec F S1024x1 .f32 :=
  addf (mulf (decay m m') l) (shapeCast S1024x1 (multiReduction .add [1] S1024 (tileP s m') 0x00000000#32 reduces_S1024x1408_S1024 (.inl rfl) rfl) shapeCasts_S1024_S1024x1)

/-- The running weighted values with a tile added. -/
def addA (m m' : FVec F S1024x1 .f32) (a : FVec F S1024x128 .f32) (s : FVec F S1024x1408 .f32) (v : FVec F S1408x128 .bf16) : FVec F S1024x128 .f32 :=
  addf (mulf (broadcastTo S1024x128 (decay m m') broadcasts_S1024x1_S1024x128) a)
    (matmul dot_S1024x1408_S1408x128_S1024x128_1_0_0_1_n_n none (truncf .bf16 (tileP s m') bitsLt_bf16_f32) v (constant S1024x128 .f32 0x00000000#32))

/-- The rows' running state: the largest score so far, the sum and the weighted values. -/
structure Acc (F : FTy → Type) where
  m : FVec F S1024x1 .f32
  l : FVec F S1024x1 .f32
  a : FVec F S1024x128 .f32

/-- The state before any key. -/
def Acc.start : Acc F := ⟨k0_pay12, broadcast S1024x1 (Scalar.ofBits .f32 0x00000000#32), broadcast S1024x128 (Scalar.ofBits .f32 0x00000000#32)⟩

/-- The state with one tile of keys and values taken in. -/
def Acc.step (A : Acc F) (qs : FVec F S1024x128 .bf16) (k v : FVec F S1408x128 .bf16) : Acc F :=
  ⟨maximumf A.m (tileM (tileS qs k)), addL A.m (maximumf A.m (tileM (tileS qs k))) A.l (tileS qs k),
    addA A.m (maximumf A.m (tileM (tileS qs k))) A.a (tileS qs k) v⟩

/-- The rows' outputs. -/
def Acc.out (A : Acc F) : FVec F S1024x128 .f32 := divf A.a (broadcastTo S1024x128 A.l broadcasts_S1024x1_S1024x128)
/-- The logarithms of the rows' sums. -/
def Acc.lse (A : Acc F) : FVec F S1024x1 .f32 := addf A.m (log A.l)

variable (q0 : Vec F S256x512 .bf16) (qs : FVec F S1024x128 .bf16) (k v k' v' : FVec F S1408x128 .bf16) (A : Acc F) (s : FVec F S1024x1408 .f32)

theorem k0_pay13_eq : k0_pay13 q0 k = tileS (k0_pay11 q0) k := by simp only [k0_pay13, shapeCast_self]; rfl
theorem k0_pay14_eq : k0_pay14 q0 k = (Acc.start.step (k0_pay11 q0) k v).m := by simp only [k0_pay14, shapeCast_self, k0_pay13_eq]; rfl
theorem k0_pay17_eq : k0_pay17 q0 k = (Acc.start.step (k0_pay11 q0) k v).l := by
  simp only [k0_pay17, k0_pay16, k0_pay15, k0_pay14_eq q0 k v, k0_pay13_eq]; rfl
theorem k0_pay18_eq : k0_pay18 q0 k v = (Acc.start.step (k0_pay11 q0) k v).a := by
  simp only [k0_pay18, k0_pay16, k0_pay15, k0_pay14_eq q0 k v, k0_pay13_eq, shapeCast_self]; rfl
theorem k0_pay19_eq : k0_pay19 v = v := by simp only [k0_pay19, shapeCast_self]
theorem k0_pay31_eq : k0_pay31 v = v := by simp only [k0_pay31, shapeCast_self]
theorem k0_pay43_eq : k0_pay43 v = v := by simp only [k0_pay43, shapeCast_self]
theorem k0_pay20_eq : k0_pay20 q0 k = tileS (k0_pay11 q0) k := by simp only [k0_pay20, shapeCast_self]; rfl
theorem k0_pay21_eq : k0_pay21 q0 k = tileM (tileS (k0_pay11 q0) k) := by simp only [k0_pay21, k0_pay20_eq]; rfl
theorem k0_pay32_eq : k0_pay32 qs k = tileS qs k := by simp only [k0_pay32, shapeCast_self]; rfl
theorem k0_pay33_eq : k0_pay33 qs k = tileM (tileS qs k) := by simp only [k0_pay33, k0_pay32_eq]; rfl
theorem k0_pay44_eq : k0_pay44 qs k = tileS qs k := by simp only [k0_pay44, shapeCast_self]; rfl
theorem k0_pay45_eq : k0_pay45 qs k = tileM (tileS qs k) := by simp only [k0_pay45, k0_pay44_eq]; rfl

theorem k0_pay25_eq : k0_pay25 qs k = tileS qs k := by simp only [k0_pay25, shapeCast_self]; rfl
theorem k0_pay26_eq : k0_pay26 qs A.m (tileM (tileS qs k)) k' = ((A.step qs k v).step qs k' v').m := by
  simp only [k0_pay26, k0_pay25_eq]; rfl
theorem k0_pay29_eq : k0_pay29 qs A.m A.l (tileS qs k) (tileM (tileS qs k)) k' = ((A.step qs k v).step qs k' v').l := by
  simp only [k0_pay29, k0_pay28, k0_pay27, k0_pay26_eq qs k v k' v' A, k0_pay25_eq]; rfl
theorem k0_pay30_eq : k0_pay30 qs A.m A.a v (tileS qs k) (tileM (tileS qs k)) k' v' = ((A.step qs k v).step qs k' v').a := by
  simp only [k0_pay30, k0_pay28, k0_pay27, k0_pay26_eq qs k v k' v' A, k0_pay25_eq, shapeCast_self]; rfl

theorem k0_pay37_eq : k0_pay37 qs k = tileS qs k := by simp only [k0_pay37, shapeCast_self]; rfl
theorem k0_pay38_eq : k0_pay38 qs A.m (tileM (tileS qs k)) k' = ((A.step qs k v).step qs k' v').m := by
  simp only [k0_pay38, k0_pay37_eq]; rfl
theorem k0_pay41_eq : k0_pay41 qs A.m A.l (tileS qs k) (tileM (tileS qs k)) k' = ((A.step qs k v).step qs k' v').l := by
  simp only [k0_pay41, k0_pay40, k0_pay39, k0_pay38_eq qs k v k' v' A, k0_pay37_eq]; rfl
theorem k0_pay42_eq : k0_pay42 qs A.m A.a v (tileS qs k) (tileM (tileS qs k)) k' v' = ((A.step qs k v).step qs k' v').a := by
  simp only [k0_pay42, k0_pay40, k0_pay39, k0_pay38_eq qs k v k' v' A, k0_pay37_eq, shapeCast_self]; rfl

theorem k0_pay4_eq : k0_pay4 A.m A.l (tileS qs k) (tileM (tileS qs k)) = (A.step qs k v).l := rfl
theorem k0_pay5_eq : k0_pay5 A.m A.l A.a v (tileS qs k) (tileM (tileS qs k)) = (A.step qs k v).out := rfl
theorem k0_pay10_eq : k0_pay10 A.m A.l (tileS qs k) (tileM (tileS qs k)) = (A.step qs k v).lse := rfl

section Visit
variable (x0 : Vec F S256x512 .bf16) (x1 x2 : Vec F S8448x128 .bf16)

/-- The state after the first key tile. -/
def st1 : Acc F := Acc.start.step (k0_pay11 (View.ld x0 r0_0)) (View.ld x1 r0_1) (View.ld x2 r0_1)
/-- The state after two key tiles. -/
def st2 : Acc F := (st1 x0 x1 x2).step (k0_pay11 (View.ld x0 r0_0)) (View.ld x1 r0_2) (View.ld x2 r0_2)
/-- The state after three key tiles. -/
def st3 : Acc F := (st2 x0 x1 x2).step (k0_pay11 (View.ld x0 r0_0)) (View.ld x1 r0_3) (View.ld x2 r0_3)
/-- The state after four key tiles. -/
def st4 : Acc F := (st3 x0 x1 x2).step (k0_pay11 (View.ld x0 r0_0)) (View.ld x1 r0_4) (View.ld x2 r0_4)
/-- The state after five key tiles. -/
def st5 : Acc F := (st4 x0 x1 x2).step (k0_pay11 (View.ld x0 r0_0)) (View.ld x1 r0_5) (View.ld x2 r0_5)
/-- The state after all six key tiles. -/
def st6 : Acc F := (st5 x0 x1 x2).step (k0_pay11 (View.ld x0 r0_0)) (View.ld x1 r0_6) (View.ld x2 r0_6)

theorem k0_pay46_eq : k0_pay46 x0 x1 x2 = k0_pay11 (View.ld x0 r0_0) := rfl
theorem k0_pay47_eq : k0_pay47 x0 x1 x2 = (st1 x0 x1 x2).m := k0_pay14_eq _ _ _
theorem k0_pay48_eq : k0_pay48 x0 x1 x2 = tileS (k0_pay11 (View.ld x0 r0_0)) (View.ld x1 r0_2) := k0_pay20_eq _ _
theorem k0_pay49_eq : k0_pay49 x0 x1 x2 = tileM (tileS (k0_pay11 (View.ld x0 r0_0)) (View.ld x1 r0_2)) := k0_pay21_eq _ _
theorem k0_pay50_eq : k0_pay50 x0 x1 x2 = (st3 x0 x1 x2).m := by
  unfold k0_pay50
  rw [k0_pay46_eq, k0_pay47_eq, k0_pay49_eq]
  exact k0_pay26_eq _ _ _ _ _ _
theorem k0_pay51_eq : k0_pay51 x0 x1 x2 = tileS (k0_pay11 (View.ld x0 r0_0)) (View.ld x1 r0_4) := k0_pay32_eq _ _
theorem k0_pay52_eq : k0_pay52 x0 x1 x2 = tileM (tileS (k0_pay11 (View.ld x0 r0_0)) (View.ld x1 r0_4)) := k0_pay33_eq _ _
theorem k0_pay53_eq : k0_pay53 x0 x1 x2 = (st5 x0 x1 x2).m := by
  unfold k0_pay53
  rw [k0_pay46_eq, k0_pay50_eq, k0_pay52_eq]
  exact k0_pay38_eq _ _ _ _ _ _
theorem k0_pay54_eq : k0_pay54 x0 x1 x2 = (st5 x0 x1 x2).l := by
  unfold k0_pay54
  rw [k0_pay46_eq, k0_pay50_eq, k0_pay52_eq, k0_pay51_eq, k0_pay47_eq, k0_pay48_eq, k0_pay49_eq, k0_pay17_eq _ _ (View.ld x2 r0_1)]
  refine (congrArg (fun z => k0_pay41 _ _ z _ _ _) (k0_pay29_eq _ _ (View.ld x2 r0_2) _ (View.ld x2 r0_3) (st1 x0 x1 x2))).trans ?_
  exact k0_pay41_eq _ _ _ _ _ (st3 x0 x1 x2)
theorem k0_pay55_eq : k0_pay55 x0 x1 x2 = (st5 x0 x1 x2).a := by
  unfold k0_pay55
  rw [k0_pay46_eq, k0_pay50_eq, k0_pay52_eq, k0_pay51_eq, k0_pay47_eq, k0_pay48_eq, k0_pay49_eq, k0_pay18_eq, k0_pay19_eq, k0_pay31_eq]
  refine (congrArg (fun z => k0_pay42 _ _ z _ _ _ _ _) (k0_pay30_eq _ _ (View.ld x2 r0_2) _ (View.ld x2 r0_3) (st1 x0 x1 x2))).trans ?_
  exact k0_pay42_eq _ _ _ _ _ (st3 x0 x1 x2)
theorem k0_pay56_eq : k0_pay56 x0 x1 x2 = View.ld x2 r0_6 := k0_pay43_eq _
theorem k0_pay57_eq : k0_pay57 x0 x1 x2 = tileS (k0_pay11 (View.ld x0 r0_0)) (View.ld x1 r0_6) := k0_pay44_eq _ _
theorem k0_pay58_eq : k0_pay58 x0 x1 x2 = tileM (tileS (k0_pay11 (View.ld x0 r0_0)) (View.ld x1 r0_6)) := k0_pay45_eq _ _

theorem out_pay : k0_pay5 (k0_pay53 x0 x1 x2) (k0_pay54 x0 x1 x2) (k0_pay55 x0 x1 x2) (k0_pay56 x0 x1 x2) (k0_pay57 x0 x1 x2) (k0_pay58 x0 x1 x2)
    = (st6 x0 x1 x2).out := by
  rw [k0_pay53_eq, k0_pay54_eq, k0_pay55_eq, k0_pay56_eq, k0_pay57_eq, k0_pay58_eq]
  exact k0_pay5_eq _ _ _ _
theorem lse_pay : k0_pay10 (k0_pay53 x0 x1 x2) (k0_pay54 x0 x1 x2) (k0_pay57 x0 x1 x2) (k0_pay58 x0 x1 x2) = (st6 x0 x1 x2).lse := by
  rw [k0_pay53_eq, k0_pay54_eq, k0_pay57_eq, k0_pay58_eq]
  exact k0_pay10_eq _ _ (View.ld x2 r0_6) _

end Visit

end Words

section Entries
variable (qs : FVec Ideal S1024x128 .bf16) (k v : FVec Ideal S1408x128 .bf16) (s : FVec Ideal S1024x1408 .f32) (m m' l : FVec Ideal S1024x1 .f32)
  (a : FVec Ideal S1024x128 .f32) (A : Acc Ideal) (ρ : Fin 1024) (κ : Fin 1408) (d : Fin 128)

theorem tileS_apply : tileS qs k (ix2 ρ κ) = ∑ d : Fin 128, qs (ix2 ρ d) * k (ix2 κ d) := by
  pointwise [tileS]
theorem tileM_apply : tileM s (ix2 ρ (0 : Fin 1)) = Finset.univ.fold max (Ideal.ofBits .f32 0xFF800000#32) fun κ : Fin 1408 => s (ix2 ρ κ) := by
  pointwise [tileM]
theorem tileP_apply : tileP s m' (ix2 ρ κ) = Ideal.exp (s (ix2 ρ κ) - m' (ix2 ρ (0 : Fin 1))) := by
  pointwise [tileP]
theorem addL_apply : addL m m' l s (ix2 ρ (0 : Fin 1)) = Ideal.exp (m (ix2 ρ (0 : Fin 1)) - m' (ix2 ρ (0 : Fin 1))) * l (ix2 ρ (0 : Fin 1)) + ∑ κ : Fin 1408, tileP s m' (ix2 ρ κ) := by
  pointwise [addL, decay]
theorem addA_apply : addA m m' a s v (ix2 ρ d) = Ideal.exp (m (ix2 ρ (0 : Fin 1)) - m' (ix2 ρ (0 : Fin 1))) * a (ix2 ρ d) + ∑ κ : Fin 1408, tileP s m' (ix2 ρ κ) * v (ix2 κ d) := by
  pointwise [addA, decay]
theorem max_apply : maximumf m m' (ix2 ρ (0 : Fin 1)) = max (m (ix2 ρ (0 : Fin 1))) (m' (ix2 ρ (0 : Fin 1))) := by
  pointwise []
theorem out_apply : A.out (ix2 ρ d) = Ideal.div (A.a (ix2 ρ d)) (A.l (ix2 ρ (0 : Fin 1))) := by
  unfold Acc.out
  generalize A.a = a
  generalize A.l = l
  pointwise []
theorem lse_apply : A.lse (ix2 ρ (0 : Fin 1)) = A.m (ix2 ρ (0 : Fin 1)) + Ideal.log (A.l (ix2 ρ (0 : Fin 1))) := by
  unfold Acc.lse
  generalize A.m = m
  generalize A.l = l
  pointwise []
theorem start_apply : (Acc.start (F := Ideal)).m (ix2 ρ (0 : Fin 1)) = Ideal.ofBits .f32 0xF149F2CA#32 ∧ (Acc.start (F := Ideal)).l (ix2 ρ (0 : Fin 1)) = 0
    ∧ (Acc.start (F := Ideal)).a (ix2 ρ d) = 0 := by
  refine ⟨?_, ?_, ?_⟩
  · show k0_pay12 (F := Ideal) (ix2 ρ (0 : Fin 1)) = _
    pointwise [k0_pay12]
  · show (broadcast S1024x1 (Scalar.ofBits .f32 0x00000000#32) : FVec Ideal S1024x1 .f32) (ix2 ρ (0 : Fin 1)) = _
    pointwise []
  · show (broadcast S1024x128 (Scalar.ofBits .f32 0x00000000#32) : FVec Ideal S1024x128 .f32) (ix2 ρ d) = _
    pointwise []

end Entries

end Cert.Kernel5Ideal.Val

end
-- ==== Proof.AttnSums.lean ====
/- The attention forward's running state over the reals: after any number of key tiles it is the shifted sum and weighted sum of the keys seen. -/
module

public import proofs.«01_k».proof.Proof.AttnStep
public import proofs.«01_k».proof.Proof.Reals

@[expose] public section

noncomputable section

open Idealize.ShloMosaic

namespace Cert.Kernel5Ideal.Val
open Cert.Kernel5Ideal Cert.Kernel5Ideal.Gen Cert.Attn

theorem bits_low : ∃ r : ℝ, Ideal.ofBits .f32 0xF149F2CA#32 = (r : EReal) := by
  refine ⟨-1000000015047466219876688855040, ?_⟩
  simp [Ideal.ofBits, Ideal.ieee, -EReal.coe_mul, -EReal.coe_neg]
  norm_num

/-- The state is that of the first `N` keys: some real shift, the sum of the exponentials of the scores `S` less it, and the values `W`
    weighted by those exponentials. -/
def Seen (S : Fin 1024 → ℕ → ℝ) (W : ℕ → Fin 128 → ℝ) (N : ℕ) (A : Acc Ideal) : Prop :=
  ∀ ρ : Fin 1024, ∃ M : ℝ, A.m (ix2 ρ (0 : Fin 1)) = (M : EReal)
    ∧ A.l (ix2 ρ (0 : Fin 1)) = ((∑ i ∈ Finset.range N, Real.exp (S ρ i - M) : ℝ) : EReal)
    ∧ ∀ d : Fin 128, A.a (ix2 ρ d) = ((∑ i ∈ Finset.range N, Real.exp (S ρ i - M) * W i d : ℝ) : EReal)

variable {S : Fin 1024 → ℕ → ℝ} {W : ℕ → Fin 128 → ℝ}

theorem seen_start : Seen S W 0 (Acc.start (F := Ideal)) := fun ρ => by
  obtain ⟨r, hr⟩ := bits_low
  refine ⟨r, (start_apply ρ 0).1.trans hr, (start_apply ρ 0).2.1.trans ?_, fun d => (start_apply ρ d).2.2.trans ?_⟩ <;>
    rw [Finset.range_zero, Finset.sum_empty, EReal.coe_zero]

/-- Changing the shift of a sum of exponentials and adding a tile's terms. -/
theorem shift_add (f w : ℕ → ℝ) (N : ℕ) (M M' : ℝ) :
    Real.exp (M - M') * (∑ i ∈ Finset.range N, Real.exp (f i - M) * w i) + ∑ κ : Fin 1408, Real.exp (f (N + κ.val) - M') * w (N + κ.val)
      = ∑ i ∈ Finset.range (N + 1408), Real.exp (f i - M') * w i := by
  rw [Finset.sum_range_add, ← Fin.sum_univ_eq_sum_range (fun i => Real.exp (f (N + i) - M') * w (N + i)), Finset.mul_sum]
  refine congrArg (· + _) (Finset.sum_congr rfl fun i _ => ?_)
  rw [← mul_assoc, ← Real.exp_add]
  congr 2
  ring

theorem seen_step {N : ℕ} {A : Acc Ideal} (hA : Seen S W N A) {qs : FVec Ideal S1024x128 .bf16} {k v : FVec Ideal S1408x128 .bf16}
    (hs : ∀ (ρ : Fin 1024) (κ : Fin 1408), ∑ d : Fin 128, qs (ix2 ρ d) * k (ix2 κ d) = (S ρ (N + κ.val) : EReal))
    (hv : ∀ (κ : Fin 1408) (d : Fin 128), v (ix2 κ d) = (W (N + κ.val) d : EReal)) : Seen S W (N + 1408) (A.step qs k v) := fun ρ => by
  obtain ⟨M, hm, hl, ha⟩ := hA ρ
  have hs' : ∀ κ : Fin 1408, tileS qs k (ix2 ρ κ) = (S ρ (N + κ.val) : EReal) := fun κ => (tileS_apply qs k ρ κ).trans (hs ρ κ)
  obtain ⟨X, hX⟩ := fold_max_coe (Finset.univ : Finset (Fin 1408)) (fun κ => S ρ (N + κ.val)) ⟨0, Finset.mem_univ _⟩
  have hm' : maximumf A.m (tileM (tileS qs k)) (ix2 ρ (0 : Fin 1)) = ((max M X : ℝ) : EReal) := by
    rw [max_apply, tileM_apply, hm, bits_neg_inf]
    simp only [hs']
    rw [hX]
    exact (EReal.coe_strictMono.monotone.map_max).symm
  have hp : ∀ κ : Fin 1408, tileP (tileS qs k) (maximumf A.m (tileM (tileS qs k))) (ix2 ρ κ) = (Real.exp (S ρ (N + κ.val) - max M X) : EReal) := fun κ => by
    rw [tileP_apply, hs', hm', ← EReal.coe_sub, Ideal.exp_coe]
  refine ⟨max M X, hm', ?_, fun d => ?_⟩
  · show addL A.m (maximumf A.m (tileM (tileS qs k))) A.l (tileS qs k) (ix2 ρ (0 : Fin 1)) = _
    rw [addL_apply, hm', hm, hl]
    simp only [hp]
    rw [← coe_sum, ← EReal.coe_sub, Ideal.exp_coe, ← EReal.coe_mul, ← EReal.coe_add]
    refine congrArg _ ?_
    have e := shift_add (S ρ) (fun _ => 1) N M (max M X)
    simpa only [mul_one] using e
  · show addA A.m (maximumf A.m (tileM (tileS qs k))) A.a (tileS qs k) v (ix2 ρ d) = _
    rw [addA_apply, hm', hm, ha]
    simp only [hp, hv, ← EReal.coe_mul]
    rw [← coe_sum, ← EReal.coe_sub, Ideal.exp_coe, ← EReal.coe_mul, ← EReal.coe_add]
    exact congrArg _ (shift_add (S ρ) (fun i => W i d) N M (max M X))

/-- What the rows' outputs and logarithms are once all the keys are seen. -/
theorem seen_out {A : Acc Ideal} (hA : Seen S W 8448 A) (ρ : Fin 1024) (d : Fin 128) :
    A.out (ix2 ρ d) = ((∑ κ : Fin 8448, Real.exp (S ρ κ.val) / (∑ κ' : Fin 8448, Real.exp (S ρ κ'.val)) * W κ.val d : ℝ) : EReal) := by
  obtain ⟨M, hm, hl, ha⟩ := hA ρ
  rw [← Fin.sum_univ_eq_sum_range (fun i => Real.exp (S ρ i - M))] at hl
  have ha' := ha d
  rw [← Fin.sum_univ_eq_sum_range (fun i => Real.exp (S ρ i - M) * W i d)] at ha'
  rw [out_apply, hl, ha', div_coe_coe _ _ (sum_exp_pos (fun κ : Fin 8448 => S ρ κ.val) M 0).ne', Finset.sum_div]
  refine congrArg _ (Finset.sum_congr rfl fun κ _ => ?_)
  rw [← soft_shift (fun κ : Fin 8448 => S ρ κ.val) M κ]
  ring

theorem seen_lse {A : Acc Ideal} (hA : Seen S W 8448 A) (ρ : Fin 1024) :
    A.lse (ix2 ρ (0 : Fin 1)) = ((Real.log (∑ κ : Fin 8448, Real.exp (S ρ κ.val)) : ℝ) : EReal) := by
  obtain ⟨M, hm, hl, ha⟩ := hA ρ
  rw [← Fin.sum_univ_eq_sum_range (fun i => Real.exp (S ρ i - M))] at hl
  have hp := sum_exp_pos (fun κ : Fin 8448 => S ρ κ.val) M 0
  rw [lse_apply, hm, hl, log_coe_pos _ hp, ← EReal.coe_add, sum_exp_shift (fun κ : Fin 8448 => S ρ κ.val) M]
  refine congrArg _ ?_
  have hq : (∑ κ : Fin 8448, Real.exp (S ρ κ.val)) ≠ 0 := (Finset.sum_pos (fun _ _ => Real.exp_pos _) ⟨(0 : Fin 8448), Finset.mem_univ _⟩).ne'
  rw [Real.log_div hq (Real.exp_pos M).ne', Real.log_exp]
  ring

end Cert.Kernel5Ideal.Val

end
-- ==== Proof.AttnBlocks.lean ====
/- What one visit of the attention forward's grid leaves in its two output blocks, from the three blocks it reads. -/
module

public import proofs.«01_k».proof.Proof.AttnSums
public import Idealize.ShloMosaic.Lib.Pipeline.Value
public import Idealize.ShloMosaic.Lib.Pipeline.ReadBack
public import Idealize.ShloMosaic.Lib.Pipeline.ValueKit.Tiles
public import Idealize.ShloMosaic.Lib.Pipeline.ValueKit.Acc
public import Idealize.ShloMosaic.Lib.Tactic

@[expose] public section

noncomputable section

open Idealize.ShloMosaic Idealize.ShloMosaic.TcCoe Idealize.SL.Sem

namespace Cert.Kernel5Ideal.Val
open Cert.Kernel5Ideal Cert.Kernel5Ideal.Gen Cert.Attn
open Cert.KernelIdeal.Val (stackRow stackCol unstackRow unstackLane slabKey)

theorem k0_pay11_apply (q : Vec Ideal S256x512 .bf16) (ρ : Fin 1024) (d : Fin 128) :
    k0_pay11 q (ix2 ρ d) = q (ix2 (stackRow ρ) (stackCol ρ d)) := by
  pointwise [k0_pay11]
  split_ifs <;> exact congrArg₂ (fun a b => q (ix2 a b)) (Fin.ext (by simp only [stackRow]; omega)) (Fin.ext (by simp only [stackCol]; omega))

theorem ld_slab (X : Vec Ideal S8448x128 .bf16) (off : Nat) (inb) (h : off + 1408 ≤ 8448) (κ : Fin 1408) (d : Fin 128) :
    View.ld X (Rect.unit ![off, 0] ![1408, 128] inb) (ix2 κ d) = X (ix2 (slabKey off h κ) d) := by
  refine View.ld_unit_apply_of X _ _ _ _ _ fun a => ?_
  fin_cases a
  · rfl
  · exact (Nat.zero_add _).symm

theorem hz : (![0, 0] : Fin 2 → Nat) = fun _ => 0 := by funext i; fin_cases i <;> rfl

/-- The stacked queries of a block. -/
def stacked (x0 : Vec Ideal S256x512 .bf16) : FVec Ideal S1024x128 .bf16 := k0_pay11 (View.ld x0 r0_0)

theorem stacked_apply (x0 : FVec Ideal S256x512 .bf16) (ρ : Fin 1024) (d : Fin 128) :
    stacked x0 (ix2 ρ d) = x0 (ix2 (stackRow ρ) (stackCol ρ d)) := by
  unfold stacked
  rw [k0_pay11_apply, View.ld_unit_zero (S := S256x512) hz]

/-- The 1408 rows of a block of keys or values from row `off` on. -/
def rowsAt (X : Vec Ideal S8448x128 .bf16) (off : Nat) (inb : ∀ a : Fin 2, (![off, 0] : Fin 2 → Nat) a + (![1408, 128] : Fin 2 → Nat) a ≤ S8448x128.size a) : Vec Ideal S1408x128 .bf16 :=
  View.ld X (Rect.unit (s := S8448x128) ![off, 0] ![1408, 128] inb)

section Tiles
variable {S : Fin 1024 → ℕ → ℝ} {W : ℕ → Fin 128 → ℝ} {x0 : FVec Ideal S256x512 .bf16} {x1 x2 : FVec Ideal S8448x128 .bf16}
  (hs : ∀ (ρ : Fin 1024) (κ : Fin 8448), ∑ d : Fin 128, x0 (ix2 (stackRow ρ) (stackCol ρ d)) * x1 (ix2 κ d) = (S ρ κ.val : EReal))
  (hv : ∀ (κ : Fin 8448) (d : Fin 128), x2 (ix2 κ d) = (W κ.val d : EReal))
include hs hv

/-- One more tile of the block's keys, the one that starts where the keys seen end. -/
theorem seen_tile {A : Acc Ideal} (off : Nat) (inb) (h : off + 1408 ≤ 8448) (hA : Seen S W off A) :
    Seen S W (off + 1408) (A.step (stacked x0) (rowsAt x1 off inb) (rowsAt x2 off inb)) := by
  refine seen_step hA (fun ρ κ => ?_) fun κ d => ?_
  · refine (Finset.sum_congr rfl fun d _ => ?_).trans (hs ρ (slabKey off h κ))
    exact congrArg₂ (· * ·) (stacked_apply x0 ρ d) (ld_slab x1 off inb h κ d)
  · exact (ld_slab x2 off inb h κ d).trans (hv (slabKey off h κ) d)

/-- All six tiles: the visit's last state is that of all the keys. -/
theorem seen_all : Seen S W 8448 (st6 x0 x1 x2) :=
  seen_tile hs hv 7040 _ (by omega) <| seen_tile hs hv 5632 _ (by omega) <| seen_tile hs hv 4224 _ (by omega) <|
    seen_tile hs hv 2816 _ (by omega) <| seen_tile hs hv 1408 _ (by omega) <| seen_tile hs hv 0 _ (by omega) seen_start
end Tiles

theorem slice_rows0 (T : FVec Ideal S1024x128 .f32) (r : Fin 256) (d : Fin 128) :
    extractStridedSlice S256x128 ![0, 0] T slices_S1024x128_o0_0_S256x128 (ix2 r d) = T (ix2 ⟨0 + r.val, by omega⟩ d) := by
  refine congrArg T (funext fun a => ?_)
  fin_cases a
  · exact Fin.ext rfl
  · exact Fin.ext (Nat.zero_add _)

theorem slice_rows1 (T : FVec Ideal S1024x128 .f32) (r : Fin 256) (d : Fin 128) :
    extractStridedSlice S256x128 ![256, 0] T slices_S1024x128_o256_0_S256x128 (ix2 r d) = T (ix2 ⟨256 + r.val, by omega⟩ d) := by
  refine congrArg T (funext fun a => ?_)
  fin_cases a
  · exact Fin.ext rfl
  · exact Fin.ext (Nat.zero_add _)

theorem slice_rows2 (T : FVec Ideal S1024x128 .f32) (r : Fin 256) (d : Fin 128) :
    extractStridedSlice S256x128 ![512, 0] T slices_S1024x128_o512_0_S256x128 (ix2 r d) = T (ix2 ⟨512 + r.val, by omega⟩ d) := by
  refine congrArg T (funext fun a => ?_)
  fin_cases a
  · exact Fin.ext rfl
  · exact Fin.ext (Nat.zero_add _)

theorem slice_rows3 (T : FVec Ideal S1024x128 .f32) (r : Fin 256) (d : Fin 128) :
    extractStridedSlice S256x128 ![768, 0] T slices_S1024x128_o768_0_S256x128 (ix2 r d) = T (ix2 ⟨768 + r.val, by omega⟩ d) := by
  refine congrArg T (funext fun a => ?_)
  fin_cases a
  · exact Fin.ext rfl
  · exact Fin.ext (Nat.zero_add _)

/-- The stacked rows laid side by side again, head by head. -/
def unstack (T : FVec Ideal S1024x128 .f32) : Vec Ideal S256x512 .f32 := fun y => T (ix2 (unstackRow (y 0) (y 1)) (unstackLane (y 1)))

theorem emb_cols (off : Nat) (inb) (h : off + 128 ≤ 512) (r : Fin 256) (d : Fin 128) :
    (Rect.unit (s := S256x512) ![0, off] ![256, 128] inb).emb (ix2 r d) = ix2 r ⟨off + d.val, by omega⟩ := by
  funext a
  fin_cases a
  · exact Fin.ext (by rw [Rect.emb_apply]; show 0 + 1 * r.val = r.val; omega)
  · exact Fin.ext (by rw [Rect.emb_apply]; show off + 1 * d.val = off + d.val; omega)

/-- Entry of the unstacked rows in the columns of the head that starts at column `off`. -/
theorem unstack_cols (T : FVec Ideal S1024x128 .f32) (off row : Nat) (inb) (h : off + 128 ≤ 512) (ho : off % 128 = 0) (hr : row = off / 128 * 256) (r : Fin 256) (d : Fin 128) :
    T (ix2 ⟨row + r.val, by omega⟩ d) = unstack T ((Rect.unit (s := S256x512) ![0, off] ![256, 128] inb).emb (ix2 r d)) := by
  rw [emb_cols off inb h]
  refine congrArg₂ (fun a b => T (ix2 a b)) (Fin.ext ?_) (Fin.ext ?_)
  · show row + r.val = (off + d.val) / 128 * 256 + r.val
    omega
  · show d.val = (off + d.val) % 128
    omega

section Outs
variable (x0 : Vec Ideal S256x512 .bf16) (x1 x2 : Vec Ideal S8448x128 .bf16)

theorem piece0 (inb) (z : (⟨2, ![256, 128]⟩ : Shape).Idx) :
    k0_pay6 (k0_pay53 x0 x1 x2) (k0_pay54 x0 x1 x2) (k0_pay55 x0 x1 x2) (k0_pay56 x0 x1 x2) (k0_pay57 x0 x1 x2) (k0_pay58 x0 x1 x2) z
      = unstack (st6 x0 x1 x2).out ((Rect.unit (s := S256x512) ![0, 0] ![256, 128] inb).emb z) := by
  idx_vars z
  rw [k0_pay6, out_pay, slice_rows0]
  exact unstack_cols _ 0 0 inb (by omega) rfl rfl z0 z1

theorem piece1 (inb) (z : (⟨2, ![256, 128]⟩ : Shape).Idx) :
    k0_pay7 (k0_pay53 x0 x1 x2) (k0_pay54 x0 x1 x2) (k0_pay55 x0 x1 x2) (k0_pay56 x0 x1 x2) (k0_pay57 x0 x1 x2) (k0_pay58 x0 x1 x2) z
      = unstack (st6 x0 x1 x2).out ((Rect.unit (s := S256x512) ![0, 128] ![256, 128] inb).emb z) := by
  idx_vars z
  rw [k0_pay7, out_pay, slice_rows1]
  exact unstack_cols _ 128 256 inb (by omega) rfl rfl z0 z1

theorem piece2 (inb) (z : (⟨2, ![256, 128]⟩ : Shape).Idx) :
    k0_pay8 (k0_pay53 x0 x1 x2) (k0_pay54 x0 x1 x2) (k0_pay55 x0 x1 x2) (k0_pay56 x0 x1 x2) (k0_pay57 x0 x1 x2) (k0_pay58 x0 x1 x2) z
      = unstack (st6 x0 x1 x2).out ((Rect.unit (s := S256x512) ![0, 256] ![256, 128] inb).emb z) := by
  idx_vars z
  rw [k0_pay8, out_pay, slice_rows2]
  exact unstack_cols _ 256 512 inb (by omega) rfl rfl z0 z1

theorem piece3 (inb) (z : (⟨2, ![256, 128]⟩ : Shape).Idx) :
    k0_pay9 (k0_pay53 x0 x1 x2) (k0_pay54 x0 x1 x2) (k0_pay55 x0 x1 x2) (k0_pay56 x0 x1 x2) (k0_pay57 x0 x1 x2) (k0_pay58 x0 x1 x2) z
      = unstack (st6 x0 x1 x2).out ((Rect.unit (s := S256x512) ![0, 384] ![256, 128] inb).emb z) := by
  idx_vars z
  rw [k0_pay9, out_pay, slice_rows3]
  exact unstack_cols _ 384 768 inb (by omega) rfl rfl z0 z1

/-- The visit's block of outputs. -/
theorem out3_eq : out0_3 x0 x1 x2 = unstack (st6 x0 x1 x2).out := by
  unfold out0_3
  funext y
  refine View.canon_append_of_piecesOf (unstack (st6 x0 x1 x2).out) [] [_, _, _, _] ⟨piece3 x0 x1 x2 inb_S256x512_S256x128_0_384,
    piece2 x0 x1 x2 inb_S256x512_S256x128_0_256, piece1 x0 x1 x2 inb_S256x512_S256x128_0_128, piece0 x0 x1 x2 inb_S256x512_S256x128_0_0, trivial⟩ y ?_
  exact View.cover_of_tiledL (s := S256x512) _ ![256, 128] (by sl_kernel_rfl) y

/-- The visit's block of logarithms. -/
theorem out4_eq : out0_4 x0 x1 x2 = (st6 x0 x1 x2).lse := by
  rw [← lse_pay]
  frame_out
end Outs

end Cert.Kernel5Ideal.Val

end
-- ==== Proof.AttnArrays.lean ====
/- On finite inputs, the attention forward's two result arrays: the weighted sums of the values, and the logarithms of the sums of
   the scores' exponentials. -/
module

public import proofs.«01_k».proof.Proof.AttnBlocks
public import Idealize.ShloMosaic.Lib.Pipeline.ValueKit.Geometry
public import Idealize.ShloMosaic.Lib.Tactic.CleanTypes

@[expose] public section

noncomputable section

open Idealize.ShloMosaic Idealize.ShloMosaic.TcCoe Idealize.SL.Sem
open Idealize.ShloMosaic.Pipeline (Dat)

namespace Cert.Kernel5Ideal.Val
open Cert.Kernel5Ideal Cert.Kernel5Ideal.Gen Cert.Attn
open Cert.KernelIdeal.Val (stackRow stackCol unstackRow unstackLane qcol kcol lrow)

/-- The attention's output, from real queries, keys and values. -/
def attnOut (Q : Fin 8192 → Fin 1024 → ℝ) (K V : Fin 8448 → Fin 256 → ℝ) : Vec Ideal S8192x1024 .f32 := fun x =>
  have b1 : (x 1).val < 1024 := (x 1).isLt
  ((∑ κ : Fin 8448, weight Q K ⟨(x 1).val / 512, by omega⟩ ⟨(x 1).val / 128 % 4, by omega⟩ (x 0) κ
    * V κ (kcol ⟨(x 1).val / 512, by omega⟩ ⟨(x 1).val % 128, by omega⟩) : ℝ) : EReal)

/-- The logarithms of the softmax sums, row by row in the kernel's order of rows. -/
def attnLse (Q : Fin 8192 → Fin 1024 → ℝ) (K : Fin 8448 → Fin 256 → ℝ) : Vec Ideal S65536x1 .f32 := fun x =>
  have b0 : (x 0).val < 65536 := (x 0).isLt
  ((Real.log (∑ κ : Fin 8448, Real.exp (score Q K ⟨(x 0).val / 32768, by omega⟩ ⟨(x 0).val / 256 % 4, by omega⟩
    ⟨(x 0).val / 1024 % 32 * 256 + (x 0).val % 256, by omega⟩ κ)) : ℝ) : EReal)

variable (m : (ℓ : Loc nD τ sig) → Buf (Elt Ideal) ℓ) (c : Dev nD)

/-- The queries given. -/
def inQ : FVec Ideal S8192x1024 .f32 := m ((c.tc : Thread nD τ).loc main_arg0)
/-- The keys given. -/
def inK : FVec Ideal S8448x256 .f32 := m ((c.tc : Thread nD τ).loc main_arg1)
/-- The values given. -/
def inV : FVec Ideal S8448x256 .f32 := m ((c.tc : Thread nD τ).loc main_arg2)
/-- The scaled queries the kernel reads. -/
def arrQ : FVec Ideal S8192x1024 .bf16 := V m c main_v2
/-- The keys the kernel reads. -/
def arrK : FVec Ideal S8448x256 .bf16 := V m c main_v3
/-- The values the kernel reads. -/
def arrV : FVec Ideal S8448x256 .bf16 := V m c main_v4

theorem arrK_eq : arrK m c = truncf .bf16 (inK m c) bitsLt_bf16_f32 := by
  unfold arrK V; after_results; rfl
theorem arrV_eq : arrV m c = truncf .bf16 (inV m c) bitsLt_bf16_f32 := by
  unfold arrV V; after_results; rfl
theorem arrQ_eq : arrQ m c = truncf .bf16 (mulf (inQ m c) (broadcastInDim S8192x1024 ![] bcast_S_S8192x1024 (constant S_ .f32 0x3DB504F3#32))) bitsLt_bf16_f32 := by
  unfold arrQ V; after_results; rfl
theorem arrQ_apply (n : Fin 8192) (j : Fin 1024) : arrQ m c (ix2 n j) = inQ m c (ix2 n j) * Ideal.ofBits .f32 0x3DB504F3#32 := by
  rw [arrQ_eq]; generalize inQ m c = q; clean_types; pointwise []
theorem arrK_apply (κ : Fin 8448) (j : Fin 256) : arrK m c (ix2 κ j) = inK m c (ix2 κ j) := by
  rw [arrK_eq]; generalize inK m c = q; clean_types; pointwise []
theorem arrV_apply (κ : Fin 8448) (j : Fin 256) : arrV m c (ix2 κ j) = inV m c (ix2 κ j) := by
  rw [arrV_eq]; generalize inV m c = q; clean_types; pointwise []

theorem idx0 : ∀ t : Fin cfg0.N, win0_0.index t 0 = t.val % 32 ∧ win0_0.index t 1 = t.val / 32 :=
  (by decide +kernel : ∀ t : Fin grid0.N, win0_0.index t 0 = t.val % 32 ∧ win0_0.index t 1 = t.val / 32)
theorem idx1 : ∀ t : Fin cfg0.N, win0_1.index t 0 = 0 ∧ win0_1.index t 1 = t.val / 32 :=
  (by decide +kernel : ∀ t : Fin grid0.N, win0_1.index t 0 = 0 ∧ win0_1.index t 1 = t.val / 32)
theorem idx2 : ∀ t : Fin cfg0.N, win0_2.index t 0 = 0 ∧ win0_2.index t 1 = t.val / 32 :=
  (by decide +kernel : ∀ t : Fin grid0.N, win0_2.index t 0 = 0 ∧ win0_2.index t 1 = t.val / 32)
theorem idx3 : ∀ t : Fin cfg0.N, win0_3.index t 0 = t.val % 32 ∧ win0_3.index t 1 = t.val / 32 :=
  (by decide +kernel : ∀ t : Fin grid0.N, win0_3.index t 0 = t.val % 32 ∧ win0_3.index t 1 = t.val / 32)
theorem idx4 : ∀ t : Fin cfg0.N, win0_4.index t 0 = t.val ∧ win0_4.index t 1 = 0 :=
  (by decide +kernel : ∀ t : Fin grid0.N, win0_4.index t 0 = t.val ∧ win0_4.index t 1 = 0)

theorem lt64 (t : Fin cfg0.N) : t.val < 64 := t.isLt

/-- The array row of row `r` of point `t`'s query-side blocks. -/
def rowOf (t : Fin cfg0.N) (r : Fin 256) : Fin 8192 := ⟨t.val % 32 * 256 + r.val, by omega⟩
/-- The array column of column `j` of point `t`'s query-side blocks. -/
def colOf (t : Fin cfg0.N) (j : Fin 512) : Fin 1024 := ⟨t.val / 32 * 512 + j.val, by have := lt64 t; omega⟩
/-- The array column of lane `d` of point `t`'s key-side blocks. -/
def laneOf (t : Fin cfg0.N) (d : Fin 128) : Fin 256 := ⟨t.val / 32 * 128 + d.val, by have := lt64 t; omega⟩

theorem read0_apply (W : (b : Ref sig .tc) → Buf (Elt Ideal) ((c : Thread nD τ).loc b)) (t : Fin cfg0.N) (r : Fin 256) (j : Fin 512) :
    (((cfg0.win 0).blk t).view.read (Elt Ideal) (W (Pipeline.arrRef spec0 0)) : Vec Ideal S256x512 .bf16) (ix2 r j)
      = (W main_v2 : Vec Ideal S8192x1024 .bf16) (ix2 (rowOf t r) (colOf t j)) := by
  rw [View.read_apply]
  show W main_v2 _ = W main_v2 _
  refine congrArg (W main_v2) (funext fun a => Fin.ext ?_)
  match a with
  | ⟨0, _⟩ => show win0_0.index t 0 * 256 + 1 * r.val = t.val % 32 * 256 + r.val; rw [(idx0 t).1]; omega
  | ⟨1, _⟩ => show win0_0.index t 1 * 512 + 1 * j.val = t.val / 32 * 512 + j.val; rw [(idx0 t).2]; omega

theorem read1_apply (W : (b : Ref sig .tc) → Buf (Elt Ideal) ((c : Thread nD τ).loc b)) (t : Fin cfg0.N) (r : Fin 8448) (j : Fin 128) :
    (((cfg0.win 1).blk t).view.read (Elt Ideal) (W (Pipeline.arrRef spec0 1)) : Vec Ideal S8448x128 .bf16) (ix2 r j)
      = (W main_v3 : Vec Ideal S8448x256 .bf16) (ix2 r (laneOf t j)) := by
  rw [View.read_apply]
  show W main_v3 _ = W main_v3 _
  refine congrArg (W main_v3) (funext fun a => Fin.ext ?_)
  match a with
  | ⟨0, _⟩ => show win0_1.index t 0 * 8448 + 1 * r.val = r.val; rw [(idx1 t).1]; omega
  | ⟨1, _⟩ => show win0_1.index t 1 * 128 + 1 * j.val = t.val / 32 * 128 + j.val; rw [(idx1 t).2]; omega

theorem read2_apply (W : (b : Ref sig .tc) → Buf (Elt Ideal) ((c : Thread nD τ).loc b)) (t : Fin cfg0.N) (r : Fin 8448) (j : Fin 128) :
    (((cfg0.win 2).blk t).view.read (Elt Ideal) (W (Pipeline.arrRef spec0 2)) : Vec Ideal S8448x128 .bf16) (ix2 r j)
      = (W main_v4 : Vec Ideal S8448x256 .bf16) (ix2 r (laneOf t j)) := by
  rw [View.read_apply]
  show W main_v4 _ = W main_v4 _
  refine congrArg (W main_v4) (funext fun a => Fin.ext ?_)
  match a with
  | ⟨0, _⟩ => show win0_2.index t 0 * 8448 + 1 * r.val = r.val; rw [(idx2 t).1]; omega
  | ⟨1, _⟩ => show win0_2.index t 1 * 128 + 1 * j.val = t.val / 32 * 128 + j.val; rw [(idx2 t).2]; omega

/-- Point `t`'s block of scaled queries. -/
def blkQ (t : Fin cfg0.N) : FVec Ideal S256x512 .bf16 := iblk m c 0 t
/-- Point `t`'s block of keys. -/
def blkK (t : Fin cfg0.N) : FVec Ideal S8448x128 .bf16 := iblk m c 1 t
/-- Point `t`'s block of values. -/
def blkV (t : Fin cfg0.N) : FVec Ideal S8448x128 .bf16 := iblk m c 2 t

theorem blkQ_apply (t : Fin cfg0.N) (r : Fin 256) (j : Fin 512) : blkQ m c t (ix2 r j) = arrQ m c (ix2 (rowOf t r) (colOf t j)) :=
  read0_apply c (V m c) t r j
theorem blkK_apply (t : Fin cfg0.N) (r : Fin 8448) (j : Fin 128) : blkK m c t (ix2 r j) = arrK m c (ix2 r (laneOf t j)) :=
  read1_apply c (V m c) t r j
theorem blkV_apply (t : Fin cfg0.N) (r : Fin 8448) (j : Fin 128) : blkV m c t (ix2 r j) = arrV m c (ix2 r (laneOf t j)) :=
  read2_apply c (V m c) t r j

/-- The key head of point `t`. -/
def headOf (t : Fin cfg0.N) : Fin 2 := ⟨t.val / 32, by have := lt64 t; omega⟩
/-- The query head, within its group, of a stacked row. -/
def groupOf (ρ : Fin 1024) : Fin 4 := ⟨ρ.val / 256, by omega⟩

/-- Point `t`'s real scores: stacked row `ρ` against key number `i`. -/
def ptS (Q : Fin 8192 → Fin 1024 → ℝ) (K : Fin 8448 → Fin 256 → ℝ) (t : Fin cfg0.N) (ρ : Fin 1024) (i : ℕ) : ℝ :=
  if hi : i < 8448 then score Q K (headOf t) (groupOf ρ) (rowOf t (stackRow ρ)) ⟨i, hi⟩ else 0
/-- Point `t`'s real values of key number `i`. -/
def ptW (X : Fin 8448 → Fin 256 → ℝ) (t : Fin cfg0.N) (i : ℕ) (d : Fin 128) : ℝ :=
  if hi : i < 8448 then X ⟨i, hi⟩ (kcol (headOf t) d) else 0

theorem ptS_apply (Q : Fin 8192 → Fin 1024 → ℝ) (K : Fin 8448 → Fin 256 → ℝ) (t : Fin cfg0.N) (ρ : Fin 1024) (κ : Fin 8448) :
    ptS Q K t ρ κ.val = score Q K (headOf t) (groupOf ρ) (rowOf t (stackRow ρ)) κ := dif_pos κ.isLt
theorem ptW_apply (X : Fin 8448 → Fin 256 → ℝ) (t : Fin cfg0.N) (κ : Fin 8448) (d : Fin 128) :
    ptW X t κ.val d = X κ (kcol (headOf t) d) := dif_pos κ.isLt

section
variable {Q : Fin 8192 → Fin 1024 → ℝ} {K X : Fin 8448 → Fin 256 → ℝ}
  (hq : ∀ n j, inQ m c (ix2 n j) = (Q n j : EReal)) (hk : ∀ κ j, inK m c (ix2 κ j) = (K κ j : EReal))
  (hv : ∀ κ j, inV m c (ix2 κ j) = (X κ j : EReal))

include hq hk in
/-- A row of a point's queries times one of its keys is the real score. -/
theorem score_real (t : Fin cfg0.N) (ρ : Fin 1024) (κ : Fin 8448) :
    ∑ d : Fin 128, blkQ m c t (ix2 (stackRow ρ) (stackCol ρ d)) * blkK m c t (ix2 κ d) = (ptS Q K t ρ κ.val : EReal) := by
  rw [ptS_apply]
  simp only [blkQ_apply, blkK_apply, arrQ_apply, arrK_apply, hq, hk, sc_coe, ← EReal.coe_mul, ← coe_sum]
  refine congrArg _ ?_
  unfold score
  rw [Finset.sum_mul]
  refine Finset.sum_congr rfl fun d _ => ?_
  have e1 : colOf t (stackCol ρ d) = qcol (headOf t) (groupOf ρ) d :=
    Fin.ext (by simp only [colOf, stackCol, qcol, headOf, groupOf]; omega)
  have e2 : laneOf t d = kcol (headOf t) d := Fin.ext (by simp only [laneOf, kcol, headOf])
  rw [e1, e2]
  ring

include hv in
theorem value_real (t : Fin cfg0.N) (κ : Fin 8448) (d : Fin 128) : blkV m c t (ix2 κ d) = (ptW X t κ.val d : EReal) := by
  rw [ptW_apply, blkV_apply, arrV_apply, hv]
  exact congrArg (fun j => ((X κ j : ℝ) : EReal)) (Fin.ext (by simp only [laneOf, kcol, headOf]))

include hq hk hv in
/-- After its six tiles, point `t` has seen all the keys. -/
theorem seen_point (t : Fin cfg0.N) : Seen (ptS Q K t) (ptW X t) 8448 (st6 (blkQ m c t) (blkK m c t) (blkV m c t)) :=
  seen_all (score_real m c hq hk t) (value_real m c hv t)

theorem emb3 (t : Fin cfg0.N) (y : S256x512.Idx) :
    ((((cfg0.win 3).blk t).view.emb y : S8192x1024.Idx) 0).val = t.val % 32 * 256 + (y 0).val
    ∧ ((((cfg0.win 3).blk t).view.emb y : S8192x1024.Idx) 1).val = t.val / 32 * 512 + (y 1).val := by
  constructor
  · show win0_3.index t 0 * 256 + 1 * (y 0).val = _; rw [(idx3 t).1]; omega
  · show win0_3.index t 1 * 512 + 1 * (y 1).val = _; rw [(idx3 t).2]; omega

theorem emb4 (t : Fin cfg0.N) (y : S1024x1.Idx) :
    ((((cfg0.win 4).blk t).view.emb y : S65536x1.Idx) 0).val = t.val * 1024 + (y 0).val := by
  show win0_4.index t 0 * 1024 + 1 * (y 0).val = _; rw [(idx4 t).1]; omega

include hq hk hv in
/-- A point's block of outputs is that block of the attention's output. -/
theorem tile3 (t : Fin cfg0.N) (y : S256x512.Idx) (x : S8192x1024.Idx) (h0 : (x 0).val = t.val % 32 * 256 + (y 0).val)
    (h1 : (x 1).val = t.val / 32 * 512 + (y 1).val) :
    ((dats m 0 c).after 3 t : Vec Ideal S256x512 .f32) y = attnOut Q K X x := by
  have b0 : (y 0).val < 256 := (y 0).isLt
  have b1 : (y 1).val < 512 := (y 1).isLt
  have bt := lt64 t
  rw [after0_3, out3_eq]
  refine (seen_out (seen_point m c hq hk hv t) (unstackRow (y 0) (y 1)) (unstackLane (y 1))).trans ?_
  unfold attnOut
  refine congrArg _ (Finset.sum_congr rfl fun κ _ => ?_)
  simp only [ptS_apply, ptW_apply]
  have e1 : headOf t = ⟨(x 1).val / 512, by omega⟩ := Fin.ext (by simp only [headOf]; omega)
  have e2 : groupOf (unstackRow (y 0) (y 1)) = ⟨(x 1).val / 128 % 4, by omega⟩ := Fin.ext (by simp only [groupOf, unstackRow]; omega)
  have e3 : rowOf t (stackRow (unstackRow (y 0) (y 1))) = x 0 := Fin.ext (by simp only [rowOf, stackRow, unstackRow]; omega)
  have e4 : unstackLane (y 1) = ⟨(x 1).val % 128, by omega⟩ := Fin.ext (by simp only [unstackLane]; omega)
  rw [e1, e2, e3, e4]
  rfl

include hq hk hv in
/-- A point's block of logarithms is that block of the whole. -/
theorem tile4 (t : Fin cfg0.N) (y : S1024x1.Idx) (x : S65536x1.Idx) (h0 : (x 0).val = t.val * 1024 + (y 0).val) :
    ((dats m 0 c).after 4 t : Vec Ideal S1024x1 .f32) y = attnLse Q K x := by
  obtain ⟨ρ, hρ⟩ : ∃ ρ : Fin 1024, ρ.val = (y 0).val := ⟨y 0, rfl⟩
  have bt := lt64 t
  have hy : y = ix2 ρ (0 : Fin 1) := funext fun a => by
    match a with
    | ⟨0, _⟩ => exact Fin.ext hρ.symm
    | ⟨1, _⟩ => exact Subsingleton.elim (α := Fin 1) _ _
  rw [after0_4, out4_eq, hy]
  refine (seen_lse (seen_point m c hq hk hv t) ρ).trans ?_
  unfold attnLse
  refine congrArg (fun z : ℝ => (Real.log z : EReal)) (Finset.sum_congr rfl fun κ _ => ?_)
  rw [ptS_apply]
  have e1 : headOf t = ⟨(x 0).val / 32768, by omega⟩ := Fin.ext (by simp only [headOf]; omega)
  have e2 : groupOf ρ = ⟨(x 0).val / 256 % 4, by omega⟩ := Fin.ext (by simp only [groupOf]; omega)
  have e3 : rowOf t (stackRow ρ) = ⟨(x 0).val / 1024 % 32 * 256 + (x 0).val % 256, by omega⟩ :=
    Fin.ext (by simp only [rowOf, stackRow]; omega)
  rw [e1, e2, e3]

include hq hk hv in
theorem final3 : (dats m 0 c).arrAt 3 cfg0.N = attnOut Q K X := by
  refine (dats m 0 c).arrAt_eq_of_covers 3 _ (by decide +kernel) fun t hf y => ?_
  exact tile3 m c hq hk hv t y _ (emb3 t y).1 (emb3 t y).2

include hq hk hv in
theorem final4 : (dats m 0 c).arrAt 4 cfg0.N = attnLse Q K := by
  refine (dats m 0 c).arrAt_eq_of_covers 4 _ (by decide +kernel) fun t hf y => ?_
  exact tile4 m c hq hk hv t y _ (emb4 t y)
end

variable (ρ : Dev nD → PrngReg)

/-- The run leaves the two result arrays the grid's points wrote, and the arguments as they were. -/
theorem run : θ_run defs (onTc (τ := τ) (main (F := Ideal))) ⟨m, fun _ => 0, ρ⟩ fun r => ∀ c : Dev nD,
      r.2.mem ((c : Thread nD τ).loc main_v5_0) = (dats m 0 c).arrAt 3 cfg0.N
      ∧ r.2.mem ((c : Thread nD τ).loc main_v5_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (run_main m ρ)
  obtain ⟨arrs, rest⟩ := h c
  exact ⟨arrs 3, arrs 4,
    (rest main_arg0 (Pipeline.mem_restRefs_of main_arg0 (by decide) (by decide))).trans (V_main_arg0 m c),
    (rest main_arg1 (Pipeline.mem_restRefs_of main_arg1 (by decide) (by decide))).trans (V_main_arg1 m c),
    (rest main_arg2 (Pipeline.mem_restRefs_of main_arg2 (by decide) (by decide))).trans (V_main_arg2 m c)⟩

end Cert.Kernel5Ideal.Val

end
-- ==== Proof.AttnRef.lean ====
/- On finite inputs, the reference's two results of the attention forward. -/
module

public import proofs.«01_k».proof.Proof.AttnArrays
public import proofs.«01_k».proof.Proof.Gen.Reference5Ideal.Read
public import Idealize.ShloMosaic.Lib.Tactic.CleanTypes
public import Idealize.ShloMosaic.Lib.Pointwise

@[expose] public section

noncomputable section

open Idealize.ShloMosaic Idealize.ShloMosaic.TcCoe Idealize.SL.Sem

namespace Cert.Reference5Ideal.Val
open Cert.Reference5Ideal Cert.Reference5Ideal.Gen Cert.Reference5Ideal.Read Cert.Attn
open Cert.KernelIdeal.Val (qcol kcol lrow)
open Cert.Kernel5Ideal.Val (attnOut attnLse)

section
variable (q : FVec Ideal S8192x1024 .f32) (k v : FVec Ideal S8448x256 .f32)
  (h : Fin 2) (g : Fin 4) (n : Fin 8192) (κ : Fin 8448) (d : Fin 128)

theorem v5_apply : val_main_v5 (F := Ideal) q k (ix5 0 h g n κ) = (∑ d : Fin 128, k (ix2 κ (kcol h d)) * q (ix2 n (qcol h g d))) * Ideal.ofBits .f32 0x3DB504F3#32 := by
  unfold val_main_v5 val_main_v4 val_main_v3 val_main_v2 val_main_v1 val_main_v0 val_main_cst
  clean_types
  pointwise []
  refine congrArg (· * _) (Finset.sum_congr rfl fun d _ => congrArg₂ (· * ·)
    (congrArg₂ (fun a b => k (ix2 a b)) (Fin.ext ?_) (Fin.ext ?_)) (congrArg₂ (fun a b => q (ix2 a b)) (Fin.ext ?_) (Fin.ext ?_)))
  all_goals (try simp only [qcol, kcol]); try omega

theorem v8_apply : val_main_v8 (F := Ideal) q k (ix4 0 h g n) = Ideal.log (∑ κ : Fin 8448, Ideal.exp (val_main_v5 (F := Ideal) q k (ix5 0 h g n κ))) := by
  unfold val_main_v8 val_main_v7 val_main_v6 val_main_cst_0
  generalize val_main_v5 (F := Ideal) q k = s
  clean_types
  pointwise []

theorem v32_apply : val_main_v32 (F := Ideal) q k (ix2 (lrow h g n) 0) = val_main_v8 (F := Ideal) q k (ix4 0 h g n) := by
  unfold val_main_v32 val_main_v31 val_main_v30
  generalize val_main_v8 (F := Ideal) q k = s
  clean_types
  pointwise []
  have e0 : ∀ a (x : Fin 2) (y : Fin 4) (w : Fin 8192), x = h → y = g → w = n → s (ix4 a x y w) = s (ix4 0 h g n) := fun a x y w hx hy hw => by
    rw [hx, hy, hw, Subsingleton.elim a 0]
  refine e0 _ _ _ _ (Fin.ext ?_) (Fin.ext ?_) (Fin.ext ?_)
  all_goals (try simp only [lrow]); try omega

theorem v14_apply : val_main_v14 (F := Ideal) q k (ix5 0 h g n κ) = (∑ d : Fin 128, k (ix2 κ (kcol h d)) * q (ix2 n (qcol h g d))) * Ideal.ofBits .f32 0x3DB504F3#32 := by
  unfold val_main_v14 val_main_v13 val_main_v12 val_main_v11 val_main_v10 val_main_v9 val_main_cst_1
  clean_types
  pointwise []
  refine congrArg (· * _) (Finset.sum_congr rfl fun d _ => congrArg₂ (· * ·)
    (congrArg₂ (fun a b => k (ix2 a b)) (Fin.ext ?_) (Fin.ext ?_)) (congrArg₂ (fun a b => q (ix2 a b)) (Fin.ext ?_) (Fin.ext ?_)))
  all_goals (try simp only [qcol, kcol]); try omega

theorem v15_apply : val_main_v15 (F := Ideal) q k (ix4 0 h g n)
    = Finset.univ.fold max (Ideal.ofBits .f32 0xFF800000#32) fun κ : Fin 8448 => val_main_v14 (F := Ideal) q k (ix5 0 h g n κ) := by
  unfold val_main_v15 val_main_cst_2
  generalize val_main_v14 (F := Ideal) q k = s
  clean_types
  pointwise []

theorem v19_apply : val_main_v19 (F := Ideal) q k (ix5 0 h g n κ)
    = max (Ideal.ofBits .f32 0xFF800000#32) (val_main_v15 (F := Ideal) q k (ix4 0 h g n)) := by
  rw [val_main_v19_apply, val_main_v18_apply, val_main_v17_apply, val_main_v16_apply]
  refine congrArg₂ max rfl (congrArg (val_main_v15 (F := Ideal) q k) (funext fun a => ?_))
  match a with
  | ⟨0, _⟩ => rfl
  | ⟨1, _⟩ => rfl
  | ⟨2, _⟩ => rfl
  | ⟨3, _⟩ => rfl

theorem v21_apply : val_main_v21 (F := Ideal) q k (ix5 0 h g n κ) = Ideal.exp (val_main_v14 (F := Ideal) q k (ix5 0 h g n κ) - val_main_v19 (F := Ideal) q k (ix5 0 h g n κ)) := by
  unfold val_main_v21 val_main_v20
  generalize val_main_v14 (F := Ideal) q k = s
  generalize val_main_v19 (F := Ideal) q k = x
  clean_types
  pointwise []

theorem v25_apply : val_main_v25 (F := Ideal) q k (ix5 0 h g n κ)
    = Ideal.div (val_main_v21 (F := Ideal) q k (ix5 0 h g n κ)) (∑ κ : Fin 8448, val_main_v21 (F := Ideal) q k (ix5 0 h g n κ)) := by
  unfold val_main_v25 val_main_v24 val_main_v23 val_main_v22 val_main_cst_4
  generalize val_main_v21 (F := Ideal) q k = s
  clean_types
  pointwise []

theorem v29_apply : val_main_v29 (F := Ideal) q k v (ix2 n (qcol h g d)) = ∑ κ : Fin 8448, v (ix2 κ (kcol h d)) * val_main_v25 (F := Ideal) q k (ix5 0 h g n κ) := by
  unfold val_main_v29 val_main_v28 val_main_v27 val_main_v26
  generalize val_main_v25 (F := Ideal) q k = s
  clean_types
  pointwise []
  have e0 : ∀ (x : Fin 2) (y : Fin 4) (w : Fin 8192) (κ : Fin 8448) (a : Fin 256), x = h → y = g → w = n → a = kcol h d →
      v (ix2 κ a) * s (ix5 0 x y w κ) = v (ix2 κ (kcol h d)) * s (ix5 0 h g n κ) := fun x y w κ a hx hy hw ha => by
    rw [hx, hy, hw, ha]
  refine Finset.sum_congr rfl fun κ _ => e0 _ _ _ _ _ (Fin.ext ?_) (Fin.ext ?_) (Fin.ext ?_) (Fin.ext ?_)
  all_goals (try simp only [qcol, kcol]); try omega
end

section
variable {q : FVec Ideal S8192x1024 .f32} {k v : FVec Ideal S8448x256 .f32}
  {Q : Fin 8192 → Fin 1024 → ℝ} {K X : Fin 8448 → Fin 256 → ℝ}
  (hq : ∀ n j, q (ix2 n j) = (Q n j : EReal)) (hk : ∀ κ j, k (ix2 κ j) = (K κ j : EReal)) (hv : ∀ κ j, v (ix2 κ j) = (X κ j : EReal))
  (h : Fin 2) (g : Fin 4) (n : Fin 8192) (κ : Fin 8448) (d : Fin 128)
include hq hk

theorem v32_real : val_main_v32 (F := Ideal) q k (ix2 (lrow h g n) 0) = ((Real.log (∑ κ : Fin 8448, Real.exp (score Q K h g n κ)) : ℝ) : EReal) := by
  have e : ∀ κ, val_main_v5 (F := Ideal) q k (ix5 0 h g n κ) = (score Q K h g n κ : EReal) := fun κ => by
    rw [v5_apply, sc_coe]
    simp only [hq, hk, ← EReal.coe_mul, ← coe_sum]
    rfl
  have hp := sum_exp_pos (score Q K h g n) 0 0
  simp only [sub_zero] at hp
  rw [v32_apply, v8_apply]
  simp only [e, Ideal.exp_coe, ← coe_sum]
  exact log_coe_pos _ hp

theorem v14_real : val_main_v14 (F := Ideal) q k (ix5 0 h g n κ) = (score Q K h g n κ : EReal) := by
  rw [v14_apply, sc_coe]
  simp only [hq, hk, ← EReal.coe_mul, ← coe_sum]
  rfl

theorem v19_real : ∃ M : ℝ, ∀ κ, val_main_v19 (F := Ideal) q k (ix5 0 h g n κ) = (M : EReal) := by
  obtain ⟨M, hM⟩ := fold_max_coe (Finset.univ : Finset (Fin 8448)) (score Q K h g n) ⟨0, Finset.mem_univ _⟩
  refine ⟨M, fun κ => ?_⟩
  rw [v19_apply, v15_apply, bits_neg_inf]
  simp only [v14_real hq hk]
  rw [hM]
  exact max_eq_right bot_le

theorem v25_real : val_main_v25 (F := Ideal) q k (ix5 0 h g n κ) = (weight Q K h g n κ : EReal) := by
  obtain ⟨M, hM⟩ := v19_real hq hk h g n
  have e : ∀ κ, val_main_v21 (F := Ideal) q k (ix5 0 h g n κ) = (Real.exp (score Q K h g n κ - M) : EReal) := fun κ => by
    rw [v21_apply, hM, v14_real hq hk, ← EReal.coe_sub, Ideal.exp_coe]
  rw [v25_apply]
  simp only [e, ← coe_sum]
  rw [div_coe_coe _ _ (sum_exp_pos (score Q K h g n) M 0).ne', soft_shift (score Q K h g n) M κ]
  rfl

include hv in
theorem v29_real : val_main_v29 (F := Ideal) q k v (ix2 n (qcol h g d)) = ((∑ κ : Fin 8448, weight Q K h g n κ * X κ (kcol h d) : ℝ) : EReal) := by
  rw [v29_apply, coe_sum]
  refine Finset.sum_congr rfl fun κ _ => ?_
  rw [v25_real hq hk, hv, ← EReal.coe_mul, mul_comm]

include hv in
/-- The reference's output is the attention's output. -/
theorem out_real : val_main_v29 (F := Ideal) q k v = attnOut Q K X := funext fun x => by
  obtain ⟨n, j, rfl⟩ : ∃ n j, x = ix2 n j := ⟨x 0, x 1, eq_ix2 x⟩
  have e : j = qcol ⟨j.val / 512, by omega⟩ ⟨j.val / 128 % 4, by omega⟩ ⟨j.val % 128, by omega⟩ := Fin.ext (by simp only [qcol]; omega)
  exact (congrArg (fun j => val_main_v29 (F := Ideal) q k v (ix2 n j)) e).trans (v29_real hq hk hv _ _ n _)

/-- The reference's logarithms are the attention's. -/
theorem lse_real : val_main_v32 (F := Ideal) q k = attnLse Q K := funext fun x => by
  obtain ⟨r, j, rfl⟩ : ∃ r j, x = ix2 r j := ⟨x 0, x 1, eq_ix2 x⟩
  obtain rfl : j = 0 := Subsingleton.elim (α := Fin 1) j 0
  have e : r = lrow ⟨r.val / 32768, by omega⟩ ⟨r.val / 256 % 4, by omega⟩ ⟨r.val / 1024 % 32 * 256 + r.val % 256, by omega⟩ :=
    Fin.ext (by simp only [lrow]; omega)
  exact (congrArg (fun r => val_main_v32 (F := Ideal) q k (ix2 r 0)) e).trans (v32_real hq hk _ _ _)
end

end Cert.Reference5Ideal.Val

end
-- ==== Proof.OutBack.lean ====
/- The gradient of the output projections' input: what the call's grid of tiles leaves is the whole product with the transposed weights, and so is the reference's. -/
module

public import proofs.«01_k».proof.Proof.Gen.Kernel6Ideal.Value
public import proofs.«01_k».proof.Proof.Gen.Reference6Ideal.Read
public import Idealize.ShloMosaic.Lib.Pointwise
public import Idealize.ShloMosaic.Lib.Pipeline.ValueKit.Geometry
public import Idealize.ShloMosaic.Lib.Pipeline.ValueKit.Acc

@[expose] public section

noncomputable section

open Idealize.ShloMosaic Idealize.ShloMosaic.TcCoe Idealize.SL.Sem
open Idealize.ShloMosaic.Pipeline (Dat)

namespace Cert.Kernel6Ideal.Val
open Cert.Kernel6Ideal Cert.Kernel6Ideal.Gen

variable (m : (ℓ : Loc nD τ sig) → Buf (Elt Ideal) ℓ) (c : Dev nD)

/-- The result's gradient the call is given. -/
def inCt : Vec Ideal S8192x2048 .bf16 := m ((c : Thread nD τ).loc main_arg0)
/-- The weights the call is given. -/
def inW : Vec Ideal S2048x2048 .bf16 := m ((c : Thread nD τ).loc main_arg1)

/-- The whole gradient of the input. -/
def gradX (ct : Vec Ideal S8192x2048 .bf16) (w : Vec Ideal S2048x2048 .bf16) : Vec Ideal S8192x2048 .bf16 := fun x =>
  (∑ k : Fin 2048, ct (ix2 (n0 := 8192) (n1 := 2048) (x 0) k) * w (ix2 (n0 := 2048) (n1 := 2048) (x 1) k) : EReal)

/-- The tile's payload forms every product of a row of one block and a row of the other. -/
theorem pay_apply (ct : FVec Ideal S1024x2048 .bf16) (w : FVec Ideal S2048x2048 .bf16) (r : Fin 1024) (j : Fin 2048) :
    k0_pay1 (F := Ideal) ct w (ix2 r j) = ∑ k : Fin 2048, ct (ix2 r k) * w (ix2 j k) := by
  pointwise [k0_pay1]

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

theorem bound (t : Fin cfg0.N) : t.val < 8 := lt_of_lt_of_eq t.isLt N_0

/-- The array row of row `r` of point `t`'s blocks. -/
def rowOf (t : Fin cfg0.N) (r : Fin 1024) : Fin 8192 := ⟨t.val * 1024 + r.val, by have := bound t; omega⟩

theorem read0_apply (W : (b : Ref sig .tc) → Buf (Elt Ideal) ((c : Thread nD τ).loc b)) (t : Fin cfg0.N) (r : Fin 1024) (k : Fin 2048) :
    (((cfg0.win 0).blk t).view.read (Elt Ideal) (W (Pipeline.arrRef spec0 0)) : Vec Ideal S1024x2048 .bf16) (ix2 r k)
      = (W main_arg0 : Vec Ideal S8192x2048 .bf16) (ix2 (rowOf t r) k) := by
  rw [View.read_apply]
  show W main_arg0 _ = W main_arg0 _
  refine congrArg (W main_arg0) (funext fun a => Fin.ext ?_)
  match a with
  | ⟨0, _⟩ => show win0_0.index t 0 * 1024 + 1 * r.val = t.val * 1024 + r.val; rw [(idx0 t).1]; omega
  | ⟨1, _⟩ => show win0_0.index t 1 * 2048 + 1 * k.val = k.val; rw [(idx0 t).2]; omega

theorem read1_apply (W : (b : Ref sig .tc) → Buf (Elt Ideal) ((c : Thread nD τ).loc b)) (t : Fin cfg0.N) (j : Fin 2048) (k : Fin 2048) :
    (((cfg0.win 1).blk t).view.read (Elt Ideal) (W (Pipeline.arrRef spec0 1)) : Vec Ideal S2048x2048 .bf16) (ix2 j k)
      = (W main_arg1 : Vec Ideal S2048x2048 .bf16) (ix2 j k) := by
  rw [View.read_apply]
  show W main_arg1 _ = W main_arg1 _
  refine congrArg (W main_arg1) (funext fun a => Fin.ext ?_)
  match a with
  | ⟨0, _⟩ => show win0_1.index t 0 * 2048 + 1 * j.val = j.val; rw [(idx1 t).1]; omega
  | ⟨1, _⟩ => show win0_1.index t 1 * 2048 + 1 * k.val = k.val; rw [(idx1 t).2]; omega

theorem iblk0_apply (t : Fin cfg0.N) (r : Fin 1024) (k : Fin 2048) :
    (iblk m c 0 t : Vec Ideal S1024x2048 .bf16) (ix2 r k) = inCt m c (ix2 (rowOf t r) k) := read0_apply c (V m c) t r k
theorem iblk1_apply (t : Fin cfg0.N) (j : Fin 2048) (k : Fin 2048) :
    (iblk m c 1 t : Vec Ideal S2048x2048 .bf16) (ix2 j k) = inW m c (ix2 j k) := read1_apply c (V m c) t j k

theorem out_eq (x0 : Vec Ideal S1024x2048 .bf16) (x1 : Vec Ideal S2048x2048 .bf16) : out0_2 x0 x1 = k0_pay1 x0 x1 := by
  frame_out

theorem emb2 (t : Fin cfg0.N) (y : S1024x2048.Idx) :
    ((((cfg0.win 2).blk t).view.emb y : S8192x2048.Idx) 0).val = t.val * 1024 + (y 0).val
    ∧ ((((cfg0.win 2).blk t).view.emb y : S8192x2048.Idx) 1).val = (y 1).val := by
  constructor
  · show win0_2.index t 0 * 1024 + 1 * (y 0).val = _; rw [(idx2 t).1]; omega
  · show win0_2.index t 1 * 2048 + 1 * (y 1).val = _; rw [(idx2 t).2]; omega

/-- A point's tile is that tile of the whole gradient. -/
theorem tile (t : Fin cfg0.N) (y : S1024x2048.Idx) (x : S8192x2048.Idx) (h0 : (x 0).val = t.val * 1024 + (y 0).val)
    (h1 : (x 1).val = (y 1).val) :
    ((dats m 0 c).after 2 t : Vec Ideal S1024x2048 .bf16) y = gradX (inCt m c) (inW m c) x := by
  have hy : y = ix2 (n0 := 1024) (n1 := 2048) (y 0) (y 1) := funext fun a => by match a with | ⟨0, _⟩ => rfl | ⟨1, _⟩ => rfl
  rw [after0_2, out_eq, hy]
  refine (pay_apply _ _ (y 0) (y 1)).trans ?_
  unfold gradX
  refine Finset.sum_congr rfl fun k _ => congrArg₂ (· * ·) ((iblk0_apply m c t (y 0) k).trans ?_) ((iblk1_apply m c t (y 1) k).trans ?_)
  · exact congrArg (fun a => inCt m c (ix2 a k)) (Fin.ext h0.symm)
  · exact congrArg (fun b => inW m c (ix2 b k)) (Fin.ext h1.symm)

/-- The result array is the whole gradient of the input. -/
theorem final : (dats m 0 c).arrAt 2 cfg0.N = gradX (inCt m c) (inW m c) := by
  refine (dats m 0 c).arrAt_eq_of_covers 2 _ (by decide +kernel) fun t hf y => ?_
  exact tile m c t y _ (emb2 t y).1 (emb2 t y).2

/-- The reference's result is the whole gradient of the input. -/
theorem ref_eq (ct : FVec Ideal S8192x2048 .bf16) (w : FVec Ideal S2048x2048 .bf16) :
    Cert.Reference6Ideal.Read.val_main_v6 (F := Ideal) ct w = gradX ct w := funext fun x => by
  rw [Cert.Reference6Ideal.Read.val_main_v6_apply]
  refine (Cert.Reference6Ideal.Read.val_main_v5_apply ct w _).trans ?_
  unfold gradX
  refine Finset.sum_congr rfl fun n _ => (congrArg₂ (· * ·) (congrArg ct (funext fun b => ?_)) (congrArg w (funext fun b => ?_)))
  all_goals match b with | ⟨0, _⟩ => rfl | ⟨1, _⟩ => rfl

end Cert.Kernel6Ideal.Val

end
-- ==== Proof.InWeights.lean ====
/- The gradient of the odd layer's input weights: the accumulator over the eight slabs of rows, the whole result array, and the reference's. -/
module

public import proofs.«01_k».proof.Proof.Gen.Kernel7Ideal.Value
public import proofs.«01_k».proof.Proof.Gen.Reference7Ideal.Read
public import Idealize.ShloMosaic.Lib.Pointwise
public import Idealize.ShloMosaic.Lib.Pipeline.ValueKit.Geometry
public import Idealize.ShloMosaic.Lib.Pipeline.ValueKit.Acc

@[expose] public section

noncomputable section

open Idealize.ShloMosaic Idealize.ShloMosaic.TcCoe Idealize.SL.Sem
open Idealize.ShloMosaic.Pipeline (Dat)

namespace Cert.Kernel7Ideal.Val
open Cert.Kernel7Ideal Cert.Kernel7Ideal.Gen

variable (m : (ℓ : Loc nD τ sig) → Buf (Elt Ideal) ℓ) (c : Dev nD)

/-- The activations the call is given. -/
def inA : Vec Ideal S8192x2048 .bf16 := m ((c : Thread nD τ).loc main_arg0)
/-- The result's gradient the call is given. -/
def inCt : Vec Ideal S8192x6144 .bf16 := m ((c : Thread nD τ).loc main_arg1)

/-- The whole gradient of the weights. -/
def gradW (a : Vec Ideal S8192x2048 .bf16) (ct : Vec Ideal S8192x6144 .bf16) : Vec Ideal S2048x6144 .bf16 := fun x =>
  (∑ n : Fin 8192, a (ix2 (n0 := 8192) (n1 := 2048) n (x 0)) * ct (ix2 (n0 := 8192) (n1 := 6144) n (x 1)) : EReal)

theorem pay1_apply (i j) : k0_pay1 (F := Ideal) (ix2 i j) = 0 := by
  pointwise [k0_pay1]

theorem pay2_apply (s : FVec Ideal S2048x1536 .f32) (a : FVec Ideal S1024x2048 .bf16) (ct : FVec Ideal S1024x1536 .bf16) (i : Fin 2048) (j : Fin 1536) :
    k0_pay2 (F := Ideal) s a ct (ix2 i j) = s (ix2 i j) + ∑ n : Fin 1024, a (ix2 n i) * ct (ix2 n j) := by
  pointwise [k0_pay2]

theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)
theorem idx2 : ∀ t : Fin cfg0.N, win0_2.index t 0 = 0 ∧ win0_2.index t 1 = t.val / 8 :=
  (by decide +kernel : ∀ t : Fin grid0.N, win0_2.index t 0 = 0 ∧ win0_2.index t 1 = t.val / 8)

theorem bound (t : Fin cfg0.N) : t.val < 32 := lt_of_lt_of_eq t.isLt N_0

/-- The array row of row `n` of point `t`'s blocks. -/
def rowOf (t : Fin cfg0.N) (n : Fin 1024) : Fin 8192 := ⟨t.val % 8 * 1024 + n.val, by omega⟩
/-- The array column of column `j` of point `t`'s block of the result's gradient. -/
def colOf (t : Fin cfg0.N) (j : Fin 1536) : Fin 6144 := ⟨t.val / 8 * 1536 + j.val, by have := bound t; omega⟩

theorem read0_apply (W : (b : Ref sig .tc) → Buf (Elt Ideal) ((c : Thread nD τ).loc b)) (t : Fin cfg0.N) (n : Fin 1024) (i : Fin 2048) :
    (((cfg0.win 0).blk t).view.read (Elt Ideal) (W (Pipeline.arrRef spec0 0)) : Vec Ideal S1024x2048 .bf16) (ix2 n i)
      = (W main_arg0 : Vec Ideal S8192x2048 .bf16) (ix2 (rowOf t n) i) := by
  rw [View.read_apply]
  show W main_arg0 _ = W main_arg0 _
  refine congrArg (W main_arg0) (funext fun a => Fin.ext ?_)
  match a with
  | ⟨0, _⟩ => show win0_0.index t 0 * 1024 + 1 * n.val = t.val % 8 * 1024 + n.val; rw [(idx0 t).1]; omega
  | ⟨1, _⟩ => show win0_0.index t 1 * 2048 + 1 * i.val = i.val; rw [(idx0 t).2]; omega

theorem read1_apply (W : (b : Ref sig .tc) → Buf (Elt Ideal) ((c : Thread nD τ).loc b)) (t : Fin cfg0.N) (n : Fin 1024) (j : Fin 1536) :
    (((cfg0.win 1).blk t).view.read (Elt Ideal) (W (Pipeline.arrRef spec0 1)) : Vec Ideal S1024x1536 .bf16) (ix2 n j)
      = (W main_arg1 : Vec Ideal S8192x6144 .bf16) (ix2 (rowOf t n) (colOf t j)) := by
  rw [View.read_apply]
  show W main_arg1 _ = W main_arg1 _
  refine congrArg (W main_arg1) (funext fun a => Fin.ext ?_)
  match a with
  | ⟨0, _⟩ => show win0_1.index t 0 * 1024 + 1 * n.val = t.val % 8 * 1024 + n.val; rw [(idx1 t).1]; omega
  | ⟨1, _⟩ => show win0_1.index t 1 * 1536 + 1 * j.val = t.val / 8 * 1536 + j.val; rw [(idx1 t).2]; omega

theorem iblk0_apply (t : Fin cfg0.N) (n : Fin 1024) (i : Fin 2048) :
    (iblk m c 0 t : Vec Ideal S1024x2048 .bf16) (ix2 n i) = inA m c (ix2 (rowOf t n) i) := read0_apply c (V m c) t n i
theorem iblk1_apply (t : Fin cfg0.N) (n : Fin 1024) (j : Fin 1536) :
    (iblk m c 1 t : Vec Ideal S1024x1536 .bf16) (ix2 n j) = inCt m c (ix2 (rowOf t n) (colOf t j)) := read1_apply c (V m c) t n j

/-- Point `t`'s block of the activations. -/
def blkA (t : Fin cfg0.N) : FVec Ideal S1024x2048 .bf16 := iblk m c 0 t
/-- Point `t`'s block of the result's gradient. -/
def blkCt (t : Fin cfg0.N) : FVec Ideal S1024x1536 .bf16 := iblk m c 1 t

/-- What point number `n` adds to the accumulator. -/
def slab (i : Fin 2048) (j : Fin 1536) (n : ℕ) : EReal :=
  if h : n < cfg0.N then ∑ k : Fin 1024, (inA m c (ix2 (rowOf ⟨n, h⟩ k) i) * inCt m c (ix2 (rowOf ⟨n, h⟩ k) (colOf ⟨n, h⟩ j)) : EReal) else 0

theorem slab_at (t : Fin cfg0.N) (i : Fin 2048) (j : Fin 1536) :
    ∑ k : Fin 1024, blkA m c t (ix2 k i) * blkCt m c t (ix2 k j) = slab m c i j t.val := by
  rw [slab, dif_pos t.isLt]
  exact Finset.sum_congr rfl fun k _ => congrArg₂ (· * ·) (iblk0_apply m c t k i) (iblk1_apply m c t k j)

/-- The accumulator after a point that resets it. -/
theorem acc_reset (t : Fin cfg0.N) (h0 : t.val % 8 = 0) : (outsAt0 m c t.val t.isLt).2 = k0_pay2 (F := Ideal) (k0_pay1 (F := Ideal)) (iblk m c 0 t) (iblk m c 1 t) := by
  rw [outsAt0_A m c t h0 (by omega)]
  dsimp only
  frame_out

/-- The accumulator after any other point. -/
theorem acc_step (t : Fin cfg0.N) (h0 : ¬t.val % 8 = 0) : (outsAt0 m c t.val t.isLt).2
    = k0_pay2 (F := Ideal) (outsAt0 m c (t.val - 1) (Nat.lt_of_le_of_lt (Nat.sub_le _ _) t.isLt)).2 (iblk m c 0 t) (iblk m c 1 t) := by
  by_cases h1 : t.val % 8 = 7
  · rw [outsAt0_C m c t h0 h1]
    dsimp only
    frame_out
    exact congrArg (fun s => k0_pay2 (F := Ideal) s (iblk m c 0 t) (iblk m c 1 t)) (Memref.IsWhole.read_unread (Memref.isWhole_whole _) _)
  · rw [outsAt0_B m c t h0 h1]
    dsimp only
    frame_out
    exact congrArg (fun s => k0_pay2 (F := Ideal) s (iblk m c 0 t) (iblk m c 1 t)) (Memref.IsWhole.read_unread (Memref.isWhole_whole _) _)

/-- What a point at the end of its run leaves in the result's block: the accumulator, rounded. -/
theorem out_last (t : Fin cfg0.N) (h1 : t.val % 8 = 7) : (outsAt0 m c t.val t.isLt).1
    = k0_pay3 (F := Ideal) (k0_pay2 (outsAt0 m c (t.val - 1) (Nat.lt_of_le_of_lt (Nat.sub_le _ _) t.isLt)).2 (iblk m c 0 t) (iblk m c 1 t)) := by
  rw [outsAt0_C m c t (by omega) h1]
  dsimp only
  frame_out
  exact congrArg (fun s => k0_pay3 (F := Ideal) (k0_pay2 s (iblk m c 0 t) (iblk m c 1 t))) (Memref.IsWhole.read_unread (Memref.isWhole_whole _) _)

/-- The accumulator is the sum of the slabs met so far. -/
theorem acc_eq (t : Fin cfg0.N) (i : Fin 2048) (j : Fin 1536) :
    ((outsAt0 m c t.val t.isLt).2 : FVec Ideal S2048x1536 .f32) (ix2 i j) = 0 + ∑ l ∈ Finset.range (t.val % 8 + 1), slab m c i j (8 * (t.val / 8) + l) :=
  Pipeline.eq_sum_of_reset_step (fun n h => ((outsAt0 m c n h).2 : FVec Ideal S2048x1536 .f32) (ix2 i j)) 8 (0 : EReal) (slab m c i j)
    (fun t h0 => by
      simp only [acc_reset m c t h0]
      exact (pay2_apply _ (blkA m c t) (blkCt m c t) i j).trans (congrArg₂ (· + ·) (pay1_apply i j) (slab_at m c t i j)))
    (fun t h0 => by
      simp only [acc_step m c t h0]
      exact (pay2_apply _ (blkA m c t) (blkCt m c t) i j).trans (congrArg₂ (· + ·) rfl (slab_at m c t i j))) t

theorem emb2 (t : Fin cfg0.N) (y : S2048x1536.Idx) :
    ((((cfg0.win 2).blk t).view.emb y : S2048x6144.Idx) 0).val = (y 0).val
    ∧ ((((cfg0.win 2).blk t).view.emb y : S2048x6144.Idx) 1).val = t.val / 8 * 1536 + (y 1).val := by
  constructor
  · show win0_2.index t 0 * 2048 + 1 * (y 0).val = _; rw [(idx2 t).1]; omega
  · show win0_2.index t 1 * 1536 + 1 * (y 1).val = _; rw [(idx2 t).2]; omega

/-- A sum over the rows is the sum over the slabs. -/
theorem sum_rows (f : Fin 8192 → EReal) :
    ∑ l : Fin 8, ∑ k : Fin 1024, f ⟨l.val * 1024 + k.val, by omega⟩ = ∑ n, f n := by
  rw [← Fintype.sum_prod_type']
  refine Fintype.sum_equiv (finProdFinEquiv : Fin 8 × Fin 1024 ≃ Fin (8 * 1024)) _ _ fun p => ?_
  obtain ⟨l, k⟩ := p
  refine congrArg f (Fin.ext ?_)
  show l.val * 1024 + k.val = k.val + 1024 * l.val
  omega

/-- The block a run leaves is that block of the whole gradient. -/
theorem block (t : Fin cfg0.N) (h3 : t.val % 8 = 7) (y : S2048x1536.Idx) (x : S2048x6144.Idx) (h0 : (x 0).val = (y 0).val)
    (h1 : (x 1).val = t.val / 8 * 1536 + (y 1).val) :
    ((outsAt0 m c t.val t.isLt).1 : FVec Ideal S2048x1536 .bf16) y = gradW (inA m c) (inCt m c) x := by
  have hy : y = ix2 (n0 := 2048) (n1 := 1536) (y 0) (y 1) := funext fun a => by match a with | ⟨0, _⟩ => rfl | ⟨1, _⟩ => rfl
  have e : ((outsAt0 m c t.val t.isLt).1 : FVec Ideal S2048x1536 .bf16) y = ((outsAt0 m c t.val t.isLt).2 : FVec Ideal S2048x1536 .f32) y := by
    rw [out_last m c t h3, acc_step m c t (by omega)]; rfl
  have bt := bound t
  rw [e, hy]
  refine (acc_eq m c t (y 0) (y 1)).trans ?_
  rw [zero_add, h3, Finset.sum_range]
  unfold gradW
  rw [← sum_rows]
  refine Finset.sum_congr rfl fun l _ => ?_
  have hl : 8 * (t.val / 8) + l.val < cfg0.N := lt_of_lt_of_eq (by omega : _ < 32) N_0.symm
  refine (dif_pos hl).trans ?_
  refine Finset.sum_congr rfl fun k _ => congrArg₂ (· * ·) (congrArg₂ (fun a b => inA m c (ix2 a b)) (Fin.ext ?_) (Fin.ext h0.symm))
    (congrArg₂ (fun a b => inCt m c (ix2 a b)) (Fin.ext ?_) (Fin.ext ?_))
  all_goals simp only [rowOf, colOf]; omega

/-- The result array is the whole gradient of the weights. -/
theorem final : (dats m 0 c).arrAt 2 cfg0.N = gradW (inA m c) (inCt m c) := by
  refine (dats m 0 c).arrAt_eq_of_covers 2 _ (by decide +kernel) fun t hf y => ?_
  rw [after0_2]
  exact block m c t ((flush0_2 t).mp hf) y _ (emb2 t y).1 (emb2 t y).2

/-- The reference's result is the whole gradient of the weights. -/
theorem ref_eq (a : FVec Ideal S8192x2048 .bf16) (ct : FVec Ideal S8192x6144 .bf16) :
    Cert.Reference7Ideal.Read.val_main_v7 (F := Ideal) a ct = gradW a ct := funext fun x => by
  rw [Cert.Reference7Ideal.Read.val_main_v7_apply, Cert.Reference7Ideal.Read.val_main_v6_apply]
  refine (Cert.Reference7Ideal.Read.val_main_v5_apply a ct _).trans ?_
  unfold gradW
  refine Finset.sum_congr rfl fun n _ => (mul_comm _ _).trans (congrArg₂ (· * ·) (congrArg a (funext fun b => ?_)) (congrArg ct (funext fun b => ?_)))
  all_goals match b with | ⟨0, _⟩ => rfl | ⟨1, _⟩ => rfl

end Cert.Kernel7Ideal.Val

end
-- ==== Proof.InBack.lean ====
/- The gradient of the odd layer's input: the accumulator over the three slabs of columns, the whole result array, and the reference's. -/
module

public import proofs.«01_k».proof.Proof.Gen.Kernel8Ideal.Value
public import proofs.«01_k».proof.Proof.Gen.Reference8Ideal.Read
public import Idealize.ShloMosaic.Lib.Pointwise
public import Idealize.ShloMosaic.Lib.Pipeline.ValueKit.Geometry
public import Idealize.ShloMosaic.Lib.Pipeline.ValueKit.Acc

@[expose] public section

noncomputable section

open Idealize.ShloMosaic Idealize.ShloMosaic.TcCoe Idealize.SL.Sem
open Idealize.ShloMosaic.Pipeline (Dat)

namespace Cert.Kernel8Ideal.Val
open Cert.Kernel8Ideal Cert.Kernel8Ideal.Gen

variable (m : (ℓ : Loc nD τ sig) → Buf (Elt Ideal) ℓ) (c : Dev nD)

/-- The result's gradient the call is given. -/
def inCt : Vec Ideal S8192x6144 .bf16 := m ((c : Thread nD τ).loc main_arg0)
/-- The weights the call is given. -/
def inW : Vec Ideal S2048x6144 .bf16 := m ((c : Thread nD τ).loc main_arg1)

/-- The whole gradient of the input. -/
def gradX (ct : Vec Ideal S8192x6144 .bf16) (w : Vec Ideal S2048x6144 .bf16) : Vec Ideal S8192x2048 .bf16 := fun x =>
  (∑ k : Fin 6144, ct (ix2 (n0 := 8192) (n1 := 6144) (x 0) k) * w (ix2 (n0 := 2048) (n1 := 6144) (x 1) k) : EReal)

theorem pay1_apply (i j) : k0_pay1 (F := Ideal) (ix2 i j) = 0 := by
  pointwise [k0_pay1]

theorem pay2_apply (s : FVec Ideal S1024x2048 .f32) (ct : FVec Ideal S1024x2048 .bf16) (w : FVec Ideal S2048x2048 .bf16) (r : Fin 1024) (j : Fin 2048) :
    k0_pay2 (F := Ideal) s ct w (ix2 r j) = s (ix2 r j) + ∑ k : Fin 2048, ct (ix2 r k) * w (ix2 j k) := by
  pointwise [k0_pay2]

theorem idx0 : ∀ t : Fin cfg0.N, win0_0.index t 0 = t.val / 3 ∧ win0_0.index t 1 = t.val % 3 :=
  (by decide +kernel : ∀ t : Fin grid0.N, win0_0.index t 0 = t.val / 3 ∧ win0_0.index t 1 = t.val % 3)
theorem idx1 : ∀ t : Fin cfg0.N, win0_1.index t 0 = 0 ∧ win0_1.index t 1 = t.val % 3 :=
  (by decide +kernel : ∀ t : Fin grid0.N, win0_1.index t 0 = 0 ∧ win0_1.index t 1 = t.val % 3)
theorem idx2 : ∀ t : Fin cfg0.N, win0_2.index t 0 = t.val / 3 ∧ win0_2.index t 1 = 0 :=
  (by decide +kernel : ∀ t : Fin grid0.N, win0_2.index t 0 = t.val / 3 ∧ win0_2.index t 1 = 0)

theorem bound (t : Fin cfg0.N) : t.val < 24 := lt_of_lt_of_eq t.isLt N_0

/-- The array row of row `r` of point `t`'s blocks. -/
def rowOf (t : Fin cfg0.N) (r : Fin 1024) : Fin 8192 := ⟨t.val / 3 * 1024 + r.val, by have := bound t; omega⟩
/-- The column in the whole arrays of column `k` of point `t`'s blocks. -/
def colOf (t : Fin cfg0.N) (k : Fin 2048) : Fin 6144 := ⟨t.val % 3 * 2048 + k.val, by omega⟩

theorem read0_apply (W : (b : Ref sig .tc) → Buf (Elt Ideal) ((c : Thread nD τ).loc b)) (t : Fin cfg0.N) (r : Fin 1024) (k : Fin 2048) :
    (((cfg0.win 0).blk t).view.read (Elt Ideal) (W (Pipeline.arrRef spec0 0)) : Vec Ideal S1024x2048 .bf16) (ix2 r k)
      = (W main_arg0 : Vec Ideal S8192x6144 .bf16) (ix2 (rowOf t r) (colOf t k)) := by
  rw [View.read_apply]
  show W main_arg0 _ = W main_arg0 _
  refine congrArg (W main_arg0) (funext fun a => Fin.ext ?_)
  match a with
  | ⟨0, _⟩ => show win0_0.index t 0 * 1024 + 1 * r.val = t.val / 3 * 1024 + r.val; rw [(idx0 t).1]; omega
  | ⟨1, _⟩ => show win0_0.index t 1 * 2048 + 1 * k.val = t.val % 3 * 2048 + k.val; rw [(idx0 t).2]; omega

theorem read1_apply (W : (b : Ref sig .tc) → Buf (Elt Ideal) ((c : Thread nD τ).loc b)) (t : Fin cfg0.N) (j : Fin 2048) (k : Fin 2048) :
    (((cfg0.win 1).blk t).view.read (Elt Ideal) (W (Pipeline.arrRef spec0 1)) : Vec Ideal S2048x2048 .bf16) (ix2 j k)
      = (W main_arg1 : Vec Ideal S2048x6144 .bf16) (ix2 j (colOf t k)) := by
  rw [View.read_apply]
  show W main_arg1 _ = W main_arg1 _
  refine congrArg (W main_arg1) (funext fun a => Fin.ext ?_)
  match a with
  | ⟨0, _⟩ => show win0_1.index t 0 * 2048 + 1 * j.val = j.val; rw [(idx1 t).1]; omega
  | ⟨1, _⟩ => show win0_1.index t 1 * 2048 + 1 * k.val = t.val % 3 * 2048 + k.val; rw [(idx1 t).2]; omega

theorem iblk0_apply (t : Fin cfg0.N) (r : Fin 1024) (k : Fin 2048) :
    (iblk m c 0 t : Vec Ideal S1024x2048 .bf16) (ix2 r k) = inCt m c (ix2 (rowOf t r) (colOf t k)) := read0_apply c (V m c) t r k
theorem iblk1_apply (t : Fin cfg0.N) (j : Fin 2048) (k : Fin 2048) :
    (iblk m c 1 t : Vec Ideal S2048x2048 .bf16) (ix2 j k) = inW m c (ix2 j (colOf t k)) := read1_apply c (V m c) t j k

/-- Point `t`'s block of the result's gradient. -/
def blkCt (t : Fin cfg0.N) : FVec Ideal S1024x2048 .bf16 := iblk m c 0 t
/-- Point `t`'s block of the weights. -/
def blkW (t : Fin cfg0.N) : FVec Ideal S2048x2048 .bf16 := iblk m c 1 t

/-- What point number `n` adds to the accumulator. -/
def slab (r : Fin 1024) (j : Fin 2048) (n : ℕ) : EReal :=
  if h : n < cfg0.N then ∑ k : Fin 2048, (inCt m c (ix2 (rowOf ⟨n, h⟩ r) (colOf ⟨n, h⟩ k)) * inW m c (ix2 j (colOf ⟨n, h⟩ k)) : EReal) else 0

theorem slab_at (t : Fin cfg0.N) (r : Fin 1024) (j : Fin 2048) :
    ∑ k : Fin 2048, blkCt m c t (ix2 r k) * blkW m c t (ix2 j k) = slab m c r j t.val := by
  rw [slab, dif_pos t.isLt]
  exact Finset.sum_congr rfl fun k _ => congrArg₂ (· * ·) (iblk0_apply m c t r k) (iblk1_apply m c t j k)

/-- The accumulator after a point that resets it. -/
theorem acc_reset (t : Fin cfg0.N) (h0 : t.val % 3 = 0) : (outsAt0 m c t.val t.isLt).2 = k0_pay2 (F := Ideal) (k0_pay1 (F := Ideal)) (iblk m c 0 t) (iblk m c 1 t) := by
  rw [outsAt0_A m c t h0 (by omega)]
  dsimp only
  frame_out

/-- The accumulator after any other point. -/
theorem acc_step (t : Fin cfg0.N) (h0 : ¬t.val % 3 = 0) : (outsAt0 m c t.val t.isLt).2
    = k0_pay2 (F := Ideal) (outsAt0 m c (t.val - 1) (Nat.lt_of_le_of_lt (Nat.sub_le _ _) t.isLt)).2 (iblk m c 0 t) (iblk m c 1 t) := by
  by_cases h1 : t.val % 3 = 2
  · rw [outsAt0_C m c t h0 h1]
    dsimp only
    frame_out
    exact congrArg (fun s => k0_pay2 (F := Ideal) s (iblk m c 0 t) (iblk m c 1 t)) (Memref.IsWhole.read_unread (Memref.isWhole_whole _) _)
  · rw [outsAt0_B m c t h0 h1]
    dsimp only
    frame_out
    exact congrArg (fun s => k0_pay2 (F := Ideal) s (iblk m c 0 t) (iblk m c 1 t)) (Memref.IsWhole.read_unread (Memref.isWhole_whole _) _)

/-- What a point at the end of its run leaves in the result's block: the accumulator, rounded. -/
theorem out_last (t : Fin cfg0.N) (h1 : t.val % 3 = 2) : (outsAt0 m c t.val t.isLt).1
    = k0_pay3 (F := Ideal) (k0_pay2 (outsAt0 m c (t.val - 1) (Nat.lt_of_le_of_lt (Nat.sub_le _ _) t.isLt)).2 (iblk m c 0 t) (iblk m c 1 t)) := by
  rw [outsAt0_C m c t (by omega) h1]
  dsimp only
  frame_out
  exact congrArg (fun s => k0_pay3 (F := Ideal) (k0_pay2 s (iblk m c 0 t) (iblk m c 1 t))) (Memref.IsWhole.read_unread (Memref.isWhole_whole _) _)

/-- The accumulator is the sum of the slabs met so far. -/
theorem acc_eq (t : Fin cfg0.N) (r : Fin 1024) (j : Fin 2048) :
    ((outsAt0 m c t.val t.isLt).2 : FVec Ideal S1024x2048 .f32) (ix2 r j) = 0 + ∑ l ∈ Finset.range (t.val % 3 + 1), slab m c r j (3 * (t.val / 3) + l) :=
  Pipeline.eq_sum_of_reset_step (fun n h => ((outsAt0 m c n h).2 : FVec Ideal S1024x2048 .f32) (ix2 r j)) 3 (0 : EReal) (slab m c r j)
    (fun t h0 => by
      simp only [acc_reset m c t h0]
      exact (pay2_apply _ (blkCt m c t) (blkW m c t) r j).trans (congrArg₂ (· + ·) (pay1_apply r j) (slab_at m c t r j)))
    (fun t h0 => by
      simp only [acc_step m c t h0]
      exact (pay2_apply _ (blkCt m c t) (blkW m c t) r j).trans (congrArg₂ (· + ·) rfl (slab_at m c t r j))) t

theorem emb2 (t : Fin cfg0.N) (y : S1024x2048.Idx) :
    ((((cfg0.win 2).blk t).view.emb y : S8192x2048.Idx) 0).val = t.val / 3 * 1024 + (y 0).val
    ∧ ((((cfg0.win 2).blk t).view.emb y : S8192x2048.Idx) 1).val = (y 1).val := by
  constructor
  · show win0_2.index t 0 * 1024 + 1 * (y 0).val = _; rw [(idx2 t).1]; omega
  · show win0_2.index t 1 * 2048 + 1 * (y 1).val = _; rw [(idx2 t).2]; omega

/-- A sum over the columns is the sum over the slabs. -/
theorem sum_cols (f : Fin 6144 → EReal) :
    ∑ l : Fin 3, ∑ k : Fin 2048, f ⟨l.val * 2048 + k.val, by omega⟩ = ∑ n, f n := by
  rw [← Fintype.sum_prod_type']
  refine Fintype.sum_equiv (finProdFinEquiv : Fin 3 × Fin 2048 ≃ Fin (3 * 2048)) _ _ fun p => ?_
  obtain ⟨l, k⟩ := p
  refine congrArg f (Fin.ext ?_)
  show l.val * 2048 + k.val = k.val + 2048 * l.val
  omega

/-- The block a run leaves is that block of the whole gradient. -/
theorem block (t : Fin cfg0.N) (h3 : t.val % 3 = 2) (y : S1024x2048.Idx) (x : S8192x2048.Idx) (h0 : (x 0).val = t.val / 3 * 1024 + (y 0).val)
    (h1 : (x 1).val = (y 1).val) :
    ((outsAt0 m c t.val t.isLt).1 : FVec Ideal S1024x2048 .bf16) y = gradX (inCt m c) (inW m c) x := by
  have hy : y = ix2 (n0 := 1024) (n1 := 2048) (y 0) (y 1) := funext fun a => by match a with | ⟨0, _⟩ => rfl | ⟨1, _⟩ => rfl
  have e : ((outsAt0 m c t.val t.isLt).1 : FVec Ideal S1024x2048 .bf16) y = ((outsAt0 m c t.val t.isLt).2 : FVec Ideal S1024x2048 .f32) y := by
    rw [out_last m c t h3, acc_step m c t (by omega)]; rfl
  have bt := bound t
  rw [e, hy]
  refine (acc_eq m c t (y 0) (y 1)).trans ?_
  rw [zero_add, h3, Finset.sum_range]
  unfold gradX
  rw [← sum_cols]
  refine Finset.sum_congr rfl fun l _ => ?_
  have hl : 3 * (t.val / 3) + l.val < cfg0.N := lt_of_lt_of_eq (by omega : _ < 24) N_0.symm
  refine (dif_pos hl).trans ?_
  refine Finset.sum_congr rfl fun k _ => congrArg₂ (· * ·) (congrArg₂ (fun a b => inCt m c (ix2 a b)) (Fin.ext ?_) (Fin.ext ?_))
    (congrArg₂ (fun a b => inW m c (ix2 a b)) (Fin.ext h1.symm) (Fin.ext ?_))
  all_goals simp only [rowOf, colOf]; omega

/-- The result array is the whole gradient of the input. -/
theorem final : (dats m 0 c).arrAt 2 cfg0.N = gradX (inCt m c) (inW m c) := by
  refine (dats m 0 c).arrAt_eq_of_covers 2 _ (by decide +kernel) fun t hf y => ?_
  rw [after0_2]
  exact block m c t ((flush0_2 t).mp hf) y _ (emb2 t y).1 (emb2 t y).2

/-- The reference's result is the whole gradient of the input. -/
theorem ref_eq (ct : FVec Ideal S8192x6144 .bf16) (w : FVec Ideal S2048x6144 .bf16) :
    Cert.Reference8Ideal.Read.val_main_v6 (F := Ideal) ct w = gradX ct w := funext fun x => by
  rw [Cert.Reference8Ideal.Read.val_main_v6_apply]
  refine (Cert.Reference8Ideal.Read.val_main_v5_apply ct w _).trans ?_
  unfold gradX
  refine Finset.sum_congr rfl fun n _ => (congrArg₂ (· * ·) (congrArg ct (funext fun b => ?_)) (congrArg w (funext fun b => ?_)))
  all_goals match b with | ⟨0, _⟩ => rfl | ⟨1, _⟩ => rfl

end Cert.Kernel8Ideal.Val

end
-- ==== Proof.EvProject.lean ====
/- The even layer's input projection: what the call's grid of tiles leaves is the whole product, and so is the reference's. -/
module

public import proofs.«01_k».proof.Proof.Gen.Kernel9Ideal.Value
public import proofs.«01_k».proof.Proof.Gen.Reference9Ideal.Read
public import Idealize.ShloMosaic.Lib.Pointwise
public import Idealize.ShloMosaic.Lib.Pipeline.ValueKit.Geometry
public import Idealize.ShloMosaic.Lib.Pipeline.ValueKit.Acc

@[expose] public section

noncomputable section

open Idealize.ShloMosaic Idealize.ShloMosaic.TcCoe Idealize.SL.Sem
open Idealize.ShloMosaic.Pipeline (Dat)

namespace Cert.Kernel9Ideal.Val
open Cert.Kernel9Ideal Cert.Kernel9Ideal.Gen

variable (m : (ℓ : Loc nD τ sig) → Buf (Elt Ideal) ℓ) (c : Dev nD)

/-- The activations the call is given. -/
def inA : Vec Ideal S8448x2048 .bf16 := m ((c : Thread nD τ).loc main_arg0)
/-- The weights the call is given. -/
def inW : Vec Ideal S2048x5632 .bf16 := m ((c : Thread nD τ).loc main_arg1)

/-- The whole product. -/
def prod (a : Vec Ideal S8448x2048 .bf16) (w : Vec Ideal S2048x5632 .bf16) : Vec Ideal S8448x5632 .bf16 := fun x =>
  (∑ k : Fin 2048, a (ix2 (n0 := 8448) (n1 := 2048) (x 0) k) * w (ix2 (n0 := 2048) (n1 := 5632) k (x 1)) : EReal)

/-- Every product the tile's payload forms is a row of one block times a column of the other. -/
theorem pay_apply (a : FVec Ideal S1408x2048 .bf16) (w : FVec Ideal S2048x1408 .bf16) (r : Fin 1408) (j : Fin 1408) :
    k0_pay1 (F := Ideal) a w (ix2 r j) = ∑ k : Fin 2048, a (ix2 r k) * w (ix2 k j) := by
  pointwise [k0_pay1]

theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx1 : ∀ t : Fin cfg0.N, win0_1.index t 0 = 0 ∧ win0_1.index t 1 = t.val % 4 :=
  (by decide +kernel : ∀ t : Fin grid0.N, win0_1.index t 0 = 0 ∧ win0_1.index t 1 = t.val % 4)
theorem idx2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

theorem bound (t : Fin cfg0.N) : t.val < 24 := lt_of_lt_of_eq t.isLt N_0

/-- The array row of row `r` of point `t`'s tile. -/
def rowOf (t : Fin cfg0.N) (r : Fin 1408) : Fin 8448 := ⟨t.val / 4 * 1408 + r.val, by have := bound t; omega⟩
/-- The array column of column `j` of point `t`'s tile. -/
def colOf (t : Fin cfg0.N) (j : Fin 1408) : Fin 5632 := ⟨t.val % 4 * 1408 + j.val, by omega⟩

theorem read0_apply (W : (b : Ref sig .tc) → Buf (Elt Ideal) ((c : Thread nD τ).loc b)) (t : Fin cfg0.N) (r : Fin 1408) (k : Fin 2048) :
    (((cfg0.win 0).blk t).view.read (Elt Ideal) (W (Pipeline.arrRef spec0 0)) : Vec Ideal S1408x2048 .bf16) (ix2 r k)
      = (W main_arg0 : Vec Ideal S8448x2048 .bf16) (ix2 (rowOf t r) k) := by
  rw [View.read_apply]
  show W main_arg0 _ = W main_arg0 _
  refine congrArg (W main_arg0) (funext fun a => Fin.ext ?_)
  match a with
  | ⟨0, _⟩ => show win0_0.index t 0 * 1408 + 1 * r.val = t.val / 4 * 1408 + r.val; rw [(idx0 t).1]; omega
  | ⟨1, _⟩ => show win0_0.index t 1 * 2048 + 1 * k.val = k.val; rw [(idx0 t).2]; omega

theorem read1_apply (W : (b : Ref sig .tc) → Buf (Elt Ideal) ((c : Thread nD τ).loc b)) (t : Fin cfg0.N) (k : Fin 2048) (j : Fin 1408) :
    (((cfg0.win 1).blk t).view.read (Elt Ideal) (W (Pipeline.arrRef spec0 1)) : Vec Ideal S2048x1408 .bf16) (ix2 k j)
      = (W main_arg1 : Vec Ideal S2048x5632 .bf16) (ix2 k (colOf t j)) := by
  rw [View.read_apply]
  show W main_arg1 _ = W main_arg1 _
  refine congrArg (W main_arg1) (funext fun a => Fin.ext ?_)
  match a with
  | ⟨0, _⟩ => show win0_1.index t 0 * 2048 + 1 * k.val = k.val; rw [(idx1 t).1]; omega
  | ⟨1, _⟩ => show win0_1.index t 1 * 1408 + 1 * j.val = t.val % 4 * 1408 + j.val; rw [(idx1 t).2]; omega

theorem iblk0_apply (t : Fin cfg0.N) (r : Fin 1408) (k : Fin 2048) :
    (iblk m c 0 t : Vec Ideal S1408x2048 .bf16) (ix2 r k) = inA m c (ix2 (rowOf t r) k) := read0_apply c (V m c) t r k
theorem iblk1_apply (t : Fin cfg0.N) (k : Fin 2048) (j : Fin 1408) :
    (iblk m c 1 t : Vec Ideal S2048x1408 .bf16) (ix2 k j) = inW m c (ix2 k (colOf t j)) := read1_apply c (V m c) t k j

theorem out_eq (x0 : Vec Ideal S1408x2048 .bf16) (x1 : Vec Ideal S2048x1408 .bf16) : out0_2 x0 x1 = k0_pay1 x0 x1 := by
  frame_out

theorem emb2 (t : Fin cfg0.N) (y : S1408x1408.Idx) :
    ((((cfg0.win 2).blk t).view.emb y : S8448x5632.Idx) 0).val = t.val / 4 * 1408 + (y 0).val
    ∧ ((((cfg0.win 2).blk t).view.emb y : S8448x5632.Idx) 1).val = t.val % 4 * 1408 + (y 1).val := by
  constructor
  · show win0_2.index t 0 * 1408 + 1 * (y 0).val = _; rw [(idx2 t).1]; omega
  · show win0_2.index t 1 * 1408 + 1 * (y 1).val = _; rw [(idx2 t).2]; omega

/-- A point's tile is that tile of the whole product. -/
theorem tile (t : Fin cfg0.N) (y : S1408x1408.Idx) (x : S8448x5632.Idx) (h0 : (x 0).val = t.val / 4 * 1408 + (y 0).val)
    (h1 : (x 1).val = t.val % 4 * 1408 + (y 1).val) :
    ((dats m 0 c).after 2 t : Vec Ideal S1408x1408 .bf16) y = prod (inA m c) (inW m c) x := by
  have hy : y = ix2 (n0 := 1408) (n1 := 1408) (y 0) (y 1) := funext fun a => by match a with | ⟨0, _⟩ => rfl | ⟨1, _⟩ => rfl
  rw [after0_2, out_eq, hy]
  refine (pay_apply _ _ (y 0) (y 1)).trans ?_
  unfold prod
  refine Finset.sum_congr rfl fun k _ => congrArg₂ (· * ·) ((iblk0_apply m c t (y 0) k).trans ?_) ((iblk1_apply m c t k (y 1)).trans ?_)
  · exact congrArg (fun a => inA m c (ix2 a k)) (Fin.ext h0.symm)
  · exact congrArg (fun b => inW m c (ix2 k b)) (Fin.ext h1.symm)

/-- The result array is the whole product. -/
theorem final : (dats m 0 c).arrAt 2 cfg0.N = prod (inA m c) (inW m c) := by
  refine (dats m 0 c).arrAt_eq_of_covers 2 _ (by decide +kernel) fun t hf y => ?_
  exact tile m c t y _ (emb2 t y).1 (emb2 t y).2

/-- The reference's result is the whole product. -/
theorem ref_eq (a : FVec Ideal S8448x2048 .bf16) (w : FVec Ideal S2048x5632 .bf16) :
    Cert.Reference9Ideal.Read.val_main_v3 (F := Ideal) a w = prod a w := funext fun x => by
  rw [Cert.Reference9Ideal.Read.val_main_v3_apply, Cert.Reference9Ideal.Read.val_main_v2_apply]
  unfold prod
  refine Finset.sum_congr rfl fun k _ => congrArg₂ (· * ·) (congrArg a (funext fun b => ?_)) (congrArg w (funext fun b => ?_))
  all_goals match b with | ⟨0, _⟩ => rfl | ⟨1, _⟩ => rfl

end Cert.Kernel9Ideal.Val

end
-- ==== Proof.EvWeights.lean ====
/- The gradient of the even layer's input weights: the accumulator over the eleven slabs of rows, the whole result array, and the reference's. -/
module

public import proofs.«01_k».proof.Proof.Gen.Kernel10Ideal.Value
public import proofs.«01_k».proof.Proof.Gen.Reference10Ideal.Read
public import Idealize.ShloMosaic.Lib.Pointwise
public import Idealize.ShloMosaic.Lib.Pipeline.ValueKit.Geometry
public import Idealize.ShloMosaic.Lib.Pipeline.ValueKit.Acc

@[expose] public section

noncomputable section

open Idealize.ShloMosaic Idealize.ShloMosaic.TcCoe Idealize.SL.Sem
open Idealize.ShloMosaic.Pipeline (Dat)

namespace Cert.Kernel10Ideal.Val
open Cert.Kernel10Ideal Cert.Kernel10Ideal.Gen

variable (m : (ℓ : Loc nD τ sig) → Buf (Elt Ideal) ℓ) (c : Dev nD)

/-- The activations the call is given. -/
def inA : Vec Ideal S8448x2048 .bf16 := m ((c : Thread nD τ).loc main_arg0)
/-- The result's gradient the call is given. -/
def inCt : Vec Ideal S8448x5632 .bf16 := m ((c : Thread nD τ).loc main_arg1)

/-- The whole gradient of the weights. -/
def gradW (a : Vec Ideal S8448x2048 .bf16) (ct : Vec Ideal S8448x5632 .bf16) : Vec Ideal S2048x5632 .bf16 := fun x =>
  (∑ n : Fin 8448, a (ix2 (n0 := 8448) (n1 := 2048) n (x 0)) * ct (ix2 (n0 := 8448) (n1 := 5632) n (x 1)) : EReal)

theorem pay1_apply (i j) : k0_pay1 (F := Ideal) (ix2 i j) = 0 := by
  pointwise [k0_pay1]

theorem pay2_apply (s : FVec Ideal S2048x1408 .f32) (a : FVec Ideal S768x2048 .bf16) (ct : FVec Ideal S768x1408 .bf16) (i : Fin 2048) (j : Fin 1408) :
    k0_pay2 (F := Ideal) s a ct (ix2 i j) = s (ix2 i j) + ∑ n : Fin 768, a (ix2 n i) * ct (ix2 n j) := by
  pointwise [k0_pay2]

theorem idx0 : ∀ t : Fin cfg0.N, win0_0.index t 0 = t.val % 11 ∧ win0_0.index t 1 = 0 :=
  (by decide +kernel : ∀ t : Fin grid0.N, win0_0.index t 0 = t.val % 11 ∧ win0_0.index t 1 = 0)
theorem idx1 : ∀ t : Fin cfg0.N, win0_1.index t 0 = t.val % 11 ∧ win0_1.index t 1 = t.val / 11 :=
  (by decide +kernel : ∀ t : Fin grid0.N, win0_1.index t 0 = t.val % 11 ∧ win0_1.index t 1 = t.val / 11)
theorem idx2 : ∀ t : Fin cfg0.N, win0_2.index t 0 = 0 ∧ win0_2.index t 1 = t.val / 11 :=
  (by decide +kernel : ∀ t : Fin grid0.N, win0_2.index t 0 = 0 ∧ win0_2.index t 1 = t.val / 11)

theorem bound (t : Fin cfg0.N) : t.val < 44 := lt_of_lt_of_eq t.isLt N_0

/-- The array row of row `n` of point `t`'s blocks. -/
def rowOf (t : Fin cfg0.N) (n : Fin 768) : Fin 8448 := ⟨t.val % 11 * 768 + n.val, by omega⟩
/-- The array column of column `j` of point `t`'s block of the result's gradient. -/
def colOf (t : Fin cfg0.N) (j : Fin 1408) : Fin 5632 := ⟨t.val / 11 * 1408 + j.val, by have := bound t; omega⟩

theorem read0_apply (W : (b : Ref sig .tc) → Buf (Elt Ideal) ((c : Thread nD τ).loc b)) (t : Fin cfg0.N) (n : Fin 768) (i : Fin 2048) :
    (((cfg0.win 0).blk t).view.read (Elt Ideal) (W (Pipeline.arrRef spec0 0)) : Vec Ideal S768x2048 .bf16) (ix2 n i)
      = (W main_arg0 : Vec Ideal S8448x2048 .bf16) (ix2 (rowOf t n) i) := by
  rw [View.read_apply]
  show W main_arg0 _ = W main_arg0 _
  refine congrArg (W main_arg0) (funext fun a => Fin.ext ?_)
  match a with
  | ⟨0, _⟩ => show win0_0.index t 0 * 768 + 1 * n.val = t.val % 11 * 768 + n.val; rw [(idx0 t).1]; omega
  | ⟨1, _⟩ => show win0_0.index t 1 * 2048 + 1 * i.val = i.val; rw [(idx0 t).2]; omega

theorem read1_apply (W : (b : Ref sig .tc) → Buf (Elt Ideal) ((c : Thread nD τ).loc b)) (t : Fin cfg0.N) (n : Fin 768) (j : Fin 1408) :
    (((cfg0.win 1).blk t).view.read (Elt Ideal) (W (Pipeline.arrRef spec0 1)) : Vec Ideal S768x1408 .bf16) (ix2 n j)
      = (W main_arg1 : Vec Ideal S8448x5632 .bf16) (ix2 (rowOf t n) (colOf t j)) := by
  rw [View.read_apply]
  show W main_arg1 _ = W main_arg1 _
  refine congrArg (W main_arg1) (funext fun a => Fin.ext ?_)
  match a with
  | ⟨0, _⟩ => show win0_1.index t 0 * 768 + 1 * n.val = t.val % 11 * 768 + n.val; rw [(idx1 t).1]; omega
  | ⟨1, _⟩ => show win0_1.index t 1 * 1408 + 1 * j.val = t.val / 11 * 1408 + j.val; rw [(idx1 t).2]; omega

theorem iblk0_apply (t : Fin cfg0.N) (n : Fin 768) (i : Fin 2048) :
    (iblk m c 0 t : Vec Ideal S768x2048 .bf16) (ix2 n i) = inA m c (ix2 (rowOf t n) i) := read0_apply c (V m c) t n i
theorem iblk1_apply (t : Fin cfg0.N) (n : Fin 768) (j : Fin 1408) :
    (iblk m c 1 t : Vec Ideal S768x1408 .bf16) (ix2 n j) = inCt m c (ix2 (rowOf t n) (colOf t j)) := read1_apply c (V m c) t n j

/-- Point `t`'s block of the activations. -/
def blkA (t : Fin cfg0.N) : FVec Ideal S768x2048 .bf16 := iblk m c 0 t
/-- Point `t`'s block of the result's gradient. -/
def blkCt (t : Fin cfg0.N) : FVec Ideal S768x1408 .bf16 := iblk m c 1 t

/-- What point number `n` adds to the accumulator. -/
def slab (i : Fin 2048) (j : Fin 1408) (n : ℕ) : EReal :=
  if h : n < cfg0.N then ∑ k : Fin 768, (inA m c (ix2 (rowOf ⟨n, h⟩ k) i) * inCt m c (ix2 (rowOf ⟨n, h⟩ k) (colOf ⟨n, h⟩ j)) : EReal) else 0

theorem slab_at (t : Fin cfg0.N) (i : Fin 2048) (j : Fin 1408) :
    ∑ k : Fin 768, blkA m c t (ix2 k i) * blkCt m c t (ix2 k j) = slab m c i j t.val := by
  rw [slab, dif_pos t.isLt]
  exact Finset.sum_congr rfl fun k _ => congrArg₂ (· * ·) (iblk0_apply m c t k i) (iblk1_apply m c t k j)

/-- The accumulator after a point that resets it. -/
theorem acc_reset (t : Fin cfg0.N) (h0 : t.val % 11 = 0) : (outsAt0 m c t.val t.isLt).2 = k0_pay2 (F := Ideal) (k0_pay1 (F := Ideal)) (iblk m c 0 t) (iblk m c 1 t) := by
  rw [outsAt0_A m c t h0 (by omega)]
  dsimp only
  frame_out

/-- The accumulator after any other point. -/
theorem acc_step (t : Fin cfg0.N) (h0 : ¬t.val % 11 = 0) : (outsAt0 m c t.val t.isLt).2
    = k0_pay2 (F := Ideal) (outsAt0 m c (t.val - 1) (Nat.lt_of_le_of_lt (Nat.sub_le _ _) t.isLt)).2 (iblk m c 0 t) (iblk m c 1 t) := by
  by_cases h1 : t.val % 11 = 10
  · rw [outsAt0_C m c t h0 h1]
    dsimp only
    frame_out
    exact congrArg (fun s => k0_pay2 (F := Ideal) s (iblk m c 0 t) (iblk m c 1 t)) (Memref.IsWhole.read_unread (Memref.isWhole_whole _) _)
  · rw [outsAt0_B m c t h0 h1]
    dsimp only
    frame_out
    exact congrArg (fun s => k0_pay2 (F := Ideal) s (iblk m c 0 t) (iblk m c 1 t)) (Memref.IsWhole.read_unread (Memref.isWhole_whole _) _)

/-- What a point at the end of its run leaves in the result's block: the accumulator, rounded. -/
theorem out_last (t : Fin cfg0.N) (h1 : t.val % 11 = 10) : (outsAt0 m c t.val t.isLt).1
    = k0_pay3 (F := Ideal) (k0_pay2 (outsAt0 m c (t.val - 1) (Nat.lt_of_le_of_lt (Nat.sub_le _ _) t.isLt)).2 (iblk m c 0 t) (iblk m c 1 t)) := by
  rw [outsAt0_C m c t (by omega) h1]
  dsimp only
  frame_out
  exact congrArg (fun s => k0_pay3 (F := Ideal) (k0_pay2 s (iblk m c 0 t) (iblk m c 1 t))) (Memref.IsWhole.read_unread (Memref.isWhole_whole _) _)

/-- The accumulator is the sum of the slabs met so far. -/
theorem acc_eq (t : Fin cfg0.N) (i : Fin 2048) (j : Fin 1408) :
    ((outsAt0 m c t.val t.isLt).2 : FVec Ideal S2048x1408 .f32) (ix2 i j) = 0 + ∑ l ∈ Finset.range (t.val % 11 + 1), slab m c i j (11 * (t.val / 11) + l) :=
  Pipeline.eq_sum_of_reset_step (fun n h => ((outsAt0 m c n h).2 : FVec Ideal S2048x1408 .f32) (ix2 i j)) 11 (0 : EReal) (slab m c i j)
    (fun t h0 => by
      simp only [acc_reset m c t h0]
      exact (pay2_apply _ (blkA m c t) (blkCt m c t) i j).trans (congrArg₂ (· + ·) (pay1_apply i j) (slab_at m c t i j)))
    (fun t h0 => by
      simp only [acc_step m c t h0]
      exact (pay2_apply _ (blkA m c t) (blkCt m c t) i j).trans (congrArg₂ (· + ·) rfl (slab_at m c t i j))) t

theorem emb2 (t : Fin cfg0.N) (y : S2048x1408.Idx) :
    ((((cfg0.win 2).blk t).view.emb y : S2048x5632.Idx) 0).val = (y 0).val
    ∧ ((((cfg0.win 2).blk t).view.emb y : S2048x5632.Idx) 1).val = t.val / 11 * 1408 + (y 1).val := by
  constructor
  · show win0_2.index t 0 * 2048 + 1 * (y 0).val = _; rw [(idx2 t).1]; omega
  · show win0_2.index t 1 * 1408 + 1 * (y 1).val = _; rw [(idx2 t).2]; omega

/-- A sum over the rows is the sum over the slabs. -/
theorem sum_rows (f : Fin 8448 → EReal) :
    ∑ l : Fin 11, ∑ k : Fin 768, f ⟨l.val * 768 + k.val, by omega⟩ = ∑ n, f n := by
  rw [← Fintype.sum_prod_type']
  refine Fintype.sum_equiv (finProdFinEquiv : Fin 11 × Fin 768 ≃ Fin (11 * 768)) _ _ fun p => ?_
  obtain ⟨l, k⟩ := p
  refine congrArg f (Fin.ext ?_)
  show l.val * 768 + k.val = k.val + 768 * l.val
  omega

/-- The block a run leaves is that block of the whole gradient. -/
theorem block (t : Fin cfg0.N) (h3 : t.val % 11 = 10) (y : S2048x1408.Idx) (x : S2048x5632.Idx) (h0 : (x 0).val = (y 0).val)
    (h1 : (x 1).val = t.val / 11 * 1408 + (y 1).val) :
    ((outsAt0 m c t.val t.isLt).1 : FVec Ideal S2048x1408 .bf16) y = gradW (inA m c) (inCt m c) x := by
  have hy : y = ix2 (n0 := 2048) (n1 := 1408) (y 0) (y 1) := funext fun a => by match a with | ⟨0, _⟩ => rfl | ⟨1, _⟩ => rfl
  have e : ((outsAt0 m c t.val t.isLt).1 : FVec Ideal S2048x1408 .bf16) y = ((outsAt0 m c t.val t.isLt).2 : FVec Ideal S2048x1408 .f32) y := by
    rw [out_last m c t h3, acc_step m c t (by omega)]; rfl
  have bt := bound t
  rw [e, hy]
  refine (acc_eq m c t (y 0) (y 1)).trans ?_
  rw [zero_add, h3, Finset.sum_range]
  unfold gradW
  rw [← sum_rows]
  refine Finset.sum_congr rfl fun l _ => ?_
  have hl : 11 * (t.val / 11) + l.val < cfg0.N := lt_of_lt_of_eq (by omega : _ < 44) N_0.symm
  refine (dif_pos hl).trans ?_
  refine Finset.sum_congr rfl fun k _ => congrArg₂ (· * ·) (congrArg₂ (fun a b => inA m c (ix2 a b)) (Fin.ext ?_) (Fin.ext h0.symm))
    (congrArg₂ (fun a b => inCt m c (ix2 a b)) (Fin.ext ?_) (Fin.ext ?_))
  all_goals simp only [rowOf, colOf]; omega

/-- The result array is the whole gradient of the weights. -/
theorem final : (dats m 0 c).arrAt 2 cfg0.N = gradW (inA m c) (inCt m c) := by
  refine (dats m 0 c).arrAt_eq_of_covers 2 _ (by decide +kernel) fun t hf y => ?_
  rw [after0_2]
  exact block m c t ((flush0_2 t).mp hf) y _ (emb2 t y).1 (emb2 t y).2

/-- The reference's result is the whole gradient of the weights. -/
theorem ref_eq (a : FVec Ideal S8448x2048 .bf16) (ct : FVec Ideal S8448x5632 .bf16) :
    Cert.Reference10Ideal.Read.val_main_v7 (F := Ideal) a ct = gradW a ct := funext fun x => by
  rw [Cert.Reference10Ideal.Read.val_main_v7_apply, Cert.Reference10Ideal.Read.val_main_v6_apply]
  refine (Cert.Reference10Ideal.Read.val_main_v5_apply a ct _).trans ?_
  unfold gradW
  refine Finset.sum_congr rfl fun n _ => (mul_comm _ _).trans (congrArg₂ (· * ·) (congrArg a (funext fun b => ?_)) (congrArg ct (funext fun b => ?_)))
  all_goals match b with | ⟨0, _⟩ => rfl | ⟨1, _⟩ => rfl

end Cert.Kernel10Ideal.Val

end
-- ==== Proof.EvBack.lean ====
/- The gradient of the even layer's input: the accumulator over the four slabs of columns, the whole result array, and the reference's. -/
module

public import proofs.«01_k».proof.Proof.Gen.Kernel11Ideal.Value
public import proofs.«01_k».proof.Proof.Gen.Reference11Ideal.Read
public import Idealize.ShloMosaic.Lib.Pointwise
public import Idealize.ShloMosaic.Lib.Pipeline.ValueKit.Geometry
public import Idealize.ShloMosaic.Lib.Pipeline.ValueKit.Acc

@[expose] public section

noncomputable section

open Idealize.ShloMosaic Idealize.ShloMosaic.TcCoe Idealize.SL.Sem
open Idealize.ShloMosaic.Pipeline (Dat)

namespace Cert.Kernel11Ideal.Val
open Cert.Kernel11Ideal Cert.Kernel11Ideal.Gen

variable (m : (ℓ : Loc nD τ sig) → Buf (Elt Ideal) ℓ) (c : Dev nD)

/-- The result's gradient the call is given. -/
def inCt : Vec Ideal S8448x5632 .bf16 := m ((c : Thread nD τ).loc main_arg0)
/-- The weights the call is given. -/
def inW : Vec Ideal S2048x5632 .bf16 := m ((c : Thread nD τ).loc main_arg1)

/-- The whole gradient of the input. -/
def gradX (ct : Vec Ideal S8448x5632 .bf16) (w : Vec Ideal S2048x5632 .bf16) : Vec Ideal S8448x2048 .bf16 := fun x =>
  (∑ k : Fin 5632, ct (ix2 (n0 := 8448) (n1 := 5632) (x 0) k) * w (ix2 (n0 := 2048) (n1 := 5632) (x 1) k) : EReal)

theorem pay1_apply (i j) : k0_pay1 (F := Ideal) (ix2 i j) = 0 := by
  pointwise [k0_pay1]

theorem pay2_apply (s : FVec Ideal S1408x2048 .f32) (ct : FVec Ideal S1408x1408 .bf16) (w : FVec Ideal S2048x1408 .bf16) (r : Fin 1408) (j : Fin 2048) :
    k0_pay2 (F := Ideal) s ct w (ix2 r j) = s (ix2 r j) + ∑ k : Fin 1408, ct (ix2 r k) * w (ix2 j k) := by
  pointwise [k0_pay2]

theorem idx0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem idx1 : ∀ t : Fin cfg0.N, win0_1.index t 0 = 0 ∧ win0_1.index t 1 = t.val % 4 :=
  (by decide +kernel : ∀ t : Fin grid0.N, win0_1.index t 0 = 0 ∧ win0_1.index t 1 = t.val % 4)
theorem idx2 : ∀ t : Fin cfg0.N, win0_2.index t 0 = t.val / 4 ∧ win0_2.index t 1 = 0 :=
  (by decide +kernel : ∀ t : Fin grid0.N, win0_2.index t 0 = t.val / 4 ∧ win0_2.index t 1 = 0)

theorem bound (t : Fin cfg0.N) : t.val < 24 := lt_of_lt_of_eq t.isLt N_0

/-- The array row of row `r` of point `t`'s blocks. -/
def rowOf (t : Fin cfg0.N) (r : Fin 1408) : Fin 8448 := ⟨t.val / 4 * 1408 + r.val, by have := bound t; omega⟩
/-- The column in the whole arrays of column `k` of point `t`'s blocks. -/
def colOf (t : Fin cfg0.N) (k : Fin 1408) : Fin 5632 := ⟨t.val % 4 * 1408 + k.val, by omega⟩

theorem read0_apply (W : (b : Ref sig .tc) → Buf (Elt Ideal) ((c : Thread nD τ).loc b)) (t : Fin cfg0.N) (r : Fin 1408) (k : Fin 1408) :
    (((cfg0.win 0).blk t).view.read (Elt Ideal) (W (Pipeline.arrRef spec0 0)) : Vec Ideal S1408x1408 .bf16) (ix2 r k)
      = (W main_arg0 : Vec Ideal S8448x5632 .bf16) (ix2 (rowOf t r) (colOf t k)) := by
  rw [View.read_apply]
  show W main_arg0 _ = W main_arg0 _
  refine congrArg (W main_arg0) (funext fun a => Fin.ext ?_)
  match a with
  | ⟨0, _⟩ => show win0_0.index t 0 * 1408 + 1 * r.val = t.val / 4 * 1408 + r.val; rw [(idx0 t).1]; omega
  | ⟨1, _⟩ => show win0_0.index t 1 * 1408 + 1 * k.val = t.val % 4 * 1408 + k.val; rw [(idx0 t).2]; omega

theorem read1_apply (W : (b : Ref sig .tc) → Buf (Elt Ideal) ((c : Thread nD τ).loc b)) (t : Fin cfg0.N) (j : Fin 2048) (k : Fin 1408) :
    (((cfg0.win 1).blk t).view.read (Elt Ideal) (W (Pipeline.arrRef spec0 1)) : Vec Ideal S2048x1408 .bf16) (ix2 j k)
      = (W main_arg1 : Vec Ideal S2048x5632 .bf16) (ix2 j (colOf t k)) := by
  rw [View.read_apply]
  show W main_arg1 _ = W main_arg1 _
  refine congrArg (W main_arg1) (funext fun a => Fin.ext ?_)
  match a with
  | ⟨0, _⟩ => show win0_1.index t 0 * 2048 + 1 * j.val = j.val; rw [(idx1 t).1]; omega
  | ⟨1, _⟩ => show win0_1.index t 1 * 1408 + 1 * k.val = t.val % 4 * 1408 + k.val; rw [(idx1 t).2]; omega

theorem iblk0_apply (t : Fin cfg0.N) (r : Fin 1408) (k : Fin 1408) :
    (iblk m c 0 t : Vec Ideal S1408x1408 .bf16) (ix2 r k) = inCt m c (ix2 (rowOf t r) (colOf t k)) := read0_apply c (V m c) t r k
theorem iblk1_apply (t : Fin cfg0.N) (j : Fin 2048) (k : Fin 1408) :
    (iblk m c 1 t : Vec Ideal S2048x1408 .bf16) (ix2 j k) = inW m c (ix2 j (colOf t k)) := read1_apply c (V m c) t j k

/-- Point `t`'s block of the result's gradient. -/
def blkCt (t : Fin cfg0.N) : FVec Ideal S1408x1408 .bf16 := iblk m c 0 t
/-- Point `t`'s block of the weights. -/
def blkW (t : Fin cfg0.N) : FVec Ideal S2048x1408 .bf16 := iblk m c 1 t

/-- What point number `n` adds to the accumulator. -/
def slab (r : Fin 1408) (j : Fin 2048) (n : ℕ) : EReal :=
  if h : n < cfg0.N then ∑ k : Fin 1408, (inCt m c (ix2 (rowOf ⟨n, h⟩ r) (colOf ⟨n, h⟩ k)) * inW m c (ix2 j (colOf ⟨n, h⟩ k)) : EReal) else 0

theorem slab_at (t : Fin cfg0.N) (r : Fin 1408) (j : Fin 2048) :
    ∑ k : Fin 1408, blkCt m c t (ix2 r k) * blkW m c t (ix2 j k) = slab m c r j t.val := by
  rw [slab, dif_pos t.isLt]
  exact Finset.sum_congr rfl fun k _ => congrArg₂ (· * ·) (iblk0_apply m c t r k) (iblk1_apply m c t j k)

/-- The accumulator after a point that resets it. -/
theorem acc_reset (t : Fin cfg0.N) (h0 : t.val % 4 = 0) : (outsAt0 m c t.val t.isLt).2 = k0_pay2 (F := Ideal) (k0_pay1 (F := Ideal)) (iblk m c 0 t) (iblk m c 1 t) := by
  rw [outsAt0_A m c t h0 (by omega)]
  dsimp only
  frame_out

/-- The accumulator after any other point. -/
theorem acc_step (t : Fin cfg0.N) (h0 : ¬t.val % 4 = 0) : (outsAt0 m c t.val t.isLt).2
    = k0_pay2 (F := Ideal) (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    frame_out
    exact congrArg (fun s => k0_pay2 (F := Ideal) s (iblk m c 0 t) (iblk m c 1 t)) (Memref.IsWhole.read_unread (Memref.isWhole_whole _) _)
  · rw [outsAt0_B m c t h0 h1]
    dsimp only
    frame_out
    exact congrArg (fun s => k0_pay2 (F := Ideal) s (iblk m c 0 t) (iblk m c 1 t)) (Memref.IsWhole.read_unread (Memref.isWhole_whole _) _)

/-- What a point at the end of its run leaves in the result's block: the accumulator, rounded. -/
theorem out_last (t : Fin cfg0.N) (h1 : t.val % 4 = 3) : (outsAt0 m c t.val t.isLt).1
    = k0_pay3 (F := Ideal) (k0_pay2 (outsAt0 m c (t.val - 1) (Nat.lt_of_le_of_lt (Nat.sub_le _ _) t.isLt)).2 (iblk m c 0 t) (iblk m c 1 t)) := by
  rw [outsAt0_C m c t (by omega) h1]
  dsimp only
  frame_out
  exact congrArg (fun s => k0_pay3 (F := Ideal) (k0_pay2 s (iblk m c 0 t) (iblk m c 1 t))) (Memref.IsWhole.read_unread (Memref.isWhole_whole _) _)

/-- The accumulator is the sum of the slabs met so far. -/
theorem acc_eq (t : Fin cfg0.N) (r : Fin 1408) (j : Fin 2048) :
    ((outsAt0 m c t.val t.isLt).2 : FVec Ideal S1408x2048 .f32) (ix2 r j) = 0 + ∑ l ∈ Finset.range (t.val % 4 + 1), slab m c r j (4 * (t.val / 4) + l) :=
  Pipeline.eq_sum_of_reset_step (fun n h => ((outsAt0 m c n h).2 : FVec Ideal S1408x2048 .f32) (ix2 r j)) 4 (0 : EReal) (slab m c r j)
    (fun t h0 => by
      simp only [acc_reset m c t h0]
      exact (pay2_apply _ (blkCt m c t) (blkW m c t) r j).trans (congrArg₂ (· + ·) (pay1_apply r j) (slab_at m c t r j)))
    (fun t h0 => by
      simp only [acc_step m c t h0]
      exact (pay2_apply _ (blkCt m c t) (blkW m c t) r j).trans (congrArg₂ (· + ·) rfl (slab_at m c t r j))) t

theorem emb2 (t : Fin cfg0.N) (y : S1408x2048.Idx) :
    ((((cfg0.win 2).blk t).view.emb y : S8448x2048.Idx) 0).val = t.val / 4 * 1408 + (y 0).val
    ∧ ((((cfg0.win 2).blk t).view.emb y : S8448x2048.Idx) 1).val = (y 1).val := by
  constructor
  · show win0_2.index t 0 * 1408 + 1 * (y 0).val = _; rw [(idx2 t).1]; omega
  · show win0_2.index t 1 * 2048 + 1 * (y 1).val = _; rw [(idx2 t).2]; omega

/-- A sum over the columns is the sum over the slabs. -/
theorem sum_cols (f : Fin 5632 → EReal) :
    ∑ l : Fin 4, ∑ k : Fin 1408, f ⟨l.val * 1408 + k.val, by omega⟩ = ∑ n, f n := by
  rw [← Fintype.sum_prod_type']
  refine Fintype.sum_equiv (finProdFinEquiv : Fin 4 × Fin 1408 ≃ Fin (4 * 1408)) _ _ fun p => ?_
  obtain ⟨l, k⟩ := p
  refine congrArg f (Fin.ext ?_)
  show l.val * 1408 + k.val = k.val + 1408 * l.val
  omega

/-- The block a run leaves is that block of the whole gradient. -/
theorem block (t : Fin cfg0.N) (h3 : t.val % 4 = 3) (y : S1408x2048.Idx) (x : S8448x2048.Idx) (h0 : (x 0).val = t.val / 4 * 1408 + (y 0).val)
    (h1 : (x 1).val = (y 1).val) :
    ((outsAt0 m c t.val t.isLt).1 : FVec Ideal S1408x2048 .bf16) y = gradX (inCt m c) (inW m c) x := by
  have hy : y = ix2 (n0 := 1408) (n1 := 2048) (y 0) (y 1) := funext fun a => by match a with | ⟨0, _⟩ => rfl | ⟨1, _⟩ => rfl
  have e : ((outsAt0 m c t.val t.isLt).1 : FVec Ideal S1408x2048 .bf16) y = ((outsAt0 m c t.val t.isLt).2 : FVec Ideal S1408x2048 .f32) y := by
    rw [out_last m c t h3, acc_step m c t (by omega)]; rfl
  have bt := bound t
  rw [e, hy]
  refine (acc_eq m c t (y 0) (y 1)).trans ?_
  rw [zero_add, h3, Finset.sum_range]
  unfold gradX
  rw [← sum_cols]
  refine Finset.sum_congr rfl fun l _ => ?_
  have hl : 4 * (t.val / 4) + l.val < cfg0.N := lt_of_lt_of_eq (by omega : _ < 24) N_0.symm
  refine (dif_pos hl).trans ?_
  refine Finset.sum_congr rfl fun k _ => congrArg₂ (· * ·) (congrArg₂ (fun a b => inCt m c (ix2 a b)) (Fin.ext ?_) (Fin.ext ?_))
    (congrArg₂ (fun a b => inW m c (ix2 a b)) (Fin.ext h1.symm) (Fin.ext ?_))
  all_goals simp only [rowOf, colOf]; omega

/-- The result array is the whole gradient of the input. -/
theorem final : (dats m 0 c).arrAt 2 cfg0.N = gradX (inCt m c) (inW m c) := by
  refine (dats m 0 c).arrAt_eq_of_covers 2 _ (by decide +kernel) fun t hf y => ?_
  rw [after0_2]
  exact block m c t ((flush0_2 t).mp hf) y _ (emb2 t y).1 (emb2 t y).2

/-- The reference's result is the whole gradient of the input. -/
theorem ref_eq (ct : FVec Ideal S8448x5632 .bf16) (w : FVec Ideal S2048x5632 .bf16) :
    Cert.Reference11Ideal.Read.val_main_v6 (F := Ideal) ct w = gradX ct w := funext fun x => by
  rw [Cert.Reference11Ideal.Read.val_main_v6_apply]
  refine (Cert.Reference11Ideal.Read.val_main_v5_apply ct w _).trans ?_
  unfold gradX
  refine Finset.sum_congr rfl fun n _ => (congrArg₂ (· * ·) (congrArg ct (funext fun b => ?_)) (congrArg w (funext fun b => ?_)))
  all_goals match b with | ⟨0, _⟩ => rfl | ⟨1, _⟩ => rfl

end Cert.Kernel11Ideal.Val

end
-- ==== Proof.HeadRow.lean ====
/- The loss head of one row: its norm, its error and their gradients, as the kernel and as the reference compute them. -/
module

public import Idealize.ShloMosaic.PureOps.Ideal
public import Idealize.ShloMosaic.Lib.Pointwise
public import proofs.«01_k».proof.Proof.Reals

@[expose] public section

noncomputable section

open Idealize.ShloMosaic

namespace Cert.Head

variable (x t g : Fin 2048 → EReal)

/-- The mean of the squares of a row, and epsilon. -/
def rowVar : EReal := Ideal.div (∑ k, x k * x k) (Ideal.ofBits .f32 0x45000000#32) + Ideal.ofBits .f32 0x358637BD#32
/-- The row's scale. -/
def rowRs : EReal := Ideal.rsqrt (rowVar x)
/-- The normed row. -/
def rowN (j : Fin 2048) : EReal := x j * rowRs x
/-- The row's error. -/
def rowErr (j : Fin 2048) : EReal := rowN x j * g j - t j
/-- The gradient at the norm's output. -/
def rowDy (j : Fin 2048) : EReal := rowErr x t g j * Ideal.ofBits .f32 0x3A000000#32
/-- The gradient at the row, as the kernel computes it. -/
def rowDx (j : Fin 2048) : EReal :=
  rowRs x * (rowDy x t g j * g j - rowN x j * Ideal.div (∑ k, rowDy x t g k * g k * rowN x k) (Ideal.ofBits .f32 0x45000000#32))

theorem bits_len : Ideal.ofBits .f32 0x45000000#32 = ((2048 : ℝ) : EReal) := by
  simp [Ideal.ofBits, Ideal.ieee, -EReal.coe_mul]
  norm_num

theorem bits_step : Ideal.ofBits .f32 0x3A000000#32 = ((1 / 2048 : ℝ) : EReal) := by
  simp [Ideal.ofBits, Ideal.ieee, -EReal.coe_mul]
  norm_num

theorem bits_half : Ideal.ofBits .f32 0x3F000000#32 = ((1 / 2 : ℝ) : EReal) := by
  simp [Ideal.ofBits, Ideal.ieee, -EReal.coe_mul]
  norm_num

theorem bits_neg_half : Ideal.ofBits .f32 0xBF000000#32 = ((-(1 / 2) : ℝ) : EReal) := by
  simp [Ideal.ofBits, Ideal.ieee, -EReal.coe_mul, -EReal.coe_neg]
  norm_num

theorem bits_two : Ideal.ofBits .f32 0x40000000#32 = ((2 : ℝ) : EReal) := by
  simp [Ideal.ofBits, Ideal.ieee, -EReal.coe_mul]
  norm_num

theorem bits_eps : ∃ e : ℝ, 0 < e ∧ Ideal.ofBits .f32 0x358637BD#32 = (e : EReal) := by
  refine ⟨8796093 / 8796093022208, by norm_num, ?_⟩
  simp [Ideal.ofBits, Ideal.ieee, -EReal.coe_mul]
  norm_num

theorem div_len (y : EReal) : Ideal.div y (Ideal.ofBits .f32 0x45000000#32) = y * ((1 / 2048 : ℝ) : EReal) := by
  rw [bits_len, Ideal.div_coe (by norm_num)]

/-- A row's mean square and epsilon is infinite or a positive number. -/
theorem rowVar_cases : rowVar x = ⊤ ∨ ∃ v : ℝ, 0 < v ∧ rowVar x = (v : EReal) := by
  obtain ⟨e, he, hb⟩ := bits_eps
  have hs : (0 : EReal) ≤ ∑ k, x k * x k := Finset.sum_nonneg fun k _ => by
    rcases le_total 0 (x k) with h | h
    · exact mul_nonneg h h
    · simpa using mul_nonneg (EReal.neg_nonneg.mpr h) (EReal.neg_nonneg.mpr h)
  have hm : (0 : EReal) ≤ (∑ k, x k * x k) * ((1 / 2048 : ℝ) : EReal) := mul_nonneg hs (by exact_mod_cast (by norm_num : (0 : ℝ) ≤ 1 / 2048))
  unfold rowVar
  rw [div_len, hb]
  generalize (∑ k, x k * x k) * ((1 / 2048 : ℝ) : EReal) = y at hm
  induction y with
  | bot => exact absurd hm (by simp)
  | top => exact Or.inl (by simp)
  | coe r => exact Or.inr ⟨r + e, add_pos_of_nonneg_of_pos (by exact_mod_cast hm) he, by rw [EReal.coe_add]⟩

/-- A nonnegative number times a sum of two. -/
theorem coe_mul_add (r : ℝ) (hr : 0 ≤ r) (y z : EReal) : (r : EReal) * (y + z) = (r : EReal) * y + (r : EReal) * z :=
  EReal.left_distrib_of_nonneg_of_ne_top (by exact_mod_cast hr) (EReal.coe_ne_top r) y z

/-- A sum times a nonnegative number. -/
theorem mul_sum_nonneg {n : ℕ} (r : ℝ) (hr : 0 ≤ r) (f : Fin n → EReal) : ∑ k, (r : EReal) * f k = (r : EReal) * ∑ k, f k := by
  classical
  have h : ∀ s : Finset (Fin n), ∑ k ∈ s, (r : EReal) * f k = (r : EReal) * ∑ k ∈ s, f k := fun s => by
    induction s using Finset.induction_on with
    | empty => simp
    | insert a s ha ih => rw [Finset.sum_insert ha, Finset.sum_insert ha, ih, coe_mul_add r hr]
  exact h _

/-- The gradient of a row through its norm, from the gradient `G` at the normed row: as the derivative of the scale times the row, twice,
and the scaled gradient; and as the scale times what is left of `G` after its mean along the normed row. -/
theorem rowGrad_eq (G : Fin 2048 → EReal) (j : Fin 2048) (a : EReal)
    (ha : a = Ideal.div ((∑ k, x k * G k) * (Ideal.ofBits .f32 0xBF000000#32 * Ideal.div (rowRs x) (rowVar x))) (Ideal.ofBits .f32 0x45000000#32)) :
    G j * rowRs x + x j * a + a * x j = rowRs x * (G j - rowN x j * Ideal.div (∑ k, G k * rowN x k) (Ideal.ofBits .f32 0x45000000#32)) := by
  unfold rowN
  rw [div_len] at ha ⊢
  rcases rowVar_cases x with hv | ⟨v, hv0, hv⟩
  · have hr : rowRs x = 0 := by rw [rowRs, hv]; rfl
    have ha0 : a = 0 := by rw [ha, hr, hv]; simp [Ideal.div]
    rw [hr, ha0]; simp
  · set r : ℝ := (Real.sqrt v)⁻¹ with hrd
    have hr : rowRs x = (r : EReal) := by
      rw [rowRs, hv]
      show (if v < 0 then (⊥ : EReal) else if v = 0 then ⊤ else (((Real.sqrt v)⁻¹ : ℝ) : EReal)) = _
      rw [if_neg (not_lt.mpr hv0.le), if_neg hv0.ne']
    have hr0 : 0 < r := inv_pos.mpr (Real.sqrt_pos.mpr hv0)
    have hrr : r / v = r * (r * r) := by
      rw [hrd, ← mul_inv, Real.mul_self_sqrt hv0.le, div_eq_mul_inv]
    rw [bits_neg_half, hr, hv, Cert.Attn.div_coe_coe _ _ hv0.ne', hrr] at ha
    rw [hr]
    set S := ∑ k, x k * G k with hS
    have hM : ∑ k, G k * (x k * (r : EReal)) = (r : EReal) * S := by
      rw [hS, ← mul_sum_nonneg r hr0.le]
      exact Finset.sum_congr rfl fun k _ => by rw [mul_comm (x k) (r : EReal), mul_left_comm, mul_comm (G k)]
    have hb : x j * a = ((-(r * r * r * (1 / 2048)) / 2 : ℝ) : EReal) * (x j * S) := by
      rw [ha, ← EReal.coe_mul, mul_assoc S, ← EReal.coe_mul, mul_comm S, mul_left_comm]
      exact congrArg (fun c : ℝ => (c : EReal) * (x j * S)) (by ring)
    have h2 : ∀ z : EReal, z + z = ((2 : ℝ) : EReal) * z := fun z => by
      induction z with
      | bot => exact (EReal.coe_mul_bot_of_pos (by norm_num)).symm
      | top => exact (EReal.coe_mul_top_of_pos (by norm_num)).symm
      | coe w => rw [← EReal.coe_add, ← EReal.coe_mul, two_mul]
    have hk : (r : EReal) * -(x j * (r : EReal) * ((r : EReal) * S * ((1 / 2048 : ℝ) : EReal))) = ((-(r * r * r * (1 / 2048)) : ℝ) : EReal) * (x j * S) := by
      have e : x j * (r : EReal) * ((r : EReal) * S * ((1 / 2048 : ℝ) : EReal)) = ((r * r * (1 / 2048) : ℝ) : EReal) * (x j * S) := by
        rw [EReal.coe_mul, EReal.coe_mul]; ac_rfl
      rw [e, ← EReal.neg_mul, ← EReal.coe_neg, ← mul_assoc, ← EReal.coe_mul]
      exact congrArg (fun c : ℝ => (c : EReal) * (x j * S)) (by ring)
    rw [hM, mul_comm a, add_assoc, h2, hb, ← mul_assoc, ← EReal.coe_mul, sub_eq_add_neg, coe_mul_add r hr0.le, hk, mul_comm (G j)]
    exact congrArg (fun c : ℝ => (r : EReal) * G j + (c : EReal) * (x j * S)) (by ring)

/-- The gradient at the row as the reference computes it. -/
theorem rowDx_eq (j : Fin 2048) (a : EReal)
    (ha : a = Ideal.div ((∑ k, x k * (rowDy x t g k * g k)) * (Ideal.ofBits .f32 0xBF000000#32 * Ideal.div (rowRs x) (rowVar x))) (Ideal.ofBits .f32 0x45000000#32)) :
    rowDy x t g j * g j * rowRs x + x j * a + a * x j = rowDx x t g j :=
  rowGrad_eq x (fun k => rowDy x t g k * g k) j a ha

end Cert.Head

end
-- ==== Proof.HeadLoss.lean ====
/- The loss head's kernel: what a point computes from its 256 rows, entry by entry. -/
module

public import proofs.«01_k».proof.Proof.HeadRow
public import proofs.«01_k».proof.Proof.Gen.Kernel12Ideal.Value
public import Idealize.ShloMosaic.Lib.Pointwise
public import Idealize.ShloMosaic.Lib.Pipeline.ValueKit.Geometry
public import Idealize.ShloMosaic.Lib.Pipeline.ValueKit.Acc

@[expose] public section

noncomputable section

open Idealize.ShloMosaic Idealize.ShloMosaic.TcCoe Idealize.SL.Sem
open Idealize.ShloMosaic.Pipeline (Dat)

namespace Cert.Kernel12Ideal.Val
open Cert.Kernel12Ideal Cert.Kernel12Ideal.Gen Cert.Head

section Payloads
variable (x t : FVec Ideal S256x2048 .f32) (g s gate : FVec Ideal S1x2048 .f32) (o : FVec Ideal S256x2048 .bf16) (ρ : Fin 256) (j : Fin 2048)

theorem pay4_apply : k0_pay4 (F := Ideal) (ix2 0 j) = 0 := by
  pointwise [k0_pay4]
theorem pay5_apply : k0_pay5 (F := Ideal) (ix2 0 j) = 0 := by
  pointwise [k0_pay5]
theorem pay6_apply : k0_pay6 (F := Ideal) (ix2 0 j) = 0 := by
  pointwise [k0_pay6]

theorem pay7_apply : k0_pay7 (F := Ideal) x (ix2 ρ 0) = rowRs (fun k => x (ix2 ρ k)) := by
  unfold rowRs rowVar
  pointwise [k0_pay7]

theorem pay8_apply : k0_pay8 (F := Ideal) x (ix2 ρ j) = rowN (fun k => x (ix2 ρ k)) j := by
  unfold rowN
  rw [← pay7_apply]
  unfold k0_pay8
  generalize k0_pay7 (F := Ideal) x = r
  pointwise []

theorem pay9_apply : k0_pay9 (F := Ideal) x g t (ix2 ρ j) = rowErr (fun k => x (ix2 ρ k)) (fun k => t (ix2 ρ k)) (fun k => g (ix2 0 k)) j := by
  unfold rowErr
  rw [← pay8_apply]
  unfold k0_pay9
  generalize k0_pay8 (F := Ideal) x = r
  pointwise []

theorem pay11_apply : k0_pay11 (F := Ideal) x g t (ix2 ρ j) = rowDy (fun k => x (ix2 ρ k)) (fun k => t (ix2 ρ k)) (fun k => g (ix2 0 k)) j := by
  unfold rowDy
  rw [← pay9_apply]
  unfold k0_pay11
  generalize k0_pay9 (F := Ideal) x g t = r
  pointwise []

/-- The column sums of the squared errors, carried. -/
theorem pay10_apply : k0_pay10 (F := Ideal) x g t s (ix2 0 j) = s (ix2 0 j)
    + ∑ ρ : Fin 256, rowErr (fun k => x (ix2 ρ k)) (fun k => t (ix2 ρ k)) (fun k => g (ix2 0 k)) j
        * rowErr (fun k => x (ix2 ρ k)) (fun k => t (ix2 ρ k)) (fun k => g (ix2 0 k)) j := by
  simp only [← pay9_apply]
  unfold k0_pay10
  generalize k0_pay9 (F := Ideal) x g t = r
  pointwise []

/-- The norm's weight's gradient, carried. -/
theorem pay12_apply : k0_pay12 (F := Ideal) x g t s (ix2 0 j) = s (ix2 0 j)
    + ∑ ρ : Fin 256, rowDy (fun k => x (ix2 ρ k)) (fun k => t (ix2 ρ k)) (fun k => g (ix2 0 k)) j * rowN (fun k => x (ix2 ρ k)) j := by
  simp only [← pay11_apply, ← pay8_apply]
  unfold k0_pay12
  generalize k0_pay11 (F := Ideal) x g t = r
  generalize k0_pay8 (F := Ideal) x = n
  pointwise []

/-- The gradient at the rows, from the point's blocks. -/
def blockDx : FVec Ideal S256x2048 .f32 := k0_pay1 (F := Ideal) g (k0_pay7 x) (k0_pay8 x) (k0_pay11 x g t)

theorem blockDx_apply : blockDx x t g (ix2 ρ j) = rowDx (fun k => x (ix2 ρ k)) (fun k => t (ix2 ρ k)) (fun k => g (ix2 0 k)) j := by
  unfold rowDx
  simp only [← pay11_apply, ← pay8_apply]
  rw [← pay7_apply]
  unfold blockDx
  generalize k0_pay11 (F := Ideal) x g t = d
  generalize k0_pay8 (F := Ideal) x = n
  generalize k0_pay7 (F := Ideal) x = r
  pointwise [k0_pay1]

theorem pay2_apply : k0_pay2 (F := Ideal) g (k0_pay7 x) (k0_pay8 x) (k0_pay11 x g t) gate (ix2 ρ j) = gate (ix2 0 j) * blockDx x t g (ix2 ρ j) := by
  unfold k0_pay2
  change _ = gate (ix2 0 j) * k0_pay1 (F := Ideal) g (k0_pay7 x) (k0_pay8 x) (k0_pay11 x g t) (ix2 ρ j)
  generalize k0_pay1 (F := Ideal) g (k0_pay7 x) (k0_pay8 x) (k0_pay11 x g t) = d
  pointwise []

/-- The gate's gradient, carried. -/
theorem pay3_apply : k0_pay3 (F := Ideal) g (k0_pay7 x) (k0_pay8 x) (k0_pay11 x g t) s o (ix2 0 j)
    = s (ix2 0 j) + ∑ ρ : Fin 256, blockDx x t g (ix2 ρ j) * o (ix2 ρ j) := by
  unfold k0_pay3 blockDx
  generalize k0_pay1 (F := Ideal) g (k0_pay7 x) (k0_pay8 x) (k0_pay11 x g t) = d
  pointwise []
end Payloads

variable (m : (ℓ : Loc nD τ sig) → Buf (Elt Ideal) ℓ) (c : Dev nD)

/-- What a point leaves in its block of the rows' gradient. -/
theorem out5 (t : Fin cfg0.N) : (outsAt0 m c t.val t.isLt).1 = blockDx (iblk m c 0 t) (iblk m c 1 t) (iblk m c 2 t) := by
  by_cases h0 : t.val % 32 = 0
  · rw [outsAt0_A m c t h0]
    dsimp only
    frame_out
    rfl
  · rw [outsAt0_B m c t h0]
    dsimp only
    frame_out
    rfl

/-- What a point leaves in its block of the gated output's gradient. -/
theorem out6 (t : Fin cfg0.N) : (outsAt0 m c t.val t.isLt).2.1
    = k0_pay2 (F := Ideal) (iblk m c 2 t) (k0_pay7 (iblk m c 0 t)) (k0_pay8 (iblk m c 0 t)) (k0_pay11 (iblk m c 0 t) (iblk m c 2 t) (iblk m c 1 t)) (iblk m c 4 t) := by
  by_cases h0 : t.val % 32 = 0
  · rw [outsAt0_A m c t h0]
    dsimp only
    frame_out
  · rw [outsAt0_B m c t h0]
    dsimp only
    frame_out

/-- The three accumulators after the first point. -/
theorem acc_reset (t : Fin cfg0.N) (h0 : t.val % 32 = 0) :
    (outsAt0 m c t.val t.isLt).2.2.1 = k0_pay10 (F := Ideal) (iblk m c 0 t) (iblk m c 2 t) (iblk m c 1 t) (k0_pay4 (F := Ideal))
    ∧ (outsAt0 m c t.val t.isLt).2.2.2.1 = k0_pay12 (F := Ideal) (iblk m c 0 t) (iblk m c 2 t) (iblk m c 1 t) (k0_pay5 (F := Ideal))
    ∧ (outsAt0 m c t.val t.isLt).2.2.2.2 = k0_pay3 (F := Ideal) (iblk m c 2 t) (k0_pay7 (iblk m c 0 t)) (k0_pay8 (iblk m c 0 t))
        (k0_pay11 (iblk m c 0 t) (iblk m c 2 t) (iblk m c 1 t)) (k0_pay6 (F := Ideal)) (iblk m c 3 t) := by
  rw [outsAt0_A m c t h0]
  dsimp only
  refine ⟨?_, ?_, ?_⟩
  · frame_out
  · frame_out
  · frame_out

/-- The three accumulators after any other point. -/
theorem acc_step (t : Fin cfg0.N) (h0 : ¬t.val % 32 = 0) :
    (outsAt0 m c t.val t.isLt).2.2.1 = k0_pay10 (F := Ideal) (iblk m c 0 t) (iblk m c 2 t) (iblk m c 1 t)
        (outsAt0 m c (t.val - 1) (Nat.lt_of_le_of_lt (Nat.sub_le _ _) t.isLt)).2.2.1
    ∧ (outsAt0 m c t.val t.isLt).2.2.2.1 = k0_pay12 (F := Ideal) (iblk m c 0 t) (iblk m c 2 t) (iblk m c 1 t)
        (outsAt0 m c (t.val - 1) (Nat.lt_of_le_of_lt (Nat.sub_le _ _) t.isLt)).2.2.2.1
    ∧ (outsAt0 m c t.val t.isLt).2.2.2.2 = k0_pay3 (F := Ideal) (iblk m c 2 t) (k0_pay7 (iblk m c 0 t)) (k0_pay8 (iblk m c 0 t))
        (k0_pay11 (iblk m c 0 t) (iblk m c 2 t) (iblk m c 1 t))
        (outsAt0 m c (t.val - 1) (Nat.lt_of_le_of_lt (Nat.sub_le _ _) t.isLt)).2.2.2.2 (iblk m c 3 t) := by
  rw [outsAt0_B m c t h0]
  dsimp only
  refine ⟨?_, ?_, ?_⟩
  · frame_out
  · frame_out
  · frame_out

end Cert.Kernel12Ideal.Val

end
-- ==== Proof.HeadArrays.lean ====
/- The loss head's kernel: the whole result arrays, from the points' blocks and the accumulators over the 32 points. -/
module

public import proofs.«01_k».proof.Proof.HeadLoss

@[expose] public section

noncomputable section

open Idealize.ShloMosaic Idealize.ShloMosaic.TcCoe Idealize.SL.Sem
open Idealize.ShloMosaic.Pipeline (Dat)

namespace Cert.Kernel12Ideal.Val
open Cert.Kernel12Ideal Cert.Kernel12Ideal.Gen Cert.Head

/-! ## The results, of whole arrays -/

section Results
variable (x t : Vec Ideal S8192x2048 .f32) (g gate : Vec Ideal S1x2048 .f32) (o : Vec Ideal S8192x2048 .bf16)

/-- Row `n` of an array. -/
def row (x : Vec Ideal S8192x2048 .f32) (n : Fin 8192) (k : Fin 2048) : EReal := x (ix2 n k)
/-- A vector's entries. -/
def lane (g : Vec Ideal S1x2048 .f32) (k : Fin 2048) : EReal := g (ix2 0 k)

/-- The gradient at the last layer's output. -/
def headDx : Vec Ideal S8192x2048 .f32 := fun i => rowDx (row x (i 0)) (row t (i 0)) (lane g) (i 1)
/-- The gradient at the gated output. -/
def headDo : Vec Ideal S8192x2048 .bf16 := fun i => (lane gate (i 1) * rowDx (row x (i 0)) (row t (i 0)) (lane g) (i 1) : EReal)
/-- The column sums of the squared errors. -/
def headLs : Vec Ideal S1x2048 .f32 := fun i => (∑ n : Fin 8192, rowErr (row x n) (row t n) (lane g) (i 1) * rowErr (row x n) (row t n) (lane g) (i 1) : EReal)
/-- The norm's weight's gradient. -/
def headDg : Vec Ideal S1x2048 .f32 := fun i => (∑ n : Fin 8192, rowDy (row x n) (row t n) (lane g) (i 1) * rowN (row x n) (i 1) : EReal)
/-- The gate's gradient. -/
def headDgate : Vec Ideal S1x2048 .f32 := fun i => (∑ n : Fin 8192, rowDx (row x n) (row t n) (lane g) (i 1) * o (ix2 n (i 1)) : EReal)
end Results

variable (m : (ℓ : Loc nD τ sig) → Buf (Elt Ideal) ℓ) (c : Dev nD)

/-- The last layer's output, the target, the norm's weight, the gated output and the gate the call is given. -/
def inX : Vec Ideal S8192x2048 .f32 := m ((c : Thread nD τ).loc main_arg0)
def inT : Vec Ideal S8192x2048 .f32 := m ((c : Thread nD τ).loc main_arg1)
def inG : Vec Ideal S1x2048 .f32 := m ((c : Thread nD τ).loc main_arg2)
def inO : Vec Ideal S8192x2048 .bf16 := m ((c : Thread nD τ).loc main_arg3)
def inGate : Vec Ideal S1x2048 .f32 := m ((c : Thread nD τ).loc main_arg4)

theorem lt32 (t : Fin cfg0.N) : t.val < 32 := lt_of_lt_of_eq t.isLt N_0

/-- The array row of row `ρ` of point `t`'s blocks. -/
def rowOf (t : Fin cfg0.N) (ρ : Fin 256) : Fin 8192 := ⟨t.val * 256 + ρ.val, by have := lt32 t; omega⟩

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)

theorem iblk0_apply (t : Fin cfg0.N) (ρ : Fin 256) (j : Fin 2048) :
    (iblk m c 0 t : Vec Ideal S256x2048 .f32) (ix2 ρ j) = inX m c (ix2 (rowOf t ρ) j) := by
  unfold iblk
  rw [View.read_apply]
  show V m c main_arg0 _ = V m c main_arg0 _
  refine congrArg (V m c main_arg0) (funext fun a => Fin.ext ?_)
  match a with
  | ⟨0, _⟩ => show win0_0.index t 0 * 256 + 1 * ρ.val = t.val * 256 + ρ.val; rw [(idx0 t).1]; omega
  | ⟨1, _⟩ => show win0_0.index t 1 * 2048 + 1 * j.val = j.val; rw [(idx0 t).2]; omega

theorem iblk1_apply (t : Fin cfg0.N) (ρ : Fin 256) (j : Fin 2048) :
    (iblk m c 1 t : Vec Ideal S256x2048 .f32) (ix2 ρ j) = inT m c (ix2 (rowOf t ρ) j) := by
  unfold iblk
  rw [View.read_apply]
  show V m c main_arg1 _ = V m c main_arg1 _
  refine congrArg (V m c main_arg1) (funext fun a => Fin.ext ?_)
  match a with
  | ⟨0, _⟩ => show win0_1.index t 0 * 256 + 1 * ρ.val = t.val * 256 + ρ.val; rw [(idx1 t).1]; omega
  | ⟨1, _⟩ => show win0_1.index t 1 * 2048 + 1 * j.val = j.val; rw [(idx1 t).2]; omega

theorem iblk3_apply (t : Fin cfg0.N) (ρ : Fin 256) (j : Fin 2048) :
    (iblk m c 3 t : Vec Ideal S256x2048 .bf16) (ix2 ρ j) = inO m c (ix2 (rowOf t ρ) j) := by
  unfold iblk
  rw [View.read_apply]
  show V m c main_arg3 _ = V m c main_arg3 _
  refine congrArg (V m c main_arg3) (funext fun a => Fin.ext ?_)
  match a with
  | ⟨0, _⟩ => show win0_3.index t 0 * 256 + 1 * ρ.val = t.val * 256 + ρ.val; rw [(idx3 t).1]; omega
  | ⟨1, _⟩ => show win0_3.index t 1 * 2048 + 1 * j.val = j.val; rw [(idx3 t).2]; omega

theorem iblk2_apply (t : Fin cfg0.N) (j : Fin 2048) :
    (iblk m c 2 t : Vec Ideal S1x2048 .f32) (ix2 0 j) = inG m c (ix2 0 j) := by
  unfold iblk
  rw [View.read_apply]
  show V m c main_arg2 _ = V m c main_arg2 _
  refine congrArg (V m c main_arg2) (funext fun a => Fin.ext ?_)
  match a with
  | ⟨0, _⟩ => show win0_2.index t 0 * 1 + 1 * 0 = 0; rw [(idx2 t).1]
  | ⟨1, _⟩ => show win0_2.index t 1 * 2048 + 1 * j.val = j.val; rw [(idx2 t).2]; omega

theorem iblk4_apply (t : Fin cfg0.N) (j : Fin 2048) :
    (iblk m c 4 t : Vec Ideal S1x2048 .f32) (ix2 0 j) = inGate m c (ix2 0 j) := by
  unfold iblk
  rw [View.read_apply]
  show V m c main_arg4 _ = V m c main_arg4 _
  refine congrArg (V m c main_arg4) (funext fun a => Fin.ext ?_)
  match a with
  | ⟨0, _⟩ => show win0_4.index t 0 * 1 + 1 * 0 = 0; rw [(idx4 t).1]
  | ⟨1, _⟩ => show win0_4.index t 1 * 2048 + 1 * j.val = j.val; rw [(idx4 t).2]; omega

/-- Point `t`'s blocks. -/
def blkX (t : Fin cfg0.N) : FVec Ideal S256x2048 .f32 := iblk m c 0 t
def blkT (t : Fin cfg0.N) : FVec Ideal S256x2048 .f32 := iblk m c 1 t
def blkG (t : Fin cfg0.N) : FVec Ideal S1x2048 .f32 := iblk m c 2 t
def blkO (t : Fin cfg0.N) : FVec Ideal S256x2048 .bf16 := iblk m c 3 t
def blkGate (t : Fin cfg0.N) : FVec Ideal S1x2048 .f32 := iblk m c 4 t

theorem blkX_row (t : Fin cfg0.N) (ρ : Fin 256) : (fun k => blkX m c t (ix2 ρ k)) = row (inX m c) (rowOf t ρ) := funext fun k => iblk0_apply m c t ρ k
theorem blkT_row (t : Fin cfg0.N) (ρ : Fin 256) : (fun k => blkT m c t (ix2 ρ k)) = row (inT m c) (rowOf t ρ) := funext fun k => iblk1_apply m c t ρ k
theorem blkG_lane (t : Fin cfg0.N) : (fun k => blkG m c t (ix2 0 k)) = lane (inG m c) := funext fun k => iblk2_apply m c t k

theorem dx_apply (t : Fin cfg0.N) (ρ : Fin 256) (j : Fin 2048) :
    blockDx (blkX m c t) (blkT m c t) (blkG m c t) (ix2 ρ j) = rowDx (row (inX m c) (rowOf t ρ)) (row (inT m c) (rowOf t ρ)) (lane (inG m c)) j := by
  rw [blockDx_apply, blkX_row, blkT_row, blkG_lane]

/-! ## The accumulators -/

/-- What point number `n` adds to an accumulator: its 256 rows' terms. -/
def slab (f : Fin 8192 → EReal) (n : ℕ) : EReal :=
  if h : n < cfg0.N then ∑ ρ : Fin 256, f (rowOf ⟨n, h⟩ ρ) else 0

theorem slab_at (f : Fin 8192 → EReal) (t : Fin cfg0.N) : ∑ ρ : Fin 256, f (rowOf t ρ) = slab f t.val := by
  rw [slab, dif_pos t.isLt]

/-- A sum over the rows is the sum over the 32 points. -/
theorem sum_rows (f : Fin 8192 → EReal) :
    ∑ l : Fin 32, ∑ ρ : Fin 256, f ⟨l.val * 256 + ρ.val, by omega⟩ = ∑ n, f n := by
  rw [← Fintype.sum_prod_type']
  refine Fintype.sum_equiv (finProdFinEquiv : Fin 32 × Fin 256 ≃ Fin (32 * 256)) _ _ fun p => ?_
  obtain ⟨l, k⟩ := p
  refine congrArg f (Fin.ext ?_)
  show l.val * 256 + k.val = k.val + 256 * l.val
  omega

/-- An accumulator that starts at zero and takes each point's rows' terms holds, after the last point, the sum over all the rows. -/
theorem total (A : (n : ℕ) → n < cfg0.N → EReal) (f : Fin 8192 → EReal)
    (hr : ∀ t : Fin cfg0.N, t.val % 32 = 0 → A t.val t.isLt = 0 + ∑ ρ : Fin 256, f (rowOf t ρ))
    (hs : ∀ t : Fin cfg0.N, ¬t.val % 32 = 0 → A t.val t.isLt = A (t.val - 1) (Nat.lt_of_le_of_lt (Nat.sub_le _ _) t.isLt) + ∑ ρ : Fin 256, f (rowOf t ρ))
    (t : Fin cfg0.N) (ht : t.val % 32 = 31) : A t.val t.isLt = ∑ n, f n := by
  have e := Pipeline.eq_sum_of_reset_step A 32 (0 : EReal) (slab f)
    (fun t h0 => (hr t h0).trans (congrArg (0 + ·) (slab_at f t)))
    (fun t h0 => (hs t h0).trans (congrArg (_ + ·) (slab_at f t))) t
  have bt := lt32 t
  have hz : 32 * (t.val / 32) = 0 := by omega
  rw [e, zero_add, ht, Finset.sum_range, ← sum_rows]
  refine Finset.sum_congr rfl fun l _ => ?_
  have hl : 32 * (t.val / 32) + l.val < cfg0.N := lt_of_lt_of_eq (by omega : _ < 32) N_0.symm
  refine (dif_pos hl).trans (Finset.sum_congr rfl fun ρ _ => congrArg f (Fin.ext ?_))
  simp only [rowOf, hz, zero_add]

theorem acc7 (t : Fin cfg0.N) (ht : t.val % 32 = 31) (j : Fin 2048) :
    ((outsAt0 m c t.val t.isLt).2.2.1 : FVec Ideal S1x2048 .f32) (ix2 0 j) = headLs (inX m c) (inT m c) (inG m c) (ix2 0 j) :=
  total (fun n h => ((outsAt0 m c n h).2.2.1 : FVec Ideal S1x2048 .f32) (ix2 0 j))
    (fun n => rowErr (row (inX m c) n) (row (inT m c) n) (lane (inG m c)) j * rowErr (row (inX m c) n) (row (inT m c) n) (lane (inG m c)) j)
    (fun t h0 => by
      simp only [(acc_reset m c t h0).1]
      refine (pay10_apply (blkX m c t) (blkT m c t) (blkG m c t) _ j).trans (congrArg₂ (· + ·) (pay4_apply j) ?_)
      simp only [blkX_row, blkT_row, blkG_lane])
    (fun t h0 => by
      simp only [(acc_step m c t h0).1]
      refine (pay10_apply (blkX m c t) (blkT m c t) (blkG m c t) _ j).trans (congrArg₂ (· + ·) rfl ?_)
      simp only [blkX_row, blkT_row, blkG_lane]) t ht

theorem acc8 (t : Fin cfg0.N) (ht : t.val % 32 = 31) (j : Fin 2048) :
    ((outsAt0 m c t.val t.isLt).2.2.2.1 : FVec Ideal S1x2048 .f32) (ix2 0 j) = headDg (inX m c) (inT m c) (inG m c) (ix2 0 j) :=
  total (fun n h => ((outsAt0 m c n h).2.2.2.1 : FVec Ideal S1x2048 .f32) (ix2 0 j))
    (fun n => rowDy (row (inX m c) n) (row (inT m c) n) (lane (inG m c)) j * rowN (row (inX m c) n) j)
    (fun t h0 => by
      simp only [(acc_reset m c t h0).2.1]
      refine (pay12_apply (blkX m c t) (blkT m c t) (blkG m c t) _ j).trans (congrArg₂ (· + ·) (pay5_apply j) ?_)
      simp only [blkX_row, blkT_row, blkG_lane])
    (fun t h0 => by
      simp only [(acc_step m c t h0).2.1]
      refine (pay12_apply (blkX m c t) (blkT m c t) (blkG m c t) _ j).trans (congrArg₂ (· + ·) rfl ?_)
      simp only [blkX_row, blkT_row, blkG_lane]) t ht

theorem dxo (t : Fin cfg0.N) (j : Fin 2048) : ∑ ρ : Fin 256, blockDx (blkX m c t) (blkT m c t) (blkG m c t) (ix2 ρ j) * blkO m c t (ix2 ρ j)
    = ∑ ρ : Fin 256, rowDx (row (inX m c) (rowOf t ρ)) (row (inT m c) (rowOf t ρ)) (lane (inG m c)) j * inO m c (ix2 (rowOf t ρ) j) :=
  Finset.sum_congr rfl fun ρ _ => congrArg₂ (· * ·) (dx_apply m c t ρ j) (iblk3_apply m c t ρ j)

theorem acc9 (t : Fin cfg0.N) (ht : t.val % 32 = 31) (j : Fin 2048) :
    ((outsAt0 m c t.val t.isLt).2.2.2.2 : FVec Ideal S1x2048 .f32) (ix2 0 j) = headDgate (inX m c) (inT m c) (inG m c) (inO m c) (ix2 0 j) :=
  total (fun n h => ((outsAt0 m c n h).2.2.2.2 : FVec Ideal S1x2048 .f32) (ix2 0 j))
    (fun n => rowDx (row (inX m c) n) (row (inT m c) n) (lane (inG m c)) j * inO m c (ix2 n j))
    (fun t h0 => by
      simp only [(acc_reset m c t h0).2.2]
      exact (pay3_apply (blkX m c t) (blkT m c t) (blkG m c t) _ (blkO m c t) j).trans (congrArg₂ (· + ·) (pay6_apply j) (dxo m c t j)))
    (fun t h0 => by
      simp only [(acc_step m c t h0).2.2]
      exact (pay3_apply (blkX m c t) (blkT m c t) (blkG m c t) _ (blkO m c t) j).trans (congrArg₂ (· + ·) rfl (dxo m c t j))) t ht

/-! ## The result arrays -/

theorem emb5 (t : Fin cfg0.N) (ρ : Fin 256) (j : Fin 2048) : ((cfg0.win 5).blk t).view.emb (ix2 ρ j : S256x2048.Idx) = (ix2 (rowOf t ρ) j : S8192x2048.Idx) :=
  funext fun a => Fin.ext (by
    match a with
    | ⟨0, _⟩ => show win0_5.index t 0 * 256 + 1 * ρ.val = t.val * 256 + ρ.val; rw [(idx5 t).1]; omega
    | ⟨1, _⟩ => show win0_5.index t 1 * 2048 + 1 * j.val = j.val; rw [(idx5 t).2]; omega)

theorem emb6 (t : Fin cfg0.N) (ρ : Fin 256) (j : Fin 2048) : ((cfg0.win 6).blk t).view.emb (ix2 ρ j : S256x2048.Idx) = (ix2 (rowOf t ρ) j : S8192x2048.Idx) :=
  funext fun a => Fin.ext (by
    match a with
    | ⟨0, _⟩ => show win0_6.index t 0 * 256 + 1 * ρ.val = t.val * 256 + ρ.val; rw [(idx6 t).1]; omega
    | ⟨1, _⟩ => show win0_6.index t 1 * 2048 + 1 * j.val = j.val; rw [(idx6 t).2]; omega)

theorem emb7 (t : Fin cfg0.N) (j : Fin 2048) : ((cfg0.win 7).blk t).view.emb (ix2 0 j : S1x2048.Idx) = (ix2 0 j : S1x2048.Idx) :=
  funext fun a => Fin.ext (by
    match a with
    | ⟨0, _⟩ => show win0_7.index t 0 * 1 + 1 * 0 = 0; rw [(idx7 t).1]
    | ⟨1, _⟩ => show win0_7.index t 1 * 2048 + 1 * j.val = j.val; rw [(idx7 t).2]; omega)

theorem emb8 (t : Fin cfg0.N) (j : Fin 2048) : ((cfg0.win 8).blk t).view.emb (ix2 0 j : S1x2048.Idx) = (ix2 0 j : S1x2048.Idx) :=
  funext fun a => Fin.ext (by
    match a with
    | ⟨0, _⟩ => show win0_8.index t 0 * 1 + 1 * 0 = 0; rw [(idx8 t).1]
    | ⟨1, _⟩ => show win0_8.index t 1 * 2048 + 1 * j.val = j.val; rw [(idx8 t).2]; omega)

theorem emb9 (t : Fin cfg0.N) (j : Fin 2048) : ((cfg0.win 9).blk t).view.emb (ix2 0 j : S1x2048.Idx) = (ix2 0 j : S1x2048.Idx) :=
  funext fun a => Fin.ext (by
    match a with
    | ⟨0, _⟩ => show win0_9.index t 0 * 1 + 1 * 0 = 0; rw [(idx9 t).1]
    | ⟨1, _⟩ => show win0_9.index t 1 * 2048 + 1 * j.val = j.val; rw [(idx9 t).2]; omega)

theorem eq_block (y : S256x2048.Idx) : y = ix2 (n0 := 256) (n1 := 2048) (y 0) (y 1) := funext fun a => by match a with | ⟨0, _⟩ => rfl | ⟨1, _⟩ => rfl
theorem eq_lane (y : S1x2048.Idx) : y = ix2 (n0 := 1) (n1 := 2048) 0 (y 1) := funext fun a => by
  match a with
  | ⟨0, _⟩ => exact Subsingleton.elim (α := Fin 1) _ _
  | ⟨1, _⟩ => rfl

theorem block5 (t : Fin cfg0.N) (y : S256x2048.Idx) :
    ((outsAt0 m c t.val t.isLt).1 : FVec Ideal S256x2048 .f32) y = headDx (inX m c) (inT m c) (inG m c) (((cfg0.win 5).blk t).view.emb y : S8192x2048.Idx) := by
  obtain ⟨ρ, j, rfl⟩ : ∃ ρ j, y = ix2 ρ j := ⟨y 0, y 1, eq_block y⟩
  refine (congrFun (out5 m c t) (ix2 ρ j)).trans ((dx_apply m c t ρ j).trans ?_)
  exact (congrArg (headDx (inX m c) (inT m c) (inG m c)) (emb5 t ρ j)).symm

theorem block6 (t : Fin cfg0.N) (y : S256x2048.Idx) :
    ((outsAt0 m c t.val t.isLt).2.1 : FVec Ideal S256x2048 .bf16) y
      = headDo (inX m c) (inT m c) (inG m c) (inGate m c) (((cfg0.win 6).blk t).view.emb y : S8192x2048.Idx) := by
  obtain ⟨ρ, j, rfl⟩ : ∃ ρ j, y = ix2 ρ j := ⟨y 0, y 1, eq_block y⟩
  refine (congrFun (out6 m c t) (ix2 ρ j)).trans ((pay2_apply (blkX m c t) (blkT m c t) (blkG m c t) (blkGate m c t) ρ j).trans
    ((congrArg₂ (fun a b : EReal => a * b) (iblk4_apply m c t j) (dx_apply m c t ρ j)).trans ?_))
  exact (congrArg (headDo (inX m c) (inT m c) (inG m c) (inGate m c)) (emb6 t ρ j)).symm

theorem final5 : (dats m 0 c).arrAt 5 cfg0.N = headDx (inX m c) (inT m c) (inG m c) := by
  refine (dats m 0 c).arrAt_eq_of_covers 5 _ (by decide +kernel) fun t hf y => ?_
  rw [after0_5]
  exact block5 m c t y

theorem final6 : (dats m 0 c).arrAt 6 cfg0.N = headDo (inX m c) (inT m c) (inG m c) (inGate m c) := by
  refine (dats m 0 c).arrAt_eq_of_covers 6 _ (by decide +kernel) fun t hf y => ?_
  rw [after0_6]
  exact block6 m c t y

theorem block7 (t : Fin cfg0.N) (ht : t.val % 32 = 31) (y : S1x2048.Idx) :
    ((outsAt0 m c t.val t.isLt).2.2.1 : FVec Ideal S1x2048 .f32) y = headLs (inX m c) (inT m c) (inG m c) (((cfg0.win 7).blk t).view.emb y : S1x2048.Idx) := by
  obtain ⟨j, rfl⟩ : ∃ j, y = ix2 0 j := ⟨y 1, eq_lane y⟩
  exact (acc7 m c t ht j).trans (congrArg (headLs (inX m c) (inT m c) (inG m c)) (emb7 t j)).symm

theorem final7 : (dats m 0 c).arrAt 7 cfg0.N = headLs (inX m c) (inT m c) (inG m c) := by
  refine (dats m 0 c).arrAt_eq_of_covers 7 _ (by decide +kernel) fun t hf y => ?_
  rw [after0_7]
  exact block7 m c t ((flush0_7 t).mp hf) y

theorem block8 (t : Fin cfg0.N) (ht : t.val % 32 = 31) (y : S1x2048.Idx) :
    ((outsAt0 m c t.val t.isLt).2.2.2.1 : FVec Ideal S1x2048 .f32) y = headDg (inX m c) (inT m c) (inG m c) (((cfg0.win 8).blk t).view.emb y : S1x2048.Idx) := by
  obtain ⟨j, rfl⟩ : ∃ j, y = ix2 0 j := ⟨y 1, eq_lane y⟩
  exact (acc8 m c t ht j).trans (congrArg (headDg (inX m c) (inT m c) (inG m c)) (emb8 t j)).symm

theorem final8 : (dats m 0 c).arrAt 8 cfg0.N = headDg (inX m c) (inT m c) (inG m c) := by
  refine (dats m 0 c).arrAt_eq_of_covers 8 _ (by decide +kernel) fun t hf y => ?_
  rw [after0_8]
  exact block8 m c t ((flush0_8 t).mp hf) y

theorem block9 (t : Fin cfg0.N) (ht : t.val % 32 = 31) (y : S1x2048.Idx) :
    ((outsAt0 m c t.val t.isLt).2.2.2.2 : FVec Ideal S1x2048 .f32) y = headDgate (inX m c) (inT m c) (inG m c) (inO m c) (((cfg0.win 9).blk t).view.emb y : S1x2048.Idx) := by
  obtain ⟨j, rfl⟩ : ∃ j, y = ix2 0 j := ⟨y 1, eq_lane y⟩
  exact (acc9 m c t ht j).trans (congrArg (headDgate (inX m c) (inT m c) (inG m c) (inO m c)) (emb9 t j)).symm

theorem final9 : (dats m 0 c).arrAt 9 cfg0.N = headDgate (inX m c) (inT m c) (inG m c) (inO m c) := by
  refine (dats m 0 c).arrAt_eq_of_covers 9 _ (by decide +kernel) fun t hf y => ?_
  rw [after0_9]
  exact block9 m c t ((flush0_9 t).mp hf) y

end Cert.Kernel12Ideal.Val

end
-- ==== Proof.HeadRef.lean ====
/- The reference of the loss head: its five results are those of the whole arrays. -/
module

public import proofs.«01_k».proof.Proof.HeadArrays
public import proofs.«01_k».proof.Proof.Gen.Reference12Ideal.Read
public import Idealize.ShloMosaic.Lib.Tactic.CleanTypes
public import Idealize.ShloMosaic.Lib.Pointwise

@[expose] public section

noncomputable section

open Idealize.ShloMosaic Idealize.ShloMosaic.TcCoe Idealize.SL.Sem

namespace Cert.Reference12Ideal.Val
open Cert.Reference12Ideal Cert.Reference12Ideal.Gen Cert.Reference12Ideal.Read Cert.Head
open Cert.Kernel12Ideal.Val (row lane headDx headDo headLs headDg headDgate)

variable (x t : FVec Ideal S8192x2048 .f32) (g gate : FVec Ideal S1x2048 .f32) (o : FVec Ideal S8192x2048 .bf16) (n : Fin 8192) (j : Fin 2048)

theorem v6_apply : val_main_v6 (F := Ideal) x (ix2 n 0) = rowVar (row x n) := by
  unfold rowVar row
  unfold val_main_v6 val_main_v5 val_main_v4 val_main_v3 val_main_v2 val_main_v1 val_main_v0 val_main_cst val_main_cst_0 val_main_cst_1
  clean_types
  pointwise []

theorem v7_apply : val_main_v7 (F := Ideal) x (ix2 n 0) = rowRs (row x n) := by
  unfold rowRs
  rw [← v6_apply]
  unfold val_main_v7
  generalize val_main_v6 (F := Ideal) x = v
  clean_types
  pointwise []

theorem v10_apply : val_main_v10 (F := Ideal) x (ix2 n 0) = Ideal.ofBits .f32 0xBF000000#32 * Ideal.div (rowRs (row x n)) (rowVar (row x n)) := by
  rw [← v7_apply, ← v6_apply]
  unfold val_main_v10 val_main_v9 val_main_v8 val_main_cst_2
  generalize val_main_v6 (F := Ideal) x = v
  generalize val_main_v7 (F := Ideal) x = r
  clean_types
  pointwise []

theorem v12_apply : val_main_v12 (F := Ideal) x (ix2 n j) = rowN (row x n) j := by
  unfold rowN
  rw [← v7_apply]
  unfold val_main_v12 val_main_v11 row
  generalize val_main_v7 (F := Ideal) x = r
  clean_types
  pointwise []

theorem v15_apply : val_main_v15 (F := Ideal) x t g (ix2 n j) = rowErr (row x n) (row t n) (lane g) j := by
  unfold rowErr
  rw [← v12_apply]
  unfold val_main_v15 val_main_v14 val_main_v13 row lane
  generalize val_main_v12 (F := Ideal) x = r
  clean_types
  pointwise []

theorem v29_apply : val_main_v29 (F := Ideal) x t g (ix2 n j) = rowDy (row x n) (row t n) (lane g) j := by
  have e : val_main_v29 (F := Ideal) x t g (ix2 n j) = Ideal.div (Ideal.ofBits .f32 0x3F000000#32 * Ideal.ofBits .f32 0x3F800000#32) (Ideal.ofBits .f32 0x45000000#32)
      * (Ideal.ofBits .f32 0x40000000#32 * rowErr (row x n) (row t n) (lane g) j) := by
    rw [← v15_apply]
    unfold val_main_v29 val_main_v28 val_main_v27 val_main_v26 val_main_v25 val_main_v24 val_main_v18 val_main_v17 val_main_cst_3 val_main_cst_8 val_main_cst_9 val_main_cst_10
    generalize val_main_v15 (F := Ideal) x t g = r
    clean_types
    pointwise []
  rw [e, div_len, bits_half, Cert.Attn.bits_one, bits_two, ← mul_assoc, ← EReal.coe_mul, ← EReal.coe_mul, ← EReal.coe_mul, mul_comm]
  unfold rowDy
  rw [bits_step]
  exact congrArg (fun c : ℝ => _ * (c : EReal)) (by norm_num)

theorem v34_apply : val_main_v34 (F := Ideal) x t g (ix2 n j) = rowDy (row x n) (row t n) (lane g) j * lane g j := by
  rw [← v29_apply]
  unfold val_main_v34 val_main_v33 lane
  generalize val_main_v29 (F := Ideal) x t g = r
  clean_types
  pointwise []

theorem v44_apply : val_main_v44 (F := Ideal) x t g (ix2 n j)
    = Ideal.div ((∑ k, row x n k * (rowDy (row x n) (row t n) (lane g) k * lane g k))
        * (Ideal.ofBits .f32 0xBF000000#32 * Ideal.div (rowRs (row x n)) (rowVar (row x n)))) (Ideal.ofBits .f32 0x45000000#32) := by
  simp only [← v34_apply]
  rw [← v10_apply]
  unfold row
  unfold val_main_v44 val_main_v43 val_main_v42 val_main_v41 val_main_v40 val_main_v37 val_main_v36 val_main_v35 val_main_cst_12 val_main_cst_13 val_main_cst_14
  generalize val_main_v34 (F := Ideal) x t g = d
  generalize val_main_v10 (F := Ideal) x = r
  clean_types
  pointwise []
  exact Fin.sum_univ_one _

theorem v48_apply : val_main_v48 (F := Ideal) x t g (ix2 n j) = rowDx (row x n) (row t n) (lane g) j := by
  rw [← rowDx_eq _ _ _ j _ (v44_apply x t g n j), ← v34_apply, ← v7_apply]
  unfold row
  unfold val_main_v48 val_main_v47 val_main_v46 val_main_v45 val_main_v39 val_main_v38
  generalize val_main_v34 (F := Ideal) x t g = d
  generalize val_main_v7 (F := Ideal) x = r
  generalize val_main_v44 (F := Ideal) x t g = a
  clean_types
  pointwise []

theorem v57_apply : val_main_v57 (F := Ideal) x t g gate (ix2 n j) = lane gate j * rowDx (row x n) (row t n) (lane g) j := by
  rw [← v48_apply]
  unfold val_main_v57 val_main_v53 val_main_v52 lane
  generalize val_main_v48 (F := Ideal) x t g = d
  clean_types
  pointwise []

theorem v32_apply : val_main_v32 (F := Ideal) x t g (ix2 0 j) = ∑ n : Fin 8192, rowDy (row x n) (row t n) (lane g) j * rowN (row x n) j := by
  simp only [← v29_apply, ← v12_apply]
  unfold val_main_v32 val_main_v31 val_main_v30 val_main_cst_11
  generalize val_main_v29 (F := Ideal) x t g = d
  generalize val_main_v12 (F := Ideal) x = y
  clean_types
  pointwise []
  exact Finset.sum_congr rfl fun n _ => mul_comm _ _

theorem v56_apply : val_main_v56 (F := Ideal) x t g o (ix2 0 j) = ∑ n : Fin 8192, rowDx (row x n) (row t n) (lane g) j * o (ix2 n j) := by
  simp only [← v48_apply]
  unfold val_main_v56 val_main_v55 val_main_v54 val_main_v49 val_main_cst_15
  generalize val_main_v48 (F := Ideal) x t g = d
  clean_types
  pointwise []

theorem v67_eq : val_main_v67 (F := Ideal) x = val_main_v12 (F := Ideal) x := rfl
theorem v70_eq : val_main_v70 (F := Ideal) x t g = val_main_v15 (F := Ideal) x t g := rfl

theorem v73_apply : val_main_v73 (F := Ideal) x t g (ix2 0 j)
    = ∑ n : Fin 8192, rowErr (row x n) (row t n) (lane g) j * rowErr (row x n) (row t n) (lane g) j := by
  simp only [← v15_apply]
  unfold val_main_v73 val_main_v72 val_main_v71 val_main_cst_19
  rw [v70_eq]
  generalize val_main_v15 (F := Ideal) x t g = d
  clean_types
  pointwise []

/-! ## The whole arrays -/

theorem dx_eq : val_main_v48 (F := Ideal) x t g = headDx x t g := funext fun i => by
  obtain ⟨n, j, rfl⟩ : ∃ n j, i = ix2 n j := ⟨i 0, i 1, eq_ix2 i⟩
  exact v48_apply x t g n j

theorem do_eq : val_main_v57 (F := Ideal) x t g gate = headDo x t g gate := funext fun i => by
  obtain ⟨n, j, rfl⟩ : ∃ n j, i = ix2 n j := ⟨i 0, i 1, eq_ix2 i⟩
  exact v57_apply x t g gate n j

theorem ls_eq : val_main_v73 (F := Ideal) x t g = headLs x t g := funext fun i => by
  obtain ⟨j, rfl⟩ : ∃ j, i = ix2 0 j := ⟨i 1, Cert.Kernel12Ideal.Val.eq_lane i⟩
  exact v73_apply x t g j

theorem dg_eq : val_main_v32 (F := Ideal) x t g = headDg x t g := funext fun i => by
  obtain ⟨j, rfl⟩ : ∃ j, i = ix2 0 j := ⟨i 1, Cert.Kernel12Ideal.Val.eq_lane i⟩
  exact v32_apply x t g j

theorem dgate_eq : val_main_v56 (F := Ideal) x t g o = headDgate x t g o := funext fun i => by
  obtain ⟨j, rfl⟩ : ∃ j, i = ix2 0 j := ⟨i 1, Cert.Kernel12Ideal.Val.eq_lane i⟩
  exact v56_apply x t g o j

end Cert.Reference12Ideal.Val

end
-- ==== Proof.Adam.lean ====
/- The optimiser's step on one number: the new first moment, the new second moment and the change of the weight. -/
module

public import Idealize.ShloMosaic.Lib.Pointwise

@[expose] public section

noncomputable section

open Idealize.ShloMosaic

namespace Cert.Adam

/-- The new first moment: nine tenths of the old one and a tenth of the gradient. -/
def newM (g m : Elt Ideal .f32) : Elt Ideal .f32 :=
  FloatOps.addf (F := Ideal) (FloatOps.mulf (FloatOps.ofBits .f32 0x3F666666#32) m) (FloatOps.mulf (FloatOps.ofBits .f32 0x3DCCCCCD#32) g)

/-- The new second moment: 0.999 of the old one and a thousandth of the gradient's square. -/
def newV (g v : Elt Ideal .f32) : Elt Ideal .f32 :=
  FloatOps.addf (F := Ideal) (FloatOps.mulf (FloatOps.ofBits .f32 0x3F7FBE77#32) v)
    (FloatOps.mulf (FloatOps.ofBits .f32 0x3A83126F#32) (FloatOps.mulf g g))

/-- The change of the weight: the corrected first moment over the root of the corrected second one, with the decay, times the rate. -/
def step (w g m v : Elt Ideal .f32) : Elt Ideal .f32 :=
  FloatOps.mulf (F := Ideal) (FloatOps.ofBits .f32 0xBA83126F#32)
    (FloatOps.addf
      (FloatOps.divf (FloatOps.divf (newM g m) (FloatOps.ofBits .f32 0x3F26BD02#32))
        (FloatOps.addf (FloatOps.sqrt (FloatOps.divf (newV g v) (FloatOps.ofBits .f32 0x3C231ACC#32))) (FloatOps.ofBits .f32 0x322BCC77#32)))
      (FloatOps.mulf (FloatOps.ofBits .f32 0x3C23D70A#32) w))

end Cert.Adam

end
-- ==== Proof.Adam13.lean ====
/- The optimiser's step for the modulation's weights: every block of rows the kernel leaves, and every entry of the reference, is the step of `Adam`. -/
module

public import proofs.«01_k».proof.Proof.Adam
public import proofs.«01_k».proof.Proof.Gen.Kernel13Ideal.Value
public import proofs.«01_k».proof.Proof.Gen.Reference13Ideal.Read
public import Idealize.ShloMosaic.Lib.Pipeline.ValueKit.Geometry
public import Idealize.ShloMosaic.Lib.Pipeline.ValueKit.Acc

@[expose] public section

noncomputable section

open Idealize.ShloMosaic Idealize.ShloMosaic.TcCoe Idealize.SL.Sem
open Idealize.ShloMosaic.Pipeline (Dat)
open Cert.Adam

namespace Cert.Kernel13Ideal.Val
open Cert.Kernel13Ideal Cert.Kernel13Ideal.Gen

variable (m : (ℓ : Loc nD τ sig) → Buf (Elt Ideal) ℓ) (c : Dev nD)

/-- The weights, their gradient and the two moments the call is given. -/
def inW : Vec Ideal S4096x1536 .f32 := m ((c : Thread nD τ).loc main_arg0)
def inG : Vec Ideal S4096x1536 .f32 := m ((c : Thread nD τ).loc main_arg1)
def inM : Vec Ideal S4096x1536 .f32 := m ((c : Thread nD τ).loc main_arg2)
def inV : Vec Ideal S4096x1536 .f32 := m ((c : Thread nD τ).loc main_arg3)

/-- The three result arrays, entry by entry. -/
def delta (w g μ v : Vec Ideal S4096x1536 .f32) : Vec Ideal S4096x1536 .f32 := fun i => step (w i) (g i) (μ i) (v i)
def mom (g μ : Vec Ideal S4096x1536 .f32) : Vec Ideal S4096x1536 .f32 := fun i => newM (g i) (μ i)
def sqr (g v : Vec Ideal S4096x1536 .f32) : Vec Ideal S4096x1536 .f32 := fun i => newV (g i) (v i)

theorem final4 : Value.G4 (F := Ideal) (inG m c) (inM m c) (inV m c) (inW m c) = delta (inW m c) (inG m c) (inM m c) (inV m c) := funext fun _ => rfl
theorem final5 : Value.G5 (F := Ideal) (inG m c) (inM m c) = mom (inG m c) (inM m c) := funext fun _ => rfl
theorem final6 : Value.G6 (F := Ideal) (inG m c) (inV m c) = sqr (inG m c) (inV m c) := funext fun _ => rfl

/-! ## The reference's entries -/

theorem ref_delta (w g μ v : FVec Ideal S4096x1536 .f32) : Cert.Reference13Ideal.Read.val_main_v23 (F := Ideal) w g μ v = delta w g μ v := funext fun _ => rfl
theorem ref_mom (g μ : FVec Ideal S4096x1536 .f32) : Cert.Reference13Ideal.Read.val_main_v4 (F := Ideal) g μ = mom g μ := funext fun _ => rfl
theorem ref_sqr (g v : FVec Ideal S4096x1536 .f32) : Cert.Reference13Ideal.Read.val_main_v10 (F := Ideal) g v = sqr g v := funext fun _ => rfl

end Cert.Kernel13Ideal.Val

end
-- ==== Proof.Adam14.lean ====
/- The optimiser's step for the even layer's input weights: every block of rows the kernel leaves, and every entry of the reference, is the step of `Adam`. -/
module

public import proofs.«01_k».proof.Proof.Adam
public import proofs.«01_k».proof.Proof.Gen.Kernel14Ideal.Value
public import proofs.«01_k».proof.Proof.Gen.Reference14Ideal.Read
public import Idealize.ShloMosaic.Lib.Pipeline.ValueKit.Geometry
public import Idealize.ShloMosaic.Lib.Pipeline.ValueKit.Acc

@[expose] public section

noncomputable section

open Idealize.ShloMosaic Idealize.ShloMosaic.TcCoe Idealize.SL.Sem
open Idealize.ShloMosaic.Pipeline (Dat)
open Cert.Adam

namespace Cert.Kernel14Ideal.Val
open Cert.Kernel14Ideal Cert.Kernel14Ideal.Gen

variable (m : (ℓ : Loc nD τ sig) → Buf (Elt Ideal) ℓ) (c : Dev nD)

/-- The weights, their gradient and the two moments the call is given. -/
def inW : Vec Ideal S2048x1408 .f32 := m ((c : Thread nD τ).loc main_arg0)
def inG : Vec Ideal S2048x1408 .f32 := m ((c : Thread nD τ).loc main_arg1)
def inM : Vec Ideal S2048x1408 .f32 := m ((c : Thread nD τ).loc main_arg2)
def inV : Vec Ideal S2048x1408 .f32 := m ((c : Thread nD τ).loc main_arg3)

/-- The three result arrays, entry by entry. -/
def delta (w g μ v : Vec Ideal S2048x1408 .f32) : Vec Ideal S2048x1408 .f32 := fun i => step (w i) (g i) (μ i) (v i)
def mom (g μ : Vec Ideal S2048x1408 .f32) : Vec Ideal S2048x1408 .f32 := fun i => newM (g i) (μ i)
def sqr (g v : Vec Ideal S2048x1408 .f32) : Vec Ideal S2048x1408 .f32 := fun i => newV (g i) (v i)

/-! ## The blocks of a point: each window lies over the same rows -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)

theorem read0 (W : (b : Ref sig .tc) → Buf (Elt Ideal) ((c : Thread nD τ).loc b)) (t : Fin cfg0.N) (y : S256x1408.Idx) (x : S2048x1408.Idx)
    (h0 : (x 0).val = t.val * 256 + (y 0).val) (h1 : (x 1).val = (y 1).val) :
    (((cfg0.win 0).blk t).view.read (Elt Ideal) (W (Pipeline.arrRef spec0 0)) : Vec Ideal S256x1408 .f32) y = (W main_arg0 : Vec Ideal S2048x1408 .f32) x := by
  rw [View.read_apply]
  show W main_arg0 _ = W main_arg0 _
  refine congrArg (W main_arg0) (funext fun a => Fin.ext ?_)
  match a with
  | ⟨0, _⟩ => show win0_0.index t 0 * 256 + 1 * (y 0).val = (x 0).val; rw [(idx0 t).1]; omega
  | ⟨1, _⟩ => show win0_0.index t 1 * 1408 + 1 * (y 1).val = (x 1).val; rw [(idx0 t).2]; omega
theorem blk0 (t : Fin cfg0.N) (y : S256x1408.Idx) (x : S2048x1408.Idx) (h0 : (x 0).val = t.val * 256 + (y 0).val) (h1 : (x 1).val = (y 1).val) :
    (iblk m c 0 t : Vec Ideal S256x1408 .f32) y = inW m c x := read0 c (V m c) t y x h0 h1

theorem read1 (W : (b : Ref sig .tc) → Buf (Elt Ideal) ((c : Thread nD τ).loc b)) (t : Fin cfg0.N) (y : S256x1408.Idx) (x : S2048x1408.Idx)
    (h0 : (x 0).val = t.val * 256 + (y 0).val) (h1 : (x 1).val = (y 1).val) :
    (((cfg0.win 1).blk t).view.read (Elt Ideal) (W (Pipeline.arrRef spec0 1)) : Vec Ideal S256x1408 .f32) y = (W main_arg1 : Vec Ideal S2048x1408 .f32) x := by
  rw [View.read_apply]
  show W main_arg1 _ = W main_arg1 _
  refine congrArg (W main_arg1) (funext fun a => Fin.ext ?_)
  match a with
  | ⟨0, _⟩ => show win0_1.index t 0 * 256 + 1 * (y 0).val = (x 0).val; rw [(idx1 t).1]; omega
  | ⟨1, _⟩ => show win0_1.index t 1 * 1408 + 1 * (y 1).val = (x 1).val; rw [(idx1 t).2]; omega
theorem blk1 (t : Fin cfg0.N) (y : S256x1408.Idx) (x : S2048x1408.Idx) (h0 : (x 0).val = t.val * 256 + (y 0).val) (h1 : (x 1).val = (y 1).val) :
    (iblk m c 1 t : Vec Ideal S256x1408 .f32) y = inG m c x := read1 c (V m c) t y x h0 h1

theorem read2 (W : (b : Ref sig .tc) → Buf (Elt Ideal) ((c : Thread nD τ).loc b)) (t : Fin cfg0.N) (y : S256x1408.Idx) (x : S2048x1408.Idx)
    (h0 : (x 0).val = t.val * 256 + (y 0).val) (h1 : (x 1).val = (y 1).val) :
    (((cfg0.win 2).blk t).view.read (Elt Ideal) (W (Pipeline.arrRef spec0 2)) : Vec Ideal S256x1408 .f32) y = (W main_arg2 : Vec Ideal S2048x1408 .f32) x := by
  rw [View.read_apply]
  show W main_arg2 _ = W main_arg2 _
  refine congrArg (W main_arg2) (funext fun a => Fin.ext ?_)
  match a with
  | ⟨0, _⟩ => show win0_2.index t 0 * 256 + 1 * (y 0).val = (x 0).val; rw [(idx2 t).1]; omega
  | ⟨1, _⟩ => show win0_2.index t 1 * 1408 + 1 * (y 1).val = (x 1).val; rw [(idx2 t).2]; omega
theorem blk2 (t : Fin cfg0.N) (y : S256x1408.Idx) (x : S2048x1408.Idx) (h0 : (x 0).val = t.val * 256 + (y 0).val) (h1 : (x 1).val = (y 1).val) :
    (iblk m c 2 t : Vec Ideal S256x1408 .f32) y = inM m c x := read2 c (V m c) t y x h0 h1

theorem read3 (W : (b : Ref sig .tc) → Buf (Elt Ideal) ((c : Thread nD τ).loc b)) (t : Fin cfg0.N) (y : S256x1408.Idx) (x : S2048x1408.Idx)
    (h0 : (x 0).val = t.val * 256 + (y 0).val) (h1 : (x 1).val = (y 1).val) :
    (((cfg0.win 3).blk t).view.read (Elt Ideal) (W (Pipeline.arrRef spec0 3)) : Vec Ideal S256x1408 .f32) y = (W main_arg3 : Vec Ideal S2048x1408 .f32) x := by
  rw [View.read_apply]
  show W main_arg3 _ = W main_arg3 _
  refine congrArg (W main_arg3) (funext fun a => Fin.ext ?_)
  match a with
  | ⟨0, _⟩ => show win0_3.index t 0 * 256 + 1 * (y 0).val = (x 0).val; rw [(idx3 t).1]; omega
  | ⟨1, _⟩ => show win0_3.index t 1 * 1408 + 1 * (y 1).val = (x 1).val; rw [(idx3 t).2]; omega
theorem blk3 (t : Fin cfg0.N) (y : S256x1408.Idx) (x : S2048x1408.Idx) (h0 : (x 0).val = t.val * 256 + (y 0).val) (h1 : (x 1).val = (y 1).val) :
    (iblk m c 3 t : Vec Ideal S256x1408 .f32) y = inV m c x := read3 c (V m c) t y x h0 h1

/-! ## What a point leaves -/

section
variable (x0 x1 x2 x3 : Vec Ideal S256x1408 .f32) (y : S256x1408.Idx)
theorem out4 : out0_4 x0 x1 x2 x3 = k0_pay3 x1 x2 x3 x0 := by
  frame_out
theorem out5 : out0_5 x0 x1 x2 x3 = k0_pay1 x1 x2 := by
  frame_out
theorem out6 : out0_6 x0 x1 x2 x3 = k0_pay2 x1 x3 := by
  frame_out
theorem out7 : out0_7 x0 x1 x2 x3 = x1 := by
  frame_out
theorem pay3_apply : k0_pay3 x1 x2 x3 x0 y = step (x0 y) (x1 y) (x2 y) (x3 y) := rfl
theorem pay1_apply : k0_pay1 x1 x2 y = newM (x1 y) (x2 y) := rfl
theorem pay2_apply : k0_pay2 x1 x3 y = newV (x1 y) (x3 y) := rfl
end

/-! ## The result arrays -/

theorem tile4 (t : Fin cfg0.N) (y : S256x1408.Idx) (x : S2048x1408.Idx) (h0 : (x 0).val = t.val * 256 + (y 0).val) (h1 : (x 1).val = (y 1).val) :
    ((dats m 0 c).after 4 t : Vec Ideal S256x1408 .f32) y = delta (inW m c) (inG m c) (inM m c) (inV m c) x := by
  rw [after0_4, out4]
  refine (pay3_apply _ _ _ _ y).trans ?_
  unfold delta
  rw [blk0 m c t y x h0 h1, blk1 m c t y x h0 h1, blk2 m c t y x h0 h1, blk3 m c t y x h0 h1]
theorem final4 : (dats m 0 c).arrAt 4 cfg0.N = delta (inW m c) (inG m c) (inM m c) (inV m c) := by
  refine (dats m 0 c).arrAt_eq_of_covers 4 _ (by decide +kernel) fun t hf y => ?_
  refine tile4 m c t y _ ?_ ?_
  · show win0_4.index t 0 * 256 + 1 * (y 0).val = _; rw [(idx4 t).1]; omega
  · show win0_4.index t 1 * 1408 + 1 * (y 1).val = _; rw [(idx4 t).2]; omega

theorem tile5 (t : Fin cfg0.N) (y : S256x1408.Idx) (x : S2048x1408.Idx) (h0 : (x 0).val = t.val * 256 + (y 0).val) (h1 : (x 1).val = (y 1).val) :
    ((dats m 0 c).after 5 t : Vec Ideal S256x1408 .f32) y = mom (inG m c) (inM m c) x := by
  rw [after0_5, out5]
  refine (pay1_apply _ _ y).trans ?_
  unfold mom
  rw [blk1 m c t y x h0 h1, blk2 m c t y x h0 h1]
theorem final5 : (dats m 0 c).arrAt 5 cfg0.N = mom (inG m c) (inM m c) := by
  refine (dats m 0 c).arrAt_eq_of_covers 5 _ (by decide +kernel) fun t hf y => ?_
  refine tile5 m c t y _ ?_ ?_
  · show win0_5.index t 0 * 256 + 1 * (y 0).val = _; rw [(idx5 t).1]; omega
  · show win0_5.index t 1 * 1408 + 1 * (y 1).val = _; rw [(idx5 t).2]; omega

theorem tile6 (t : Fin cfg0.N) (y : S256x1408.Idx) (x : S2048x1408.Idx) (h0 : (x 0).val = t.val * 256 + (y 0).val) (h1 : (x 1).val = (y 1).val) :
    ((dats m 0 c).after 6 t : Vec Ideal S256x1408 .f32) y = sqr (inG m c) (inV m c) x := by
  rw [after0_6, out6]
  refine (pay2_apply _ _ y).trans ?_
  unfold sqr
  rw [blk1 m c t y x h0 h1, blk3 m c t y x h0 h1]
theorem final6 : (dats m 0 c).arrAt 6 cfg0.N = sqr (inG m c) (inV m c) := by
  refine (dats m 0 c).arrAt_eq_of_covers 6 _ (by decide +kernel) fun t hf y => ?_
  refine tile6 m c t y _ ?_ ?_
  · show win0_6.index t 0 * 256 + 1 * (y 0).val = _; rw [(idx6 t).1]; omega
  · show win0_6.index t 1 * 1408 + 1 * (y 1).val = _; rw [(idx6 t).2]; omega

theorem tile7 (t : Fin cfg0.N) (y : S256x1408.Idx) (x : S2048x1408.Idx) (h0 : (x 0).val = t.val * 256 + (y 0).val) (h1 : (x 1).val = (y 1).val) :
    ((dats m 0 c).after 7 t : Vec Ideal S256x1408 .f32) y = inG m c x := by
  rw [after0_7, out7]
  refine blk1 m c t y x h0 h1
theorem final7 : (dats m 0 c).arrAt 7 cfg0.N = inG m c := by
  refine (dats m 0 c).arrAt_eq_of_covers 7 _ (by decide +kernel) fun t hf y => ?_
  refine tile7 m c t y _ ?_ ?_
  · show win0_7.index t 0 * 256 + 1 * (y 0).val = _; rw [(idx7 t).1]; omega
  · show win0_7.index t 1 * 1408 + 1 * (y 1).val = _; rw [(idx7 t).2]; omega

/-! ## The reference's entries -/

theorem ref_delta (w g μ v : FVec Ideal S2048x1408 .f32) : Cert.Reference14Ideal.Read.val_main_v23 (F := Ideal) w g μ v = delta w g μ v := funext fun _ => rfl
theorem ref_mom (g μ : FVec Ideal S2048x1408 .f32) : Cert.Reference14Ideal.Read.val_main_v4 (F := Ideal) g μ = mom g μ := funext fun _ => rfl
theorem ref_sqr (g v : FVec Ideal S2048x1408 .f32) : Cert.Reference14Ideal.Read.val_main_v10 (F := Ideal) g v = sqr g v := funext fun _ => rfl

end Cert.Kernel14Ideal.Val

end
-- ==== Proof.Adam15.lean ====
/- The optimiser's step for the odd layer's input weights: every block of rows the kernel leaves, and every entry of the reference, is the step of `Adam`. -/
module

public import proofs.«01_k».proof.Proof.Adam
public import proofs.«01_k».proof.Proof.Gen.Kernel15Ideal.Value
public import proofs.«01_k».proof.Proof.Gen.Reference15Ideal.Read
public import Idealize.ShloMosaic.Lib.Pipeline.ValueKit.Geometry
public import Idealize.ShloMosaic.Lib.Pipeline.ValueKit.Acc

@[expose] public section

noncomputable section

open Idealize.ShloMosaic Idealize.ShloMosaic.TcCoe Idealize.SL.Sem
open Idealize.ShloMosaic.Pipeline (Dat)
open Cert.Adam

namespace Cert.Kernel15Ideal.Val
open Cert.Kernel15Ideal Cert.Kernel15Ideal.Gen

variable (m : (ℓ : Loc nD τ sig) → Buf (Elt Ideal) ℓ) (c : Dev nD)

/-- The weights, their gradient and the two moments the call is given. -/
def inW : Vec Ideal S2048x1536 .f32 := m ((c : Thread nD τ).loc main_arg0)
def inG : Vec Ideal S2048x1536 .f32 := m ((c : Thread nD τ).loc main_arg1)
def inM : Vec Ideal S2048x1536 .f32 := m ((c : Thread nD τ).loc main_arg2)
def inV : Vec Ideal S2048x1536 .f32 := m ((c : Thread nD τ).loc main_arg3)

/-- The three result arrays, entry by entry. -/
def delta (w g μ v : Vec Ideal S2048x1536 .f32) : Vec Ideal S2048x1536 .f32 := fun i => step (w i) (g i) (μ i) (v i)
def mom (g μ : Vec Ideal S2048x1536 .f32) : Vec Ideal S2048x1536 .f32 := fun i => newM (g i) (μ i)
def sqr (g v : Vec Ideal S2048x1536 .f32) : Vec Ideal S2048x1536 .f32 := fun i => newV (g i) (v i)

/-! ## The blocks of a point: each window lies over the same rows -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)

theorem read0 (W : (b : Ref sig .tc) → Buf (Elt Ideal) ((c : Thread nD τ).loc b)) (t : Fin cfg0.N) (y : S256x1536.Idx) (x : S2048x1536.Idx)
    (h0 : (x 0).val = t.val * 256 + (y 0).val) (h1 : (x 1).val = (y 1).val) :
    (((cfg0.win 0).blk t).view.read (Elt Ideal) (W (Pipeline.arrRef spec0 0)) : Vec Ideal S256x1536 .f32) y = (W main_arg0 : Vec Ideal S2048x1536 .f32) x := by
  rw [View.read_apply]
  show W main_arg0 _ = W main_arg0 _
  refine congrArg (W main_arg0) (funext fun a => Fin.ext ?_)
  match a with
  | ⟨0, _⟩ => show win0_0.index t 0 * 256 + 1 * (y 0).val = (x 0).val; rw [(idx0 t).1]; omega
  | ⟨1, _⟩ => show win0_0.index t 1 * 1536 + 1 * (y 1).val = (x 1).val; rw [(idx0 t).2]; omega
theorem blk0 (t : Fin cfg0.N) (y : S256x1536.Idx) (x : S2048x1536.Idx) (h0 : (x 0).val = t.val * 256 + (y 0).val) (h1 : (x 1).val = (y 1).val) :
    (iblk m c 0 t : Vec Ideal S256x1536 .f32) y = inW m c x := read0 c (V m c) t y x h0 h1

theorem read1 (W : (b : Ref sig .tc) → Buf (Elt Ideal) ((c : Thread nD τ).loc b)) (t : Fin cfg0.N) (y : S256x1536.Idx) (x : S2048x1536.Idx)
    (h0 : (x 0).val = t.val * 256 + (y 0).val) (h1 : (x 1).val = (y 1).val) :
    (((cfg0.win 1).blk t).view.read (Elt Ideal) (W (Pipeline.arrRef spec0 1)) : Vec Ideal S256x1536 .f32) y = (W main_arg1 : Vec Ideal S2048x1536 .f32) x := by
  rw [View.read_apply]
  show W main_arg1 _ = W main_arg1 _
  refine congrArg (W main_arg1) (funext fun a => Fin.ext ?_)
  match a with
  | ⟨0, _⟩ => show win0_1.index t 0 * 256 + 1 * (y 0).val = (x 0).val; rw [(idx1 t).1]; omega
  | ⟨1, _⟩ => show win0_1.index t 1 * 1536 + 1 * (y 1).val = (x 1).val; rw [(idx1 t).2]; omega
theorem blk1 (t : Fin cfg0.N) (y : S256x1536.Idx) (x : S2048x1536.Idx) (h0 : (x 0).val = t.val * 256 + (y 0).val) (h1 : (x 1).val = (y 1).val) :
    (iblk m c 1 t : Vec Ideal S256x1536 .f32) y = inG m c x := read1 c (V m c) t y x h0 h1

theorem read2 (W : (b : Ref sig .tc) → Buf (Elt Ideal) ((c : Thread nD τ).loc b)) (t : Fin cfg0.N) (y : S256x1536.Idx) (x : S2048x1536.Idx)
    (h0 : (x 0).val = t.val * 256 + (y 0).val) (h1 : (x 1).val = (y 1).val) :
    (((cfg0.win 2).blk t).view.read (Elt Ideal) (W (Pipeline.arrRef spec0 2)) : Vec Ideal S256x1536 .f32) y = (W main_arg2 : Vec Ideal S2048x1536 .f32) x := by
  rw [View.read_apply]
  show W main_arg2 _ = W main_arg2 _
  refine congrArg (W main_arg2) (funext fun a => Fin.ext ?_)
  match a with
  | ⟨0, _⟩ => show win0_2.index t 0 * 256 + 1 * (y 0).val = (x 0).val; rw [(idx2 t).1]; omega
  | ⟨1, _⟩ => show win0_2.index t 1 * 1536 + 1 * (y 1).val = (x 1).val; rw [(idx2 t).2]; omega
theorem blk2 (t : Fin cfg0.N) (y : S256x1536.Idx) (x : S2048x1536.Idx) (h0 : (x 0).val = t.val * 256 + (y 0).val) (h1 : (x 1).val = (y 1).val) :
    (iblk m c 2 t : Vec Ideal S256x1536 .f32) y = inM m c x := read2 c (V m c) t y x h0 h1

theorem read3 (W : (b : Ref sig .tc) → Buf (Elt Ideal) ((c : Thread nD τ).loc b)) (t : Fin cfg0.N) (y : S256x1536.Idx) (x : S2048x1536.Idx)
    (h0 : (x 0).val = t.val * 256 + (y 0).val) (h1 : (x 1).val = (y 1).val) :
    (((cfg0.win 3).blk t).view.read (Elt Ideal) (W (Pipeline.arrRef spec0 3)) : Vec Ideal S256x1536 .f32) y = (W main_arg3 : Vec Ideal S2048x1536 .f32) x := by
  rw [View.read_apply]
  show W main_arg3 _ = W main_arg3 _
  refine congrArg (W main_arg3) (funext fun a => Fin.ext ?_)
  match a with
  | ⟨0, _⟩ => show win0_3.index t 0 * 256 + 1 * (y 0).val = (x 0).val; rw [(idx3 t).1]; omega
  | ⟨1, _⟩ => show win0_3.index t 1 * 1536 + 1 * (y 1).val = (x 1).val; rw [(idx3 t).2]; omega
theorem blk3 (t : Fin cfg0.N) (y : S256x1536.Idx) (x : S2048x1536.Idx) (h0 : (x 0).val = t.val * 256 + (y 0).val) (h1 : (x 1).val = (y 1).val) :
    (iblk m c 3 t : Vec Ideal S256x1536 .f32) y = inV m c x := read3 c (V m c) t y x h0 h1

/-! ## What a point leaves -/

section
variable (x0 x1 x2 x3 : Vec Ideal S256x1536 .f32) (y : S256x1536.Idx)
theorem out4 : out0_4 x0 x1 x2 x3 = k0_pay3 x1 x2 x3 x0 := by
  frame_out
theorem out5 : out0_5 x0 x1 x2 x3 = k0_pay1 x1 x2 := by
  frame_out
theorem out6 : out0_6 x0 x1 x2 x3 = k0_pay2 x1 x3 := by
  frame_out
theorem out7 : out0_7 x0 x1 x2 x3 = x1 := by
  frame_out
theorem pay3_apply : k0_pay3 x1 x2 x3 x0 y = step (x0 y) (x1 y) (x2 y) (x3 y) := rfl
theorem pay1_apply : k0_pay1 x1 x2 y = newM (x1 y) (x2 y) := rfl
theorem pay2_apply : k0_pay2 x1 x3 y = newV (x1 y) (x3 y) := rfl
end

/-! ## The result arrays -/

theorem tile4 (t : Fin cfg0.N) (y : S256x1536.Idx) (x : S2048x1536.Idx) (h0 : (x 0).val = t.val * 256 + (y 0).val) (h1 : (x 1).val = (y 1).val) :
    ((dats m 0 c).after 4 t : Vec Ideal S256x1536 .f32) y = delta (inW m c) (inG m c) (inM m c) (inV m c) x := by
  rw [after0_4, out4]
  refine (pay3_apply _ _ _ _ y).trans ?_
  unfold delta
  rw [blk0 m c t y x h0 h1, blk1 m c t y x h0 h1, blk2 m c t y x h0 h1, blk3 m c t y x h0 h1]
theorem final4 : (dats m 0 c).arrAt 4 cfg0.N = delta (inW m c) (inG m c) (inM m c) (inV m c) := by
  refine (dats m 0 c).arrAt_eq_of_covers 4 _ (by decide +kernel) fun t hf y => ?_
  refine tile4 m c t y _ ?_ ?_
  · show win0_4.index t 0 * 256 + 1 * (y 0).val = _; rw [(idx4 t).1]; omega
  · show win0_4.index t 1 * 1536 + 1 * (y 1).val = _; rw [(idx4 t).2]; omega

theorem tile5 (t : Fin cfg0.N) (y : S256x1536.Idx) (x : S2048x1536.Idx) (h0 : (x 0).val = t.val * 256 + (y 0).val) (h1 : (x 1).val = (y 1).val) :
    ((dats m 0 c).after 5 t : Vec Ideal S256x1536 .f32) y = mom (inG m c) (inM m c) x := by
  rw [after0_5, out5]
  refine (pay1_apply _ _ y).trans ?_
  unfold mom
  rw [blk1 m c t y x h0 h1, blk2 m c t y x h0 h1]
theorem final5 : (dats m 0 c).arrAt 5 cfg0.N = mom (inG m c) (inM m c) := by
  refine (dats m 0 c).arrAt_eq_of_covers 5 _ (by decide +kernel) fun t hf y => ?_
  refine tile5 m c t y _ ?_ ?_
  · show win0_5.index t 0 * 256 + 1 * (y 0).val = _; rw [(idx5 t).1]; omega
  · show win0_5.index t 1 * 1536 + 1 * (y 1).val = _; rw [(idx5 t).2]; omega

theorem tile6 (t : Fin cfg0.N) (y : S256x1536.Idx) (x : S2048x1536.Idx) (h0 : (x 0).val = t.val * 256 + (y 0).val) (h1 : (x 1).val = (y 1).val) :
    ((dats m 0 c).after 6 t : Vec Ideal S256x1536 .f32) y = sqr (inG m c) (inV m c) x := by
  rw [after0_6, out6]
  refine (pay2_apply _ _ y).trans ?_
  unfold sqr
  rw [blk1 m c t y x h0 h1, blk3 m c t y x h0 h1]
theorem final6 : (dats m 0 c).arrAt 6 cfg0.N = sqr (inG m c) (inV m c) := by
  refine (dats m 0 c).arrAt_eq_of_covers 6 _ (by decide +kernel) fun t hf y => ?_
  refine tile6 m c t y _ ?_ ?_
  · show win0_6.index t 0 * 256 + 1 * (y 0).val = _; rw [(idx6 t).1]; omega
  · show win0_6.index t 1 * 1536 + 1 * (y 1).val = _; rw [(idx6 t).2]; omega

theorem tile7 (t : Fin cfg0.N) (y : S256x1536.Idx) (x : S2048x1536.Idx) (h0 : (x 0).val = t.val * 256 + (y 0).val) (h1 : (x 1).val = (y 1).val) :
    ((dats m 0 c).after 7 t : Vec Ideal S256x1536 .f32) y = inG m c x := by
  rw [after0_7, out7]
  refine blk1 m c t y x h0 h1
theorem final7 : (dats m 0 c).arrAt 7 cfg0.N = inG m c := by
  refine (dats m 0 c).arrAt_eq_of_covers 7 _ (by decide +kernel) fun t hf y => ?_
  refine tile7 m c t y _ ?_ ?_
  · show win0_7.index t 0 * 256 + 1 * (y 0).val = _; rw [(idx7 t).1]; omega
  · show win0_7.index t 1 * 1536 + 1 * (y 1).val = _; rw [(idx7 t).2]; omega

/-! ## The reference's entries -/

theorem ref_delta (w g μ v : FVec Ideal S2048x1536 .f32) : Cert.Reference15Ideal.Read.val_main_v23 (F := Ideal) w g μ v = delta w g μ v := funext fun _ => rfl
theorem ref_mom (g μ : FVec Ideal S2048x1536 .f32) : Cert.Reference15Ideal.Read.val_main_v4 (F := Ideal) g μ = mom g μ := funext fun _ => rfl
theorem ref_sqr (g v : FVec Ideal S2048x1536 .f32) : Cert.Reference15Ideal.Read.val_main_v10 (F := Ideal) g v = sqr g v := funext fun _ => rfl

end Cert.Kernel15Ideal.Val

end
-- ==== Proof.Adam16.lean ====
/- The optimiser's step for an output projection's weights: every block of rows the kernel leaves, and every entry of the reference, is the step of `Adam`. -/
module

public import proofs.«01_k».proof.Proof.Adam
public import proofs.«01_k».proof.Proof.Gen.Kernel16Ideal.Value
public import proofs.«01_k».proof.Proof.Gen.Reference16Ideal.Read
public import Idealize.ShloMosaic.Lib.Pipeline.ValueKit.Geometry
public import Idealize.ShloMosaic.Lib.Pipeline.ValueKit.Acc

@[expose] public section

noncomputable section

open Idealize.ShloMosaic Idealize.ShloMosaic.TcCoe Idealize.SL.Sem
open Idealize.ShloMosaic.Pipeline (Dat)
open Cert.Adam

namespace Cert.Kernel16Ideal.Val
open Cert.Kernel16Ideal Cert.Kernel16Ideal.Gen

variable (m : (ℓ : Loc nD τ sig) → Buf (Elt Ideal) ℓ) (c : Dev nD)

/-- The weights, their gradient and the two moments the call is given. -/
def inW : Vec Ideal S512x2048 .f32 := m ((c : Thread nD τ).loc main_arg0)
def inG : Vec Ideal S512x2048 .f32 := m ((c : Thread nD τ).loc main_arg1)
def inM : Vec Ideal S512x2048 .f32 := m ((c : Thread nD τ).loc main_arg2)
def inV : Vec Ideal S512x2048 .f32 := m ((c : Thread nD τ).loc main_arg3)

/-- The three result arrays, entry by entry. -/
def delta (w g μ v : Vec Ideal S512x2048 .f32) : Vec Ideal S512x2048 .f32 := fun i => step (w i) (g i) (μ i) (v i)
def mom (g μ : Vec Ideal S512x2048 .f32) : Vec Ideal S512x2048 .f32 := fun i => newM (g i) (μ i)
def sqr (g v : Vec Ideal S512x2048 .f32) : Vec Ideal S512x2048 .f32 := fun i => newV (g i) (v i)

/-! ## The blocks of a point: each window lies over the same rows -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)

theorem read0 (W : (b : Ref sig .tc) → Buf (Elt Ideal) ((c : Thread nD τ).loc b)) (t : Fin cfg0.N) (y : S256x2048.Idx) (x : S512x2048.Idx)
    (h0 : (x 0).val = t.val * 256 + (y 0).val) (h1 : (x 1).val = (y 1).val) :
    (((cfg0.win 0).blk t).view.read (Elt Ideal) (W (Pipeline.arrRef spec0 0)) : Vec Ideal S256x2048 .f32) y = (W main_arg0 : Vec Ideal S512x2048 .f32) x := by
  rw [View.read_apply]
  show W main_arg0 _ = W main_arg0 _
  refine congrArg (W main_arg0) (funext fun a => Fin.ext ?_)
  match a with
  | ⟨0, _⟩ => show win0_0.index t 0 * 256 + 1 * (y 0).val = (x 0).val; rw [(idx0 t).1]; omega
  | ⟨1, _⟩ => show win0_0.index t 1 * 2048 + 1 * (y 1).val = (x 1).val; rw [(idx0 t).2]; omega
theorem blk0 (t : Fin cfg0.N) (y : S256x2048.Idx) (x : S512x2048.Idx) (h0 : (x 0).val = t.val * 256 + (y 0).val) (h1 : (x 1).val = (y 1).val) :
    (iblk m c 0 t : Vec Ideal S256x2048 .f32) y = inW m c x := read0 c (V m c) t y x h0 h1

theorem read1 (W : (b : Ref sig .tc) → Buf (Elt Ideal) ((c : Thread nD τ).loc b)) (t : Fin cfg0.N) (y : S256x2048.Idx) (x : S512x2048.Idx)
    (h0 : (x 0).val = t.val * 256 + (y 0).val) (h1 : (x 1).val = (y 1).val) :
    (((cfg0.win 1).blk t).view.read (Elt Ideal) (W (Pipeline.arrRef spec0 1)) : Vec Ideal S256x2048 .f32) y = (W main_arg1 : Vec Ideal S512x2048 .f32) x := by
  rw [View.read_apply]
  show W main_arg1 _ = W main_arg1 _
  refine congrArg (W main_arg1) (funext fun a => Fin.ext ?_)
  match a with
  | ⟨0, _⟩ => show win0_1.index t 0 * 256 + 1 * (y 0).val = (x 0).val; rw [(idx1 t).1]; omega
  | ⟨1, _⟩ => show win0_1.index t 1 * 2048 + 1 * (y 1).val = (x 1).val; rw [(idx1 t).2]; omega
theorem blk1 (t : Fin cfg0.N) (y : S256x2048.Idx) (x : S512x2048.Idx) (h0 : (x 0).val = t.val * 256 + (y 0).val) (h1 : (x 1).val = (y 1).val) :
    (iblk m c 1 t : Vec Ideal S256x2048 .f32) y = inG m c x := read1 c (V m c) t y x h0 h1

theorem read2 (W : (b : Ref sig .tc) → Buf (Elt Ideal) ((c : Thread nD τ).loc b)) (t : Fin cfg0.N) (y : S256x2048.Idx) (x : S512x2048.Idx)
    (h0 : (x 0).val = t.val * 256 + (y 0).val) (h1 : (x 1).val = (y 1).val) :
    (((cfg0.win 2).blk t).view.read (Elt Ideal) (W (Pipeline.arrRef spec0 2)) : Vec Ideal S256x2048 .f32) y = (W main_arg2 : Vec Ideal S512x2048 .f32) x := by
  rw [View.read_apply]
  show W main_arg2 _ = W main_arg2 _
  refine congrArg (W main_arg2) (funext fun a => Fin.ext ?_)
  match a with
  | ⟨0, _⟩ => show win0_2.index t 0 * 256 + 1 * (y 0).val = (x 0).val; rw [(idx2 t).1]; omega
  | ⟨1, _⟩ => show win0_2.index t 1 * 2048 + 1 * (y 1).val = (x 1).val; rw [(idx2 t).2]; omega
theorem blk2 (t : Fin cfg0.N) (y : S256x2048.Idx) (x : S512x2048.Idx) (h0 : (x 0).val = t.val * 256 + (y 0).val) (h1 : (x 1).val = (y 1).val) :
    (iblk m c 2 t : Vec Ideal S256x2048 .f32) y = inM m c x := read2 c (V m c) t y x h0 h1

theorem read3 (W : (b : Ref sig .tc) → Buf (Elt Ideal) ((c : Thread nD τ).loc b)) (t : Fin cfg0.N) (y : S256x2048.Idx) (x : S512x2048.Idx)
    (h0 : (x 0).val = t.val * 256 + (y 0).val) (h1 : (x 1).val = (y 1).val) :
    (((cfg0.win 3).blk t).view.read (Elt Ideal) (W (Pipeline.arrRef spec0 3)) : Vec Ideal S256x2048 .f32) y = (W main_arg3 : Vec Ideal S512x2048 .f32) x := by
  rw [View.read_apply]
  show W main_arg3 _ = W main_arg3 _
  refine congrArg (W main_arg3) (funext fun a => Fin.ext ?_)
  match a with
  | ⟨0, _⟩ => show win0_3.index t 0 * 256 + 1 * (y 0).val = (x 0).val; rw [(idx3 t).1]; omega
  | ⟨1, _⟩ => show win0_3.index t 1 * 2048 + 1 * (y 1).val = (x 1).val; rw [(idx3 t).2]; omega
theorem blk3 (t : Fin cfg0.N) (y : S256x2048.Idx) (x : S512x2048.Idx) (h0 : (x 0).val = t.val * 256 + (y 0).val) (h1 : (x 1).val = (y 1).val) :
    (iblk m c 3 t : Vec Ideal S256x2048 .f32) y = inV m c x := read3 c (V m c) t y x h0 h1

/-! ## What a point leaves -/

section
variable (x0 x1 x2 x3 : Vec Ideal S256x2048 .f32) (y : S256x2048.Idx)
theorem out4 : out0_4 x0 x1 x2 x3 = k0_pay3 x1 x2 x3 x0 := by
  frame_out
theorem out5 : out0_5 x0 x1 x2 x3 = k0_pay1 x1 x2 := by
  frame_out
theorem out6 : out0_6 x0 x1 x2 x3 = k0_pay2 x1 x3 := by
  frame_out
theorem out7 : out0_7 x0 x1 x2 x3 = x1 := by
  frame_out
theorem pay3_apply : k0_pay3 x1 x2 x3 x0 y = step (x0 y) (x1 y) (x2 y) (x3 y) := rfl
theorem pay1_apply : k0_pay1 x1 x2 y = newM (x1 y) (x2 y) := rfl
theorem pay2_apply : k0_pay2 x1 x3 y = newV (x1 y) (x3 y) := rfl
end

/-! ## The result arrays -/

theorem tile4 (t : Fin cfg0.N) (y : S256x2048.Idx) (x : S512x2048.Idx) (h0 : (x 0).val = t.val * 256 + (y 0).val) (h1 : (x 1).val = (y 1).val) :
    ((dats m 0 c).after 4 t : Vec Ideal S256x2048 .f32) y = delta (inW m c) (inG m c) (inM m c) (inV m c) x := by
  rw [after0_4, out4]
  refine (pay3_apply _ _ _ _ y).trans ?_
  unfold delta
  rw [blk0 m c t y x h0 h1, blk1 m c t y x h0 h1, blk2 m c t y x h0 h1, blk3 m c t y x h0 h1]
theorem final4 : (dats m 0 c).arrAt 4 cfg0.N = delta (inW m c) (inG m c) (inM m c) (inV m c) := by
  refine (dats m 0 c).arrAt_eq_of_covers 4 _ (by decide +kernel) fun t hf y => ?_
  refine tile4 m c t y _ ?_ ?_
  · show win0_4.index t 0 * 256 + 1 * (y 0).val = _; rw [(idx4 t).1]; omega
  · show win0_4.index t 1 * 2048 + 1 * (y 1).val = _; rw [(idx4 t).2]; omega

theorem tile5 (t : Fin cfg0.N) (y : S256x2048.Idx) (x : S512x2048.Idx) (h0 : (x 0).val = t.val * 256 + (y 0).val) (h1 : (x 1).val = (y 1).val) :
    ((dats m 0 c).after 5 t : Vec Ideal S256x2048 .f32) y = mom (inG m c) (inM m c) x := by
  rw [after0_5, out5]
  refine (pay1_apply _ _ y).trans ?_
  unfold mom
  rw [blk1 m c t y x h0 h1, blk2 m c t y x h0 h1]
theorem final5 : (dats m 0 c).arrAt 5 cfg0.N = mom (inG m c) (inM m c) := by
  refine (dats m 0 c).arrAt_eq_of_covers 5 _ (by decide +kernel) fun t hf y => ?_
  refine tile5 m c t y _ ?_ ?_
  · show win0_5.index t 0 * 256 + 1 * (y 0).val = _; rw [(idx5 t).1]; omega
  · show win0_5.index t 1 * 2048 + 1 * (y 1).val = _; rw [(idx5 t).2]; omega

theorem tile6 (t : Fin cfg0.N) (y : S256x2048.Idx) (x : S512x2048.Idx) (h0 : (x 0).val = t.val * 256 + (y 0).val) (h1 : (x 1).val = (y 1).val) :
    ((dats m 0 c).after 6 t : Vec Ideal S256x2048 .f32) y = sqr (inG m c) (inV m c) x := by
  rw [after0_6, out6]
  refine (pay2_apply _ _ y).trans ?_
  unfold sqr
  rw [blk1 m c t y x h0 h1, blk3 m c t y x h0 h1]
theorem final6 : (dats m 0 c).arrAt 6 cfg0.N = sqr (inG m c) (inV m c) := by
  refine (dats m 0 c).arrAt_eq_of_covers 6 _ (by decide +kernel) fun t hf y => ?_
  refine tile6 m c t y _ ?_ ?_
  · show win0_6.index t 0 * 256 + 1 * (y 0).val = _; rw [(idx6 t).1]; omega
  · show win0_6.index t 1 * 2048 + 1 * (y 1).val = _; rw [(idx6 t).2]; omega

theorem tile7 (t : Fin cfg0.N) (y : S256x2048.Idx) (x : S512x2048.Idx) (h0 : (x 0).val = t.val * 256 + (y 0).val) (h1 : (x 1).val = (y 1).val) :
    ((dats m 0 c).after 7 t : Vec Ideal S256x2048 .f32) y = inG m c x := by
  rw [after0_7, out7]
  refine blk1 m c t y x h0 h1
theorem final7 : (dats m 0 c).arrAt 7 cfg0.N = inG m c := by
  refine (dats m 0 c).arrAt_eq_of_covers 7 _ (by decide +kernel) fun t hf y => ?_
  refine tile7 m c t y _ ?_ ?_
  · show win0_7.index t 0 * 256 + 1 * (y 0).val = _; rw [(idx7 t).1]; omega
  · show win0_7.index t 1 * 2048 + 1 * (y 1).val = _; rw [(idx7 t).2]; omega

/-! ## The reference's entries -/

theorem ref_delta (w g μ v : FVec Ideal S512x2048 .f32) : Cert.Reference16Ideal.Read.val_main_v23 (F := Ideal) w g μ v = delta w g μ v := funext fun _ => rfl
theorem ref_mom (g μ : FVec Ideal S512x2048 .f32) : Cert.Reference16Ideal.Read.val_main_v4 (F := Ideal) g μ = mom g μ := funext fun _ => rfl
theorem ref_sqr (g v : FVec Ideal S512x2048 .f32) : Cert.Reference16Ideal.Read.val_main_v10 (F := Ideal) g v = sqr g v := funext fun _ => rfl

end Cert.Kernel16Ideal.Val

end
-- ==== Proof.Adam17.lean ====
/- The optimiser's step for the packed small weights: every block of rows the kernel leaves, and every entry of the reference, is the step of `Adam`. -/
module

public import proofs.«01_k».proof.Proof.Adam
public import proofs.«01_k».proof.Proof.Gen.Kernel17Ideal.Value
public import proofs.«01_k».proof.Proof.Gen.Reference17Ideal.Read
public import Idealize.ShloMosaic.Lib.Pipeline.ValueKit.Geometry
public import Idealize.ShloMosaic.Lib.Pipeline.ValueKit.Acc

@[expose] public section

noncomputable section

open Idealize.ShloMosaic Idealize.ShloMosaic.TcCoe Idealize.SL.Sem
open Idealize.ShloMosaic.Pipeline (Dat)
open Cert.Adam

namespace Cert.Kernel17Ideal.Val
open Cert.Kernel17Ideal Cert.Kernel17Ideal.Gen

variable (m : (ℓ : Loc nD τ sig) → Buf (Elt Ideal) ℓ) (c : Dev nD)

/-- The weights, their gradient and the two moments the call is given. -/
def inW : Vec Ideal S1344x128 .f32 := m ((c : Thread nD τ).loc main_arg0)
def inG : Vec Ideal S1344x128 .f32 := m ((c : Thread nD τ).loc main_arg1)
def inM : Vec Ideal S1344x128 .f32 := m ((c : Thread nD τ).loc main_arg2)
def inV : Vec Ideal S1344x128 .f32 := m ((c : Thread nD τ).loc main_arg3)

/-- The three result arrays, entry by entry. -/
def delta (w g μ v : Vec Ideal S1344x128 .f32) : Vec Ideal S1344x128 .f32 := fun i => step (w i) (g i) (μ i) (v i)
def mom (g μ : Vec Ideal S1344x128 .f32) : Vec Ideal S1344x128 .f32 := fun i => newM (g i) (μ i)
def sqr (g v : Vec Ideal S1344x128 .f32) : Vec Ideal S1344x128 .f32 := fun i => newV (g i) (v i)

theorem final4 : Value.G4 (F := Ideal) (inG m c) (inM m c) (inV m c) (inW m c) = delta (inW m c) (inG m c) (inM m c) (inV m c) := funext fun _ => rfl
theorem final5 : Value.G5 (F := Ideal) (inG m c) (inM m c) = mom (inG m c) (inM m c) := funext fun _ => rfl
theorem final6 : Value.G6 (F := Ideal) (inG m c) (inV m c) = sqr (inG m c) (inV m c) := funext fun _ => rfl

/-! ## The reference's entries -/

theorem ref_delta (w g μ v : FVec Ideal S1344x128 .f32) : Cert.Reference17Ideal.Read.val_main_v23 (F := Ideal) w g μ v = delta w g μ v := funext fun _ => rfl
theorem ref_mom (g μ : FVec Ideal S1344x128 .f32) : Cert.Reference17Ideal.Read.val_main_v4 (F := Ideal) g μ = mom g μ := funext fun _ => rfl
theorem ref_sqr (g v : FVec Ideal S1344x128 .f32) : Cert.Reference17Ideal.Read.val_main_v10 (F := Ideal) g v = sqr g v := funext fun _ => rfl

end Cert.Kernel17Ideal.Val

end
-- ==== Proof.NormRow.lean ====
/- One row of a modulated norm's gradient, as the kernels and as the references compute it. -/
module

public import proofs.«01_k».proof.Proof.HeadRow

@[expose] public section

noncomputable section

open Idealize.ShloMosaic

namespace Cert.Norm
open Cert.Head

variable (x d s g p : Fin 2048 → EReal)

/-- The gradient before the modulation's scale, from the gradient `d` after it. -/
def rowD (k : Fin 2048) : EReal := d k * (Ideal.ofBits .f32 0x3F800000#32 + s k)
/-- The gradient at the normed row. -/
def rowG (k : Fin 2048) : EReal := rowD d s k * g k
/-- The gradient at the row, with the residual's gradient `p`, as the kernels compute it. -/
def rowGrad (j : Fin 2048) : EReal :=
  p j + rowRs x * (rowG d s g j - rowN x j * Ideal.div (∑ k, rowG d s g k * rowN x k) (Ideal.ofBits .f32 0x45000000#32))

/-- The gradient at the row, as the references compute it. -/
theorem grad_eq (j : Fin 2048) (a : EReal)
    (ha : a = Ideal.div ((∑ k, x k * rowG d s g k) * (Ideal.ofBits .f32 0xBF000000#32 * Ideal.div (rowRs x) (rowVar x))) (Ideal.ofBits .f32 0x45000000#32)) :
    p j + (rowG d s g j * rowRs x + x j * a + a * x j) = rowGrad x d s g p j :=
  congrArg (p j + ·) (rowGrad_eq x (rowG d s g) j a ha)

end Cert.Norm

end
-- ==== Proof.Norm18.lean ====
/- The gradient of the first layer's modulated norm: what a point computes from its 256 rows, entry by entry. -/
module

public import proofs.«01_k».proof.Proof.NormRow
public import proofs.«01_k».proof.Proof.Gen.Kernel18Ideal.Value
public import Idealize.ShloMosaic.Lib.Pointwise
public import Idealize.ShloMosaic.Lib.Pipeline.ValueKit.Geometry
public import Idealize.ShloMosaic.Lib.Pipeline.ValueKit.Acc

@[expose] public section

noncomputable section

open Idealize.ShloMosaic Idealize.ShloMosaic.TcCoe Idealize.SL.Sem
open Idealize.ShloMosaic.Pipeline (Dat)

namespace Cert.Kernel18Ideal.Val
open Cert.Kernel18Ideal Cert.Kernel18Ideal.Gen Cert.Head Cert.Norm

section Payloads
variable (x p e : FVec Ideal S256x2048 .f32) (h o : FVec Ideal S256x2048 .bf16) (g s gate a : FVec Ideal S1x2048 .f32) (ρ : Fin 256) (j : Fin 2048)

theorem zeroShift_apply : k0_pay4 (F := Ideal) (ix2 0 j) = 0 := by
  pointwise [k0_pay4]
theorem zeroScale_apply : k0_pay5 (F := Ideal) (ix2 0 j) = 0 := by
  pointwise [k0_pay5]

theorem rs_apply : k0_pay7 (F := Ideal) x (ix2 ρ 0) = rowRs (fun k => x (ix2 ρ k)) := by
  unfold rowRs rowVar
  pointwise [k0_pay7]

theorem xn_apply : k0_pay8 (F := Ideal) x (ix2 ρ j) = rowN (fun k => x (ix2 ρ k)) j := by
  unfold rowN
  rw [← rs_apply]
  unfold k0_pay8
  generalize k0_pay7 (F := Ideal) x = r
  pointwise []

/-- The shift's gradient, carried. -/
theorem shift_apply : k0_pay9 (F := Ideal) h a (ix2 0 j) = a (ix2 0 j) + ∑ ρ : Fin 256, (h (ix2 ρ j) : EReal) := by
  pointwise [k0_pay9, k0_pay6]

/-- The scale's gradient, carried. -/
theorem scale_apply : k0_pay10 (F := Ideal) x h g a (ix2 0 j) = a (ix2 0 j)
    + ∑ ρ : Fin 256, (h (ix2 ρ j) : EReal) * (rowN (fun k => x (ix2 ρ k)) j * g (ix2 0 j)) := by
  simp only [← xn_apply]
  unfold k0_pay10
  generalize k0_pay8 (F := Ideal) x = y
  pointwise [k0_pay6]

theorem scaled_apply : k0_pay1 (F := Ideal) (k0_pay6 h) s (ix2 ρ j) = rowD (fun k => h (ix2 ρ k)) (fun k => s (ix2 0 k)) j := by
  unfold rowD
  pointwise [k0_pay1, k0_pay6]

/-- The norm's weight's gradient, carried. -/
theorem weight_apply : k0_pay2 (F := Ideal) (k0_pay6 h) (k0_pay8 x) s a (ix2 0 j) = a (ix2 0 j)
    + ∑ ρ : Fin 256, rowD (fun k => h (ix2 ρ k)) (fun k => s (ix2 0 k)) j * rowN (fun k => x (ix2 ρ k)) j := by
  simp only [← scaled_apply, ← xn_apply]
  unfold k0_pay2
  generalize k0_pay1 (F := Ideal) (k0_pay6 h) s = d
  generalize k0_pay8 (F := Ideal) x = y
  pointwise []

/-- The gradient at the rows, from the point's blocks. -/
def blockDx : FVec Ideal S256x2048 .f32 := k0_pay3 (F := Ideal) (k0_pay6 h) g (k0_pay7 x) (k0_pay8 x) s p

theorem blockDx_apply : blockDx x p h g s (ix2 ρ j)
    = rowGrad (fun k => x (ix2 ρ k)) (fun k => h (ix2 ρ k)) (fun k => s (ix2 0 k)) (fun k => g (ix2 0 k)) (fun k => p (ix2 ρ k)) j := by
  unfold rowGrad rowG
  simp only [← scaled_apply, ← xn_apply]
  rw [← rs_apply]
  unfold blockDx k0_pay3
  generalize k0_pay1 (F := Ideal) (k0_pay6 h) s = d
  generalize k0_pay8 (F := Ideal) x = y
  generalize k0_pay7 (F := Ideal) x = r
  pointwise []
end Payloads

variable (m : (ℓ : Loc nD τ sig) → Buf (Elt Ideal) ℓ) (c : Dev nD)

/-- What a point leaves in its block of the rows' gradient. -/
theorem outDx (t : Fin cfg0.N) : (outsAt0 m c t.val t.isLt).1 = blockDx (iblk m c 0 t) (iblk m c 5 t) (iblk m c 1 t) (iblk m c 2 t) (iblk m c 3 t) := by
  by_cases h0 : t.val % 32 = 0
  · rw [outsAt0_A m c t h0]
    dsimp only
    frame_out
    rfl
  · rw [outsAt0_B m c t h0]
    dsimp only
    frame_out
    rfl

/-- The accumulators after the first point. -/
theorem acc_reset (t : Fin cfg0.N) (h0 : t.val % 32 = 0) :
    (outsAt0 m c t.val t.isLt).2.1 = k0_pay9 (F := Ideal) (iblk m c 1 t) (k0_pay4 (F := Ideal))
    ∧ (outsAt0 m c t.val t.isLt).2.2.1 = k0_pay10 (F := Ideal) (iblk m c 0 t) (iblk m c 1 t) (iblk m c 2 t) (k0_pay5 (F := Ideal))
    ∧ (outsAt0 m c t.val t.isLt).2.2.2 = k0_pay2 (F := Ideal) (k0_pay6 (iblk m c 1 t)) (k0_pay8 (iblk m c 0 t)) (iblk m c 3 t) (iblk m c 4 t) := by
  rw [outsAt0_A m c t h0]
  dsimp only
  refine ⟨?_, ?_, ?_⟩
  · frame_out
  · frame_out
  · frame_out

/-- The accumulators after any other point. -/
theorem acc_step (t : Fin cfg0.N) (h0 : ¬t.val % 32 = 0) :
    (outsAt0 m c t.val t.isLt).2.1 = k0_pay9 (F := Ideal) (iblk m c 1 t) (outsAt0 m c (t.val - 1) (Nat.lt_of_le_of_lt (Nat.sub_le _ _) t.isLt)).2.1
    ∧ (outsAt0 m c t.val t.isLt).2.2.1 = k0_pay10 (F := Ideal) (iblk m c 0 t) (iblk m c 1 t) (iblk m c 2 t) (outsAt0 m c (t.val - 1) (Nat.lt_of_le_of_lt (Nat.sub_le _ _) t.isLt)).2.2.1
    ∧ (outsAt0 m c t.val t.isLt).2.2.2 = k0_pay2 (F := Ideal) (k0_pay6 (iblk m c 1 t)) (k0_pay8 (iblk m c 0 t)) (iblk m c 3 t) (outsAt0 m c (t.val - 1) (Nat.lt_of_le_of_lt (Nat.sub_le _ _) t.isLt)).2.2.2 := by
  rw [outsAt0_B m c t h0]
  dsimp only
  refine ⟨?_, ?_, ?_⟩
  · frame_out
  · frame_out
  · frame_out

end Cert.Kernel18Ideal.Val

end
-- ==== Proof.Norm18Arrays.lean ====
/- The gradient of the first layer's modulated norm: the whole result arrays, from the points' blocks and the accumulators over the 32 points. -/
module

public import proofs.«01_k».proof.Proof.Norm18

@[expose] public section

noncomputable section

open Idealize.ShloMosaic Idealize.ShloMosaic.TcCoe Idealize.SL.Sem
open Idealize.ShloMosaic.Pipeline (Dat)

namespace Cert.Kernel18Ideal.Val
open Cert.Kernel18Ideal Cert.Kernel18Ideal.Gen Cert.Head Cert.Norm

/-! ## The results, of whole arrays -/

section Results
variable (x p : Vec Ideal S8192x2048 .f32) (h : Vec Ideal S8448x2048 .bf16) (o : Vec Ideal S8192x2048 .bf16) (g s gate dg : Vec Ideal S1x2048 .f32)

/-- Row `n` of an array. -/
def row (x : Vec Ideal S8192x2048 .f32) (n : Fin 8192) (k : Fin 2048) : EReal := x (ix2 n k)
/-- Row `n` of the gradient the call is given: the latent tokens' rows are the first. -/
def rowH (h : Vec Ideal S8448x2048 .bf16) (n : Fin 8192) (k : Fin 2048) : EReal := h (ix2 (⟨n.val, by omega⟩ : Fin 8448) k)
/-- A vector's entries. -/
def lane (g : Vec Ideal S1x2048 .f32) (k : Fin 2048) : EReal := g (ix2 0 k)

/-- The gradient at one row. -/
def gradAt (n : Fin 8192) (j : Fin 2048) : EReal := rowGrad (row x n) (rowH h n) (lane s) (lane g) (row p n) j
/-- The gradient at the norm's input. -/
def normDx : Vec Ideal S8192x2048 .f32 := fun i => gradAt x p h g s (i 0) (i 1)
/-- The shift's gradient. -/
def normShift : Vec Ideal S1x2048 .f32 := fun i => (∑ n : Fin 8192, rowH h n (i 1) : EReal)
/-- The scale's gradient. -/
def normScale : Vec Ideal S1x2048 .f32 := fun i => (∑ n : Fin 8192, rowH h n (i 1) * (rowN (row x n) (i 1) * lane g (i 1)) : EReal)
/-- The norm's weight's gradient, added to what there is of it. -/
def normDg : Vec Ideal S1x2048 .f32 := fun i => (lane dg (i 1) + ∑ n : Fin 8192, rowD (rowH h n) (lane s) (i 1) * rowN (row x n) (i 1) : EReal)
end Results

variable (m : (ℓ : Loc nD τ sig) → Buf (Elt Ideal) ℓ) (c : Dev nD)

/-- The arrays the call is given. -/
def inX : Vec Ideal S8192x2048 .f32 := m ((c : Thread nD τ).loc main_arg0)
def inH : Vec Ideal S8448x2048 .bf16 := m ((c : Thread nD τ).loc main_arg1)
def inG : Vec Ideal S1x2048 .f32 := m ((c : Thread nD τ).loc main_arg2)
def inS : Vec Ideal S1x2048 .f32 := m ((c : Thread nD τ).loc main_arg3)
def inDg : Vec Ideal S1x2048 .f32 := m ((c : Thread nD τ).loc main_arg4)
def inP : Vec Ideal S8192x2048 .f32 := m ((c : Thread nD τ).loc main_arg5)

theorem lt32 (t : Fin cfg0.N) : t.val < 32 := lt_of_lt_of_eq t.isLt N_0

/-- The array row of row `ρ` of point `t`'s blocks. -/
def rowOf (t : Fin cfg0.N) (ρ : Fin 256) : Fin 8192 := ⟨t.val * 256 + ρ.val, by have := lt32 t; omega⟩

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)

theorem iblk0_apply (t : Fin cfg0.N) (ρ : Fin 256) (j : Fin 2048) :
    (iblk m c 0 t : Vec Ideal S256x2048 .f32) (ix2 ρ j) = inX m c (ix2 (rowOf t ρ) j) := by
  unfold iblk
  rw [View.read_apply]
  show V m c main_arg0 _ = V m c main_arg0 _
  refine congrArg (V m c main_arg0) (funext fun a => Fin.ext ?_)
  match a with
  | ⟨0, _⟩ => show win0_0.index t 0 * 256 + 1 * ρ.val = t.val * 256 + ρ.val; rw [(idx0 t).1]; omega
  | ⟨1, _⟩ => show win0_0.index t 1 * 2048 + 1 * j.val = j.val; rw [(idx0 t).2]; omega

theorem iblk1_apply (t : Fin cfg0.N) (ρ : Fin 256) (j : Fin 2048) :
    (iblk m c 1 t : Vec Ideal S256x2048 .bf16) (ix2 ρ j) = inH m c (ix2 (⟨(rowOf t ρ).val, by have := (rowOf t ρ).isLt; omega⟩ : Fin 8448) j) := by
  unfold iblk
  rw [View.read_apply]
  show V m c main_arg1 _ = V m c main_arg1 _
  refine congrArg (V m c main_arg1) (funext fun a => Fin.ext ?_)
  match a with
  | ⟨0, _⟩ => show win0_1.index t 0 * 256 + 1 * ρ.val = t.val * 256 + ρ.val; rw [(idx1 t).1]; omega
  | ⟨1, _⟩ => show win0_1.index t 1 * 2048 + 1 * j.val = j.val; rw [(idx1 t).2]; omega

theorem iblk2_apply (t : Fin cfg0.N) (j : Fin 2048) :
    (iblk m c 2 t : Vec Ideal S1x2048 .f32) (ix2 0 j) = inG m c (ix2 0 j) := by
  unfold iblk
  rw [View.read_apply]
  show V m c main_arg2 _ = V m c main_arg2 _
  refine congrArg (V m c main_arg2) (funext fun a => Fin.ext ?_)
  match a with
  | ⟨0, _⟩ => show win0_2.index t 0 * 1 + 1 * 0 = 0; rw [(idx2 t).1]
  | ⟨1, _⟩ => show win0_2.index t 1 * 2048 + 1 * j.val = j.val; rw [(idx2 t).2]; omega

theorem iblk3_apply (t : Fin cfg0.N) (j : Fin 2048) :
    (iblk m c 3 t : Vec Ideal S1x2048 .f32) (ix2 0 j) = inS m c (ix2 0 j) := by
  unfold iblk
  rw [View.read_apply]
  show V m c main_arg3 _ = V m c main_arg3 _
  refine congrArg (V m c main_arg3) (funext fun a => Fin.ext ?_)
  match a with
  | ⟨0, _⟩ => show win0_3.index t 0 * 1 + 1 * 0 = 0; rw [(idx3 t).1]
  | ⟨1, _⟩ => show win0_3.index t 1 * 2048 + 1 * j.val = j.val; rw [(idx3 t).2]; omega

theorem iblk4_apply (t : Fin cfg0.N) (j : Fin 2048) :
    (iblk m c 4 t : Vec Ideal S1x2048 .f32) (ix2 0 j) = inDg m c (ix2 0 j) := by
  unfold iblk
  rw [View.read_apply]
  show V m c main_arg4 _ = V m c main_arg4 _
  refine congrArg (V m c main_arg4) (funext fun a => Fin.ext ?_)
  match a with
  | ⟨0, _⟩ => show win0_4.index t 0 * 1 + 1 * 0 = 0; rw [(idx4 t).1]
  | ⟨1, _⟩ => show win0_4.index t 1 * 2048 + 1 * j.val = j.val; rw [(idx4 t).2]; omega

theorem iblk5_apply (t : Fin cfg0.N) (ρ : Fin 256) (j : Fin 2048) :
    (iblk m c 5 t : Vec Ideal S256x2048 .f32) (ix2 ρ j) = inP m c (ix2 (rowOf t ρ) j) := by
  unfold iblk
  rw [View.read_apply]
  show V m c main_arg5 _ = V m c main_arg5 _
  refine congrArg (V m c main_arg5) (funext fun a => Fin.ext ?_)
  match a with
  | ⟨0, _⟩ => show win0_5.index t 0 * 256 + 1 * ρ.val = t.val * 256 + ρ.val; rw [(idx5 t).1]; omega
  | ⟨1, _⟩ => show win0_5.index t 1 * 2048 + 1 * j.val = j.val; rw [(idx5 t).2]; omega

/-- Point `t`'s blocks. -/
def blkX (t : Fin cfg0.N) : FVec Ideal S256x2048 .f32 := iblk m c 0 t
def blkH (t : Fin cfg0.N) : FVec Ideal S256x2048 .bf16 := iblk m c 1 t
def blkG (t : Fin cfg0.N) : FVec Ideal S1x2048 .f32 := iblk m c 2 t
def blkS (t : Fin cfg0.N) : FVec Ideal S1x2048 .f32 := iblk m c 3 t
def blkDg (t : Fin cfg0.N) : FVec Ideal S1x2048 .f32 := iblk m c 4 t
def blkP (t : Fin cfg0.N) : FVec Ideal S256x2048 .f32 := iblk m c 5 t

theorem blkX_row (t : Fin cfg0.N) (ρ : Fin 256) : (fun k => blkX m c t (ix2 ρ k)) = row (inX m c) (rowOf t ρ) := funext fun k => iblk0_apply m c t ρ k
theorem blkH_row (t : Fin cfg0.N) (ρ : Fin 256) : (fun k => blkH m c t (ix2 ρ k)) = rowH (inH m c) (rowOf t ρ) := funext fun k => iblk1_apply m c t ρ k
theorem blkH_at (t : Fin cfg0.N) (ρ : Fin 256) (k : Fin 2048) : blkH m c t (ix2 ρ k) = rowH (inH m c) (rowOf t ρ) k := iblk1_apply m c t ρ k
theorem blkG_lane (t : Fin cfg0.N) : (fun k => blkG m c t (ix2 0 k)) = lane (inG m c) := funext fun k => iblk2_apply m c t k
theorem blkG_at (t : Fin cfg0.N) (k : Fin 2048) : blkG m c t (ix2 0 k) = lane (inG m c) k := iblk2_apply m c t k
theorem blkS_lane (t : Fin cfg0.N) : (fun k => blkS m c t (ix2 0 k)) = lane (inS m c) := funext fun k => iblk3_apply m c t k
theorem blkP_row (t : Fin cfg0.N) (ρ : Fin 256) : (fun k => blkP m c t (ix2 ρ k)) = row (inP m c) (rowOf t ρ) := funext fun k => iblk5_apply m c t ρ k

theorem dx_apply (t : Fin cfg0.N) (ρ : Fin 256) (j : Fin 2048) :
    blockDx (blkX m c t) (blkP m c t) (blkH m c t) (blkG m c t) (blkS m c t) (ix2 ρ j)
      = gradAt (inX m c) (inP m c) (inH m c) (inG m c) (inS m c) (rowOf t ρ) j := by
  unfold gradAt
  rw [blockDx_apply, blkX_row, blkH_row, blkS_lane, blkG_lane, blkP_row]

/-! ## The accumulators -/

/-- What point number `n` adds to an accumulator: its 256 rows' terms. -/
def slab (f : Fin 8192 → EReal) (n : ℕ) : EReal :=
  if h : n < cfg0.N then ∑ ρ : Fin 256, f (rowOf ⟨n, h⟩ ρ) else 0

theorem slab_at (f : Fin 8192 → EReal) (t : Fin cfg0.N) : ∑ ρ : Fin 256, f (rowOf t ρ) = slab f t.val := by
  rw [slab, dif_pos t.isLt]

/-- A sum over the rows is the sum over the 32 points. -/
theorem sum_rows (f : Fin 8192 → EReal) :
    ∑ l : Fin 32, ∑ ρ : Fin 256, f ⟨l.val * 256 + ρ.val, by omega⟩ = ∑ n, f n := by
  rw [← Fintype.sum_prod_type']
  refine Fintype.sum_equiv (finProdFinEquiv : Fin 32 × Fin 256 ≃ Fin (32 * 256)) _ _ fun p => ?_
  obtain ⟨l, k⟩ := p
  refine congrArg f (Fin.ext ?_)
  show l.val * 256 + k.val = k.val + 256 * l.val
  omega

/-- An accumulator that starts at `z` and takes each point's rows' terms holds, after the last point, `z` and the sum over all the rows. -/
theorem total (A : (n : ℕ) → n < cfg0.N → EReal) (z : EReal) (f : Fin 8192 → EReal)
    (hr : ∀ t : Fin cfg0.N, t.val % 32 = 0 → A t.val t.isLt = z + ∑ ρ : Fin 256, f (rowOf t ρ))
    (hs : ∀ t : Fin cfg0.N, ¬t.val % 32 = 0 → A t.val t.isLt = A (t.val - 1) (Nat.lt_of_le_of_lt (Nat.sub_le _ _) t.isLt) + ∑ ρ : Fin 256, f (rowOf t ρ))
    (t : Fin cfg0.N) (ht : t.val % 32 = 31) : A t.val t.isLt = z + ∑ n, f n := by
  have e := Pipeline.eq_sum_of_reset_step A 32 z (slab f)
    (fun t h0 => (hr t h0).trans (congrArg (z + ·) (slab_at f t)))
    (fun t h0 => (hs t h0).trans (congrArg (_ + ·) (slab_at f t))) t
  have bt := lt32 t
  have hz : 32 * (t.val / 32) = 0 := by omega
  rw [e, ht, Finset.sum_range, ← sum_rows]
  refine congrArg (z + ·) (Finset.sum_congr rfl fun l _ => ?_)
  have hl : 32 * (t.val / 32) + l.val < cfg0.N := lt_of_lt_of_eq (by omega : _ < 32) N_0.symm
  refine (dif_pos hl).trans (Finset.sum_congr rfl fun ρ _ => congrArg f (Fin.ext ?_))
  simp only [rowOf, hz, zero_add]

theorem accShift (t : Fin cfg0.N) (ht : t.val % 32 = 31) (j : Fin 2048) :
    ((outsAt0 m c t.val t.isLt).2.1 : FVec Ideal S1x2048 .f32) (ix2 0 j) = normShift (inH m c) (ix2 0 j) :=
  (total (fun n h => ((outsAt0 m c n h).2.1 : FVec Ideal S1x2048 .f32) (ix2 0 j)) (0)
    (fun n => rowH (inH m c) n j)
    (fun t h0 => by
      simp only [(acc_reset m c t h0).1]
      refine (shift_apply (blkH m c t) _ j).trans (congrArg₂ (· + ·) (zeroShift_apply j) ?_)
      simp only [blkH_at])
    (fun t h0 => by
      simp only [(acc_step m c t h0).1]
      refine (shift_apply (blkH m c t) _ j).trans (congrArg₂ (· + ·) rfl ?_)
      simp only [blkH_at]) t ht).trans (zero_add _)

theorem accScale (t : Fin cfg0.N) (ht : t.val % 32 = 31) (j : Fin 2048) :
    ((outsAt0 m c t.val t.isLt).2.2.1 : FVec Ideal S1x2048 .f32) (ix2 0 j) = normScale (inX m c) (inH m c) (inG m c) (ix2 0 j) :=
  (total (fun n h => ((outsAt0 m c n h).2.2.1 : FVec Ideal S1x2048 .f32) (ix2 0 j)) (0)
    (fun n => rowH (inH m c) n j * (rowN (row (inX m c) n) j * lane (inG m c) j))
    (fun t h0 => by
      simp only [(acc_reset m c t h0).2.1]
      refine (scale_apply (blkX m c t) (blkH m c t) (blkG m c t) _ j).trans (congrArg₂ (· + ·) (zeroScale_apply j) ?_)
      simp only [blkX_row, blkH_at, blkG_at])
    (fun t h0 => by
      simp only [(acc_step m c t h0).2.1]
      refine (scale_apply (blkX m c t) (blkH m c t) (blkG m c t) _ j).trans (congrArg₂ (· + ·) rfl ?_)
      simp only [blkX_row, blkH_at, blkG_at]) t ht).trans (zero_add _)

theorem accDg (t : Fin cfg0.N) (ht : t.val % 32 = 31) (j : Fin 2048) :
    ((outsAt0 m c t.val t.isLt).2.2.2 : FVec Ideal S1x2048 .f32) (ix2 0 j) = normDg (inX m c) (inH m c) (inS m c) (inDg m c) (ix2 0 j) :=
  (total (fun n h => ((outsAt0 m c n h).2.2.2 : FVec Ideal S1x2048 .f32) (ix2 0 j)) (lane (inDg m c) j)
    (fun n => rowD (rowH (inH m c) n) (lane (inS m c)) j * rowN (row (inX m c) n) j)
    (fun t h0 => by
      simp only [(acc_reset m c t h0).2.2]
      refine (weight_apply (blkX m c t) (blkH m c t) (blkS m c t) _ j).trans (congrArg₂ (· + ·) (iblk4_apply m c t j) ?_)
      simp only [blkX_row, blkH_row, blkS_lane])
    (fun t h0 => by
      simp only [(acc_step m c t h0).2.2]
      refine (weight_apply (blkX m c t) (blkH m c t) (blkS m c t) _ j).trans (congrArg₂ (· + ·) rfl ?_)
      simp only [blkX_row, blkH_row, blkS_lane]) t ht)

/-! ## The result arrays -/

theorem emb6 (t : Fin cfg0.N) (ρ : Fin 256) (j : Fin 2048) : ((cfg0.win 6).blk t).view.emb (ix2 ρ j : S256x2048.Idx) = (ix2 (rowOf t ρ) j : S8192x2048.Idx) :=
  funext fun a => Fin.ext (by
    match a with
    | ⟨0, _⟩ => show win0_6.index t 0 * 256 + 1 * ρ.val = t.val * 256 + ρ.val; rw [(idx6 t).1]; omega
    | ⟨1, _⟩ => show win0_6.index t 1 * 2048 + 1 * j.val = j.val; rw [(idx6 t).2]; omega)

theorem emb7 (t : Fin cfg0.N) (j : Fin 2048) : ((cfg0.win 7).blk t).view.emb (ix2 0 j : S1x2048.Idx) = (ix2 0 j : S1x2048.Idx) :=
  funext fun a => Fin.ext (by
    match a with
    | ⟨0, _⟩ => show win0_7.index t 0 * 1 + 1 * 0 = 0; rw [(idx7 t).1]
    | ⟨1, _⟩ => show win0_7.index t 1 * 2048 + 1 * j.val = j.val; rw [(idx7 t).2]; omega)

theorem emb8 (t : Fin cfg0.N) (j : Fin 2048) : ((cfg0.win 8).blk t).view.emb (ix2 0 j : S1x2048.Idx) = (ix2 0 j : S1x2048.Idx) :=
  funext fun a => Fin.ext (by
    match a with
    | ⟨0, _⟩ => show win0_8.index t 0 * 1 + 1 * 0 = 0; rw [(idx8 t).1]
    | ⟨1, _⟩ => show win0_8.index t 1 * 2048 + 1 * j.val = j.val; rw [(idx8 t).2]; omega)

theorem emb9 (t : Fin cfg0.N) (j : Fin 2048) : ((cfg0.win 9).blk t).view.emb (ix2 0 j : S1x2048.Idx) = (ix2 0 j : S1x2048.Idx) :=
  funext fun a => Fin.ext (by
    match a with
    | ⟨0, _⟩ => show win0_9.index t 0 * 1 + 1 * 0 = 0; rw [(idx9 t).1]
    | ⟨1, _⟩ => show win0_9.index t 1 * 2048 + 1 * j.val = j.val; rw [(idx9 t).2]; omega)

theorem eq_block (y : S256x2048.Idx) : y = ix2 (n0 := 256) (n1 := 2048) (y 0) (y 1) := funext fun a => by match a with | ⟨0, _⟩ => rfl | ⟨1, _⟩ => rfl
theorem eq_lane (y : S1x2048.Idx) : y = ix2 (n0 := 1) (n1 := 2048) 0 (y 1) := funext fun a => by
  match a with
  | ⟨0, _⟩ => exact Subsingleton.elim (α := Fin 1) _ _
  | ⟨1, _⟩ => rfl

theorem blockDx_eq (t : Fin cfg0.N) (y : S256x2048.Idx) :
    ((outsAt0 m c t.val t.isLt).1 : FVec Ideal S256x2048 .f32) y = normDx (inX m c) (inP m c) (inH m c) (inG m c) (inS m c) (((cfg0.win 6).blk t).view.emb y : S8192x2048.Idx) := by
  obtain ⟨ρ, j, rfl⟩ : ∃ ρ j, y = ix2 ρ j := ⟨y 0, y 1, eq_block y⟩
  refine (congrFun (outDx m c t) (ix2 ρ j)).trans ((dx_apply m c t ρ j).trans ?_)
  exact (congrArg (normDx (inX m c) (inP m c) (inH m c) (inG m c) (inS m c)) (emb6 t ρ j)).symm

theorem finalDx : (dats m 0 c).arrAt 6 cfg0.N = normDx (inX m c) (inP m c) (inH m c) (inG m c) (inS m c) := by
  refine (dats m 0 c).arrAt_eq_of_covers 6 _ (by decide +kernel) fun t hf y => ?_
  rw [after0_6]
  exact blockDx_eq m c t y

theorem blockShift (t : Fin cfg0.N) (ht : t.val % 32 = 31) (y : S1x2048.Idx) :
    ((outsAt0 m c t.val t.isLt).2.1 : FVec Ideal S1x2048 .f32) y = normShift (inH m c) (((cfg0.win 7).blk t).view.emb y : S1x2048.Idx) := by
  obtain ⟨j, rfl⟩ : ∃ j, y = ix2 0 j := ⟨y 1, eq_lane y⟩
  exact (accShift m c t ht j).trans (congrArg (normShift (inH m c)) (emb7 t j)).symm

theorem finalShift : (dats m 0 c).arrAt 7 cfg0.N = normShift (inH m c) := by
  refine (dats m 0 c).arrAt_eq_of_covers 7 _ (by decide +kernel) fun t hf y => ?_
  rw [after0_7]
  exact blockShift m c t ((flush0_7 t).mp hf) y

theorem blockScale (t : Fin cfg0.N) (ht : t.val % 32 = 31) (y : S1x2048.Idx) :
    ((outsAt0 m c t.val t.isLt).2.2.1 : FVec Ideal S1x2048 .f32) y = normScale (inX m c) (inH m c) (inG m c) (((cfg0.win 8).blk t).view.emb y : S1x2048.Idx) := by
  obtain ⟨j, rfl⟩ : ∃ j, y = ix2 0 j := ⟨y 1, eq_lane y⟩
  exact (accScale m c t ht j).trans (congrArg (normScale (inX m c) (inH m c) (inG m c)) (emb8 t j)).symm

theorem finalScale : (dats m 0 c).arrAt 8 cfg0.N = normScale (inX m c) (inH m c) (inG m c) := by
  refine (dats m 0 c).arrAt_eq_of_covers 8 _ (by decide +kernel) fun t hf y => ?_
  rw [after0_8]
  exact blockScale m c t ((flush0_8 t).mp hf) y

theorem blockDg (t : Fin cfg0.N) (ht : t.val % 32 = 31) (y : S1x2048.Idx) :
    ((outsAt0 m c t.val t.isLt).2.2.2 : FVec Ideal S1x2048 .f32) y = normDg (inX m c) (inH m c) (inS m c) (inDg m c) (((cfg0.win 9).blk t).view.emb y : S1x2048.Idx) := by
  obtain ⟨j, rfl⟩ : ∃ j, y = ix2 0 j := ⟨y 1, eq_lane y⟩
  exact (accDg m c t ht j).trans (congrArg (normDg (inX m c) (inH m c) (inS m c) (inDg m c)) (emb9 t j)).symm

theorem finalDg : (dats m 0 c).arrAt 9 cfg0.N = normDg (inX m c) (inH m c) (inS m c) (inDg m c) := by
  refine (dats m 0 c).arrAt_eq_of_covers 9 _ (by decide +kernel) fun t hf y => ?_
  rw [after0_9]
  exact blockDg m c t ((flush0_9 t).mp hf) y

end Cert.Kernel18Ideal.Val

end
-- ==== Proof.Norm18Ref.lean ====
/- The reference of the first layer's modulated norm's gradient: its results are those of the whole arrays. -/
module

public import proofs.«01_k».proof.Proof.Norm18Arrays
public import proofs.«01_k».proof.Proof.Gen.Reference18Ideal.Read
public import Idealize.ShloMosaic.Lib.Tactic.CleanTypes
public import Idealize.ShloMosaic.Lib.Pointwise

@[expose] public section

noncomputable section

open Idealize.ShloMosaic Idealize.ShloMosaic.TcCoe Idealize.SL.Sem

namespace Cert.Reference18Ideal.Val
open Cert.Reference18Ideal Cert.Reference18Ideal.Gen Cert.Reference18Ideal.Read Cert.Head Cert.Norm
open Cert.Kernel18Ideal.Val (row rowH lane gradAt normDx normShift normScale normDg eq_lane)

variable (x p : FVec Ideal S8192x2048 .f32) (h : FVec Ideal S8448x2048 .bf16) (o : FVec Ideal S8192x2048 .bf16) (g s gate dg : FVec Ideal S1x2048 .f32)
  (n : Fin 8192) (j : Fin 2048)

theorem v7_apply : val_main_v7 (F := Ideal) x (ix2 n 0) = rowVar (row x n) := by
  unfold rowVar row
  unfold val_main_v7 val_main_v6 val_main_v5 val_main_v4 val_main_v3 val_main_v2 val_main_v1 val_main_cst_0 val_main_cst_1 val_main_cst_2
  clean_types
  pointwise []

theorem v8_apply : val_main_v8 (F := Ideal) x (ix2 n 0) = rowRs (row x n) := by
  unfold rowRs
  rw [← v7_apply]
  unfold val_main_v8
  generalize val_main_v7 (F := Ideal) x = v
  clean_types
  pointwise []

theorem v11_apply : val_main_v11 (F := Ideal) x (ix2 n 0) = Ideal.ofBits .f32 0xBF000000#32 * Ideal.div (rowRs (row x n)) (rowVar (row x n)) := by
  rw [← v8_apply, ← v7_apply]
  unfold val_main_v11 val_main_v10 val_main_v9 val_main_cst_3
  generalize val_main_v7 (F := Ideal) x = v
  generalize val_main_v8 (F := Ideal) x = r
  clean_types
  pointwise []

theorem v13_apply : val_main_v13 (F := Ideal) x (ix2 n j) = rowN (row x n) j := by
  unfold rowN
  rw [← v8_apply]
  unfold val_main_v13 val_main_v12 row
  generalize val_main_v8 (F := Ideal) x = r
  clean_types
  pointwise []

theorem v15_apply : val_main_v15 (F := Ideal) x g (ix2 n j) = rowN (row x n) j * lane g j := by
  rw [← v13_apply]
  unfold val_main_v15 val_main_v14 lane
  generalize val_main_v13 (F := Ideal) x = r
  clean_types
  pointwise []

theorem v23_apply : val_main_v23 (F := Ideal) h (ix2 n j) = rowH h n j := by
  unfold val_main_v23 val_main_v22 rowH
  clean_types
  pointwise []

theorem v25_apply : val_main_v25 (F := Ideal) h (ix2 0 j) = ∑ n : Fin 8192, rowH h n j := by
  simp only [← v23_apply]
  unfold val_main_v25 val_main_v24 val_main_cst_5
  generalize val_main_v23 (F := Ideal) h = d
  clean_types
  pointwise []

theorem v28_apply : val_main_v28 (F := Ideal) x h g (ix2 0 j) = ∑ n : Fin 8192, rowH h n j * (rowN (row x n) j * lane g j) := by
  simp only [← v23_apply, ← v15_apply]
  unfold val_main_v28 val_main_v27 val_main_v26 val_main_cst_6
  generalize val_main_v23 (F := Ideal) h = d
  generalize val_main_v15 (F := Ideal) x g = y
  clean_types
  pointwise []
  exact Finset.sum_congr rfl fun n _ => mul_comm _ _

theorem v30_apply : val_main_v30 (F := Ideal) h s (ix2 n j) = rowD (rowH h n) (lane s) j := by
  unfold rowD
  rw [← v23_apply]
  unfold val_main_v30 val_main_v29 val_main_v17 val_main_v16 val_main_cst_4 lane
  generalize val_main_v23 (F := Ideal) h = d
  clean_types
  pointwise []

theorem v33_apply : val_main_v33 (F := Ideal) x h s (ix2 0 j) = ∑ n : Fin 8192, rowD (rowH h n) (lane s) j * rowN (row x n) j := by
  simp only [← v30_apply, ← v13_apply]
  unfold val_main_v33 val_main_v32 val_main_v31 val_main_cst_7
  generalize val_main_v30 (F := Ideal) h s = d
  generalize val_main_v13 (F := Ideal) x = y
  clean_types
  pointwise []
  exact Finset.sum_congr rfl fun n _ => mul_comm _ _

theorem v35_apply : val_main_v35 (F := Ideal) h g s (ix2 n j) = rowG (rowH h n) (lane s) (lane g) j := by
  unfold rowG
  rw [← v30_apply]
  unfold val_main_v35 val_main_v34 lane
  generalize val_main_v30 (F := Ideal) h s = d
  clean_types
  pointwise []

theorem v45_apply : val_main_v45 (F := Ideal) x h g s (ix2 n j)
    = Ideal.div ((∑ k, row x n k * rowG (rowH h n) (lane s) (lane g) k)
        * (Ideal.ofBits .f32 0xBF000000#32 * Ideal.div (rowRs (row x n)) (rowVar (row x n)))) (Ideal.ofBits .f32 0x45000000#32) := by
  simp only [← v35_apply]
  rw [← v11_apply]
  unfold row
  unfold val_main_v45 val_main_v44 val_main_v43 val_main_v42 val_main_v41 val_main_v38 val_main_v37 val_main_v36 val_main_cst_8 val_main_cst_9 val_main_cst_10
  generalize val_main_v35 (F := Ideal) h g s = d
  generalize val_main_v11 (F := Ideal) x = r
  clean_types
  pointwise []
  exact Fin.sum_univ_one _

theorem v50_apply : val_main_v50 (F := Ideal) x h g s p (ix2 n j) = gradAt x p h g s n j := by
  unfold gradAt
  rw [← grad_eq _ _ _ _ _ j _ (v45_apply x h g s n j), ← v35_apply, ← v8_apply]
  unfold row
  unfold val_main_v50 val_main_v49 val_main_v48 val_main_v47 val_main_v46 val_main_v40 val_main_v39
  generalize val_main_v35 (F := Ideal) h g s = d
  generalize val_main_v8 (F := Ideal) x = r
  generalize val_main_v45 (F := Ideal) x h g s = a
  clean_types
  pointwise []

theorem v51_apply : val_main_v51 (F := Ideal) x h s dg (ix2 0 j) = lane dg j + ∑ n : Fin 8192, rowD (rowH h n) (lane s) j * rowN (row x n) j := by
  rw [← v33_apply]
  unfold val_main_v51 lane
  generalize val_main_v33 (F := Ideal) x h s = d
  clean_types
  pointwise []

/-! ## The whole arrays -/

theorem dx_eq : val_main_v50 (F := Ideal) x h g s p = normDx x p h g s := funext fun i => by
  obtain ⟨n, j, rfl⟩ : ∃ n j, i = ix2 n j := ⟨i 0, i 1, eq_ix2 i⟩
  exact v50_apply x p h g s n j

theorem shift_eq : val_main_v25 (F := Ideal) h = normShift h := funext fun i => by
  obtain ⟨j, rfl⟩ : ∃ j, i = ix2 0 j := ⟨i 1, eq_lane i⟩
  exact v25_apply h j

theorem scale_eq : val_main_v28 (F := Ideal) x h g = normScale x h g := funext fun i => by
  obtain ⟨j, rfl⟩ : ∃ j, i = ix2 0 j := ⟨i 1, eq_lane i⟩
  exact v28_apply x h g j

theorem dg_eq : val_main_v51 (F := Ideal) x h s dg = normDg x h s dg := funext fun i => by
  obtain ⟨j, rfl⟩ : ∃ j, i = ix2 0 j := ⟨i 1, eq_lane i⟩
  exact v51_apply x h s dg j

end Cert.Reference18Ideal.Val

end
-- ==== Proof.Norm19.lean ====
/- The gradient of the second layer's modulated norm: what a point computes from its 256 rows, entry by entry. -/
module

public import proofs.«01_k».proof.Proof.NormRow
public import proofs.«01_k».proof.Proof.Gen.Kernel19Ideal.Value
public import Idealize.ShloMosaic.Lib.Pointwise
public import Idealize.ShloMosaic.Lib.Pipeline.ValueKit.Geometry
public import Idealize.ShloMosaic.Lib.Pipeline.ValueKit.Acc

@[expose] public section

noncomputable section

open Idealize.ShloMosaic Idealize.ShloMosaic.TcCoe Idealize.SL.Sem
open Idealize.ShloMosaic.Pipeline (Dat)

namespace Cert.Kernel19Ideal.Val
open Cert.Kernel19Ideal Cert.Kernel19Ideal.Gen Cert.Head Cert.Norm

section Payloads
variable (x p e : FVec Ideal S256x2048 .f32) (h o : FVec Ideal S256x2048 .bf16) (g s gate a : FVec Ideal S1x2048 .f32) (ρ : Fin 256) (j : Fin 2048)

theorem zeroShift_apply : k0_pay2 (F := Ideal) (ix2 0 j) = 0 := by
  pointwise [k0_pay2]
theorem zeroScale_apply : k0_pay3 (F := Ideal) (ix2 0 j) = 0 := by
  pointwise [k0_pay3]
theorem zeroGate_apply : k0_pay4 (F := Ideal) (ix2 0 j) = 0 := by
  pointwise [k0_pay4]

theorem rs_apply : k0_pay6 (F := Ideal) x (ix2 ρ 0) = rowRs (fun k => x (ix2 ρ k)) := by
  unfold rowRs rowVar
  pointwise [k0_pay6]

theorem xn_apply : k0_pay7 (F := Ideal) x (ix2 ρ j) = rowN (fun k => x (ix2 ρ k)) j := by
  unfold rowN
  rw [← rs_apply]
  unfold k0_pay7
  generalize k0_pay6 (F := Ideal) x = r
  pointwise []

/-- The shift's gradient, carried. -/
theorem shift_apply : k0_pay8 (F := Ideal) h a (ix2 0 j) = a (ix2 0 j) + ∑ ρ : Fin 256, (h (ix2 ρ j) : EReal) := by
  pointwise [k0_pay8, k0_pay5]

/-- The scale's gradient, carried. -/
theorem scale_apply : k0_pay9 (F := Ideal) x h g a (ix2 0 j) = a (ix2 0 j)
    + ∑ ρ : Fin 256, (h (ix2 ρ j) : EReal) * (rowN (fun k => x (ix2 ρ k)) j * g (ix2 0 j)) := by
  simp only [← xn_apply]
  unfold k0_pay9
  generalize k0_pay7 (F := Ideal) x = y
  pointwise [k0_pay5]

theorem scaled_apply : k0_pay10 (F := Ideal) (k0_pay5 h) s (ix2 ρ j) = rowD (fun k => h (ix2 ρ k)) (fun k => s (ix2 0 k)) j := by
  unfold rowD
  pointwise [k0_pay10, k0_pay5]

/-- The norm's weight's gradient, carried. -/
theorem weight_apply : k0_pay11 (F := Ideal) (k0_pay5 h) (k0_pay7 x) s a (ix2 0 j) = a (ix2 0 j)
    + ∑ ρ : Fin 256, rowD (fun k => h (ix2 ρ k)) (fun k => s (ix2 0 k)) j * rowN (fun k => x (ix2 ρ k)) j := by
  simp only [← scaled_apply, ← xn_apply]
  unfold k0_pay11
  generalize k0_pay10 (F := Ideal) (k0_pay5 h) s = d
  generalize k0_pay7 (F := Ideal) x = y
  pointwise []

/-- The gradient at the rows, from the point's blocks. -/
def blockDx : FVec Ideal S256x2048 .f32 := k0_pay12 (F := Ideal) (k0_pay5 h) g (k0_pay6 x) (k0_pay7 x) s p

theorem blockDx_apply : blockDx x p h g s (ix2 ρ j)
    = rowGrad (fun k => x (ix2 ρ k)) (fun k => h (ix2 ρ k)) (fun k => s (ix2 0 k)) (fun k => g (ix2 0 k)) (fun k => p (ix2 ρ k)) j := by
  unfold rowGrad rowG
  simp only [← scaled_apply, ← xn_apply]
  rw [← rs_apply]
  unfold blockDx k0_pay12
  generalize k0_pay10 (F := Ideal) (k0_pay5 h) s = d
  generalize k0_pay7 (F := Ideal) x = y
  generalize k0_pay6 (F := Ideal) x = r
  pointwise []

/-- The gated output's gradient, from the point's blocks. -/
def blockDo : FVec Ideal S256x2048 .bf16 := k0_pay13 (F := Ideal) (k0_pay5 h) g (k0_pay6 x) (k0_pay7 x) s p gate

theorem blockDo_apply : blockDo x p h g s gate (ix2 ρ j) = gate (ix2 0 j) * blockDx x p h g s (ix2 ρ j) := by
  unfold blockDo k0_pay13 blockDx
  generalize k0_pay12 (F := Ideal) (k0_pay5 h) g (k0_pay6 x) (k0_pay7 x) s p = d
  pointwise []

/-- The gate's gradient, carried. -/
theorem gate_apply : k0_pay1 (F := Ideal) (k0_pay14 a) (k0_pay15 (k0_pay5 h) g (k0_pay6 x) (k0_pay7 x) s p o) (ix2 0 j)
    = a (ix2 0 j) + ∑ ρ : Fin 256, blockDx x p h g s (ix2 ρ j) * o (ix2 ρ j) := by
  unfold k0_pay1 k0_pay14 k0_pay15 blockDx
  generalize k0_pay12 (F := Ideal) (k0_pay5 h) g (k0_pay6 x) (k0_pay7 x) s p = d
  pointwise []
end Payloads

variable (m : (ℓ : Loc nD τ sig) → Buf (Elt Ideal) ℓ) (c : Dev nD)

/-- What a point leaves in its block of the rows' gradient. -/
theorem outDx (t : Fin cfg0.N) : (outsAt0 m c t.val t.isLt).1 = blockDx (iblk m c 0 t) (iblk m c 5 t) (iblk m c 1 t) (iblk m c 2 t) (iblk m c 3 t) := by
  by_cases h0 : t.val % 32 = 0
  · rw [outsAt0_A m c t h0]
    dsimp only
    frame_out
    rfl
  · rw [outsAt0_B m c t h0]
    dsimp only
    frame_out
    rfl

/-- What a point leaves in its block of the gated output's gradient. -/
theorem outDo (t : Fin cfg0.N) : (outsAt0 m c t.val t.isLt).2.1 = blockDo (iblk m c 0 t) (iblk m c 5 t) (iblk m c 1 t) (iblk m c 2 t) (iblk m c 3 t) (iblk m c 7 t) := by
  by_cases h0 : t.val % 32 = 0
  · rw [outsAt0_A m c t h0]
    dsimp only
    frame_out
    rfl
  · rw [outsAt0_B m c t h0]
    dsimp only
    frame_out
    rfl

/-- The accumulators after the first point. -/
theorem acc_reset (t : Fin cfg0.N) (h0 : t.val % 32 = 0) :
    (outsAt0 m c t.val t.isLt).2.2.1 = k0_pay8 (F := Ideal) (iblk m c 1 t) (k0_pay2 (F := Ideal))
    ∧ (outsAt0 m c t.val t.isLt).2.2.2.1 = k0_pay9 (F := Ideal) (iblk m c 0 t) (iblk m c 1 t) (iblk m c 2 t) (k0_pay3 (F := Ideal))
    ∧ (outsAt0 m c t.val t.isLt).2.2.2.2.1 = k0_pay11 (F := Ideal) (k0_pay5 (iblk m c 1 t)) (k0_pay7 (iblk m c 0 t)) (iblk m c 3 t) (iblk m c 4 t)
    ∧ (outsAt0 m c t.val t.isLt).2.2.2.2.2 = k0_pay1 (F := Ideal) (k0_pay14 (k0_pay4 (F := Ideal))) (k0_pay15 (k0_pay5 (iblk m c 1 t)) (iblk m c 2 t) (k0_pay6 (iblk m c 0 t)) (k0_pay7 (iblk m c 0 t)) (iblk m c 3 t) (iblk m c 5 t) (iblk m c 6 t)) := by
  rw [outsAt0_A m c t h0]
  dsimp only
  refine ⟨?_, ?_, ?_, ?_⟩
  · frame_out
  · frame_out
  · frame_out
  · frame_out

/-- The accumulators after any other point. -/
theorem acc_step (t : Fin cfg0.N) (h0 : ¬t.val % 32 = 0) :
    (outsAt0 m c t.val t.isLt).2.2.1 = k0_pay8 (F := Ideal) (iblk m c 1 t) (outsAt0 m c (t.val - 1) (Nat.lt_of_le_of_lt (Nat.sub_le _ _) t.isLt)).2.2.1
    ∧ (outsAt0 m c t.val t.isLt).2.2.2.1 = k0_pay9 (F := Ideal) (iblk m c 0 t) (iblk m c 1 t) (iblk m c 2 t) (outsAt0 m c (t.val - 1) (Nat.lt_of_le_of_lt (Nat.sub_le _ _) t.isLt)).2.2.2.1
    ∧ (outsAt0 m c t.val t.isLt).2.2.2.2.1 = k0_pay11 (F := Ideal) (k0_pay5 (iblk m c 1 t)) (k0_pay7 (iblk m c 0 t)) (iblk m c 3 t) (outsAt0 m c (t.val - 1) (Nat.lt_of_le_of_lt (Nat.sub_le _ _) t.isLt)).2.2.2.2.1
    ∧ (outsAt0 m c t.val t.isLt).2.2.2.2.2 = k0_pay1 (F := Ideal) (k0_pay14 (outsAt0 m c (t.val - 1) (Nat.lt_of_le_of_lt (Nat.sub_le _ _) t.isLt)).2.2.2.2.2) (k0_pay15 (k0_pay5 (iblk m c 1 t)) (iblk m c 2 t) (k0_pay6 (iblk m c 0 t)) (k0_pay7 (iblk m c 0 t)) (iblk m c 3 t) (iblk m c 5 t) (iblk m c 6 t)) := by
  rw [outsAt0_B m c t h0]
  dsimp only
  refine ⟨?_, ?_, ?_, ?_⟩
  · frame_out
  · frame_out
  · frame_out
  · frame_out

end Cert.Kernel19Ideal.Val

end
-- ==== Proof.Norm19Arrays.lean ====
/- The gradient of the second layer's modulated norm: the whole result arrays, from the points' blocks and the accumulators over the 32 points. -/
module

public import proofs.«01_k».proof.Proof.Norm19

@[expose] public section

noncomputable section

open Idealize.ShloMosaic Idealize.ShloMosaic.TcCoe Idealize.SL.Sem
open Idealize.ShloMosaic.Pipeline (Dat)

namespace Cert.Kernel19Ideal.Val
open Cert.Kernel19Ideal Cert.Kernel19Ideal.Gen Cert.Head Cert.Norm

/-! ## The results, of whole arrays -/

section Results
variable (x p : Vec Ideal S8192x2048 .f32) (h : Vec Ideal S8192x2048 .bf16) (o : Vec Ideal S8192x2048 .bf16) (g s gate dg : Vec Ideal S1x2048 .f32)

/-- Row `n` of an array. -/
def row (x : Vec Ideal S8192x2048 .f32) (n : Fin 8192) (k : Fin 2048) : EReal := x (ix2 n k)
/-- Row `n` of the gradient the call is given. -/
def rowH (h : Vec Ideal S8192x2048 .bf16) (n : Fin 8192) (k : Fin 2048) : EReal := h (ix2 n k)
/-- A vector's entries. -/
def lane (g : Vec Ideal S1x2048 .f32) (k : Fin 2048) : EReal := g (ix2 0 k)

/-- The gradient at one row. -/
def gradAt (n : Fin 8192) (j : Fin 2048) : EReal := rowGrad (row x n) (rowH h n) (lane s) (lane g) (row p n) j
/-- The gradient at the norm's input. -/
def normDx : Vec Ideal S8192x2048 .f32 := fun i => gradAt x p h g s (i 0) (i 1)
/-- The gradient at the gated output. -/
def normDo : Vec Ideal S8192x2048 .bf16 := fun i => (lane gate (i 1) * gradAt x p h g s (i 0) (i 1) : EReal)
/-- The shift's gradient. -/
def normShift : Vec Ideal S1x2048 .f32 := fun i => (∑ n : Fin 8192, rowH h n (i 1) : EReal)
/-- The scale's gradient. -/
def normScale : Vec Ideal S1x2048 .f32 := fun i => (∑ n : Fin 8192, rowH h n (i 1) * (rowN (row x n) (i 1) * lane g (i 1)) : EReal)
/-- The norm's weight's gradient, added to what there is of it. -/
def normDg : Vec Ideal S1x2048 .f32 := fun i => (lane dg (i 1) + ∑ n : Fin 8192, rowD (rowH h n) (lane s) (i 1) * rowN (row x n) (i 1) : EReal)
/-- The gate's gradient. -/
def normGate : Vec Ideal S1x2048 .f32 := fun i => (∑ n : Fin 8192, gradAt x p h g s n (i 1) * o (ix2 n (i 1)) : EReal)
end Results

variable (m : (ℓ : Loc nD τ sig) → Buf (Elt Ideal) ℓ) (c : Dev nD)

/-- The arrays the call is given. -/
def inX : Vec Ideal S8192x2048 .f32 := m ((c : Thread nD τ).loc main_arg0)
def inH : Vec Ideal S8192x2048 .bf16 := m ((c : Thread nD τ).loc main_arg1)
def inG : Vec Ideal S1x2048 .f32 := m ((c : Thread nD τ).loc main_arg2)
def inS : Vec Ideal S1x2048 .f32 := m ((c : Thread nD τ).loc main_arg3)
def inDg : Vec Ideal S1x2048 .f32 := m ((c : Thread nD τ).loc main_arg4)
def inP : Vec Ideal S8192x2048 .f32 := m ((c : Thread nD τ).loc main_arg5)
def inO : Vec Ideal S8192x2048 .bf16 := m ((c : Thread nD τ).loc main_arg6)
def inGate : Vec Ideal S1x2048 .f32 := m ((c : Thread nD τ).loc main_arg7)

theorem lt32 (t : Fin cfg0.N) : t.val < 32 := lt_of_lt_of_eq t.isLt N_0

/-- The array row of row `ρ` of point `t`'s blocks. -/
def rowOf (t : Fin cfg0.N) (ρ : Fin 256) : Fin 8192 := ⟨t.val * 256 + ρ.val, by have := lt32 t; omega⟩

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem idx9 : ∀ t : Fin cfg0.N, win0_9.index t 0 = t.val ∧ win0_9.index t 1 = 0 :=
  (by decide +kernel : ∀ t : Fin grid0.N, win0_9.index t 0 = t.val ∧ win0_9.index t 1 = 0)
theorem idx10 : ∀ t : Fin cfg0.N, win0_10.index t 0 = 0 ∧ win0_10.index t 1 = 0 :=
  (by decide +kernel : ∀ t : Fin grid0.N, win0_10.index t 0 = 0 ∧ win0_10.index t 1 = 0)
theorem idx11 : ∀ t : Fin cfg0.N, win0_11.index t 0 = 0 ∧ win0_11.index t 1 = 0 :=
  (by decide +kernel : ∀ t : Fin grid0.N, win0_11.index t 0 = 0 ∧ win0_11.index t 1 = 0)
theorem idx12 : ∀ t : Fin cfg0.N, win0_12.index t 0 = 0 ∧ win0_12.index t 1 = 0 :=
  (by decide +kernel : ∀ t : Fin grid0.N, win0_12.index t 0 = 0 ∧ win0_12.index t 1 = 0)
theorem idx13 : ∀ t : Fin cfg0.N, win0_13.index t 0 = 0 ∧ win0_13.index t 1 = 0 :=
  (by decide +kernel : ∀ t : Fin grid0.N, win0_13.index t 0 = 0 ∧ win0_13.index t 1 = 0)

theorem iblk0_apply (t : Fin cfg0.N) (ρ : Fin 256) (j : Fin 2048) :
    (iblk m c 0 t : Vec Ideal S256x2048 .f32) (ix2 ρ j) = inX m c (ix2 (rowOf t ρ) j) := by
  unfold iblk
  rw [View.read_apply]
  show V m c main_arg0 _ = V m c main_arg0 _
  refine congrArg (V m c main_arg0) (funext fun a => Fin.ext ?_)
  match a with
  | ⟨0, _⟩ => show win0_0.index t 0 * 256 + 1 * ρ.val = t.val * 256 + ρ.val; rw [(idx0 t).1]; omega
  | ⟨1, _⟩ => show win0_0.index t 1 * 2048 + 1 * j.val = j.val; rw [(idx0 t).2]; omega

theorem iblk1_apply (t : Fin cfg0.N) (ρ : Fin 256) (j : Fin 2048) :
    (iblk m c 1 t : Vec Ideal S256x2048 .bf16) (ix2 ρ j) = inH m c (ix2 (rowOf t ρ) j) := by
  unfold iblk
  rw [View.read_apply]
  show V m c main_arg1 _ = V m c main_arg1 _
  refine congrArg (V m c main_arg1) (funext fun a => Fin.ext ?_)
  match a with
  | ⟨0, _⟩ => show win0_1.index t 0 * 256 + 1 * ρ.val = t.val * 256 + ρ.val; rw [(idx1 t).1]; omega
  | ⟨1, _⟩ => show win0_1.index t 1 * 2048 + 1 * j.val = j.val; rw [(idx1 t).2]; omega

theorem iblk2_apply (t : Fin cfg0.N) (j : Fin 2048) :
    (iblk m c 2 t : Vec Ideal S1x2048 .f32) (ix2 0 j) = inG m c (ix2 0 j) := by
  unfold iblk
  rw [View.read_apply]
  show V m c main_arg2 _ = V m c main_arg2 _
  refine congrArg (V m c main_arg2) (funext fun a => Fin.ext ?_)
  match a with
  | ⟨0, _⟩ => show win0_2.index t 0 * 1 + 1 * 0 = 0; rw [(idx2 t).1]
  | ⟨1, _⟩ => show win0_2.index t 1 * 2048 + 1 * j.val = j.val; rw [(idx2 t).2]; omega

theorem iblk3_apply (t : Fin cfg0.N) (j : Fin 2048) :
    (iblk m c 3 t : Vec Ideal S1x2048 .f32) (ix2 0 j) = inS m c (ix2 0 j) := by
  unfold iblk
  rw [View.read_apply]
  show V m c main_arg3 _ = V m c main_arg3 _
  refine congrArg (V m c main_arg3) (funext fun a => Fin.ext ?_)
  match a with
  | ⟨0, _⟩ => show win0_3.index t 0 * 1 + 1 * 0 = 0; rw [(idx3 t).1]
  | ⟨1, _⟩ => show win0_3.index t 1 * 2048 + 1 * j.val = j.val; rw [(idx3 t).2]; omega

theorem iblk4_apply (t : Fin cfg0.N) (j : Fin 2048) :
    (iblk m c 4 t : Vec Ideal S1x2048 .f32) (ix2 0 j) = inDg m c (ix2 0 j) := by
  unfold iblk
  rw [View.read_apply]
  show V m c main_arg4 _ = V m c main_arg4 _
  refine congrArg (V m c main_arg4) (funext fun a => Fin.ext ?_)
  match a with
  | ⟨0, _⟩ => show win0_4.index t 0 * 1 + 1 * 0 = 0; rw [(idx4 t).1]
  | ⟨1, _⟩ => show win0_4.index t 1 * 2048 + 1 * j.val = j.val; rw [(idx4 t).2]; omega

theorem iblk5_apply (t : Fin cfg0.N) (ρ : Fin 256) (j : Fin 2048) :
    (iblk m c 5 t : Vec Ideal S256x2048 .f32) (ix2 ρ j) = inP m c (ix2 (rowOf t ρ) j) := by
  unfold iblk
  rw [View.read_apply]
  show V m c main_arg5 _ = V m c main_arg5 _
  refine congrArg (V m c main_arg5) (funext fun a => Fin.ext ?_)
  match a with
  | ⟨0, _⟩ => show win0_5.index t 0 * 256 + 1 * ρ.val = t.val * 256 + ρ.val; rw [(idx5 t).1]; omega
  | ⟨1, _⟩ => show win0_5.index t 1 * 2048 + 1 * j.val = j.val; rw [(idx5 t).2]; omega

theorem iblk6_apply (t : Fin cfg0.N) (ρ : Fin 256) (j : Fin 2048) :
    (iblk m c 6 t : Vec Ideal S256x2048 .bf16) (ix2 ρ j) = inO m c (ix2 (rowOf t ρ) j) := by
  unfold iblk
  rw [View.read_apply]
  show V m c main_arg6 _ = V m c main_arg6 _
  refine congrArg (V m c main_arg6) (funext fun a => Fin.ext ?_)
  match a with
  | ⟨0, _⟩ => show win0_6.index t 0 * 256 + 1 * ρ.val = t.val * 256 + ρ.val; rw [(idx6 t).1]; omega
  | ⟨1, _⟩ => show win0_6.index t 1 * 2048 + 1 * j.val = j.val; rw [(idx6 t).2]; omega

theorem iblk7_apply (t : Fin cfg0.N) (j : Fin 2048) :
    (iblk m c 7 t : Vec Ideal S1x2048 .f32) (ix2 0 j) = inGate m c (ix2 0 j) := by
  unfold iblk
  rw [View.read_apply]
  show V m c main_arg7 _ = V m c main_arg7 _
  refine congrArg (V m c main_arg7) (funext fun a => Fin.ext ?_)
  match a with
  | ⟨0, _⟩ => show win0_7.index t 0 * 1 + 1 * 0 = 0; rw [(idx7 t).1]
  | ⟨1, _⟩ => show win0_7.index t 1 * 2048 + 1 * j.val = j.val; rw [(idx7 t).2]; omega

/-- Point `t`'s blocks. -/
def blkX (t : Fin cfg0.N) : FVec Ideal S256x2048 .f32 := iblk m c 0 t
def blkH (t : Fin cfg0.N) : FVec Ideal S256x2048 .bf16 := iblk m c 1 t
def blkG (t : Fin cfg0.N) : FVec Ideal S1x2048 .f32 := iblk m c 2 t
def blkS (t : Fin cfg0.N) : FVec Ideal S1x2048 .f32 := iblk m c 3 t
def blkDg (t : Fin cfg0.N) : FVec Ideal S1x2048 .f32 := iblk m c 4 t
def blkP (t : Fin cfg0.N) : FVec Ideal S256x2048 .f32 := iblk m c 5 t
def blkO (t : Fin cfg0.N) : FVec Ideal S256x2048 .bf16 := iblk m c 6 t
def blkGate (t : Fin cfg0.N) : FVec Ideal S1x2048 .f32 := iblk m c 7 t

theorem blkX_row (t : Fin cfg0.N) (ρ : Fin 256) : (fun k => blkX m c t (ix2 ρ k)) = row (inX m c) (rowOf t ρ) := funext fun k => iblk0_apply m c t ρ k
theorem blkH_row (t : Fin cfg0.N) (ρ : Fin 256) : (fun k => blkH m c t (ix2 ρ k)) = rowH (inH m c) (rowOf t ρ) := funext fun k => iblk1_apply m c t ρ k
theorem blkH_at (t : Fin cfg0.N) (ρ : Fin 256) (k : Fin 2048) : blkH m c t (ix2 ρ k) = rowH (inH m c) (rowOf t ρ) k := iblk1_apply m c t ρ k
theorem blkG_lane (t : Fin cfg0.N) : (fun k => blkG m c t (ix2 0 k)) = lane (inG m c) := funext fun k => iblk2_apply m c t k
theorem blkG_at (t : Fin cfg0.N) (k : Fin 2048) : blkG m c t (ix2 0 k) = lane (inG m c) k := iblk2_apply m c t k
theorem blkS_lane (t : Fin cfg0.N) : (fun k => blkS m c t (ix2 0 k)) = lane (inS m c) := funext fun k => iblk3_apply m c t k
theorem blkP_row (t : Fin cfg0.N) (ρ : Fin 256) : (fun k => blkP m c t (ix2 ρ k)) = row (inP m c) (rowOf t ρ) := funext fun k => iblk5_apply m c t ρ k

theorem dx_apply (t : Fin cfg0.N) (ρ : Fin 256) (j : Fin 2048) :
    blockDx (blkX m c t) (blkP m c t) (blkH m c t) (blkG m c t) (blkS m c t) (ix2 ρ j)
      = gradAt (inX m c) (inP m c) (inH m c) (inG m c) (inS m c) (rowOf t ρ) j := by
  unfold gradAt
  rw [blockDx_apply, blkX_row, blkH_row, blkS_lane, blkG_lane, blkP_row]

/-! ## The accumulators -/

/-- What point number `n` adds to an accumulator: its 256 rows' terms. -/
def slab (f : Fin 8192 → EReal) (n : ℕ) : EReal :=
  if h : n < cfg0.N then ∑ ρ : Fin 256, f (rowOf ⟨n, h⟩ ρ) else 0

theorem slab_at (f : Fin 8192 → EReal) (t : Fin cfg0.N) : ∑ ρ : Fin 256, f (rowOf t ρ) = slab f t.val := by
  rw [slab, dif_pos t.isLt]

/-- A sum over the rows is the sum over the 32 points. -/
theorem sum_rows (f : Fin 8192 → EReal) :
    ∑ l : Fin 32, ∑ ρ : Fin 256, f ⟨l.val * 256 + ρ.val, by omega⟩ = ∑ n, f n := by
  rw [← Fintype.sum_prod_type']
  refine Fintype.sum_equiv (finProdFinEquiv : Fin 32 × Fin 256 ≃ Fin (32 * 256)) _ _ fun p => ?_
  obtain ⟨l, k⟩ := p
  refine congrArg f (Fin.ext ?_)
  show l.val * 256 + k.val = k.val + 256 * l.val
  omega

/-- An accumulator that starts at `z` and takes each point's rows' terms holds, after the last point, `z` and the sum over all the rows. -/
theorem total (A : (n : ℕ) → n < cfg0.N → EReal) (z : EReal) (f : Fin 8192 → EReal)
    (hr : ∀ t : Fin cfg0.N, t.val % 32 = 0 → A t.val t.isLt = z + ∑ ρ : Fin 256, f (rowOf t ρ))
    (hs : ∀ t : Fin cfg0.N, ¬t.val % 32 = 0 → A t.val t.isLt = A (t.val - 1) (Nat.lt_of_le_of_lt (Nat.sub_le _ _) t.isLt) + ∑ ρ : Fin 256, f (rowOf t ρ))
    (t : Fin cfg0.N) (ht : t.val % 32 = 31) : A t.val t.isLt = z + ∑ n, f n := by
  have e := Pipeline.eq_sum_of_reset_step A 32 z (slab f)
    (fun t h0 => (hr t h0).trans (congrArg (z + ·) (slab_at f t)))
    (fun t h0 => (hs t h0).trans (congrArg (_ + ·) (slab_at f t))) t
  have bt := lt32 t
  have hz : 32 * (t.val / 32) = 0 := by omega
  rw [e, ht, Finset.sum_range, ← sum_rows]
  refine congrArg (z + ·) (Finset.sum_congr rfl fun l _ => ?_)
  have hl : 32 * (t.val / 32) + l.val < cfg0.N := lt_of_lt_of_eq (by omega : _ < 32) N_0.symm
  refine (dif_pos hl).trans (Finset.sum_congr rfl fun ρ _ => congrArg f (Fin.ext ?_))
  simp only [rowOf, hz, zero_add]

theorem dxo (t : Fin cfg0.N) (j : Fin 2048) : ∑ ρ : Fin 256, blockDx (blkX m c t) (blkP m c t) (blkH m c t) (blkG m c t) (blkS m c t) (ix2 ρ j) * blkO m c t (ix2 ρ j)
    = ∑ ρ : Fin 256, gradAt (inX m c) (inP m c) (inH m c) (inG m c) (inS m c) (rowOf t ρ) j * inO m c (ix2 (rowOf t ρ) j) :=
  Finset.sum_congr rfl fun ρ _ => congrArg₂ (· * ·) (dx_apply m c t ρ j) (iblk6_apply m c t ρ j)

theorem accShift (t : Fin cfg0.N) (ht : t.val % 32 = 31) (j : Fin 2048) :
    ((outsAt0 m c t.val t.isLt).2.2.1 : FVec Ideal S1x2048 .f32) (ix2 0 j) = normShift (inH m c) (ix2 0 j) :=
  (total (fun n h => ((outsAt0 m c n h).2.2.1 : FVec Ideal S1x2048 .f32) (ix2 0 j)) (0)
    (fun n => rowH (inH m c) n j)
    (fun t h0 => by
      simp only [(acc_reset m c t h0).1]
      refine (shift_apply (blkH m c t) _ j).trans (congrArg₂ (· + ·) (zeroShift_apply j) ?_)
      simp only [blkH_at])
    (fun t h0 => by
      simp only [(acc_step m c t h0).1]
      refine (shift_apply (blkH m c t) _ j).trans (congrArg₂ (· + ·) rfl ?_)
      simp only [blkH_at]) t ht).trans (zero_add _)

theorem accScale (t : Fin cfg0.N) (ht : t.val % 32 = 31) (j : Fin 2048) :
    ((outsAt0 m c t.val t.isLt).2.2.2.1 : FVec Ideal S1x2048 .f32) (ix2 0 j) = normScale (inX m c) (inH m c) (inG m c) (ix2 0 j) :=
  (total (fun n h => ((outsAt0 m c n h).2.2.2.1 : FVec Ideal S1x2048 .f32) (ix2 0 j)) (0)
    (fun n => rowH (inH m c) n j * (rowN (row (inX m c) n) j * lane (inG m c) j))
    (fun t h0 => by
      simp only [(acc_reset m c t h0).2.1]
      refine (scale_apply (blkX m c t) (blkH m c t) (blkG m c t) _ j).trans (congrArg₂ (· + ·) (zeroScale_apply j) ?_)
      simp only [blkX_row, blkH_at, blkG_at])
    (fun t h0 => by
      simp only [(acc_step m c t h0).2.1]
      refine (scale_apply (blkX m c t) (blkH m c t) (blkG m c t) _ j).trans (congrArg₂ (· + ·) rfl ?_)
      simp only [blkX_row, blkH_at, blkG_at]) t ht).trans (zero_add _)

theorem accDg (t : Fin cfg0.N) (ht : t.val % 32 = 31) (j : Fin 2048) :
    ((outsAt0 m c t.val t.isLt).2.2.2.2.1 : FVec Ideal S1x2048 .f32) (ix2 0 j) = normDg (inX m c) (inH m c) (inS m c) (inDg m c) (ix2 0 j) :=
  (total (fun n h => ((outsAt0 m c n h).2.2.2.2.1 : FVec Ideal S1x2048 .f32) (ix2 0 j)) (lane (inDg m c) j)
    (fun n => rowD (rowH (inH m c) n) (lane (inS m c)) j * rowN (row (inX m c) n) j)
    (fun t h0 => by
      simp only [(acc_reset m c t h0).2.2.1]
      refine (weight_apply (blkX m c t) (blkH m c t) (blkS m c t) _ j).trans (congrArg₂ (· + ·) (iblk4_apply m c t j) ?_)
      simp only [blkX_row, blkH_row, blkS_lane])
    (fun t h0 => by
      simp only [(acc_step m c t h0).2.2.1]
      refine (weight_apply (blkX m c t) (blkH m c t) (blkS m c t) _ j).trans (congrArg₂ (· + ·) rfl ?_)
      simp only [blkX_row, blkH_row, blkS_lane]) t ht)

theorem accGate (t : Fin cfg0.N) (ht : t.val % 32 = 31) (j : Fin 2048) :
    ((outsAt0 m c t.val t.isLt).2.2.2.2.2 : FVec Ideal S1x2048 .f32) (ix2 0 j) = normGate (inX m c) (inP m c) (inH m c) (inO m c) (inG m c) (inS m c) (ix2 0 j) :=
  (total (fun n h => ((outsAt0 m c n h).2.2.2.2.2 : FVec Ideal S1x2048 .f32) (ix2 0 j)) (0)
    (fun n => gradAt (inX m c) (inP m c) (inH m c) (inG m c) (inS m c) n j * inO m c (ix2 n j))
    (fun t h0 => by
      simp only [(acc_reset m c t h0).2.2.2]
      refine (gate_apply (blkX m c t) (blkP m c t) (blkH m c t) (blkO m c t) (blkG m c t) (blkS m c t) _ j).trans (congrArg₂ (· + ·) (zeroGate_apply j) ?_)
      exact dxo m c t j)
    (fun t h0 => by
      simp only [(acc_step m c t h0).2.2.2]
      refine (gate_apply (blkX m c t) (blkP m c t) (blkH m c t) (blkO m c t) (blkG m c t) (blkS m c t) _ j).trans (congrArg₂ (· + ·) rfl ?_)
      exact dxo m c t j) t ht).trans (zero_add _)

/-! ## The result arrays -/

theorem emb8 (t : Fin cfg0.N) (ρ : Fin 256) (j : Fin 2048) : ((cfg0.win 8).blk t).view.emb (ix2 ρ j : S256x2048.Idx) = (ix2 (rowOf t ρ) j : S8192x2048.Idx) :=
  funext fun a => Fin.ext (by
    match a with
    | ⟨0, _⟩ => show win0_8.index t 0 * 256 + 1 * ρ.val = t.val * 256 + ρ.val; rw [(idx8 t).1]; omega
    | ⟨1, _⟩ => show win0_8.index t 1 * 2048 + 1 * j.val = j.val; rw [(idx8 t).2]; omega)

theorem emb9 (t : Fin cfg0.N) (ρ : Fin 256) (j : Fin 2048) : ((cfg0.win 9).blk t).view.emb (ix2 ρ j : S256x2048.Idx) = (ix2 (rowOf t ρ) j : S8192x2048.Idx) :=
  funext fun a => Fin.ext (by
    match a with
    | ⟨0, _⟩ => show win0_9.index t 0 * 256 + 1 * ρ.val = t.val * 256 + ρ.val; rw [(idx9 t).1]; omega
    | ⟨1, _⟩ => show win0_9.index t 1 * 2048 + 1 * j.val = j.val; rw [(idx9 t).2]; omega)

theorem emb10 (t : Fin cfg0.N) (j : Fin 2048) : ((cfg0.win 10).blk t).view.emb (ix2 0 j : S1x2048.Idx) = (ix2 0 j : S1x2048.Idx) :=
  funext fun a => Fin.ext (by
    match a with
    | ⟨0, _⟩ => show win0_10.index t 0 * 1 + 1 * 0 = 0; rw [(idx10 t).1]
    | ⟨1, _⟩ => show win0_10.index t 1 * 2048 + 1 * j.val = j.val; rw [(idx10 t).2]; omega)

theorem emb11 (t : Fin cfg0.N) (j : Fin 2048) : ((cfg0.win 11).blk t).view.emb (ix2 0 j : S1x2048.Idx) = (ix2 0 j : S1x2048.Idx) :=
  funext fun a => Fin.ext (by
    match a with
    | ⟨0, _⟩ => show win0_11.index t 0 * 1 + 1 * 0 = 0; rw [(idx11 t).1]
    | ⟨1, _⟩ => show win0_11.index t 1 * 2048 + 1 * j.val = j.val; rw [(idx11 t).2]; omega)

theorem emb12 (t : Fin cfg0.N) (j : Fin 2048) : ((cfg0.win 12).blk t).view.emb (ix2 0 j : S1x2048.Idx) = (ix2 0 j : S1x2048.Idx) :=
  funext fun a => Fin.ext (by
    match a with
    | ⟨0, _⟩ => show win0_12.index t 0 * 1 + 1 * 0 = 0; rw [(idx12 t).1]
    | ⟨1, _⟩ => show win0_12.index t 1 * 2048 + 1 * j.val = j.val; rw [(idx12 t).2]; omega)

theorem emb13 (t : Fin cfg0.N) (j : Fin 2048) : ((cfg0.win 13).blk t).view.emb (ix2 0 j : S1x2048.Idx) = (ix2 0 j : S1x2048.Idx) :=
  funext fun a => Fin.ext (by
    match a with
    | ⟨0, _⟩ => show win0_13.index t 0 * 1 + 1 * 0 = 0; rw [(idx13 t).1]
    | ⟨1, _⟩ => show win0_13.index t 1 * 2048 + 1 * j.val = j.val; rw [(idx13 t).2]; omega)

theorem eq_block (y : S256x2048.Idx) : y = ix2 (n0 := 256) (n1 := 2048) (y 0) (y 1) := funext fun a => by match a with | ⟨0, _⟩ => rfl | ⟨1, _⟩ => rfl
theorem eq_lane (y : S1x2048.Idx) : y = ix2 (n0 := 1) (n1 := 2048) 0 (y 1) := funext fun a => by
  match a with
  | ⟨0, _⟩ => exact Subsingleton.elim (α := Fin 1) _ _
  | ⟨1, _⟩ => rfl

theorem blockDx_eq (t : Fin cfg0.N) (y : S256x2048.Idx) :
    ((outsAt0 m c t.val t.isLt).1 : FVec Ideal S256x2048 .f32) y = normDx (inX m c) (inP m c) (inH m c) (inG m c) (inS m c) (((cfg0.win 8).blk t).view.emb y : S8192x2048.Idx) := by
  obtain ⟨ρ, j, rfl⟩ : ∃ ρ j, y = ix2 ρ j := ⟨y 0, y 1, eq_block y⟩
  refine (congrFun (outDx m c t) (ix2 ρ j)).trans ((dx_apply m c t ρ j).trans ?_)
  exact (congrArg (normDx (inX m c) (inP m c) (inH m c) (inG m c) (inS m c)) (emb8 t ρ j)).symm

theorem finalDx : (dats m 0 c).arrAt 8 cfg0.N = normDx (inX m c) (inP m c) (inH m c) (inG m c) (inS m c) := by
  refine (dats m 0 c).arrAt_eq_of_covers 8 _ (by decide +kernel) fun t hf y => ?_
  rw [after0_8]
  exact blockDx_eq m c t y

theorem blockDo_eq (t : Fin cfg0.N) (y : S256x2048.Idx) :
    ((outsAt0 m c t.val t.isLt).2.1 : FVec Ideal S256x2048 .bf16) y = normDo (inX m c) (inP m c) (inH m c) (inG m c) (inS m c) (inGate m c) (((cfg0.win 9).blk t).view.emb y : S8192x2048.Idx) := by
  obtain ⟨ρ, j, rfl⟩ : ∃ ρ j, y = ix2 ρ j := ⟨y 0, y 1, eq_block y⟩
  refine (congrFun (outDo m c t) (ix2 ρ j)).trans (((blockDo_apply (blkX m c t) (blkP m c t) (blkH m c t) (blkG m c t) (blkS m c t) (blkGate m c t) ρ j).trans (congrArg₂ (fun a b : EReal => a * b) (iblk7_apply m c t j) (dx_apply m c t ρ j))).trans ?_)
  exact (congrArg (normDo (inX m c) (inP m c) (inH m c) (inG m c) (inS m c) (inGate m c)) (emb9 t ρ j)).symm

theorem finalDo : (dats m 0 c).arrAt 9 cfg0.N = normDo (inX m c) (inP m c) (inH m c) (inG m c) (inS m c) (inGate m c) := by
  refine (dats m 0 c).arrAt_eq_of_covers 9 _ (by decide +kernel) fun t hf y => ?_
  rw [after0_9]
  exact blockDo_eq m c t y

theorem blockShift (t : Fin cfg0.N) (ht : t.val % 32 = 31) (y : S1x2048.Idx) :
    ((outsAt0 m c t.val t.isLt).2.2.1 : FVec Ideal S1x2048 .f32) y = normShift (inH m c) (((cfg0.win 10).blk t).view.emb y : S1x2048.Idx) := by
  obtain ⟨j, rfl⟩ : ∃ j, y = ix2 0 j := ⟨y 1, eq_lane y⟩
  exact (accShift m c t ht j).trans (congrArg (normShift (inH m c)) (emb10 t j)).symm

theorem finalShift : (dats m 0 c).arrAt 10 cfg0.N = normShift (inH m c) := by
  refine (dats m 0 c).arrAt_eq_of_covers 10 _ (by decide +kernel) fun t hf y => ?_
  rw [after0_10]
  exact blockShift m c t ((flush0_10 t).mp hf) y

theorem blockScale (t : Fin cfg0.N) (ht : t.val % 32 = 31) (y : S1x2048.Idx) :
    ((outsAt0 m c t.val t.isLt).2.2.2.1 : FVec Ideal S1x2048 .f32) y = normScale (inX m c) (inH m c) (inG m c) (((cfg0.win 11).blk t).view.emb y : S1x2048.Idx) := by
  obtain ⟨j, rfl⟩ : ∃ j, y = ix2 0 j := ⟨y 1, eq_lane y⟩
  exact (accScale m c t ht j).trans (congrArg (normScale (inX m c) (inH m c) (inG m c)) (emb11 t j)).symm

theorem finalScale : (dats m 0 c).arrAt 11 cfg0.N = normScale (inX m c) (inH m c) (inG m c) := by
  refine (dats m 0 c).arrAt_eq_of_covers 11 _ (by decide +kernel) fun t hf y => ?_
  rw [after0_11]
  exact blockScale m c t ((flush0_11 t).mp hf) y

theorem blockDg (t : Fin cfg0.N) (ht : t.val % 32 = 31) (y : S1x2048.Idx) :
    ((outsAt0 m c t.val t.isLt).2.2.2.2.1 : FVec Ideal S1x2048 .f32) y = normDg (inX m c) (inH m c) (inS m c) (inDg m c) (((cfg0.win 12).blk t).view.emb y : S1x2048.Idx) := by
  obtain ⟨j, rfl⟩ : ∃ j, y = ix2 0 j := ⟨y 1, eq_lane y⟩
  exact (accDg m c t ht j).trans (congrArg (normDg (inX m c) (inH m c) (inS m c) (inDg m c)) (emb12 t j)).symm

theorem finalDg : (dats m 0 c).arrAt 12 cfg0.N = normDg (inX m c) (inH m c) (inS m c) (inDg m c) := by
  refine (dats m 0 c).arrAt_eq_of_covers 12 _ (by decide +kernel) fun t hf y => ?_
  rw [after0_12]
  exact blockDg m c t ((flush0_12 t).mp hf) y

theorem blockGate (t : Fin cfg0.N) (ht : t.val % 32 = 31) (y : S1x2048.Idx) :
    ((outsAt0 m c t.val t.isLt).2.2.2.2.2 : FVec Ideal S1x2048 .f32) y = normGate (inX m c) (inP m c) (inH m c) (inO m c) (inG m c) (inS m c) (((cfg0.win 13).blk t).view.emb y : S1x2048.Idx) := by
  obtain ⟨j, rfl⟩ : ∃ j, y = ix2 0 j := ⟨y 1, eq_lane y⟩
  exact (accGate m c t ht j).trans (congrArg (normGate (inX m c) (inP m c) (inH m c) (inO m c) (inG m c) (inS m c)) (emb13 t j)).symm

theorem finalGate : (dats m 0 c).arrAt 13 cfg0.N = normGate (inX m c) (inP m c) (inH m c) (inO m c) (inG m c) (inS m c) := by
  refine (dats m 0 c).arrAt_eq_of_covers 13 _ (by decide +kernel) fun t hf y => ?_
  rw [after0_13]
  exact blockGate m c t ((flush0_13 t).mp hf) y

end Cert.Kernel19Ideal.Val

end
-- ==== Proof.Norm19Ref.lean ====
/- The reference of the second layer's modulated norm's gradient: its results are those of the whole arrays. -/
module

public import proofs.«01_k».proof.Proof.Norm19Arrays
public import proofs.«01_k».proof.Proof.Gen.Reference19Ideal.Read
public import Idealize.ShloMosaic.Lib.Tactic.CleanTypes
public import Idealize.ShloMosaic.Lib.Pointwise

@[expose] public section

noncomputable section

open Idealize.ShloMosaic Idealize.ShloMosaic.TcCoe Idealize.SL.Sem

namespace Cert.Reference19Ideal.Val
open Cert.Reference19Ideal Cert.Reference19Ideal.Gen Cert.Reference19Ideal.Read Cert.Head Cert.Norm
open Cert.Kernel19Ideal.Val (row rowH lane gradAt normDx normShift normScale normDg eq_lane normDo normGate)

variable (x p : FVec Ideal S8192x2048 .f32) (h : FVec Ideal S8192x2048 .bf16) (o : FVec Ideal S8192x2048 .bf16) (g s gate dg : FVec Ideal S1x2048 .f32)
  (n : Fin 8192) (j : Fin 2048)

theorem v7_apply : val_main_v7 (F := Ideal) x (ix2 n 0) = rowVar (row x n) := by
  unfold rowVar row
  unfold val_main_v7 val_main_v6 val_main_v5 val_main_v4 val_main_v3 val_main_v2 val_main_v1 val_main_cst_0 val_main_cst_1 val_main_cst_2
  clean_types
  pointwise []

theorem v8_apply : val_main_v8 (F := Ideal) x (ix2 n 0) = rowRs (row x n) := by
  unfold rowRs
  rw [← v7_apply]
  unfold val_main_v8
  generalize val_main_v7 (F := Ideal) x = v
  clean_types
  pointwise []

theorem v11_apply : val_main_v11 (F := Ideal) x (ix2 n 0) = Ideal.ofBits .f32 0xBF000000#32 * Ideal.div (rowRs (row x n)) (rowVar (row x n)) := by
  rw [← v8_apply, ← v7_apply]
  unfold val_main_v11 val_main_v10 val_main_v9 val_main_cst_3
  generalize val_main_v7 (F := Ideal) x = v
  generalize val_main_v8 (F := Ideal) x = r
  clean_types
  pointwise []

theorem v13_apply : val_main_v13 (F := Ideal) x (ix2 n j) = rowN (row x n) j := by
  unfold rowN
  rw [← v8_apply]
  unfold val_main_v13 val_main_v12 row
  generalize val_main_v8 (F := Ideal) x = r
  clean_types
  pointwise []

theorem v15_apply : val_main_v15 (F := Ideal) x g (ix2 n j) = rowN (row x n) j * lane g j := by
  rw [← v13_apply]
  unfold val_main_v15 val_main_v14 lane
  generalize val_main_v13 (F := Ideal) x = r
  clean_types
  pointwise []

theorem v22_apply : val_main_v22 (F := Ideal) h (ix2 n j) = rowH h n j := by
  unfold val_main_v22 rowH
  clean_types
  pointwise []

theorem v24_apply : val_main_v24 (F := Ideal) h (ix2 0 j) = ∑ n : Fin 8192, rowH h n j := by
  simp only [← v22_apply]
  unfold val_main_v24 val_main_v23 val_main_cst_5
  generalize val_main_v22 (F := Ideal) h = d
  clean_types
  pointwise []

theorem v27_apply : val_main_v27 (F := Ideal) x h g (ix2 0 j) = ∑ n : Fin 8192, rowH h n j * (rowN (row x n) j * lane g j) := by
  simp only [← v22_apply, ← v15_apply]
  unfold val_main_v27 val_main_v26 val_main_v25 val_main_cst_6
  generalize val_main_v22 (F := Ideal) h = d
  generalize val_main_v15 (F := Ideal) x g = y
  clean_types
  pointwise []
  exact Finset.sum_congr rfl fun n _ => mul_comm _ _

theorem v29_apply : val_main_v29 (F := Ideal) h s (ix2 n j) = rowD (rowH h n) (lane s) j := by
  unfold rowD
  rw [← v22_apply]
  unfold val_main_v29 val_main_v28 val_main_v17 val_main_v16 val_main_cst_4 lane
  generalize val_main_v22 (F := Ideal) h = d
  clean_types
  pointwise []

theorem v32_apply : val_main_v32 (F := Ideal) x h s (ix2 0 j) = ∑ n : Fin 8192, rowD (rowH h n) (lane s) j * rowN (row x n) j := by
  simp only [← v29_apply, ← v13_apply]
  unfold val_main_v32 val_main_v31 val_main_v30 val_main_cst_7
  generalize val_main_v29 (F := Ideal) h s = d
  generalize val_main_v13 (F := Ideal) x = y
  clean_types
  pointwise []
  exact Finset.sum_congr rfl fun n _ => mul_comm _ _

theorem v34_apply : val_main_v34 (F := Ideal) h g s (ix2 n j) = rowG (rowH h n) (lane s) (lane g) j := by
  unfold rowG
  rw [← v29_apply]
  unfold val_main_v34 val_main_v33 lane
  generalize val_main_v29 (F := Ideal) h s = d
  clean_types
  pointwise []

theorem v44_apply : val_main_v44 (F := Ideal) x h g s (ix2 n j)
    = Ideal.div ((∑ k, row x n k * rowG (rowH h n) (lane s) (lane g) k)
        * (Ideal.ofBits .f32 0xBF000000#32 * Ideal.div (rowRs (row x n)) (rowVar (row x n)))) (Ideal.ofBits .f32 0x45000000#32) := by
  simp only [← v34_apply]
  rw [← v11_apply]
  unfold row
  unfold val_main_v44 val_main_v43 val_main_v42 val_main_v41 val_main_v40 val_main_v37 val_main_v36 val_main_v35 val_main_cst_8 val_main_cst_9 val_main_cst_10
  generalize val_main_v34 (F := Ideal) h g s = d
  generalize val_main_v11 (F := Ideal) x = r
  clean_types
  pointwise []
  exact Fin.sum_univ_one _

theorem v49_apply : val_main_v49 (F := Ideal) x h g s p (ix2 n j) = gradAt x p h g s n j := by
  unfold gradAt
  rw [← grad_eq _ _ _ _ _ j _ (v44_apply x h g s n j), ← v34_apply, ← v8_apply]
  unfold row
  unfold val_main_v49 val_main_v48 val_main_v47 val_main_v46 val_main_v45 val_main_v39 val_main_v38
  generalize val_main_v34 (F := Ideal) h g s = d
  generalize val_main_v8 (F := Ideal) x = r
  generalize val_main_v44 (F := Ideal) x h g s = a
  clean_types
  pointwise []

theorem v59_apply : val_main_v59 (F := Ideal) x h s dg (ix2 0 j) = lane dg j + ∑ n : Fin 8192, rowD (rowH h n) (lane s) j * rowN (row x n) j := by
  rw [← v32_apply]
  unfold val_main_v59 lane
  generalize val_main_v32 (F := Ideal) x h s = d
  clean_types
  pointwise []

theorem v58_apply : val_main_v58 (F := Ideal) x h g s p gate (ix2 n j) = lane gate j * gradAt x p h g s n j := by
  rw [← v49_apply]
  unfold val_main_v58 val_main_v54 val_main_v53 lane
  generalize val_main_v49 (F := Ideal) x h g s p = d
  clean_types
  pointwise []

theorem v57_apply : val_main_v57 (F := Ideal) x h g s p o (ix2 0 j) = ∑ n : Fin 8192, gradAt x p h g s n j * o (ix2 n j) := by
  simp only [← v49_apply]
  unfold val_main_v57 val_main_v56 val_main_v55 val_main_v50 val_main_cst_11
  generalize val_main_v49 (F := Ideal) x h g s p = d
  clean_types
  pointwise []

/-! ## The whole arrays -/

theorem dx_eq : val_main_v49 (F := Ideal) x h g s p = normDx x p h g s := funext fun i => by
  obtain ⟨n, j, rfl⟩ : ∃ n j, i = ix2 n j := ⟨i 0, i 1, eq_ix2 i⟩
  exact v49_apply x p h g s n j

theorem do_eq : val_main_v58 (F := Ideal) x h g s p gate = normDo x p h g s gate := funext fun i => by
  obtain ⟨n, j, rfl⟩ : ∃ n j, i = ix2 n j := ⟨i 0, i 1, eq_ix2 i⟩
  exact v58_apply x p h g s gate n j

theorem shift_eq : val_main_v24 (F := Ideal) h = normShift h := funext fun i => by
  obtain ⟨j, rfl⟩ : ∃ j, i = ix2 0 j := ⟨i 1, eq_lane i⟩
  exact v24_apply h j

theorem scale_eq : val_main_v27 (F := Ideal) x h g = normScale x h g := funext fun i => by
  obtain ⟨j, rfl⟩ : ∃ j, i = ix2 0 j := ⟨i 1, eq_lane i⟩
  exact v27_apply x h g j

theorem dg_eq : val_main_v59 (F := Ideal) x h s dg = normDg x h s dg := funext fun i => by
  obtain ⟨j, rfl⟩ : ∃ j, i = ix2 0 j := ⟨i 1, eq_lane i⟩
  exact v59_apply x h s dg j

theorem gate_eq : val_main_v57 (F := Ideal) x h g s p o = normGate x p h o g s := funext fun i => by
  obtain ⟨j, rfl⟩ : ∃ j, i = ix2 0 j := ⟨i 1, eq_lane i⟩
  exact v57_apply x p h o g s j

end Cert.Reference19Ideal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.KernelReal
public import proofs.«01_k».proof.Proof.RefReal
public import proofs.«01_k».proof.Proof.Finite
public import proofs.«01_k».proof.Proof.InProject
public import proofs.«01_k».proof.Proof.OutProject
public import proofs.«01_k».proof.Proof.OutWeights
public import proofs.«01_k».proof.Proof.AttnRef
public import proofs.«01_k».proof.Proof.OutBack
public import proofs.«01_k».proof.Proof.InWeights
public import proofs.«01_k».proof.Proof.InBack
public import proofs.«01_k».proof.Proof.EvProject
public import proofs.«01_k».proof.Proof.EvWeights
public import proofs.«01_k».proof.Proof.EvBack
public import proofs.«01_k».proof.Proof.HeadRef
public import proofs.«01_k».proof.Proof.Adam13
public import proofs.«01_k».proof.Proof.Adam14
public import proofs.«01_k».proof.Proof.Adam15
public import proofs.«01_k».proof.Proof.Adam16
public import proofs.«01_k».proof.Proof.Adam17
public import proofs.«01_k».proof.Proof.Norm18Ref
public import proofs.«01_k».proof.Proof.Norm19Ref
public import Idealize.ShloMosaic.Adequacy
public import Idealize.ShloMosaic.Init

@[expose] public section

noncomputable section

namespace Cert.Proof

open Idealize.ShloMosaic Idealize.ShloMosaic.TcCoe Idealize.SL.Sem Cert.KernelIdeal.Val

local instance : Cert.Pre_finite.Facts := Cert.Pre_finite.Val.facts

/-- The facts the attention forward's precondition reads. -/
theorem facts5 : Cert.Pre_finite5.Facts := ⟨by decide, by decide⟩

local instance : Cert.Pre_finite5.Facts := facts5

/-- A column of the query arrays belongs to one key head, one query head of its group, one feature. -/
theorem qcol_split (j : Fin 1024) : ∃ h g d, j = qcol h g d :=
  ⟨⟨j.val / 512, by omega⟩, ⟨j.val / 128 % 4, by omega⟩, ⟨j.val % 128, by omega⟩, Fin.ext (by simp only [qcol]; omega)⟩

/-- A column of the key arrays belongs to one key head and one feature. -/
theorem kcol_split (j : Fin 256) : ∃ h d, j = kcol h d :=
  ⟨⟨j.val / 128, by omega⟩, ⟨j.val % 128, by omega⟩, Fin.ext (by simp only [kcol]; omega)⟩

section
variable (m : (ℓ : Loc Cert.KernelIdeal.nD Cert.KernelIdeal.τ Cert.KernelIdeal.sig) → Buf (Elt Ideal) ℓ) (hm : Cert.Pre_KernelIdeal_finite m)
  (c : Dev Cert.KernelIdeal.nD)
include hm

theorem real_q (n : Fin 8192) (j : Fin 1024) : inQ m c (ix2 n j) = ((EReal.toReal (inQ m c (ix2 n j)) : ℝ) : EReal) :=
  Cert.Pre_finite.Val.real_of_array Cert.Pre_finite.Val.facts.1 (hm c).1 (ix2 n j)
theorem real_k (κ : Fin 8448) (j : Fin 256) : inK m c (ix2 κ j) = ((EReal.toReal (inK m c (ix2 κ j)) : ℝ) : EReal) :=
  Cert.Pre_finite.Val.real_of_array Cert.Pre_finite.Val.facts.2 (hm c).2.1 (ix2 κ j)
theorem real_v (κ : Fin 8448) (j : Fin 256) : inV m c (ix2 κ j) = ((EReal.toReal (inV m c (ix2 κ j)) : ℝ) : EReal) :=
  Cert.Pre_finite.Val.real_of_array Cert.Pre_finite.Val.facts.2 (hm c).2.2.1 (ix2 κ j)
theorem real_do (n : Fin 8192) (j : Fin 1024) : inDo m c (ix2 n j) = ((EReal.toReal (inDo m c (ix2 n j)) : ℝ) : EReal) :=
  Cert.Pre_finite.Val.real_of_array Cert.Pre_finite.Val.facts.1 (hm c).2.2.2 (ix2 n j)

/-- The gradient of the queries: the reference's is the kernel's. -/
theorem dq_eq : Cert.ReferenceIdeal.Read.val_main_v67 (F := Ideal) (inQ m c) (inK m c) (inV m c) (inDo m c)
    = gradQ (arrQ m c) (arrK m c) (arrV m c) (arrDo m c) (arrO m c) (arrLse m c) := funext fun x => by
  obtain ⟨n, j, rfl⟩ : ∃ n j, x = ix2 n j := ⟨x 0, x 1, eq_ix2 x⟩
  obtain ⟨h, g, d, rfl⟩ := qcol_split j
  exact (Cert.ReferenceIdeal.Val.v67_real (real_q m hm c) (real_k m hm c) (real_v m hm c) (real_do m hm c) h g n d).trans
    (gradQ_real m c (real_q m hm c) (real_k m hm c) (real_v m hm c) (real_do m hm c) h g n d).symm

/-- The gradient of the keys: the reference's is the kernel's. -/
theorem dk_eq : Cert.ReferenceIdeal.Read.val_main_v64 (F := Ideal) (inQ m c) (inK m c) (inV m c) (inDo m c)
    = gradK (arrQ m c) (arrK m c) (arrV m c) (arrDo m c) (arrO m c) (arrLse m c) := funext fun x => by
  obtain ⟨κ, j, rfl⟩ : ∃ κ j, x = ix2 κ j := ⟨x 0, x 1, eq_ix2 x⟩
  obtain ⟨h, d, rfl⟩ := kcol_split j
  exact (Cert.ReferenceIdeal.Val.v64_real (real_q m hm c) (real_k m hm c) (real_v m hm c) (real_do m hm c) h κ d).trans
    (gradK_real m c (real_q m hm c) (real_k m hm c) (real_v m hm c) (real_do m hm c) h κ d).symm

/-- The gradient of the values: the reference's is the kernel's. -/
theorem dv_eq : Cert.ReferenceIdeal.Read.val_main_v43 (F := Ideal) (inQ m c) (inK m c) (inDo m c)
    = gradV (arrQ m c) (arrK m c) (arrDo m c) (arrLse m c) := funext fun x => by
  obtain ⟨κ, j, rfl⟩ : ∃ κ j, x = ix2 κ j := ⟨x 0, x 1, eq_ix2 x⟩
  obtain ⟨h, d, rfl⟩ := kcol_split j
  exact (Cert.ReferenceIdeal.Val.v43_real (real_q m hm c) (real_k m hm c) (real_do m hm c) h κ d).trans
    (gradV_real m c (real_q m hm c) (real_k m hm c) (real_do m hm c) h κ d).symm
end

/-- Kernel and reference leave the same three gradients. -/
theorem algebraic : Cert.algebraic_KernelIdeal_ReferenceIdeal_pre_finite := fun m g m' g' hm hargs => by
  refine ⟨_, _, _, Cert.KernelIdeal.Value.run_blocks m g, (θ_run Cert.ReferenceIdeal.defs _ _).mono (fun _ hr c => ?_) (Cert.ReferenceIdeal.Value.run (F := Ideal) m' g')⟩
  obtain ⟨r0, r1, r2, kept⟩ := hr c
  obtain ⟨e0, e1, e2, e3⟩ := hargs c
  refine ⟨r0.trans ?_, r1.trans ?_, r2.trans ?_, kept⟩
  · rw [Cert.ReferenceIdeal.Read.val_main_v67_eq, e0, e1, e2, e3]
    exact (dq_eq m hm c).trans (final6 m c).symm
  · rw [Cert.ReferenceIdeal.Read.val_main_v64_eq, e0, e1, e2, e3]
    exact (dk_eq m hm c).trans (final7 m c).symm
  · rw [Cert.ReferenceIdeal.Read.val_main_v43_eq, e0, e1, e3]
    exact (dv_eq m hm c).trans (final8 m c).symm

/-- The reference runs, leaves its arguments, and has no semaphore to leave raised. -/
theorem frame_reference : Cert.quiescent_ReferenceIdeal := fun m ρ _ => (θ_run Cert.ReferenceIdeal.defs _ _).mono
  (fun r h => And.intro (fun c => (h c).2.2.2) (sem_eq_zero_of_no_sems (by decide) r.2)) (Cert.ReferenceIdeal.Value.run (F := Ideal) m ρ)

/-- The output projections' weights' gradient: kernel and reference leave the same array. -/
theorem algebraic2 : Cert.algebraic_Kernel2Ideal_Reference2Ideal := fun m g m' g' _ hargs => by
  refine ⟨_, Cert.Kernel2Ideal.Value.run_blocks m g, (θ_run Cert.Reference2Ideal.defs _ _).mono (fun _ hr c => ?_) (Cert.Reference2Ideal.Value.run (F := Ideal) m' g')⟩
  obtain ⟨r0, kept⟩ := hr c
  obtain ⟨e0, e1⟩ := hargs c
  refine ⟨r0.trans ?_, kept⟩
  rw [Cert.Reference2Ideal.Read.val_main_v7_eq, e0, e1]
  exact (Cert.Kernel2Ideal.Val.ref_eq _ _).trans (Cert.Kernel2Ideal.Val.final m c).symm

/-- The output projections: kernel and reference leave the same product and the same gated sum. -/
theorem algebraic3 : Cert.algebraic_Kernel3Ideal_Reference3Ideal := fun m g m' g' _ hargs => by
  refine ⟨_, _, Cert.Kernel3Ideal.Value.run_blocks m g, (θ_run Cert.Reference3Ideal.defs _ _).mono (fun _ hr c => ?_) (Cert.Reference3Ideal.Value.run (F := Ideal) m' g')⟩
  obtain ⟨r0, r1, kept⟩ := hr c
  obtain ⟨e0, e1, e2, e3⟩ := hargs c
  refine ⟨r0.trans ?_, r1.trans ?_, kept⟩
  · rw [Cert.Reference3Ideal.Read.val_main_v3_eq, e0, e1]
    exact (Cert.Kernel3Ideal.Val.ref4_eq _ _).trans (Cert.Kernel3Ideal.Val.final4 m c).symm
  · rw [Cert.Reference3Ideal.Read.val_main_v6_eq, e0, e1, e2, e3]
    exact (Cert.Kernel3Ideal.Val.ref5_eq _ _ _ _).trans (Cert.Kernel3Ideal.Val.final5 m c).symm

/-- The input projection: kernel and reference leave the same product. -/
theorem algebraic4 : Cert.algebraic_Kernel4Ideal_Reference4Ideal := fun m g m' g' _ hargs => by
  refine ⟨_, Cert.Kernel4Ideal.Value.run_blocks m g, (θ_run Cert.Reference4Ideal.defs _ _).mono (fun _ hr c => ?_) (Cert.Reference4Ideal.Value.run (F := Ideal) m' g')⟩
  obtain ⟨r0, kept⟩ := hr c
  obtain ⟨e0, e1⟩ := hargs c
  refine ⟨r0.trans ?_, kept⟩
  rw [Cert.Reference4Ideal.Read.val_main_v3_eq, e0, e1]
  exact (Cert.Kernel4Ideal.Val.ref_eq _ _).trans (Cert.Kernel4Ideal.Val.final m c).symm

section
open Cert.Kernel5Ideal.Val (attnOut attnLse)
variable (m : (ℓ : Loc Cert.Kernel5Ideal.nD Cert.Kernel5Ideal.τ Cert.Kernel5Ideal.sig) → Buf (Elt Ideal) ℓ) (hm : Cert.Pre_Kernel5Ideal_finite5 m)
  (c : Dev Cert.Kernel5Ideal.nD)
include hm

theorem real_q5 (n : Fin 8192) (j : Fin 1024) : Cert.Kernel5Ideal.Val.inQ m c (ix2 n j) = ((EReal.toReal (Cert.Kernel5Ideal.Val.inQ m c (ix2 n j)) : ℝ) : EReal) :=
  Cert.Pre_finite.Val.real_of_array Cert.Pre_finite.Val.facts.1 (hm c).1 (ix2 n j)
theorem real_k5 (κ : Fin 8448) (j : Fin 256) : Cert.Kernel5Ideal.Val.inK m c (ix2 κ j) = ((EReal.toReal (Cert.Kernel5Ideal.Val.inK m c (ix2 κ j)) : ℝ) : EReal) :=
  Cert.Pre_finite.Val.real_of_array Cert.Pre_finite.Val.facts.2 (hm c).2.1 (ix2 κ j)
theorem real_v5 (κ : Fin 8448) (j : Fin 256) : Cert.Kernel5Ideal.Val.inV m c (ix2 κ j) = ((EReal.toReal (Cert.Kernel5Ideal.Val.inV m c (ix2 κ j)) : ℝ) : EReal) :=
  Cert.Pre_finite.Val.real_of_array Cert.Pre_finite.Val.facts.2 (hm c).2.2 (ix2 κ j)

/-- The attention's output: the reference's is the kernel's. -/
theorem out5_eq : Cert.Reference5Ideal.Read.val_main_v29 (F := Ideal) (Cert.Kernel5Ideal.Val.inQ m c) (Cert.Kernel5Ideal.Val.inK m c) (Cert.Kernel5Ideal.Val.inV m c)
    = (Cert.Kernel5Ideal.Gen.dats m 0 c).arrAt 3 Cert.Kernel5Ideal.cfg0.N :=
  (Cert.Reference5Ideal.Val.out_real (real_q5 m hm c) (real_k5 m hm c) (real_v5 m hm c)).trans
    (Cert.Kernel5Ideal.Val.final3 m c (real_q5 m hm c) (real_k5 m hm c) (real_v5 m hm c)).symm

/-- The logarithms of the softmax sums: the reference's are the kernel's. -/
theorem lse5_eq : Cert.Reference5Ideal.Read.val_main_v32 (F := Ideal) (Cert.Kernel5Ideal.Val.inQ m c) (Cert.Kernel5Ideal.Val.inK m c)
    = (Cert.Kernel5Ideal.Gen.dats m 0 c).arrAt 4 Cert.Kernel5Ideal.cfg0.N :=
  (Cert.Reference5Ideal.Val.lse_real (real_q5 m hm c) (real_k5 m hm c)).trans
    (Cert.Kernel5Ideal.Val.final4 m c (real_q5 m hm c) (real_k5 m hm c) (real_v5 m hm c)).symm
end

/-- The attention forward: kernel and reference leave the same output and the same logarithms. -/
theorem algebraic5 : Cert.algebraic_Kernel5Ideal_Reference5Ideal_pre_finite5 := fun m g m' g' hm hargs => by
  refine ⟨_, _, Cert.Kernel5Ideal.Val.run m g, (θ_run Cert.Reference5Ideal.defs _ _).mono (fun _ hr c => ?_) (Cert.Reference5Ideal.Value.run (F := Ideal) m' g')⟩
  obtain ⟨r0, r1, kept⟩ := hr c
  obtain ⟨e0, e1, e2⟩ := hargs c
  refine ⟨r0.trans ?_, r1.trans ?_, kept⟩
  · rw [Cert.Reference5Ideal.Read.val_main_v29_eq, e0, e1, e2]
    exact out5_eq m hm c
  · rw [Cert.Reference5Ideal.Read.val_main_v32_eq, e0, e1]
    exact lse5_eq m hm c

theorem frame_reference5 : Cert.quiescent_Reference5Ideal := fun m ρ _ => (θ_run Cert.Reference5Ideal.defs _ _).mono
  (fun r h => And.intro (fun c => (h c).2.2) (sem_eq_zero_of_no_sems (by decide) r.2)) (Cert.Reference5Ideal.Value.run (F := Ideal) m ρ)
theorem frame_reference2 : Cert.quiescent_Reference2Ideal := fun m ρ _ => (θ_run Cert.Reference2Ideal.defs _ _).mono
  (fun r h => And.intro (fun c => (h c).2) (sem_eq_zero_of_no_sems (by decide) r.2)) (Cert.Reference2Ideal.Value.run (F := Ideal) m ρ)
theorem frame_reference3 : Cert.quiescent_Reference3Ideal := fun m ρ _ => (θ_run Cert.Reference3Ideal.defs _ _).mono
  (fun r h => And.intro (fun c => (h c).2.2) (sem_eq_zero_of_no_sems (by decide) r.2)) (Cert.Reference3Ideal.Value.run (F := Ideal) m ρ)
theorem frame_reference4 : Cert.quiescent_Reference4Ideal := fun m ρ _ => (θ_run Cert.Reference4Ideal.defs _ _).mono
  (fun r h => And.intro (fun c => (h c).2) (sem_eq_zero_of_no_sems (by decide) r.2)) (Cert.Reference4Ideal.Value.run (F := Ideal) m ρ)

/-- The output projections' input's gradient: kernel and reference leave the same array. -/
theorem algebraic6 : Cert.algebraic_Kernel6Ideal_Reference6Ideal := fun m g m' g' _ hargs => by
  refine ⟨_, Cert.Kernel6Ideal.Value.run_blocks m g, (θ_run Cert.Reference6Ideal.defs _ _).mono (fun _ hr c => ?_) (Cert.Reference6Ideal.Value.run (F := Ideal) m' g')⟩
  obtain ⟨r0, kept⟩ := hr c
  obtain ⟨e0, e1⟩ := hargs c
  refine ⟨r0.trans ?_, kept⟩
  rw [Cert.Reference6Ideal.Read.val_main_v6_eq, e0, e1]
  exact (Cert.Kernel6Ideal.Val.ref_eq _ _).trans (Cert.Kernel6Ideal.Val.final m c).symm

theorem frame_reference6 : Cert.quiescent_Reference6Ideal := fun m ρ _ => (θ_run Cert.Reference6Ideal.defs _ _).mono
  (fun r h => And.intro (fun c => (h c).2) (sem_eq_zero_of_no_sems (by decide) r.2)) (Cert.Reference6Ideal.Value.run (F := Ideal) m ρ)

/-- The odd layer's input weights' gradient: kernel and reference leave the same array. -/
theorem algebraic7 : Cert.algebraic_Kernel7Ideal_Reference7Ideal := fun m g m' g' _ hargs => by
  refine ⟨_, Cert.Kernel7Ideal.Value.run_blocks m g, (θ_run Cert.Reference7Ideal.defs _ _).mono (fun _ hr c => ?_) (Cert.Reference7Ideal.Value.run (F := Ideal) m' g')⟩
  obtain ⟨r0, kept⟩ := hr c
  obtain ⟨e0, e1⟩ := hargs c
  refine ⟨r0.trans ?_, kept⟩
  rw [Cert.Reference7Ideal.Read.val_main_v7_eq, e0, e1]
  exact (Cert.Kernel7Ideal.Val.ref_eq _ _).trans (Cert.Kernel7Ideal.Val.final m c).symm

theorem frame_reference7 : Cert.quiescent_Reference7Ideal := fun m ρ _ => (θ_run Cert.Reference7Ideal.defs _ _).mono
  (fun r h => And.intro (fun c => (h c).2) (sem_eq_zero_of_no_sems (by decide) r.2)) (Cert.Reference7Ideal.Value.run (F := Ideal) m ρ)

/-- The odd layer's input's gradient: kernel and reference leave the same array. -/
theorem algebraic8 : Cert.algebraic_Kernel8Ideal_Reference8Ideal := fun m g m' g' _ hargs => by
  refine ⟨_, Cert.Kernel8Ideal.Value.run_blocks m g, (θ_run Cert.Reference8Ideal.defs _ _).mono (fun _ hr c => ?_) (Cert.Reference8Ideal.Value.run (F := Ideal) m' g')⟩
  obtain ⟨r0, kept⟩ := hr c
  obtain ⟨e0, e1⟩ := hargs c
  refine ⟨r0.trans ?_, kept⟩
  rw [Cert.Reference8Ideal.Read.val_main_v6_eq, e0, e1]
  exact (Cert.Kernel8Ideal.Val.ref_eq _ _).trans (Cert.Kernel8Ideal.Val.final m c).symm

theorem frame_reference8 : Cert.quiescent_Reference8Ideal := fun m ρ _ => (θ_run Cert.Reference8Ideal.defs _ _).mono
  (fun r h => And.intro (fun c => (h c).2) (sem_eq_zero_of_no_sems (by decide) r.2)) (Cert.Reference8Ideal.Value.run (F := Ideal) m ρ)

/-- The even layer's input projection: kernel and reference leave the same array. -/
theorem algebraic9 : Cert.algebraic_Kernel9Ideal_Reference9Ideal := fun m g m' g' _ hargs => by
  refine ⟨_, Cert.Kernel9Ideal.Value.run_blocks m g, (θ_run Cert.Reference9Ideal.defs _ _).mono (fun _ hr c => ?_) (Cert.Reference9Ideal.Value.run (F := Ideal) m' g')⟩
  obtain ⟨r0, kept⟩ := hr c
  obtain ⟨e0, e1⟩ := hargs c
  refine ⟨r0.trans ?_, kept⟩
  rw [Cert.Reference9Ideal.Read.val_main_v3_eq, e0, e1]
  exact (Cert.Kernel9Ideal.Val.ref_eq _ _).trans (Cert.Kernel9Ideal.Val.final m c).symm

theorem frame_reference9 : Cert.quiescent_Reference9Ideal := fun m ρ _ => (θ_run Cert.Reference9Ideal.defs _ _).mono
  (fun r h => And.intro (fun c => (h c).2) (sem_eq_zero_of_no_sems (by decide) r.2)) (Cert.Reference9Ideal.Value.run (F := Ideal) m ρ)

/-- The even layer's input weights' gradient: kernel and reference leave the same array. -/
theorem algebraic10 : Cert.algebraic_Kernel10Ideal_Reference10Ideal := fun m g m' g' _ hargs => by
  refine ⟨_, Cert.Kernel10Ideal.Value.run_blocks m g, (θ_run Cert.Reference10Ideal.defs _ _).mono (fun _ hr c => ?_) (Cert.Reference10Ideal.Value.run (F := Ideal) m' g')⟩
  obtain ⟨r0, kept⟩ := hr c
  obtain ⟨e0, e1⟩ := hargs c
  refine ⟨r0.trans ?_, kept⟩
  rw [Cert.Reference10Ideal.Read.val_main_v7_eq, e0, e1]
  exact (Cert.Kernel10Ideal.Val.ref_eq _ _).trans (Cert.Kernel10Ideal.Val.final m c).symm

theorem frame_reference10 : Cert.quiescent_Reference10Ideal := fun m ρ _ => (θ_run Cert.Reference10Ideal.defs _ _).mono
  (fun r h => And.intro (fun c => (h c).2) (sem_eq_zero_of_no_sems (by decide) r.2)) (Cert.Reference10Ideal.Value.run (F := Ideal) m ρ)

/-- The even layer's input's gradient: kernel and reference leave the same array. -/
theorem algebraic11 : Cert.algebraic_Kernel11Ideal_Reference11Ideal := fun m g m' g' _ hargs => by
  refine ⟨_, Cert.Kernel11Ideal.Value.run_blocks m g, (θ_run Cert.Reference11Ideal.defs _ _).mono (fun _ hr c => ?_) (Cert.Reference11Ideal.Value.run (F := Ideal) m' g')⟩
  obtain ⟨r0, kept⟩ := hr c
  obtain ⟨e0, e1⟩ := hargs c
  refine ⟨r0.trans ?_, kept⟩
  rw [Cert.Reference11Ideal.Read.val_main_v6_eq, e0, e1]
  exact (Cert.Kernel11Ideal.Val.ref_eq _ _).trans (Cert.Kernel11Ideal.Val.final m c).symm

theorem frame_reference11 : Cert.quiescent_Reference11Ideal := fun m ρ _ => (θ_run Cert.Reference11Ideal.defs _ _).mono
  (fun r h => And.intro (fun c => (h c).2) (sem_eq_zero_of_no_sems (by decide) r.2)) (Cert.Reference11Ideal.Value.run (F := Ideal) m ρ)

/-- The loss head: kernel and reference leave the same five arrays. -/
theorem algebraic12 : Cert.algebraic_Kernel12Ideal_Reference12Ideal := fun m g m' g' _ hargs => by
  refine ⟨_, _, _, _, _, Cert.Kernel12Ideal.Value.run_blocks m g, (θ_run Cert.Reference12Ideal.defs _ _).mono (fun _ hr c => ?_) (Cert.Reference12Ideal.Value.run (F := Ideal) m' g')⟩
  obtain ⟨r0, r1, r2, r3, r4, kept⟩ := hr c
  obtain ⟨e0, e1, e2, e3, e4⟩ := hargs c
  refine ⟨r0.trans ?_, r1.trans ?_, r2.trans ?_, r3.trans ?_, r4.trans ?_, kept⟩
  · rw [Cert.Reference12Ideal.Read.val_main_v48_eq, e0, e1, e2]
    exact (Cert.Reference12Ideal.Val.dx_eq _ _ _).trans (Cert.Kernel12Ideal.Val.final5 m c).symm
  · rw [Cert.Reference12Ideal.Read.val_main_v57_eq, e0, e1, e2, e4]
    exact (Cert.Reference12Ideal.Val.do_eq _ _ _ _).trans (Cert.Kernel12Ideal.Val.final6 m c).symm
  · rw [Cert.Reference12Ideal.Read.val_main_v73_eq, e0, e1, e2]
    exact (Cert.Reference12Ideal.Val.ls_eq _ _ _).trans (Cert.Kernel12Ideal.Val.final7 m c).symm
  · rw [Cert.Reference12Ideal.Read.val_main_v32_eq, e0, e1, e2]
    exact (Cert.Reference12Ideal.Val.dg_eq _ _ _).trans (Cert.Kernel12Ideal.Val.final8 m c).symm
  · rw [Cert.Reference12Ideal.Read.val_main_v56_eq, e0, e1, e2, e3]
    exact (Cert.Reference12Ideal.Val.dgate_eq _ _ _ _).trans (Cert.Kernel12Ideal.Val.final9 m c).symm

theorem frame_reference12 : Cert.quiescent_Reference12Ideal := fun m ρ _ => (θ_run Cert.Reference12Ideal.defs _ _).mono
  (fun r h => And.intro (fun c => (h c).2.2.2.2.2) (sem_eq_zero_of_no_sems (by decide) r.2)) (Cert.Reference12Ideal.Value.run (F := Ideal) m ρ)

/-- The optimiser's step of call 13: kernel and reference leave the same arrays. -/
theorem algebraic13 : Cert.algebraic_Kernel13Ideal_Reference13Ideal := fun m g m' g' _ hargs => by
  refine ⟨_, _, _, Cert.Kernel13Ideal.Value.run m g, (θ_run Cert.Reference13Ideal.defs _ _).mono (fun _ hr c => ?_) (Cert.Reference13Ideal.Value.run (F := Ideal) m' g')⟩
  obtain ⟨r0, r1, r2, kept⟩ := hr c
  obtain ⟨e0, e1, e2, e3⟩ := hargs c
  refine ⟨r0.trans ?_, r1.trans ?_, r2.trans ?_, kept⟩
  · rw [Cert.Reference13Ideal.Read.val_main_v23_eq, e0, e1, e2, e3]
    exact (Cert.Kernel13Ideal.Val.ref_delta _ _ _ _).trans (Cert.Kernel13Ideal.Val.final4 m c).symm
  · rw [Cert.Reference13Ideal.Read.val_main_v4_eq, e1, e2]
    exact (Cert.Kernel13Ideal.Val.ref_mom _ _).trans (Cert.Kernel13Ideal.Val.final5 m c).symm
  · rw [Cert.Reference13Ideal.Read.val_main_v10_eq, e1, e3]
    exact (Cert.Kernel13Ideal.Val.ref_sqr _ _).trans (Cert.Kernel13Ideal.Val.final6 m c).symm

theorem frame_reference13 : Cert.quiescent_Reference13Ideal := fun m ρ _ => (θ_run Cert.Reference13Ideal.defs _ _).mono
  (fun r h => And.intro (fun c => (h c).2.2.2) (sem_eq_zero_of_no_sems (by decide) r.2)) (Cert.Reference13Ideal.Value.run (F := Ideal) m ρ)

/-- The optimiser's step of call 14: kernel and reference leave the same arrays. -/
theorem algebraic14 : Cert.algebraic_Kernel14Ideal_Reference14Ideal := fun m g m' g' _ hargs => by
  refine ⟨_, _, _, _, Cert.Kernel14Ideal.Value.run_blocks m g, (θ_run Cert.Reference14Ideal.defs _ _).mono (fun _ hr c => ?_) (Cert.Reference14Ideal.Value.run (F := Ideal) m' g')⟩
  obtain ⟨r0, r1, r2, r3, kept⟩ := hr c
  obtain ⟨e0, e1, e2, e3⟩ := hargs c
  refine ⟨r0.trans ?_, r1.trans ?_, r2.trans ?_, r3.trans ?_, kept⟩
  · rw [Cert.Reference14Ideal.Read.val_main_v23_eq, e0, e1, e2, e3]
    exact (Cert.Kernel14Ideal.Val.ref_delta _ _ _ _).trans (Cert.Kernel14Ideal.Val.final4 m c).symm
  · rw [Cert.Reference14Ideal.Read.val_main_v4_eq, e1, e2]
    exact (Cert.Kernel14Ideal.Val.ref_mom _ _).trans (Cert.Kernel14Ideal.Val.final5 m c).symm
  · rw [Cert.Reference14Ideal.Read.val_main_v10_eq, e1, e3]
    exact (Cert.Kernel14Ideal.Val.ref_sqr _ _).trans (Cert.Kernel14Ideal.Val.final6 m c).symm
  · exact e1.trans (Cert.Kernel14Ideal.Val.final7 m c).symm

theorem frame_reference14 : Cert.quiescent_Reference14Ideal := fun m ρ _ => (θ_run Cert.Reference14Ideal.defs _ _).mono
  (fun r h => And.intro (fun c => (h c).2.2.2.2) (sem_eq_zero_of_no_sems (by decide) r.2)) (Cert.Reference14Ideal.Value.run (F := Ideal) m ρ)

/-- The optimiser's step of call 15: kernel and reference leave the same arrays. -/
theorem algebraic15 : Cert.algebraic_Kernel15Ideal_Reference15Ideal := fun m g m' g' _ hargs => by
  refine ⟨_, _, _, _, Cert.Kernel15Ideal.Value.run_blocks m g, (θ_run Cert.Reference15Ideal.defs _ _).mono (fun _ hr c => ?_) (Cert.Reference15Ideal.Value.run (F := Ideal) m' g')⟩
  obtain ⟨r0, r1, r2, r3, kept⟩ := hr c
  obtain ⟨e0, e1, e2, e3⟩ := hargs c
  refine ⟨r0.trans ?_, r1.trans ?_, r2.trans ?_, r3.trans ?_, kept⟩
  · rw [Cert.Reference15Ideal.Read.val_main_v23_eq, e0, e1, e2, e3]
    exact (Cert.Kernel15Ideal.Val.ref_delta _ _ _ _).trans (Cert.Kernel15Ideal.Val.final4 m c).symm
  · rw [Cert.Reference15Ideal.Read.val_main_v4_eq, e1, e2]
    exact (Cert.Kernel15Ideal.Val.ref_mom _ _).trans (Cert.Kernel15Ideal.Val.final5 m c).symm
  · rw [Cert.Reference15Ideal.Read.val_main_v10_eq, e1, e3]
    exact (Cert.Kernel15Ideal.Val.ref_sqr _ _).trans (Cert.Kernel15Ideal.Val.final6 m c).symm
  · exact e1.trans (Cert.Kernel15Ideal.Val.final7 m c).symm

theorem frame_reference15 : Cert.quiescent_Reference15Ideal := fun m ρ _ => (θ_run Cert.Reference15Ideal.defs _ _).mono
  (fun r h => And.intro (fun c => (h c).2.2.2.2) (sem_eq_zero_of_no_sems (by decide) r.2)) (Cert.Reference15Ideal.Value.run (F := Ideal) m ρ)

/-- The optimiser's step of call 16: kernel and reference leave the same arrays. -/
theorem algebraic16 : Cert.algebraic_Kernel16Ideal_Reference16Ideal := fun m g m' g' _ hargs => by
  refine ⟨_, _, _, _, Cert.Kernel16Ideal.Value.run_blocks m g, (θ_run Cert.Reference16Ideal.defs _ _).mono (fun _ hr c => ?_) (Cert.Reference16Ideal.Value.run (F := Ideal) m' g')⟩
  obtain ⟨r0, r1, r2, r3, kept⟩ := hr c
  obtain ⟨e0, e1, e2, e3⟩ := hargs c
  refine ⟨r0.trans ?_, r1.trans ?_, r2.trans ?_, r3.trans ?_, kept⟩
  · rw [Cert.Reference16Ideal.Read.val_main_v23_eq, e0, e1, e2, e3]
    exact (Cert.Kernel16Ideal.Val.ref_delta _ _ _ _).trans (Cert.Kernel16Ideal.Val.final4 m c).symm
  · rw [Cert.Reference16Ideal.Read.val_main_v4_eq, e1, e2]
    exact (Cert.Kernel16Ideal.Val.ref_mom _ _).trans (Cert.Kernel16Ideal.Val.final5 m c).symm
  · rw [Cert.Reference16Ideal.Read.val_main_v10_eq, e1, e3]
    exact (Cert.Kernel16Ideal.Val.ref_sqr _ _).trans (Cert.Kernel16Ideal.Val.final6 m c).symm
  · exact e1.trans (Cert.Kernel16Ideal.Val.final7 m c).symm

theorem frame_reference16 : Cert.quiescent_Reference16Ideal := fun m ρ _ => (θ_run Cert.Reference16Ideal.defs _ _).mono
  (fun r h => And.intro (fun c => (h c).2.2.2.2) (sem_eq_zero_of_no_sems (by decide) r.2)) (Cert.Reference16Ideal.Value.run (F := Ideal) m ρ)

/-- The optimiser's step of call 17: kernel and reference leave the same arrays. -/
theorem algebraic17 : Cert.algebraic_Kernel17Ideal_Reference17Ideal := fun m g m' g' _ hargs => by
  refine ⟨_, _, _, Cert.Kernel17Ideal.Value.run m g, (θ_run Cert.Reference17Ideal.defs _ _).mono (fun _ hr c => ?_) (Cert.Reference17Ideal.Value.run (F := Ideal) m' g')⟩
  obtain ⟨r0, r1, r2, kept⟩ := hr c
  obtain ⟨e0, e1, e2, e3⟩ := hargs c
  refine ⟨r0.trans ?_, r1.trans ?_, r2.trans ?_, kept⟩
  · rw [Cert.Reference17Ideal.Read.val_main_v23_eq, e0, e1, e2, e3]
    exact (Cert.Kernel17Ideal.Val.ref_delta _ _ _ _).trans (Cert.Kernel17Ideal.Val.final4 m c).symm
  · rw [Cert.Reference17Ideal.Read.val_main_v4_eq, e1, e2]
    exact (Cert.Kernel17Ideal.Val.ref_mom _ _).trans (Cert.Kernel17Ideal.Val.final5 m c).symm
  · rw [Cert.Reference17Ideal.Read.val_main_v10_eq, e1, e3]
    exact (Cert.Kernel17Ideal.Val.ref_sqr _ _).trans (Cert.Kernel17Ideal.Val.final6 m c).symm

theorem frame_reference17 : Cert.quiescent_Reference17Ideal := fun m ρ _ => (θ_run Cert.Reference17Ideal.defs _ _).mono
  (fun r h => And.intro (fun c => (h c).2.2.2) (sem_eq_zero_of_no_sems (by decide) r.2)) (Cert.Reference17Ideal.Value.run (F := Ideal) m ρ)

/-- The gradient of the first layer's modulated norm: kernel and reference leave the same four arrays. -/
theorem algebraic18 : Cert.algebraic_Kernel18Ideal_Reference18Ideal := fun m g m' g' _ hargs => by
  refine ⟨_, _, _, _, Cert.Kernel18Ideal.Value.run_blocks m g, (θ_run Cert.Reference18Ideal.defs _ _).mono (fun _ hr c => ?_) (Cert.Reference18Ideal.Value.run (F := Ideal) m' g')⟩
  obtain ⟨r0, r1, r2, r3, kept⟩ := hr c
  obtain ⟨e0, e1, e2, e3, e4, e5⟩ := hargs c
  refine ⟨r0.trans ?_, r1.trans ?_, r2.trans ?_, r3.trans ?_, kept⟩
  · rw [Cert.Reference18Ideal.Read.val_main_v50_eq, e0, e1, e2, e3, e5]
    exact (Cert.Reference18Ideal.Val.dx_eq _ _ _ _ _).trans (Cert.Kernel18Ideal.Val.finalDx m c).symm
  · refine (Cert.Reference18Ideal.Read.val_main_v25_eq (F := Ideal) _).trans ?_
    rw [e1]
    exact (Cert.Reference18Ideal.Val.shift_eq _).trans (Cert.Kernel18Ideal.Val.finalShift m c).symm
  · refine (Cert.Reference18Ideal.Read.val_main_v28_eq (F := Ideal) _ _ _).trans ?_
    rw [e0, e1, e2]
    exact (Cert.Reference18Ideal.Val.scale_eq _ _ _).trans (Cert.Kernel18Ideal.Val.finalScale m c).symm
  · refine (Cert.Reference18Ideal.Read.val_main_v51_eq (F := Ideal) _ _ _ _).trans ?_
    rw [e0, e1, e3, e4]
    exact (Cert.Reference18Ideal.Val.dg_eq _ _ _ _).trans (Cert.Kernel18Ideal.Val.finalDg m c).symm

theorem frame_reference18 : Cert.quiescent_Reference18Ideal := fun m ρ _ => (θ_run Cert.Reference18Ideal.defs _ _).mono
  (fun r h => And.intro (fun c => (h c).2.2.2.2) (sem_eq_zero_of_no_sems (by decide) r.2)) (Cert.Reference18Ideal.Value.run (F := Ideal) m ρ)

/-- The gradient of the second layer's modulated norm: kernel and reference leave the same six arrays. -/
theorem algebraic19 : Cert.algebraic_Kernel19Ideal_Reference19Ideal := fun m g m' g' _ hargs => by
  refine ⟨_, _, _, _, _, _, Cert.Kernel19Ideal.Value.run_blocks m g, (θ_run Cert.Reference19Ideal.defs _ _).mono (fun _ hr c => ?_) (Cert.Reference19Ideal.Value.run (F := Ideal) m' g')⟩
  obtain ⟨r0, r1, r2, r3, r4, r5, kept⟩ := hr c
  obtain ⟨e0, e1, e2, e3, e4, e5, e6, e7⟩ := hargs c
  refine ⟨r0.trans ?_, r1.trans ?_, r2.trans ?_, r3.trans ?_, r4.trans ?_, r5.trans ?_, kept⟩
  · rw [Cert.Reference19Ideal.Read.val_main_v49_eq, e0, e1, e2, e3, e5]
    exact (Cert.Reference19Ideal.Val.dx_eq _ _ _ _ _).trans (Cert.Kernel19Ideal.Val.finalDx m c).symm
  · rw [Cert.Reference19Ideal.Read.val_main_v58_eq, e0, e1, e2, e3, e5, e7]
    exact (Cert.Reference19Ideal.Val.do_eq _ _ _ _ _ _).trans (Cert.Kernel19Ideal.Val.finalDo m c).symm
  · refine (Cert.Reference19Ideal.Read.val_main_v24_eq (F := Ideal) _).trans ?_
    rw [e1]
    exact (Cert.Reference19Ideal.Val.shift_eq _).trans (Cert.Kernel19Ideal.Val.finalShift m c).symm
  · refine (Cert.Reference19Ideal.Read.val_main_v27_eq (F := Ideal) _ _ _).trans ?_
    rw [e0, e1, e2]
    exact (Cert.Reference19Ideal.Val.scale_eq _ _ _).trans (Cert.Kernel19Ideal.Val.finalScale m c).symm
  · refine (Cert.Reference19Ideal.Read.val_main_v59_eq (F := Ideal) _ _ _ _).trans ?_
    rw [e0, e1, e3, e4]
    exact (Cert.Reference19Ideal.Val.dg_eq _ _ _ _).trans (Cert.Kernel19Ideal.Val.finalDg m c).symm
  · rw [Cert.Reference19Ideal.Read.val_main_v57_eq, e0, e1, e2, e3, e5, e6]
    exact (Cert.Reference19Ideal.Val.gate_eq _ _ _ _ _ _).trans (Cert.Kernel19Ideal.Val.finalGate m c).symm

theorem frame_reference19 : Cert.quiescent_Reference19Ideal := fun m ρ _ => (θ_run Cert.Reference19Ideal.defs _ _).mono
  (fun r h => And.intro (fun c => (h c).2.2.2.2.2.2) (sem_eq_zero_of_no_sems (by decide) r.2)) (Cert.Reference19Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Pre_finite.Val.facts, facts5,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, fun m ρ _ => Cert.Kernel5Ideal.Gen.frame m ρ,
  frame_reference5, fun m ρ _ => frame_reference5 m ρ trivial,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ, frame_reference18,
  fun m ρ _ => Cert.Kernel19.Gen.frame m ρ, fun m ρ _ => Cert.Kernel19Ideal.Gen.frame m ρ, frame_reference19,
  trivial, algebraic, trivial, algebraic2, trivial, algebraic3, trivial, algebraic4,
  trivial, algebraic5,
  trivial, algebraic6,
  trivial, algebraic7,
  trivial, algebraic8,
  trivial, algebraic9,
  trivial, algebraic10,
  trivial, algebraic11,
  trivial, algebraic12,
  trivial, algebraic13,
  trivial, algebraic14,
  trivial, algebraic15,
  trivial, algebraic16,
  trivial, algebraic17,
  trivial, algebraic18,
  trivial, algebraic19⟩

end Cert.Proof

end
